-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v135_0)) (v1 : (c : Dev Cert.KernelIdeal.nD) → Buf (Elt Ideal) ((c.tc : Thread Cert.KernelIdeal.nD Cert.KernelIdeal.τ).loc Cert.KernelIdeal.main_v135_1)) (v2 : (c : Dev Cert.KernelIdeal.nD) → Buf (Elt Ideal) ((c.tc : Thread Cert.KernelIdeal.nD Cert.KernelIdeal.τ).loc Cert.KernelIdeal.main_v135_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135_0) = v0 c
          ∧ r.2.mem ((c.tc : Thread Cert.KernelIdeal.nD Cert.KernelIdeal.τ).loc Cert.KernelIdeal.main_v135_1) = v1 c
          ∧ r.2.mem ((c.tc : Thread Cert.KernelIdeal.nD Cert.KernelIdeal.τ).loc Cert.KernelIdeal.main_v135_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_v290) = v1 c
          ∧ r.2.mem ((c.tc : Thread Cert.ReferenceIdeal.nD Cert.ReferenceIdeal.τ).loc Cert.ReferenceIdeal.main_v291) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14)) (v1 : (c : Dev Cert.Kernel2Ideal.nD) → Buf (Elt Ideal) ((c.tc : Thread Cert.Kernel2Ideal.nD Cert.Kernel2Ideal.τ).loc Cert.Kernel2Ideal.main_v15)) (v2 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_v15) = v1 c
          ∧ r.2.mem ((c.tc : Thread Cert.Kernel2Ideal.nD Cert.Kernel2Ideal.τ).loc Cert.Kernel2Ideal.main_v16) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v7)) (v2 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v7) = v1 c
          ∧ r.2.mem ((c.tc : Thread Cert.Kernel3Ideal.nD Cert.Kernel3Ideal.τ).loc Cert.Kernel3Ideal.main_v8) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
-- ==== Pre_finite.lean ====
abbrev S2048x4x4x64 : Shape := ⟨4, ![2048, 4, 4, 64]⟩
abbrev S2048x4x64 : Shape := ⟨3, ![2048, 4, 64]⟩
abbrev S_ : Shape := ⟨0, ![]⟩

class Facts : Prop where
  bcast_S_S2048x4x4x64 : S_.BroadcastsInDim S2048x4x4x64 (![] : Fin 0 → Fin S2048x4x4x64.rank)
  reducesTo_S2048x4x4x64_S_d0_1_2_3 : S2048x4x4x64.ReducesTo [0, 1, 2, 3] S_
  h_S_ : 0 < S_.numel
  bcast_S_S2048x4x64 : S_.BroadcastsInDim S2048x4x64 (![] : Fin 0 → Fin S2048x4x64.rank)
  reducesTo_S2048x4x64_S_d0_1_2 : S2048x4x64.ReducesTo [0, 1, 2] S_

variable [Facts]

def fn_part1 {F : FTy → Type} [FloatOps F] (main_v13 : IVec S_ 1) (main_v16 : IVec S2048x4x4x64 1) : IVec S_ 1 :=
  let main_c_5 : IVec S_ 1 := constantI S_ 1 1#1
  let main_v17 : IVec S_ 1 := (fun x v => Host.reduce IntOp.andi x v reducesTo_S2048x4x4x64_S_d0_1_2_3 h_S_) main_v16 main_c_5
  let main_v18 : IVec S_ 1 := andi main_v13 main_v17
  main_v18

def fn {F : FTy → Type} [FloatOps F] (main_arg0 : FVec F S2048x4x4x64 .f32) (main_arg1 : FVec F S2048x4x64 .f32) (main_arg2 : FVec F S2048x4x64 .f32) (main_arg3 : FVec F S2048x4x4x64 .f32) : IVec S_ 1 :=
  let main_v0 : FVec F S2048x4x4x64 .f32 := Host.absf main_arg0
  let main_cst : FVec F S_ .f32 := constant S_ .f32 0x7F800000#32
  let main_v1 : FVec F S2048x4x4x64 .f32 := broadcastInDim S2048x4x4x64 ![] bcast_S_S2048x4x4x64 main_cst
  let main_v2 : IVec S2048x4x4x64 1 := cmpf .olt main_v0 main_v1
  let main_c : IVec S_ 1 := constantI S_ 1 1#1
  let main_v3 : IVec S_ 1 := (fun x v => Host.reduce IntOp.andi x v reducesTo_S2048x4x4x64_S_d0_1_2_3 h_S_) main_v2 main_c
  let main_v4 : FVec F S2048x4x64 .f32 := Host.absf main_arg1
  let main_cst_0 : FVec F S_ .f32 := constant S_ .f32 0x7F800000#32
  let main_v5 : FVec F S2048x4x64 .f32 := broadcastInDim S2048x4x64 ![] bcast_S_S2048x4x64 main_cst_0
  let main_v6 : IVec S2048x4x64 1 := cmpf .olt main_v4 main_v5
  let main_c_1 : IVec S_ 1 := constantI S_ 1 1#1
  let main_v7 : IVec S_ 1 := (fun x v => Host.reduce IntOp.andi x v reducesTo_S2048x4x64_S_d0_1_2 h_S_) main_v6 main_c_1
  let main_v8 : IVec S_ 1 := andi main_v3 main_v7
  let main_v9 : FVec F S2048x4x64 .f32 := Host.absf main_arg2
  let main_cst_2 : FVec F S_ .f32 := constant S_ .f32 0x7F800000#32
  let main_v10 : FVec F S2048x4x64 .f32 := broadcastInDim S2048x4x64 ![] bcast_S_S2048x4x64 main_cst_2
  let main_v11 : IVec S2048x4x64 1 := cmpf .olt main_v9 main_v10
  let main_c_3 : IVec S_ 1 := constantI S_ 1 1#1
  let main_v12 : IVec S_ 1 := (fun x v => Host.reduce IntOp.andi x v reducesTo_S2048x4x64_S_d0_1_2 h_S_) main_v11 main_c_3
  let main_v13 : IVec S_ 1 := andi main_v8 main_v12
  let main_v14 : FVec F S2048x4x4x64 .f32 := Host.absf main_arg3
  let main_cst_4 : FVec F S_ .f32 := constant S_ .f32 0x7F800000#32
  let main_v15 : FVec F S2048x4x4x64 .f32 := broadcastInDim S2048x4x4x64 ![] bcast_S_S2048x4x4x64 main_cst_4
  let main_v16 : IVec S2048x4x4x64 1 := cmpf .olt main_v14 main_v15
  fn_part1 (F := F) main_v13 main_v16
-- ==== Pre_finite2.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S2048x4x4x64 : Shape := ⟨4, ![2048, 4, 4, 64]⟩
abbrev S2048x4x64 : Shape := ⟨3, ![2048, 4, 64]⟩
abbrev S2048x2048 : Shape := ⟨2, ![2048, 2048]⟩
abbrev S_ : Shape := ⟨0, ![]⟩
abbrev S4x2048x2048x4 : Shape := ⟨4, ![4, 2048, 2048, 4]⟩
abbrev S4x4x2048x2048 : Shape := ⟨4, ![4, 4, 2048, 2048]⟩
abbrev S1x1x2048x2048 : Shape := ⟨4, ![1, 1, 2048, 2048]⟩
abbrev S4x4x2048 : Shape := ⟨3, ![4, 4, 2048]⟩
abbrev S4x4x2048x1 : Shape := ⟨4, ![4, 4, 2048, 1]⟩
abbrev S4x4x2048x64 : Shape := ⟨4, ![4, 4, 2048, 64]⟩
abbrev S1x4x4x2048 : Shape := ⟨4, ![1, 4, 4, 2048]⟩
abbrev S3x4x4x2048 : Shape := ⟨4, ![3, 4, 4, 2048]⟩
abbrev S1x4x4x2048x64 : Shape := ⟨5, ![1, 4, 4, 2048, 64]⟩
abbrev S3x4x4x2048x64 : Shape := ⟨5, ![3, 4, 4, 2048, 64]⟩
abbrev S3x4x4x2048x1 : Shape := ⟨5, ![3, 4, 4, 2048, 1]⟩
abbrev S4x4x16x128 : Shape := ⟨4, ![4, 4, 16, 128]⟩
abbrev S4x16x4x128 : Shape := ⟨4, ![4, 16, 4, 128]⟩
abbrev S4x16x1x512 : Shape := ⟨4, ![4, 16, 1, 512]⟩
abbrev S16x128x4x4x64 : Shape := ⟨5, ![16, 128, 4, 4, 64]⟩
abbrev S4x16x64x4x128 : Shape := ⟨5, ![4, 16, 64, 4, 128]⟩
abbrev S4x16x64x512 : Shape := ⟨4, ![4, 16, 64, 512]⟩
abbrev S4x16x512 : Shape := ⟨3, ![4, 16, 512]⟩
abbrev S4x2048x64 : Shape := ⟨3, ![4, 2048, 64]⟩
abbrev S4x64x2048 : Shape := ⟨3, ![4, 64, 2048]⟩
abbrev S17x128x512 : Shape := ⟨3, ![17, 128, 512]⟩
abbrev S4x512x64 : Shape := ⟨3, ![4, 512, 64]⟩
abbrev S4x64x512 : Shape := ⟨3, ![4, 64, 512]⟩
abbrev S1x512x64 : Shape := ⟨3, ![1, 512, 64]⟩
abbrev S512x64 : Shape := ⟨2, ![512, 64]⟩
abbrev S1x64x512 : Shape := ⟨3, ![1, 64, 512]⟩
abbrev S64x512 : Shape := ⟨2, ![64, 512]⟩
abbrev S1x128x512 : Shape := ⟨3, ![1, 128, 512]⟩
abbrev S128x512 : Shape := ⟨2, ![128, 512]⟩
abbrev S512x512 : Shape := ⟨2, ![512, 512]⟩
abbrev S1x1x64x512 : Shape := ⟨4, ![1, 1, 64, 512]⟩
abbrev S1x1x1x512 : Shape := ⟨4, ![1, 1, 1, 512]⟩
abbrev S1x512 : Shape := ⟨2, ![1, 512]⟩

abbrev nBuf : Space → Nat
  | .hbm => 176
  | .vmem => 17
  | .smem => 0
  | _ => 0

abbrev hbmTy0_0 (i : Nat) : BufTy := match i % 128 with
  | 0 => ⟨S2048x4x4x64, .f32⟩
  | 1 => ⟨S2048x4x64, .f32⟩
  | 2 => ⟨S2048x4x64, .f32⟩
  | 3 => ⟨S2048x4x4x64, .f32⟩
  | 4 => ⟨S2048x2048, .i32⟩
  | 5 => ⟨S2048x2048, .i32⟩
  | 6 => ⟨S2048x2048, .i32⟩
  | 7 => ⟨S_, .i32⟩
  | 8 => ⟨S2048x2048, .i32⟩
  | 9 => ⟨S2048x2048, .i1⟩
  | 10 => ⟨S_, .i32⟩
  | 11 => ⟨S2048x2048, .i32⟩
  | 12 => ⟨S2048x2048, .i1⟩
  | 13 => ⟨S2048x2048, .i1⟩
  | 14 => ⟨S_, .i32⟩
  | 15 => ⟨S2048x2048, .i32⟩
  | 16 => ⟨S2048x2048, .i32⟩
  | 17 => ⟨S_, .i32⟩
  | 18 => ⟨S2048x2048, .i32⟩
  | 19 => ⟨S2048x2048, .i1⟩
  | 20 => ⟨S2048x2048, .i1⟩
  | 21 => ⟨S4x2048x2048x4, .f32⟩
  | 22 => ⟨S4x4x2048x2048, .f32⟩
  | 23 => ⟨S1x1x2048x2048, .i1⟩
  | 24 => ⟨S_, .f32⟩
  | 25 => ⟨S_, .f32⟩
  | 26 => ⟨S4x4x2048x2048, .i1⟩
  | 27 => ⟨S4x4x2048x2048, .f32⟩
  | 28 => ⟨S4x4x2048x2048, .f32⟩
  | 29 => ⟨S_, .f32⟩
  | 30 => ⟨S4x4x2048, .f32⟩
  | 31 => ⟨S4x4x2048x1, .f32⟩
  | 32 => ⟨S4x4x2048x2048, .f32⟩
  | 33 => ⟨S4x4x2048x2048, .f32⟩
  | 34 => ⟨S4x4x2048x2048, .f32⟩
  | 35 => ⟨S_, .f32⟩
  | 36 => ⟨S4x4x2048, .f32⟩
  | 37 => ⟨S4x4x2048x64, .f32⟩
  | 38 => ⟨S4x4x2048x1, .f32⟩
  | 39 => ⟨S4x4x2048x64, .f32⟩
  | 40 => ⟨S4x4x2048x64, .f32⟩
  | 41 => ⟨S2048x2048, .i32⟩
  | 42 => ⟨S2048x2048, .i32⟩
  | 43 => ⟨S2048x2048, .i32⟩
  | 44 => ⟨S_, .i32⟩
  | 45 => ⟨S2048x2048, .i32⟩
  | 46 => ⟨S2048x2048, .i1⟩
  | 47 => ⟨S_, .i32⟩
  | 48 => ⟨S2048x2048, .i32⟩
  | 49 => ⟨S2048x2048, .i1⟩
  | 50 => ⟨S2048x2048, .i1⟩
  | 51 => ⟨S_, .i32⟩
  | 52 => ⟨S2048x2048, .i32⟩
  | 53 => ⟨S2048x2048, .i32⟩
  | 54 => ⟨S_, .i32⟩
  | 55 => ⟨S2048x2048, .i32⟩
  | 56 => ⟨S2048x2048, .i1⟩
  | 57 => ⟨S2048x2048, .i1⟩
  | 58 => ⟨S4x2048x2048x4, .f32⟩
  | 59 => ⟨S4x4x2048x2048, .f32⟩
  | 60 => ⟨S1x1x2048x2048, .i1⟩
  | 61 => ⟨S_, .f32⟩
  | 62 => ⟨S_, .f32⟩
  | 63 => ⟨S4x4x2048x2048, .i1⟩
  | 64 => ⟨S4x4x2048x2048, .f32⟩
  | 65 => ⟨S4x4x2048x2048, .f32⟩
  | 66 => ⟨S_, .f32⟩
  | 67 => ⟨S4x4x2048, .f32⟩
  | 68 => ⟨S4x4x2048x1, .f32⟩
  | 69 => ⟨S4x4x2048x2048, .f32⟩
  | 70 => ⟨S4x4x2048x2048, .f32⟩
  | 71 => ⟨S4x4x2048x2048, .f32⟩
  | 72 => ⟨S_, .f32⟩
  | 73 => ⟨S4x4x2048, .f32⟩
  | 74 => ⟨S4x4x2048x64, .f32⟩
  | 75 => ⟨S4x4x2048x1, .f32⟩
  | 76 => ⟨S4x4x2048x64, .f32⟩
  | 77 => ⟨S4x4x2048x64, .f32⟩
  | 78 => ⟨S2048x2048, .i32⟩
  | 79 => ⟨S2048x2048, .i32⟩
  | 80 => ⟨S2048x2048, .i32⟩
  | 81 => ⟨S_, .i32⟩
  | 82 => ⟨S2048x2048, .i32⟩
  | 83 => ⟨S2048x2048, .i1⟩
  | 84 => ⟨S_, .i32⟩
  | 85 => ⟨S2048x2048, .i32⟩
  | 86 => ⟨S2048x2048, .i1⟩
  | 87 => ⟨S2048x2048, .i1⟩
  | 88 => ⟨S_, .i32⟩
  | 89 => ⟨S2048x2048, .i32⟩
  | 90 => ⟨S2048x2048, .i32⟩
  | 91 => ⟨S_, .i32⟩
  | 92 => ⟨S2048x2048, .i32⟩
  | 93 => ⟨S2048x2048, .i1⟩
  | 94 => ⟨S2048x2048, .i1⟩
  | 95 => ⟨S4x2048x2048x4, .f32⟩
  | 96 => ⟨S4x4x2048x2048, .f32⟩
  | 97 => ⟨S1x1x2048x2048, .i1⟩
  | 98 => ⟨S_, .f32⟩
  | 99 => ⟨S_, .f32⟩
  | 100 => ⟨S4x4x2048x2048, .i1⟩
  | 101 => ⟨S4x4x2048x2048, .f32⟩
  | 102 => ⟨S4x4x2048x2048, .f32⟩
  | 103 => ⟨S_, .f32⟩
  | 104 => ⟨S4x4x2048, .f32⟩
  | 105 => ⟨S4x4x2048x1, .f32⟩
  | 106 => ⟨S4x4x2048x2048, .f32⟩
  | 107 => ⟨S4x4x2048x2048, .f32⟩
  | 108 => ⟨S4x4x2048x2048, .f32⟩
  | 109 => ⟨S_, .f32⟩
  | 110 => ⟨S4x4x2048, .f32⟩
  | 111 => ⟨S4x4x2048x64, .f32⟩
  | 112 => ⟨S4x4x2048x1, .f32⟩
  | 113 => ⟨S4x4x2048x64, .f32⟩
  | 114 => ⟨S4x4x2048x64, .f32⟩
  | 115 => ⟨S1x4x4x2048, .f32⟩
  | 116 => ⟨S1x4x4x2048, .f32⟩
  | 117 => ⟨S1x4x4x2048, .f32⟩
  | 118 => ⟨S3x4x4x2048, .f32⟩
  | 119 => ⟨S_, .f32⟩
  | 120 => ⟨S4x4x2048, .f32⟩
  | 121 => ⟨S1x4x4x2048, .f32⟩
  | 122 => ⟨S1x4x4x2048, .f32⟩
  | 123 => ⟨S1x4x4x2048, .f32⟩
  | 124 => ⟨S3x4x4x2048, .f32⟩
  | 125 => ⟨S1x4x4x2048, .f32⟩
  | 126 => ⟨S3x4x4x2048, .f32⟩
  | 127 => ⟨S3x4x4x2048, .f32⟩
  | _ => ⟨S2048x4x4x64, .f32⟩

abbrev hbmTy0_1 (i : Nat) : BufTy := match i % 128 with
  | 0 => ⟨S3x4x4x2048, .f32⟩
  | 1 => ⟨S3x4x4x2048, .f32⟩
  | 2 => ⟨S1x4x4x2048x64, .f32⟩
  | 3 => ⟨S1x4x4x2048x64, .f32⟩
  | 4 => ⟨S1x4x4x2048x64, .f32⟩
  | 5 => ⟨S3x4x4x2048x64, .f32⟩
  | 6 => ⟨S_, .f32⟩
  | 7 => ⟨S4x4x2048, .f32⟩
  | 8 => ⟨S3x4x4x2048x1, .f32⟩
  | 9 => ⟨S3x4x4x2048x64, .f32⟩
  | 10 => ⟨S3x4x4x2048x64, .f32⟩
  | 11 => ⟨S_, .f32⟩
  | 12 => ⟨S4x4x2048x64, .f32⟩
  | 13 => ⟨S4x4x2048x1, .f32⟩
  | 14 => ⟨S4x4x2048x64, .f32⟩
  | 15 => ⟨S4x4x2048x64, .f32⟩
  | 16 => ⟨S4x4x2048, .f32⟩
  | 17 => ⟨S4x4x2048, .f32⟩
  | 18 => ⟨S4x4x16x128, .f32⟩
  | 19 => ⟨S4x16x4x128, .f32⟩
  | 20 => ⟨S4x16x1x512, .f32⟩
  | 21 => ⟨S16x128x4x4x64, .f32⟩
  | 22 => ⟨S4x16x64x4x128, .f32⟩
  | 23 => ⟨S4x16x64x512, .f32⟩
  | 24 => ⟨S4x16x64x512, .bf16⟩
  | 25 => ⟨S16x128x4x4x64, .f32⟩
  | 26 => ⟨S4x16x64x4x128, .f32⟩
  | 27 => ⟨S4x16x64x512, .f32⟩
  | 28 => ⟨S4x16x64x512, .bf16⟩
  | 29 => ⟨S2048x4x4x64, .f32⟩
  | 30 => ⟨S16x128x4x4x64, .f32⟩
  | 31 => ⟨S4x16x64x4x128, .f32⟩
  | 32 => ⟨S4x16x64x512, .f32⟩
  | 33 => ⟨S4x16x64x512, .f32⟩
  | 34 => ⟨S4x16x64x512, .f32⟩
  | 35 => ⟨S_, .f32⟩
  | 36 => ⟨S4x16x512, .f32⟩
  | 37 => ⟨S4x16x1x512, .f32⟩
  | 38 => ⟨S4x2048x64, .f32⟩
  | 39 => ⟨S4x2048x64, .bf16⟩
  | 40 => ⟨S4x2048x64, .f32⟩
  | 41 => ⟨S4x2048x64, .bf16⟩
  | 42 => ⟨S4x64x2048, .f32⟩
  | 43 => ⟨S4x64x2048, .bf16⟩
  | 44 => ⟨S17x128x512, .f32⟩
  | 45 => ⟨S4x16x64x512, .f32⟩
  | 46 => ⟨S4x64x2048, .f32⟩
  | 47 => ⟨S4x64x2048, .f32⟩
  | _ => ⟨S2048x4x4x64, .f32⟩

abbrev hbmTy (i : Nat) : BufTy := match i / 128 with
  | 0 => hbmTy0_0 i
  | 1 => hbmTy0_1 i
  | _ => ⟨S2048x4x4x64, .f32⟩

abbrev bufTy : (tb : Table) → Fin (tcTables nBuf tb) → BufTy
  | .hbm, ⟨i, _⟩ => hbmTy i
  | .local _ .vmem, ⟨0, _⟩ => ⟨S17x128x512, .f32⟩
  | .local _ .vmem, ⟨1, _⟩ => ⟨S4x16x64x512, .bf16⟩
  | .local _ .vmem, ⟨2, _⟩ => ⟨S4x512x64, .bf16⟩
  | .local _ .vmem, ⟨3, _⟩ => ⟨S4x512x64, .bf16⟩
  | .local _ .vmem, ⟨4, _⟩ => ⟨S4x64x512, .bf16⟩
  | .local _ .vmem, ⟨5, _⟩ => ⟨S4x64x512, .bf16⟩
  | .local _ .vmem, ⟨6, _⟩ => ⟨S4x512x64, .bf16⟩
  | .local _ .vmem, ⟨7, _⟩ => ⟨S4x512x64, .bf16⟩
  | .local _ .vmem, ⟨8, _⟩ => ⟨S4x16x64x512, .bf16⟩
  | .local _ .vmem, ⟨9, _⟩ => ⟨S4x16x1x512, .f32⟩
  | .local _ .vmem, ⟨10, _⟩ => ⟨S4x16x1x512, .f32⟩
  | .local _ .vmem, ⟨11, _⟩ => ⟨S17x128x512, .f32⟩
  | .local _ .vmem, ⟨12, _⟩ => ⟨S4x16x64x512, .f32⟩
  | .local _ .vmem, ⟨13, _⟩ => ⟨S4x64x512, .f32⟩
  | .local _ .vmem, ⟨14, _⟩ => ⟨S4x64x512, .f32⟩
  | .local _ .vmem, ⟨15, _⟩ => ⟨S4x64x512, .f32⟩
  | .local _ .vmem, ⟨16, _⟩ => ⟨S4x64x512, .f32⟩
  | _, _ => ⟨S2048x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v70 : Ref sig .tc := ⟨.hbm, 102, rfl⟩
abbrev main_cst_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_22 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135_0 : Ref sig .tc := ⟨.hbm, 173, rfl⟩
abbrev main_v135_1 : Ref sig .tc := ⟨.hbm, 174, rfl⟩
abbrev main_v135_2 : Ref sig .tc := ⟨.hbm, 175, rfl⟩
abbrev cc0_stg0_0 : Ref sig .tc := ⟨.vmem, 0, rfl⟩
abbrev cc1_stg0_0 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg9_1 : Ref sig .tc := ⟨.vmem, 14, rfl⟩
abbrev cc1_stg10_0 : Ref sig .tc := ⟨.vmem, 15, rfl⟩
abbrev cc1_stg10_1 : Ref sig .tc := ⟨.vmem, 16, rfl⟩
abbrev cc0_sem0_0 : DmaSem sig := 0
abbrev cc1_sem0_0 : DmaSem sig := 1
abbrev cc1_sem1_0 : DmaSem sig := 2
abbrev cc1_sem1_1 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem9_1 : DmaSem sig := 14
abbrev cc1_sem10_0 : DmaSem sig := 15
abbrev cc1_sem10_1 : DmaSem sig := 16

abbrev nD : Nat := 1
abbrev τ : Topo := Topo.v7x

variable {F : FTy → Type} [FloatOps F]

abbrev grid0 : Pipeline.Grid := .none

abbrev stage0_0 : Fin 1 → Memref sig .tc .vmem S17x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨2, ![1, 4], ![false, false]⟩

@[reducible] def k1_t1_loop (i : grid1.Coords) : Scf.Loop 32 :=
  let c0_i32_10 : BitVec 32 := 0#32
  let c8_i32 : BitVec 32 := 8#32
  let c2_i32 : BitVec 32 := 2#32
  let arg1 : BitVec 32 := BitVec.ofNat 32 (i 1).val
  let v7 : BitVec 32 := Scalar.muli c2_i32 arg1
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_12 : BitVec 32 := 1#32
  ⟨c0_i32_10, v16, c1_i32_12⟩
def k1_off1 (i : grid1.Coords) (k1_t1 : Fin (k1_t1_loop i).trips) (c0_i32_26 : BitVec 32) : Fin 3 → Nat :=
  let c2_i32_23 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v25 : BitVec 32 := Scalar.muli c2_i32_23 v18
  let c4_i32 : BitVec 32 := 4#32
  let v28 : BitVec 32 := Scalar.muli c4_i32 arg1
  let v29 : BitVec 32 := Scalar.subi v25 v28
  let v30 : BitVec 32 := Scalar.subi v29 c0_i32_26
  let c1_i32_27 : BitVec 32 := 1#32
  let v31 : BitVec 32 := Scalar.addi v30 c1_i32_27
  let c0_i32_28 : BitVec 32 := 0#32
  let v32 : BitVec 32 := Scalar.maxsi v31 c0_i32_28
  let v33 : Index := Scalar.indexCast v32
  let c0_29 : Index := 0#32
  let c0_30 : Index := 0#32
  ![v33.toNat, 0, 0]
def k1_off2 (i : grid1.Coords) (k1_t1 : Fin (k1_t1_loop i).trips) : Fin 4 → Nat :=
  let c0_48 : Index := 0#32
  let c2_i32_23 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v25 : BitVec 32 := Scalar.muli c2_i32_23 v18
  let v61 : Index := Scalar.indexCast v25
  let c0_49 : Index := 0#32
  let c0_50 : Index := 0#32
  ![0, v61.toNat, 0, 0]
def k1_off3 (i : grid1.Coords) (k1_t1 : Fin (k1_t1_loop i).trips) : Fin 4 → Nat :=
  let c0_52 : Index := 0#32
  let c2_i32_23 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v25 : BitVec 32 := Scalar.muli c2_i32_23 v18
  let v66 : Index := Scalar.indexCast v25
  let c0_53 : Index := 0#32
  let c0_54 : Index := 0#32
  ![0, v66.toNat, 0, 0]
def k1_off4 (i : grid1.Coords) (k1_t1 : Fin (k1_t1_loop i).trips) (c0_i32_90 : BitVec 32) : Fin 3 → Nat :=
  let c2_i32_24 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v26 : BitVec 32 := Scalar.muli c2_i32_24 v18
  let c1_i32_25 : BitVec 32 := 1#32
  let v27 : BitVec 32 := Scalar.addi v26 c1_i32_25
  let c4_i32_89 : BitVec 32 := 4#32
  let v114 : BitVec 32 := Scalar.muli c4_i32_89 arg1
  let v115 : BitVec 32 := Scalar.subi v27 v114
  let v116 : BitVec 32 := Scalar.subi v115 c0_i32_90
  let c1_i32_91 : BitVec 32 := 1#32
  let v117 : BitVec 32 := Scalar.addi v116 c1_i32_91
  let c0_i32_92 : BitVec 32 := 0#32
  let v118 : BitVec 32 := Scalar.maxsi v117 c0_i32_92
  let v119 : Index := Scalar.indexCast v118
  let c0_93 : Index := 0#32
  let c0_94 : Index := 0#32
  ![v119.toNat, 0, 0]
def k1_off5 (i : grid1.Coords) (k1_t1 : Fin (k1_t1_loop i).trips) : Fin 4 → Nat :=
  let c0_113 : Index := 0#32
  let c2_i32_24 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v26 : BitVec 32 := Scalar.muli c2_i32_24 v18
  let c1_i32_25 : BitVec 32 := 1#32
  let v27 : BitVec 32 := Scalar.addi v26 c1_i32_25
  let v147 : Index := Scalar.indexCast v27
  let c0_114 : Index := 0#32
  let c0_115 : Index := 0#32
  ![0, v147.toNat, 0, 0]
def k1_off6 (i : grid1.Coords) (k1_t1 : Fin (k1_t1_loop i).trips) : Fin 4 → Nat :=
  let c0_117 : Index := 0#32
  let c2_i32_24 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v26 : BitVec 32 := Scalar.muli c2_i32_24 v18
  let c1_i32_25 : BitVec 32 := 1#32
  let v27 : BitVec 32 := Scalar.addi v26 c1_i32_25
  let v152 : Index := Scalar.indexCast v27
  let c0_118 : Index := 0#32
  let c0_119 : Index := 0#32
  ![0, v152.toNat, 0, 0]
def k1_off7 (i : grid1.Coords) (k1_t1 : Fin (k1_t1_loop i).trips) : Fin 4 → Nat :=
  let c1_189 : Index := 1#32
  let c2_i32_162 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v206 : BitVec 32 := Scalar.muli c2_i32_162 v18
  let v242 : Index := Scalar.indexCast v206
  let c0_190 : Index := 0#32
  let c0_191 : Index := 0#32
  ![1, v242.toNat, 0, 0]
def k1_off8 (i : grid1.Coords) (k1_t1 : Fin (k1_t1_loop i).trips) : Fin 4 → Nat :=
  let c1_193 : Index := 1#32
  let c2_i32_162 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v206 : BitVec 32 := Scalar.muli c2_i32_162 v18
  let v247 : Index := Scalar.indexCast v206
  let c0_194 : Index := 0#32
  let c0_195 : Index := 0#32
  ![1, v247.toNat, 0, 0]
def k1_off9 (i : grid1.Coords) (k1_t1 : Fin (k1_t1_loop i).trips) : Fin 4 → Nat :=
  let c1_254 : Index := 1#32
  let c2_i32_163 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v207 : BitVec 32 := Scalar.muli c2_i32_163 v18
  let c1_i32_164 : BitVec 32 := 1#32
  let v208 : BitVec 32 := Scalar.addi v207 c1_i32_164
  let v328 : Index := Scalar.indexCast v208
  let c0_255 : Index := 0#32
  let c0_256 : Index := 0#32
  ![1, v328.toNat, 0, 0]
def k1_off10 (i : grid1.Coords) (k1_t1 : Fin (k1_t1_loop i).trips) : Fin 4 → Nat :=
  let c1_258 : Index := 1#32
  let c2_i32_163 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v207 : BitVec 32 := Scalar.muli c2_i32_163 v18
  let c1_i32_164 : BitVec 32 := 1#32
  let v208 : BitVec 32 := Scalar.addi v207 c1_i32_164
  let v333 : Index := Scalar.indexCast v208
  let c0_259 : Index := 0#32
  let c0_260 : Index := 0#32
  ![1, v333.toNat, 0, 0]
def k1_off11 (i : grid1.Coords) (k1_t1 : Fin (k1_t1_loop i).trips) : Fin 4 → Nat :=
  let c2_330 : Index := 2#32
  let c2_i32_303 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v387 : BitVec 32 := Scalar.muli c2_i32_303 v18
  let v423 : Index := Scalar.indexCast v387
  let c0_331 : Index := 0#32
  let c0_332 : Index := 0#32
  ![2, v423.toNat, 0, 0]
def k1_off12 (i : grid1.Coords) (k1_t1 : Fin (k1_t1_loop i).trips) : Fin 4 → Nat :=
  let c2_334 : Index := 2#32
  let c2_i32_303 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v387 : BitVec 32 := Scalar.muli c2_i32_303 v18
  let v428 : Index := Scalar.indexCast v387
  let c0_335 : Index := 0#32
  let c0_336 : Index := 0#32
  ![2, v428.toNat, 0, 0]
def k1_off13 (i : grid1.Coords) (k1_t1 : Fin (k1_t1_loop i).trips) : Fin 4 → Nat :=
  let c2_395 : Index := 2#32
  let c2_i32_304 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v388 : BitVec 32 := Scalar.muli c2_i32_304 v18
  let c1_i32_305 : BitVec 32 := 1#32
  let v389 : BitVec 32 := Scalar.addi v388 c1_i32_305
  let v509 : Index := Scalar.indexCast v389
  let c0_396 : Index := 0#32
  let c0_397 : Index := 0#32
  ![2, v509.toNat, 0, 0]
def k1_off14 (i : grid1.Coords) (k1_t1 : Fin (k1_t1_loop i).trips) : Fin 4 → Nat :=
  let c2_399 : Index := 2#32
  let c2_i32_304 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v388 : BitVec 32 := Scalar.muli c2_i32_304 v18
  let c1_i32_305 : BitVec 32 := 1#32
  let v389 : BitVec 32 := Scalar.addi v388 c1_i32_305
  let v514 : Index := Scalar.indexCast v389
  let c0_400 : Index := 0#32
  let c0_401 : Index := 0#32
  ![2, v514.toNat, 0, 0]
def k1_off15 (i : grid1.Coords) (k1_t1 : Fin (k1_t1_loop i).trips) : Fin 4 → Nat :=
  let c3_471 : Index := 3#32
  let c2_i32_444 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v568 : BitVec 32 := Scalar.muli c2_i32_444 v18
  let v604 : Index := Scalar.indexCast v568
  let c0_472 : Index := 0#32
  let c0_473 : Index := 0#32
  ![3, v604.toNat, 0, 0]
def k1_off16 (i : grid1.Coords) (k1_t1 : Fin (k1_t1_loop i).trips) : Fin 4 → Nat :=
  let c3_475 : Index := 3#32
  let c2_i32_444 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v568 : BitVec 32 := Scalar.muli c2_i32_444 v18
  let v609 : Index := Scalar.indexCast v568
  let c0_476 : Index := 0#32
  let c0_477 : Index := 0#32
  ![3, v609.toNat, 0, 0]
def k1_off17 (i : grid1.Coords) (k1_t1 : Fin (k1_t1_loop i).trips) : Fin 4 → Nat :=
  let c3_536 : Index := 3#32
  let c2_i32_445 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v569 : BitVec 32 := Scalar.muli c2_i32_445 v18
  let c1_i32_446 : BitVec 32 := 1#32
  let v570 : BitVec 32 := Scalar.addi v569 c1_i32_446
  let v690 : Index := Scalar.indexCast v570
  let c0_537 : Index := 0#32
  let c0_538 : Index := 0#32
  ![3, v690.toNat, 0, 0]
def k1_off18 (i : grid1.Coords) (k1_t1 : Fin (k1_t1_loop i).trips) : Fin 4 → Nat :=
  let c3_540 : Index := 3#32
  let c2_i32_445 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c1_i32_12 : BitVec 32 := 1#32
  let arg13 : BitVec 32 := Scf.iv c0_i32_10 c1_i32_12 k1_t1
  let c1_i32_9 : BitVec 32 := 1#32
  let v17 : BitVec 32 := Scalar.muli arg13 c1_i32_9
  let v18 : BitVec 32 := Scalar.addi v7 v17
  let v569 : BitVec 32 := Scalar.muli c2_i32_445 v18
  let c1_i32_446 : BitVec 32 := 1#32
  let v570 : BitVec 32 := Scalar.addi v569 c1_i32_446
  let v695 : Index := Scalar.indexCast v570
  let c0_541 : Index := 0#32
  let c0_542 : Index := 0#32
  ![3, v695.toNat, 0, 0]
@[reducible] def k1_t2_loop (i : grid1.Coords) : Scf.Loop 32 :=
  let c0_i32_10 : BitVec 32 := 0#32
  let c8_i32 : BitVec 32 := 8#32
  let c2_i32 : BitVec 32 := 2#32
  let arg1 : BitVec 32 := BitVec.ofNat 32 (i 1).val
  let v7 : BitVec 32 := Scalar.muli c2_i32 arg1
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let v13 : BitVec 32 := Scalar.addi c0_i32_10 v12
  let c1_i32_13 : BitVec 32 := 1#32
  ⟨v16, v13, c1_i32_13⟩
def k1_off19 (i : grid1.Coords) (k1_t2 : Fin (k1_t2_loop i).trips) (c0_i32_26 : BitVec 32) : Fin 3 → Nat :=
  let c2_i32_23 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v25 : BitVec 32 := Scalar.muli c2_i32_23 v18
  let c4_i32 : BitVec 32 := 4#32
  let v28 : BitVec 32 := Scalar.muli c4_i32 arg1
  let v29 : BitVec 32 := Scalar.subi v25 v28
  let v30 : BitVec 32 := Scalar.subi v29 c0_i32_26
  let c1_i32_27 : BitVec 32 := 1#32
  let v31 : BitVec 32 := Scalar.addi v30 c1_i32_27
  let c0_i32_28 : BitVec 32 := 0#32
  let v32 : BitVec 32 := Scalar.maxsi v31 c0_i32_28
  let v33 : Index := Scalar.indexCast v32
  let c0_29 : Index := 0#32
  let c0_30 : Index := 0#32
  ![v33.toNat, 0, 0]
def k1_off20 (i : grid1.Coords) (k1_t2 : Fin (k1_t2_loop i).trips) : Fin 4 → Nat :=
  let c0_48 : Index := 0#32
  let c2_i32_23 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v25 : BitVec 32 := Scalar.muli c2_i32_23 v18
  let v61 : Index := Scalar.indexCast v25
  let c0_49 : Index := 0#32
  let c0_50 : Index := 0#32
  ![0, v61.toNat, 0, 0]
def k1_off21 (i : grid1.Coords) (k1_t2 : Fin (k1_t2_loop i).trips) : Fin 4 → Nat :=
  let c0_52 : Index := 0#32
  let c2_i32_23 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v25 : BitVec 32 := Scalar.muli c2_i32_23 v18
  let v66 : Index := Scalar.indexCast v25
  let c0_53 : Index := 0#32
  let c0_54 : Index := 0#32
  ![0, v66.toNat, 0, 0]
def k1_off22 (i : grid1.Coords) (k1_t2 : Fin (k1_t2_loop i).trips) (c0_i32_90 : BitVec 32) : Fin 3 → Nat :=
  let c2_i32_24 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v26 : BitVec 32 := Scalar.muli c2_i32_24 v18
  let c1_i32_25 : BitVec 32 := 1#32
  let v27 : BitVec 32 := Scalar.addi v26 c1_i32_25
  let c4_i32_89 : BitVec 32 := 4#32
  let v114 : BitVec 32 := Scalar.muli c4_i32_89 arg1
  let v115 : BitVec 32 := Scalar.subi v27 v114
  let v116 : BitVec 32 := Scalar.subi v115 c0_i32_90
  let c1_i32_91 : BitVec 32 := 1#32
  let v117 : BitVec 32 := Scalar.addi v116 c1_i32_91
  let c0_i32_92 : BitVec 32 := 0#32
  let v118 : BitVec 32 := Scalar.maxsi v117 c0_i32_92
  let v119 : Index := Scalar.indexCast v118
  let c0_93 : Index := 0#32
  let c0_94 : Index := 0#32
  ![v119.toNat, 0, 0]
def k1_off23 (i : grid1.Coords) (k1_t2 : Fin (k1_t2_loop i).trips) : Fin 4 → Nat :=
  let c0_113 : Index := 0#32
  let c2_i32_24 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v26 : BitVec 32 := Scalar.muli c2_i32_24 v18
  let c1_i32_25 : BitVec 32 := 1#32
  let v27 : BitVec 32 := Scalar.addi v26 c1_i32_25
  let v147 : Index := Scalar.indexCast v27
  let c0_114 : Index := 0#32
  let c0_115 : Index := 0#32
  ![0, v147.toNat, 0, 0]
def k1_off24 (i : grid1.Coords) (k1_t2 : Fin (k1_t2_loop i).trips) : Fin 4 → Nat :=
  let c0_117 : Index := 0#32
  let c2_i32_24 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v26 : BitVec 32 := Scalar.muli c2_i32_24 v18
  let c1_i32_25 : BitVec 32 := 1#32
  let v27 : BitVec 32 := Scalar.addi v26 c1_i32_25
  let v152 : Index := Scalar.indexCast v27
  let c0_118 : Index := 0#32
  let c0_119 : Index := 0#32
  ![0, v152.toNat, 0, 0]
def k1_off25 (i : grid1.Coords) (k1_t2 : Fin (k1_t2_loop i).trips) : Fin 4 → Nat :=
  let c1_189 : Index := 1#32
  let c2_i32_162 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v206 : BitVec 32 := Scalar.muli c2_i32_162 v18
  let v242 : Index := Scalar.indexCast v206
  let c0_190 : Index := 0#32
  let c0_191 : Index := 0#32
  ![1, v242.toNat, 0, 0]
def k1_off26 (i : grid1.Coords) (k1_t2 : Fin (k1_t2_loop i).trips) : Fin 4 → Nat :=
  let c1_193 : Index := 1#32
  let c2_i32_162 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v206 : BitVec 32 := Scalar.muli c2_i32_162 v18
  let v247 : Index := Scalar.indexCast v206
  let c0_194 : Index := 0#32
  let c0_195 : Index := 0#32
  ![1, v247.toNat, 0, 0]
def k1_off27 (i : grid1.Coords) (k1_t2 : Fin (k1_t2_loop i).trips) : Fin 4 → Nat :=
  let c1_254 : Index := 1#32
  let c2_i32_163 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v207 : BitVec 32 := Scalar.muli c2_i32_163 v18
  let c1_i32_164 : BitVec 32 := 1#32
  let v208 : BitVec 32 := Scalar.addi v207 c1_i32_164
  let v328 : Index := Scalar.indexCast v208
  let c0_255 : Index := 0#32
  let c0_256 : Index := 0#32
  ![1, v328.toNat, 0, 0]
def k1_off28 (i : grid1.Coords) (k1_t2 : Fin (k1_t2_loop i).trips) : Fin 4 → Nat :=
  let c1_258 : Index := 1#32
  let c2_i32_163 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v207 : BitVec 32 := Scalar.muli c2_i32_163 v18
  let c1_i32_164 : BitVec 32 := 1#32
  let v208 : BitVec 32 := Scalar.addi v207 c1_i32_164
  let v333 : Index := Scalar.indexCast v208
  let c0_259 : Index := 0#32
  let c0_260 : Index := 0#32
  ![1, v333.toNat, 0, 0]
def k1_off29 (i : grid1.Coords) (k1_t2 : Fin (k1_t2_loop i).trips) : Fin 4 → Nat :=
  let c2_330 : Index := 2#32
  let c2_i32_303 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v387 : BitVec 32 := Scalar.muli c2_i32_303 v18
  let v423 : Index := Scalar.indexCast v387
  let c0_331 : Index := 0#32
  let c0_332 : Index := 0#32
  ![2, v423.toNat, 0, 0]
def k1_off30 (i : grid1.Coords) (k1_t2 : Fin (k1_t2_loop i).trips) : Fin 4 → Nat :=
  let c2_334 : Index := 2#32
  let c2_i32_303 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v387 : BitVec 32 := Scalar.muli c2_i32_303 v18
  let v428 : Index := Scalar.indexCast v387
  let c0_335 : Index := 0#32
  let c0_336 : Index := 0#32
  ![2, v428.toNat, 0, 0]
def k1_off31 (i : grid1.Coords) (k1_t2 : Fin (k1_t2_loop i).trips) : Fin 4 → Nat :=
  let c2_395 : Index := 2#32
  let c2_i32_304 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v388 : BitVec 32 := Scalar.muli c2_i32_304 v18
  let c1_i32_305 : BitVec 32 := 1#32
  let v389 : BitVec 32 := Scalar.addi v388 c1_i32_305
  let v509 : Index := Scalar.indexCast v389
  let c0_396 : Index := 0#32
  let c0_397 : Index := 0#32
  ![2, v509.toNat, 0, 0]
def k1_off32 (i : grid1.Coords) (k1_t2 : Fin (k1_t2_loop i).trips) : Fin 4 → Nat :=
  let c2_399 : Index := 2#32
  let c2_i32_304 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v388 : BitVec 32 := Scalar.muli c2_i32_304 v18
  let c1_i32_305 : BitVec 32 := 1#32
  let v389 : BitVec 32 := Scalar.addi v388 c1_i32_305
  let v514 : Index := Scalar.indexCast v389
  let c0_400 : Index := 0#32
  let c0_401 : Index := 0#32
  ![2, v514.toNat, 0, 0]
def k1_off33 (i : grid1.Coords) (k1_t2 : Fin (k1_t2_loop i).trips) : Fin 4 → Nat :=
  let c3_471 : Index := 3#32
  let c2_i32_444 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v568 : BitVec 32 := Scalar.muli c2_i32_444 v18
  let v604 : Index := Scalar.indexCast v568
  let c0_472 : Index := 0#32
  let c0_473 : Index := 0#32
  ![3, v604.toNat, 0, 0]
def k1_off34 (i : grid1.Coords) (k1_t2 : Fin (k1_t2_loop i).trips) : Fin 4 → Nat :=
  let c3_475 : Index := 3#32
  let c2_i32_444 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v568 : BitVec 32 := Scalar.muli c2_i32_444 v18
  let v609 : Index := Scalar.indexCast v568
  let c0_476 : Index := 0#32
  let c0_477 : Index := 0#32
  ![3, v609.toNat, 0, 0]
def k1_off35 (i : grid1.Coords) (k1_t2 : Fin (k1_t2_loop i).trips) : Fin 4 → Nat :=
  let c3_536 : Index := 3#32
  let c2_i32_445 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v569 : BitVec 32 := Scalar.muli c2_i32_445 v18
  let c1_i32_446 : BitVec 32 := 1#32
  let v570 : BitVec 32 := Scalar.addi v569 c1_i32_446
  let v690 : Index := Scalar.indexCast v570
  let c0_537 : Index := 0#32
  let c0_538 : Index := 0#32
  ![3, v690.toNat, 0, 0]
def k1_off36 (i : grid1.Coords) (k1_t2 : Fin (k1_t2_loop i).trips) : Fin 4 → Nat :=
  let c3_540 : Index := 3#32
  let c2_i32_445 : BitVec 32 := 2#32
  let c2_i32 : BitVec 32 := 2#32
  let arg1 : BitVec 32 := BitVec.ofNat 32 (i 1).val
  let v7 : BitVec 32 := Scalar.muli c2_i32 arg1
  let c0_i32_10 : BitVec 32 := 0#32
  let c8_i32 : BitVec 32 := 8#32
  let v8 : BitVec 32 := Scalar.subi c8_i32 v7
  let c1_i32 : BitVec 32 := 1#32
  let c1_i32_7 : BitVec 32 := 1#32
  let v9 : BitVec 32 := Scalar.subi c1_i32 c1_i32_7
  let v10 : BitVec 32 := Scalar.addi v8 v9
  let c1_i32_8 : BitVec 32 := 1#32
  let v11 : BitVec 32 := Scalar.divsi v10 c1_i32_8
  let v12 : BitVec 32 := Scalar.subi v11 c0_i32_10
  let c1_i32_11 : BitVec 32 := 1#32
  let v14 : BitVec 32 := Scalar.divsi v12 c1_i32_11
  let v15 : BitVec 32 := Scalar.muli v14 c1_i32_11
  let v16 : BitVec 32 := Scalar.addi c0_i32_10 v15
  let c1_i32_13 : BitVec 32 := 1#32
  let arg13 : BitVec 32 := Scf.iv v16 c1_i32_13 k1_t2
  let c1_i32_9 : BitVec 32 := 1#32
  let v17 : BitVec 32 := Scalar.muli arg13 c1_i32_9
  let v18 : BitVec 32 := Scalar.addi v7 v17
  let v569 : BitVec 32 := Scalar.muli c2_i32_445 v18
  let c1_i32_446 : BitVec 32 := 1#32
  let v570 : BitVec 32 := Scalar.addi v569 c1_i32_446
  let v695 : Index := Scalar.indexCast v570
  let c0_541 : Index := 0#32
  let c0_542 : Index := 0#32
  ![3, v695.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S4x16x64x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x64x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S4x16x64x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S4x16x1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S4x16x1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev stage1_7 : Fin 1 → Memref sig .tc .vmem S17x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S4x16x64x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, false]

abbrev stage1_9 : Fin 2 → Memref sig .tc .vmem S4x64x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S4x64x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2048x4x4x64 : Shape := ⟨4, ![2048, 4, 4, 64]⟩
abbrev S2048x4x64 : Shape := ⟨3, ![2048, 4, 64]⟩
abbrev S2048x2048 : Shape := ⟨2, ![2048, 2048]⟩
abbrev S_ : Shape := ⟨0, ![]⟩
abbrev S4x2048x2048x4 : Shape := ⟨4, ![4, 2048, 2048, 4]⟩
abbrev S4x4x2048x2048 : Shape := ⟨4, ![4, 4, 2048, 2048]⟩
abbrev S1x1x2048x2048 : Shape := ⟨4, ![1, 1, 2048, 2048]⟩
abbrev S4x4x2048 : Shape := ⟨3, ![4, 4, 2048]⟩
abbrev S4x4x2048x1 : Shape := ⟨4, ![4, 4, 2048, 1]⟩
abbrev S4x4x2048x64 : Shape := ⟨4, ![4, 4, 2048, 64]⟩
abbrev S1x4x4x2048 : Shape := ⟨4, ![1, 4, 4, 2048]⟩
abbrev S3x4x4x2048 : Shape := ⟨4, ![3, 4, 4, 2048]⟩
abbrev S1x4x4x2048x64 : Shape := ⟨5, ![1, 4, 4, 2048, 64]⟩
abbrev S3x4x4x2048x64 : Shape := ⟨5, ![3, 4, 4, 2048, 64]⟩
abbrev S3x4x4x2048x1 : Shape := ⟨5, ![3, 4, 4, 2048, 1]⟩
abbrev S4x64x2048 : Shape := ⟨3, ![4, 64, 2048]⟩
abbrev S4x2048x4x64 : Shape := ⟨4, ![4, 2048, 4, 64]⟩
abbrev S4x2048x64 : Shape := ⟨3, ![4, 2048, 64]⟩
abbrev S16x128x4x4x64 : Shape := ⟨5, ![16, 128, 4, 4, 64]⟩
abbrev S4x16x64x4x128 : Shape := ⟨5, ![4, 16, 64, 4, 128]⟩
abbrev S4x16x64x512 : Shape := ⟨4, ![4, 16, 64, 512]⟩

abbrev nBuf : Space → Nat
  | .hbm => 367
  | .vmem => 0
  | .smem => 0
  | _ => 0

abbrev hbmTy0_0 (i : Nat) : BufTy := match i % 128 with
  | 0 => ⟨S2048x4x4x64, .f32⟩
  | 1 => ⟨S2048x4x64, .f32⟩
  | 2 => ⟨S2048x4x64, .f32⟩
  | 3 => ⟨S2048x4x4x64, .f32⟩
  | 4 => ⟨S2048x2048, .i32⟩
  | 5 => ⟨S2048x2048, .i32⟩
  | 6 => ⟨S2048x2048, .i32⟩
  | 7 => ⟨S_, .i32⟩
  | 8 => ⟨S2048x2048, .i32⟩
  | 9 => ⟨S2048x2048, .i1⟩
  | 10 => ⟨S_, .i32⟩
  | 11 => ⟨S2048x2048, .i32⟩
  | 12 => ⟨S2048x2048, .i1⟩
  | 13 => ⟨S2048x2048, .i1⟩
  | 14 => ⟨S_, .i32⟩
  | 15 => ⟨S2048x2048, .i32⟩
  | 16 => ⟨S2048x2048, .i32⟩
  | 17 => ⟨S_, .i32⟩
  | 18 => ⟨S2048x2048, .i32⟩
  | 19 => ⟨S2048x2048, .i1⟩
  | 20 => ⟨S2048x2048, .i1⟩
  | 21 => ⟨S4x2048x2048x4, .f32⟩
  | 22 => ⟨S4x4x2048x2048, .f32⟩
  | 23 => ⟨S1x1x2048x2048, .i1⟩
  | 24 => ⟨S_, .f32⟩
  | 25 => ⟨S_, .f32⟩
  | 26 => ⟨S4x4x2048x2048, .i1⟩
  | 27 => ⟨S4x4x2048x2048, .f32⟩
  | 28 => ⟨S4x4x2048x2048, .f32⟩
  | 29 => ⟨S_, .f32⟩
  | 30 => ⟨S4x4x2048x2048, .f32⟩
  | 31 => ⟨S_, .f32⟩
  | 32 => ⟨S4x4x2048, .f32⟩
  | 33 => ⟨S4x4x2048x1, .f32⟩
  | 34 => ⟨S4x4x2048x2048, .f32⟩
  | 35 => ⟨S4x4x2048x2048, .i1⟩
  | 36 => ⟨S4x4x2048x2048, .f32⟩
  | 37 => ⟨S_, .f32⟩
  | 38 => ⟨S4x4x2048, .f32⟩
  | 39 => ⟨S4x4x2048x1, .f32⟩
  | 40 => ⟨S4x4x2048x2048, .f32⟩
  | 41 => ⟨S4x4x2048x2048, .f32⟩
  | 42 => ⟨S4x4x2048x2048, .f32⟩
  | 43 => ⟨S_, .f32⟩
  | 44 => ⟨S4x4x2048, .f32⟩
  | 45 => ⟨S4x4x2048x64, .f32⟩
  | 46 => ⟨S4x4x2048x1, .f32⟩
  | 47 => ⟨S4x4x2048x64, .f32⟩
  | 48 => ⟨S4x4x2048x64, .f32⟩
  | 49 => ⟨S4x4x2048x1, .f32⟩
  | 50 => ⟨S_, .f32⟩
  | 51 => ⟨S4x4x2048x1, .f32⟩
  | 52 => ⟨S4x4x2048x1, .f32⟩
  | 53 => ⟨S2048x2048, .i32⟩
  | 54 => ⟨S2048x2048, .i32⟩
  | 55 => ⟨S2048x2048, .i32⟩
  | 56 => ⟨S_, .i32⟩
  | 57 => ⟨S2048x2048, .i32⟩
  | 58 => ⟨S2048x2048, .i1⟩
  | 59 => ⟨S_, .i32⟩
  | 60 => ⟨S2048x2048, .i32⟩
  | 61 => ⟨S2048x2048, .i1⟩
  | 62 => ⟨S2048x2048, .i1⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S4x2048x2048x4, .f32⟩
  | 71 => ⟨S4x4x2048x2048, .f32⟩
  | 72 => ⟨S1x1x2048x2048, .i1⟩
  | 73 => ⟨S_, .f32⟩
  | 74 => ⟨S_, .f32⟩
  | 75 => ⟨S4x4x2048x2048, .i1⟩
  | 76 => ⟨S4x4x2048x2048, .f32⟩
  | 77 => ⟨S4x4x2048x2048, .f32⟩
  | 78 => ⟨S_, .f32⟩
  | 79 => ⟨S4x4x2048x2048, .f32⟩
  | 80 => ⟨S_, .f32⟩
  | 81 => ⟨S4x4x2048, .f32⟩
  | 82 => ⟨S4x4x2048x1, .f32⟩
  | 83 => ⟨S4x4x2048x2048, .f32⟩
  | 84 => ⟨S4x4x2048x2048, .i1⟩
  | 85 => ⟨S4x4x2048x2048, .f32⟩
  | 86 => ⟨S_, .f32⟩
  | 87 => ⟨S4x4x2048, .f32⟩
  | 88 => ⟨S4x4x2048x1, .f32⟩
  | 89 => ⟨S4x4x2048x2048, .f32⟩
  | 90 => ⟨S4x4x2048x2048, .f32⟩
  | 91 => ⟨S4x4x2048x2048, .f32⟩
  | 92 => ⟨S_, .f32⟩
  | 93 => ⟨S4x4x2048, .f32⟩
  | 94 => ⟨S4x4x2048x64, .f32⟩
  | 95 => ⟨S4x4x2048x1, .f32⟩
  | 96 => ⟨S4x4x2048x64, .f32⟩
  | 97 => ⟨S4x4x2048x64, .f32⟩
  | 98 => ⟨S4x4x2048x1, .f32⟩
  | 99 => ⟨S_, .f32⟩
  | 100 => ⟨S4x4x2048x1, .f32⟩
  | 101 => ⟨S4x4x2048x1, .f32⟩
  | 102 => ⟨S2048x2048, .i32⟩
  | 103 => ⟨S2048x2048, .i32⟩
  | 104 => ⟨S2048x2048, .i32⟩
  | 105 => ⟨S_, .i32⟩
  | 106 => ⟨S2048x2048, .i32⟩
  | 107 => ⟨S2048x2048, .i1⟩
  | 108 => ⟨S_, .i32⟩
  | 109 => ⟨S2048x2048, .i32⟩
  | 110 => ⟨S2048x2048, .i1⟩
  | 111 => ⟨S2048x2048, .i1⟩
  | 112 => ⟨S_, .i32⟩
  | 113 => ⟨S2048x2048, .i32⟩
  | 114 => ⟨S2048x2048, .i32⟩
  | 115 => ⟨S_, .i32⟩
  | 116 => ⟨S2048x2048, .i32⟩
  | 117 => ⟨S2048x2048, .i1⟩
  | 118 => ⟨S2048x2048, .i1⟩
  | 119 => ⟨S4x2048x2048x4, .f32⟩
  | 120 => ⟨S4x4x2048x2048, .f32⟩
  | 121 => ⟨S1x1x2048x2048, .i1⟩
  | 122 => ⟨S_, .f32⟩
  | 123 => ⟨S_, .f32⟩
  | 124 => ⟨S4x4x2048x2048, .i1⟩
  | 125 => ⟨S4x4x2048x2048, .f32⟩
  | 126 => ⟨S4x4x2048x2048, .f32⟩
  | 127 => ⟨S_, .f32⟩
  | _ => ⟨S2048x4x4x64, .f32⟩

abbrev hbmTy0_1 (i : Nat) : BufTy := match i % 128 with
  | 0 => ⟨S4x4x2048x2048, .f32⟩
  | 1 => ⟨S_, .f32⟩
  | 2 => ⟨S4x4x2048, .f32⟩
  | 3 => ⟨S4x4x2048x1, .f32⟩
  | 4 => ⟨S4x4x2048x2048, .f32⟩
  | 5 => ⟨S4x4x2048x2048, .i1⟩
  | 6 => ⟨S4x4x2048x2048, .f32⟩
  | 7 => ⟨S_, .f32⟩
  | 8 => ⟨S4x4x2048, .f32⟩
  | 9 => ⟨S4x4x2048x1, .f32⟩
  | 10 => ⟨S4x4x2048x2048, .f32⟩
  | 11 => ⟨S4x4x2048x2048, .f32⟩
  | 12 => ⟨S4x4x2048x2048, .f32⟩
  | 13 => ⟨S_, .f32⟩
  | 14 => ⟨S4x4x2048, .f32⟩
  | 15 => ⟨S4x4x2048x64, .f32⟩
  | 16 => ⟨S4x4x2048x1, .f32⟩
  | 17 => ⟨S4x4x2048x64, .f32⟩
  | 18 => ⟨S4x4x2048x64, .f32⟩
  | 19 => ⟨S4x4x2048x1, .f32⟩
  | 20 => ⟨S_, .f32⟩
  | 21 => ⟨S4x4x2048x1, .f32⟩
  | 22 => ⟨S4x4x2048x1, .f32⟩
  | 23 => ⟨S1x4x4x2048, .f32⟩
  | 24 => ⟨S1x4x4x2048, .f32⟩
  | 25 => ⟨S1x4x4x2048, .f32⟩
  | 26 => ⟨S3x4x4x2048, .f32⟩
  | 27 => ⟨S_, .f32⟩
  | 28 => ⟨S4x4x2048, .f32⟩
  | 29 => ⟨S1x4x4x2048, .f32⟩
  | 30 => ⟨S3x4x4x2048, .f32⟩
  | 31 => ⟨S3x4x4x2048, .i1⟩
  | 32 => ⟨S3x4x4x2048, .f32⟩
  | 33 => ⟨S_, .f32⟩
  | 34 => ⟨S4x4x2048, .f32⟩
  | 35 => ⟨S1x4x4x2048, .f32⟩
  | 36 => ⟨S1x4x4x2048, .f32⟩
  | 37 => ⟨S1x4x4x2048, .f32⟩
  | 38 => ⟨S3x4x4x2048, .f32⟩
  | 39 => ⟨S1x4x4x2048, .f32⟩
  | 40 => ⟨S3x4x4x2048, .f32⟩
  | 41 => ⟨S3x4x4x2048, .f32⟩
  | 42 => ⟨S3x4x4x2048, .f32⟩
  | 43 => ⟨S3x4x4x2048, .f32⟩
  | 44 => ⟨S1x4x4x2048x64, .f32⟩
  | 45 => ⟨S1x4x4x2048x64, .f32⟩
  | 46 => ⟨S1x4x4x2048x64, .f32⟩
  | 47 => ⟨S3x4x4x2048x64, .f32⟩
  | 48 => ⟨S_, .f32⟩
  | 49 => ⟨S4x4x2048, .f32⟩
  | 50 => ⟨S3x4x4x2048x1, .f32⟩
  | 51 => ⟨S3x4x4x2048x64, .f32⟩
  | 52 => ⟨S3x4x4x2048x64, .f32⟩
  | 53 => ⟨S_, .f32⟩
  | 54 => ⟨S4x4x2048x64, .f32⟩
  | 55 => ⟨S4x4x2048x1, .f32⟩
  | 56 => ⟨S4x4x2048x64, .f32⟩
  | 57 => ⟨S4x4x2048x64, .f32⟩
  | 58 => ⟨S4x4x2048x1, .f32⟩
  | 59 => ⟨S_, .f32⟩
  | 60 => ⟨S4x4x2048x1, .f32⟩
  | 61 => ⟨S4x4x2048x1, .f32⟩
  | 62 => ⟨S2048x4x4x64, .f32⟩
  | 63 => ⟨S4x4x2048x64, .f32⟩
  | 64 => ⟨S4x4x2048x64, .f32⟩
  | 65 => ⟨S4x4x2048x64, .f32⟩
  | 66 => ⟨S4x4x2048x64, .f32⟩
  | 67 => ⟨S_, .f32⟩
  | 68 => ⟨S4x4x2048, .f32⟩
  | 69 => ⟨S4x4x2048x1, .f32⟩
  | 70 => ⟨S4x4x2048x1, .f32⟩
  | 71 => ⟨S4x4x2048x64, .f32⟩
  | 72 => ⟨S4x4x2048x64, .f32⟩
  | 73 => ⟨S_, .f32⟩
  | 74 => ⟨S4x4x2048, .f32⟩
  | 75 => ⟨S3x4x4x2048x64, .f32⟩
  | 76 => ⟨S3x4x4x2048x64, .f32⟩
  | 77 => ⟨S3x4x4x2048x64, .f32⟩
  | 78 => ⟨S3x4x4x2048x64, .f32⟩
  | 79 => ⟨S_, .f32⟩
  | 80 => ⟨S3x4x4x2048, .f32⟩
  | 81 => ⟨S3x4x4x2048x1, .f32⟩
  | 82 => ⟨S_, .f32⟩
  | 83 => ⟨S3x4x4x2048, .f32⟩
  | 84 => ⟨S3x4x4x2048, .f32⟩
  | 85 => ⟨S3x4x4x2048, .f32⟩
  | 86 => ⟨S1x4x4x2048x64, .f32⟩
  | 87 => ⟨S4x4x2048x64, .f32⟩
  | 88 => ⟨S1x4x4x2048x64, .f32⟩
  | 89 => ⟨S4x4x2048x64, .f32⟩
  | 90 => ⟨S1x4x4x2048x64, .f32⟩
  | 91 => ⟨S4x4x2048x64, .f32⟩
  | 92 => ⟨S3x4x4x2048, .f32⟩
  | 93 => ⟨S3x4x4x2048, .f32⟩
  | 94 => ⟨S3x4x4x2048, .f32⟩
  | 95 => ⟨S3x4x4x2048, .f32⟩
  | 96 => ⟨S_, .f32⟩
  | 97 => ⟨S4x4x2048, .f32⟩
  | 98 => ⟨S1x4x4x2048, .f32⟩
  | 99 => ⟨S_, .f32⟩
  | 100 => ⟨S4x4x2048, .f32⟩
  | 101 => ⟨S1x4x4x2048, .f32⟩
  | 102 => ⟨S4x4x2048, .f32⟩
  | 103 => ⟨S1x4x4x2048, .f32⟩
  | 104 => ⟨S4x4x2048, .f32⟩
  | 105 => ⟨S1x4x4x2048, .f32⟩
  | 106 => ⟨S4x4x2048, .f32⟩
  | 107 => ⟨S4x4x2048, .f32⟩
  | 108 => ⟨S3x4x4x2048, .f32⟩
  | 109 => ⟨S3x4x4x2048, .f32⟩
  | 110 => ⟨S3x4x4x2048, .f32⟩
  | 111 => ⟨S1x4x4x2048, .f32⟩
  | 112 => ⟨S4x4x2048, .f32⟩
  | 113 => ⟨S1x4x4x2048, .f32⟩
  | 114 => ⟨S4x4x2048, .f32⟩
  | 115 => ⟨S1x4x4x2048, .f32⟩
  | 116 => ⟨S4x4x2048, .f32⟩
  | 117 => ⟨S4x4x2048x64, .f32⟩
  | 118 => ⟨S4x4x2048x64, .f32⟩
  | 119 => ⟨S4x4x2048x64, .f32⟩
  | 120 => ⟨S_, .f32⟩
  | 121 => ⟨S4x4x2048, .f32⟩
  | 122 => ⟨S4x4x2048x1, .f32⟩
  | 123 => ⟨S4x4x2048x1, .f32⟩
  | 124 => ⟨S4x4x2048x64, .f32⟩
  | 125 => ⟨S4x4x2048x64, .f32⟩
  | 126 => ⟨S_, .f32⟩
  | 127 => ⟨S4x4x2048, .f32⟩
  | _ => ⟨S2048x4x4x64, .f32⟩

abbrev hbmTy0_2 (i : Nat) : BufTy := match i % 128 with
  | 0 => ⟨S4x4x2048, .f32⟩
  | 1 => ⟨S4x64x2048, .f32⟩
  | 2 => ⟨S2048x4x64, .f32⟩
  | 3 => ⟨S4x4x2048x2048, .f32⟩
  | 4 => ⟨S4x4x2048x2048, .f32⟩
  | 5 => ⟨S4x4x2048x2048, .f32⟩
  | 6 => ⟨S4x4x2048x2048, .f32⟩
  | 7 => ⟨S4x4x2048x2048, .f32⟩
  | 8 => ⟨S_, .f32⟩
  | 9 => ⟨S4x4x2048, .f32⟩
  | 10 => ⟨S4x4x2048x1, .f32⟩
  | 11 => ⟨S_, .f32⟩
  | 12 => ⟨S4x4x2048, .f32⟩
  | 13 => ⟨S4x4x2048, .f32⟩
  | 14 => ⟨S4x4x2048, .f32⟩
  | 15 => ⟨S4x4x2048x2048, .f32⟩
  | 16 => ⟨S4x4x2048x2048, .f32⟩
  | 17 => ⟨S4x4x2048x2048, .f32⟩
  | 18 => ⟨S_, .f32⟩
  | 19 => ⟨S4x4x2048x2048, .f32⟩
  | 20 => ⟨S4x4x2048x2048, .f32⟩
  | 21 => ⟨S4x2048x2048x4, .f32⟩
  | 22 => ⟨S4x2048x4x64, .f32⟩
  | 23 => ⟨S2048x4x4x64, .f32⟩
  | 24 => ⟨S4x2048x64, .f32⟩
  | 25 => ⟨S2048x4x64, .f32⟩
  | 26 => ⟨S4x4x2048x64, .f32⟩
  | 27 => ⟨S4x4x2048x64, .f32⟩
  | 28 => ⟨S4x4x2048x64, .f32⟩
  | 29 => ⟨S_, .f32⟩
  | 30 => ⟨S4x4x2048, .f32⟩
  | 31 => ⟨S4x4x2048x1, .f32⟩
  | 32 => ⟨S4x4x2048x1, .f32⟩
  | 33 => ⟨S4x4x2048x64, .f32⟩
  | 34 => ⟨S4x4x2048x64, .f32⟩
  | 35 => ⟨S_, .f32⟩
  | 36 => ⟨S4x4x2048, .f32⟩
  | 37 => ⟨S4x4x2048, .f32⟩
  | 38 => ⟨S4x64x2048, .f32⟩
  | 39 => ⟨S2048x4x64, .f32⟩
  | 40 => ⟨S2048x4x64, .f32⟩
  | 41 => ⟨S4x4x2048x2048, .f32⟩
  | 42 => ⟨S4x4x2048x2048, .f32⟩
  | 43 => ⟨S4x4x2048x2048, .f32⟩
  | 44 => ⟨S4x4x2048x2048, .f32⟩
  | 45 => ⟨S4x4x2048x2048, .f32⟩
  | 46 => ⟨S_, .f32⟩
  | 47 => ⟨S4x4x2048, .f32⟩
  | 48 => ⟨S4x4x2048x1, .f32⟩
  | 49 => ⟨S_, .f32⟩
  | 50 => ⟨S4x4x2048, .f32⟩
  | 51 => ⟨S4x4x2048, .f32⟩
  | 52 => ⟨S4x4x2048, .f32⟩
  | 53 => ⟨S4x4x2048x2048, .f32⟩
  | 54 => ⟨S4x4x2048x2048, .f32⟩
  | 55 => ⟨S4x4x2048x2048, .f32⟩
  | 56 => ⟨S_, .f32⟩
  | 57 => ⟨S4x4x2048x2048, .f32⟩
  | 58 => ⟨S4x4x2048x2048, .f32⟩
  | 59 => ⟨S4x2048x2048x4, .f32⟩
  | 60 => ⟨S4x2048x4x64, .f32⟩
  | 61 => ⟨S2048x4x4x64, .f32⟩
  | 62 => ⟨S2048x4x4x64, .f32⟩
  | 63 => ⟨S4x2048x64, .f32⟩
  | 64 => ⟨S2048x4x64, .f32⟩
  | 65 => ⟨S2048x4x64, .f32⟩
  | 66 => ⟨S4x4x2048x64, .f32⟩
  | 67 => ⟨S4x4x2048x64, .f32⟩
  | 68 => ⟨S4x4x2048x64, .f32⟩
  | 69 => ⟨S_, .f32⟩
  | 70 => ⟨S4x4x2048, .f32⟩
  | 71 => ⟨S4x4x2048x1, .f32⟩
  | 72 => ⟨S4x4x2048x1, .f32⟩
  | 73 => ⟨S4x4x2048x64, .f32⟩
  | 74 => ⟨S4x4x2048x64, .f32⟩
  | 75 => ⟨S_, .f32⟩
  | 76 => ⟨S4x4x2048, .f32⟩
  | 77 => ⟨S4x4x2048, .f32⟩
  | 78 => ⟨S4x64x2048, .f32⟩
  | 79 => ⟨S2048x4x64, .f32⟩
  | 80 => ⟨S2048x4x64, .f32⟩
  | 81 => ⟨S4x4x2048x2048, .f32⟩
  | 82 => ⟨S4x4x2048x2048, .f32⟩
  | 83 => ⟨S4x4x2048x2048, .f32⟩
  | 84 => ⟨S4x4x2048x2048, .f32⟩
  | 85 => ⟨S4x4x2048x2048, .f32⟩
  | 86 => ⟨S_, .f32⟩
  | 87 => ⟨S4x4x2048, .f32⟩
  | 88 => ⟨S4x4x2048x1, .f32⟩
  | 89 => ⟨S_, .f32⟩
  | 90 => ⟨S4x4x2048, .f32⟩
  | 91 => ⟨S4x4x2048, .f32⟩
  | 92 => ⟨S4x4x2048, .f32⟩
  | 93 => ⟨S4x4x2048x2048, .f32⟩
  | 94 => ⟨S4x4x2048x2048, .f32⟩
  | 95 => ⟨S4x4x2048x2048, .f32⟩
  | 96 => ⟨S_, .f32⟩
  | 97 => ⟨S4x4x2048x2048, .f32⟩
  | 98 => ⟨S4x4x2048x2048, .f32⟩
  | 99 => ⟨S4x2048x2048x4, .f32⟩
  | 100 => ⟨S4x2048x4x64, .f32⟩
  | 101 => ⟨S2048x4x4x64, .f32⟩
  | 102 => ⟨S2048x4x4x64, .f32⟩
  | 103 => ⟨S4x2048x64, .f32⟩
  | 104 => ⟨S2048x4x64, .f32⟩
  | 105 => ⟨S2048x4x64, .f32⟩
  | 106 => ⟨S16x128x4x4x64, .f32⟩
  | 107 => ⟨S4x16x64x4x128, .f32⟩
  | 108 => ⟨S4x16x64x512, .f32⟩
  | 109 => ⟨S4x64x2048, .f32⟩
  | 110 => ⟨S4x64x2048, .f32⟩
  | _ => ⟨S2048x4x4x64, .f32⟩

abbrev hbmTy (i : Nat) : BufTy := match i / 128 with
  | 0 => hbmTy0_0 i
  | 1 => hbmTy0_1 i
  | 2 => hbmTy0_2 i
  | _ => ⟨S2048x4x4x64, .f32⟩

abbrev bufTy : (tb : Table) → Fin (tcTables nBuf tb) → BufTy
  | .hbm, ⟨i, _⟩ => hbmTy i
  | _, _ => ⟨S2048x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_call0_v0 : Ref sig .tc := ⟨.hbm, 25, rfl⟩
abbrev main_v16_1 : Ref sig .tc := ⟨.hbm, 26, rfl⟩
abbrev main_call0_v2 : Ref sig .tc := ⟨.hbm, 27, rfl⟩
abbrev main_v16_0 : Ref sig .tc := ⟨.hbm, 28, rfl⟩
abbrev main_call0_cst : Ref sig .tc := ⟨.hbm, 29, rfl⟩
abbrev main_v16_2 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_call1_v0 : Ref sig .tc := ⟨.hbm, 74, rfl⟩
abbrev main_v51_1 : Ref sig .tc := ⟨.hbm, 75, rfl⟩
abbrev main_call1_v2 : Ref sig .tc := ⟨.hbm, 76, rfl⟩
abbrev main_v51_0 : Ref sig .tc := ⟨.hbm, 77, rfl⟩
abbrev main_call1_cst : Ref sig .tc := ⟨.hbm, 78, rfl⟩
abbrev main_v51_2 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_18 : Ref sig .tc := ⟨.hbm, 112, rfl⟩
abbrev main_v78 : Ref sig .tc := ⟨.hbm, 113, rfl⟩
abbrev main_v79 : Ref sig .tc := ⟨.hbm, 114, rfl⟩
abbrev main_c_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_20 : Ref sig .tc := ⟨.hbm, 122, rfl⟩
abbrev main_call2_v0 : Ref sig .tc := ⟨.hbm, 123, rfl⟩
abbrev main_v86_1 : Ref sig .tc := ⟨.hbm, 124, rfl⟩
abbrev main_call2_v2 : Ref sig .tc := ⟨.hbm, 125, rfl⟩
abbrev main_v86_0 : Ref sig .tc := ⟨.hbm, 126, rfl⟩
abbrev main_call2_cst : Ref sig .tc := ⟨.hbm, 127, rfl⟩
abbrev main_v86_2 : Ref sig .tc := ⟨.hbm, 128, rfl⟩
abbrev main_cst_21 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_22 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_24 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_25 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_26 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_27 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_28 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_29 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_30 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_31 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_32 : Ref sig .tc := ⟨.hbm, 207, rfl⟩
abbrev main_v154 : Ref sig .tc := ⟨.hbm, 208, rfl⟩
abbrev main_v155 : Ref sig .tc := ⟨.hbm, 209, rfl⟩
abbrev main_cst_33 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_34 : Ref sig .tc := ⟨.hbm, 224, rfl⟩
abbrev main_v169 : Ref sig .tc := ⟨.hbm, 225, rfl⟩
abbrev main_v170 : Ref sig .tc := ⟨.hbm, 226, rfl⟩
abbrev main_cst_35 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_cst_36 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_cst_37 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_cst_38 : Ref sig .tc := ⟨.hbm, 264, rfl⟩
abbrev main_v205 : Ref sig .tc := ⟨.hbm, 265, rfl⟩
abbrev main_v206 : Ref sig .tc := ⟨.hbm, 266, rfl⟩
abbrev main_cst_39 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_call3_cst : Ref sig .tc := ⟨.hbm, 274, rfl⟩
abbrev main_call3_v0 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_cst_40 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_cst_41 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_cst_42 : Ref sig .tc := ⟨.hbm, 302, rfl⟩
abbrev main_v237 : Ref sig .tc := ⟨.hbm, 303, rfl⟩
abbrev main_v238 : Ref sig .tc := ⟨.hbm, 304, rfl⟩
abbrev main_cst_43 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_call4_cst : Ref sig .tc := ⟨.hbm, 312, rfl⟩
abbrev main_call4_v0 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_cst_44 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_cst_45 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_cst_46 : Ref sig .tc := ⟨.hbm, 342, rfl⟩
abbrev main_v271 : Ref sig .tc := ⟨.hbm, 343, rfl⟩
abbrev main_v272 : Ref sig .tc := ⟨.hbm, 344, rfl⟩
abbrev main_cst_47 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_call5_cst : Ref sig .tc := ⟨.hbm, 352, rfl⟩
abbrev main_call5_v0 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩

abbrev nD : Nat := 1
abbrev τ : Topo := Topo.v7x

variable {F : FTy → Type} [FloatOps F]
-- ==== Kernel2.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x2x704x1024 : Shape := ⟨4, ![4, 2, 704, 1024]⟩
abbrev S4x2048x704 : Shape := ⟨3, ![4, 2048, 704]⟩
abbrev S512x1024 : Shape := ⟨2, ![512, 1024]⟩
abbrev S1x1x704x1024 : Shape := ⟨4, ![1, 1, 704, 1024]⟩
abbrev S1x512x704 : Shape := ⟨3, ![1, 512, 704]⟩
abbrev S704x1024 : Shape := ⟨2, ![704, 1024]⟩
abbrev S512x704 : Shape := ⟨2, ![512, 704]⟩
abbrev S1x2048x704 : Shape := ⟨3, ![1, 2048, 704]⟩
abbrev S1x704x1024 : Shape := ⟨3, ![1, 704, 1024]⟩
abbrev S2048x704 : Shape := ⟨2, ![2048, 704]⟩

abbrev nBuf : Space → Nat
  | .hbm => 25
  | .vmem => 39
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .bf16⟩
  | .hbm, ⟨6, _⟩ => ⟨S2048x1024, .bf16⟩
  | .hbm, ⟨7, _⟩ => ⟨S2816x1024, .f32⟩
  | .hbm, ⟨8, _⟩ => ⟨S4x704x1024, .f32⟩
  | .hbm, ⟨9, _⟩ => ⟨S2816x1024, .f32⟩
  | .hbm, ⟨10, _⟩ => ⟨S4x704x1024, .f32⟩
  | .hbm, ⟨11, _⟩ => ⟨S4x1x704x1024, .f32⟩
  | .hbm, ⟨12, _⟩ => ⟨S4x1x704x1024, .f32⟩
  | .hbm, ⟨13, _⟩ => ⟨S4x2x704x1024, .f32⟩
  | .hbm, ⟨14, _⟩ => ⟨S4x2x704x1024, .bf16⟩
  | .hbm, ⟨15, _⟩ => ⟨S4x1x704x1024, .f32⟩
  | .hbm, ⟨16, _⟩ => ⟨S4x1x704x1024, .bf16⟩
  | .hbm, ⟨17, _⟩ => ⟨S4x2048x704, .bf16⟩
  | .hbm, ⟨18, _⟩ => ⟨S4x2048x704, .bf16⟩
  | .hbm, ⟨19, _⟩ => ⟨S4x2048x704, .bf16⟩
  | .hbm, ⟨20, _⟩ => ⟨S4x2048x704, .bf16⟩
  | .hbm, ⟨21, _⟩ => ⟨S4x2048x704, .bf16⟩
  | .hbm, ⟨22, _⟩ => ⟨S4x704x1024, .bf16⟩
  | .hbm, ⟨23, _⟩ => ⟨S4x704x1024, .bf16⟩
  | .hbm, ⟨24, _⟩ => ⟨S4x704x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S512x1024, .bf16⟩
  | .local _ .vmem, ⟨13, _⟩ => ⟨S512x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x2048x704, .bf16⟩
  | .local _ .vmem, ⟨25, _⟩ => ⟨S1x2048x704, .bf16⟩
  | .local _ .vmem, ⟨26, _⟩ => ⟨S2048x1024, .bf16⟩
  | .local _ .vmem, ⟨27, _⟩ => ⟨S1x704x1024, .bf16⟩
  | .local _ .vmem, ⟨28, _⟩ => ⟨S1x704x1024, .bf16⟩
  | .local _ .vmem, ⟨29, _⟩ => ⟨S1x2048x704, .bf16⟩
  | .local _ .vmem, ⟨30, _⟩ => ⟨S1x2048x704, .bf16⟩
  | .local _ .vmem, ⟨31, _⟩ => ⟨S2048x1024, .bf16⟩
  | .local _ .vmem, ⟨32, _⟩ => ⟨S1x704x1024, .bf16⟩
  | .local _ .vmem, ⟨33, _⟩ => ⟨S1x704x1024, .bf16⟩
  | .local _ .vmem, ⟨34, _⟩ => ⟨S1x2048x704, .bf16⟩
  | .local _ .vmem, ⟨35, _⟩ => ⟨S1x2048x704, .bf16⟩
  | .local _ .vmem, ⟨36, _⟩ => ⟨S2048x1024, .bf16⟩
  | .local _ .vmem, ⟨37, _⟩ => ⟨S1x704x1024, .bf16⟩
  | .local _ .vmem, ⟨38, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x704x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x704x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x2048x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x704x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== Reference2Ideal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S4x704x1024 : Shape := ⟨3, ![4, 704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S1024x2816, .f32⟩
  | .hbm, ⟨23, _⟩ => ⟨S2816x1024, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2816x1024, .f32⟩
  | .hbm, ⟨28, _⟩ => ⟨S1024x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2816x1024, .f32⟩
  | .hbm, ⟨34, _⟩ => ⟨S1024x2816, .f32⟩
  | .hbm, ⟨35, _⟩ => ⟨S2816x1024, .f32⟩
  | .hbm, ⟨36, _⟩ => ⟨S2816x1024, .f32⟩
  | .hbm, ⟨37, _⟩ => ⟨S4x704x1024, .f32⟩
  | .hbm, ⟨38, _⟩ => ⟨S4x704x1024, .bf16⟩
  | .hbm, ⟨39, _⟩ => ⟨S4x704x1024, .f32⟩
  | .hbm, ⟨40, _⟩ => ⟨S4x704x1024, .bf16⟩
  | .hbm, ⟨41, _⟩ => ⟨S4x704x1024, .f32⟩
  | .hbm, ⟨42, _⟩ => ⟨S4x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel3.lean ====
abbrev S2048x1024 : Shape := ⟨2, ![2048, 1024]⟩
abbrev S1024x4224 : Shape := ⟨2, ![1024, 4224]⟩
abbrev S2048x4224 : Shape := ⟨2, ![2048, 4224]⟩
abbrev S2048x2048 : Shape := ⟨2, ![2048, 2048]⟩
abbrev S4224x1024 : Shape := ⟨2, ![4224, 1024]⟩
abbrev S512x1024 : Shape := ⟨2, ![512, 1024]⟩
abbrev S1408x1024 : Shape := ⟨2, ![1408, 1024]⟩
abbrev S512x1408 : Shape := ⟨2, ![512, 1408]⟩
abbrev S1024x1024 : Shape := ⟨2, ![1024, 1024]⟩
abbrev S2048x1408 : Shape := ⟨2, ![2048, 1408]⟩

abbrev nBuf : Space → Nat
  | .hbm => 14
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x4224, .f32⟩
  | .hbm, ⟨2, _⟩ => ⟨S2048x4224, .f32⟩
  | .hbm, ⟨3, _⟩ => ⟨S2048x2048, .f32⟩
  | .hbm, ⟨4, _⟩ => ⟨S2048x1024, .f32⟩
  | .hbm, ⟨5, _⟩ => ⟨S2048x1024, .bf16⟩
  | .hbm, ⟨6, _⟩ => ⟨S2048x4224, .bf16⟩
  | .hbm, ⟨7, _⟩ => ⟨S2048x2048, .bf16⟩
  | .hbm, ⟨8, _⟩ => ⟨S2048x1024, .bf16⟩
  | .hbm, ⟨9, _⟩ => ⟨S4224x1024, .f32⟩
  | .hbm, ⟨10, _⟩ => ⟨S4224x1024, .bf16⟩
  | .hbm, ⟨11, _⟩ => ⟨S2048x4224, .f32⟩
  | .hbm, ⟨12, _⟩ => ⟨S2048x1024, .bf16⟩
  | .hbm, ⟨13, _⟩ => ⟨S4224x1024, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S2048x1408, .bf16⟩
  | .local _ .vmem, ⟨12, _⟩ => ⟨S2048x1408, .bf16⟩
  | .local _ .vmem, ⟨13, _⟩ => ⟨S2048x1024, .bf16⟩
  | .local _ .vmem, ⟨14, _⟩ => ⟨S1408x1024, .bf16⟩
  | .local _ .vmem, ⟨15, _⟩ => ⟨S1408x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![3], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== Reference3Ideal.lean ====
abbrev S2048x1024 : Shape := ⟨2, ![2048, 1024]⟩
abbrev S1024x4224 : Shape := ⟨2, ![1024, 4224]⟩
abbrev S2048x4224 : Shape := ⟨2, ![2048, 4224]⟩
abbrev S2048x2048 : Shape := ⟨2, ![2048, 2048]⟩
abbrev S4224x1024 : Shape := ⟨2, ![4224, 1024]⟩
abbrev S_ : Shape := ⟨0, ![]⟩
abbrev S1024x2048 : Shape := ⟨2, ![1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4224, .f32⟩
  | .hbm, ⟨2, _⟩ => ⟨S2048x4224, .f32⟩
  | .hbm, ⟨3, _⟩ => ⟨S2048x2048, .f32⟩
  | .hbm, ⟨4, _⟩ => ⟨S2048x1024, .f32⟩
  | .hbm, ⟨5, _⟩ => ⟨S2048x4224, .f32⟩
  | .hbm, ⟨6, _⟩ => ⟨S4224x1024, .f32⟩
  | .hbm, ⟨7, _⟩ => ⟨S1024x4224, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S1024x2048, .f32⟩
  | .hbm, ⟨12, _⟩ => ⟨S2048x1024, .f32⟩
  | .hbm, ⟨13, _⟩ => ⟨S2048x1024, .bf16⟩
  | .hbm, ⟨14, _⟩ => ⟨S4224x1024, .f32⟩
  | .hbm, ⟨15, _⟩ => ⟨S4224x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.FrameIdeal.lean ====
/- The run of `KernelIdeal`'s two kernel calls, and its frame. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # REGION 0 of @main: custom_call 0, `cc0_bias_table` (pipeline 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S17x128x512 := Rect.unit (s := S17x128x512) ![0, 0, 0] S17x128x512.size inb_S17x128x512_S17x128x512_0_0_0

/-- Window 0's staging buffer after the body, from the input windows' blocks. -/
def out0_0  : Vec F S17x128x512 .f32 :=
  View.canon [⟨r0_0, k0_pay1 (F := F)⟩]

/-- Its stores tile the buffer. -/
theorem cover0_0 (p0 : Vec F S17x128x512 .f32) (y : S17x128x512.Idx) :
    ∃ pc ∈ ([⟨r0_0, p0⟩] : List (View.Piece (Elt F) S17x128x512 .f32)), y ∈ pc.1.set :=
  View.cover_of_tiled [⟨r0_0, p0⟩] S17x128x512.size (by rfl) y

set_option maxHeartbeats 1000000 in
/-- The kernel body on whole staging memrefs, the inputs' at read contents `xW` and the outputs' at anything, runs to the continuation holding the inputs' as they were and each output's at `out0_W` of the inputs'. -/
theorem sound_kernel0 (c : Dev nD) (E : Set ℕ) (a0 : Memref sig .tc .vmem S17x128x512 .f32) (w0 : a0.IsWhole)
     (K : PUnit → sProp 𝕄) :
    iprop((∃ d, owns (c : Thread nD τ) a0 fullShare d)
        ∗ (iprop(owns (c : Thread nD τ) a0 fullShare (out0_0 )) -∗ K ⟨⟩))
      ⊢ wp frame (wpE (defs₀ (F := F)) Variants.none c none) E (cc0_bias_table a0 w0) K := by
  simp only [cc0_bias_table_eq_skeleton]; unfold cc0_bias_table_skel
  simp only [k0_part1_eq_skeleton]
  unfold owns
  iintro ⟨⟨%d0, %f0, -, H0⟩, Hk⟩
  sl_exec
  sl_step
  iapply Hk
  iexists _; isplitr
  swap; · iexact H0
  ipureintro
  exact View.read_writes_eq_canon _ _ _ (cover0_0 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => out0_0
  Φ _ := Pipeline.ΦA spec0 c
  q _ := fullShare
  owed _ := 0

/-- The proof data's arrays are the region-entry contents, by projecting the definition. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = out0_0  := by dsimp only [dat0]

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)))

/-- What the body returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0]
  iintro ⟨HΦ, Ho, ⟨%d0, H0⟩⟩
  iapply (sound_kernel0 c Set.univ _ _  _)
  isplitl [H0]; · iexists _; iexact H0
  iintro ⟨H0⟩
  isplitl [HΦ]; · iexact HΦ
  isplitl [Ho]; · iexact Ho
  iexact H0

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_attn_bwd` (pipeline 1), at the entry contents `V` — class R -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The condition of the body's `scf.if` 0. -/
abbrev cond1_0 (i : grid1.Coords) : Prop := (Scalar.cmpi .ne (Scalar.extui (Scalar.cmpi .eq (BitVec.ofNat 32 (i 1).val) 0#32)) 0#32) = 1#1
/-- It holds at the first point only — by arithmetic of the point. -/
theorem hcond1_0 : ∀ t : Fin cfg1.N, cond1_0 (grid1.coords t) ↔ t.val % 4 = 0 :=
  (fun t => by
    have ht : t.val < 4 := Nat.lt_of_lt_of_eq t.isLt N_1
    have e0 : (grid1.coords t 0).val = t.val / 4 % 1 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-- One staging buffer of output window 8, through which its contents are stated. -/
abbrev VO1_8 : View sig .tc .vmem S4x16x64x512 .f32 := (Memref.whole cc1_stg8_0 : Memref sig .tc .vmem S4x16x64x512 .f32).view
/-- One staging buffer of output window 9, through which its contents are stated. -/
abbrev VO1_9 : View sig .tc .vmem S4x64x512 .f32 := (Memref.whole cc1_stg9_0 : Memref sig .tc .vmem S4x64x512 .f32).view
/-- One staging buffer of output window 10, through which its contents are stated. -/
abbrev VO1_10 : View sig .tc .vmem S4x64x512 .f32 := (Memref.whole cc1_stg10_0 : Memref sig .tc .vmem S4x64x512 .f32).view
/-- Each window's current staging memref at point `t`, spelled as the pipeline passes it. -/
abbrev ms1_0 (t : Fin cfg1.N) : Memref sig .tc .vmem S4x16x64x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x64x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x16x64x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x16x1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4x16x1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S17x128x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S4x16x64x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S4x64x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4x64x512 .f32 := win1_10.stage (cfg1.slots t 10)
abbrev hs1_10 (t : Fin cfg1.N) : (ms1_10 t).IsWhole := hstage1_10 ((cfg1.slots t 10).cast nbuf1_10)

section CaseA
variable (c : Dev nD) (i : grid1.Coords) (a2 : Memref sig .tc .vmem S4x16x64x512 .bf16) (w2 : a2.IsWhole) (a3 : Memref sig .tc .vmem S4x512x64 .bf16) (w3 : a3.IsWhole) (a4 : Memref sig .tc .vmem S4x64x512 .bf16) (w4 : a4.IsWhole) (a5 : Memref sig .tc .vmem S4x512x64 .bf16) (w5 : a5.IsWhole) (a6 : Memref sig .tc .vmem S4x16x64x512 .bf16) (w6 : a6.IsWhole) (a7 : Memref sig .tc .vmem S4x16x1x512 .f32) (w7 : a7.IsWhole) (a8 : Memref sig .tc .vmem S4x16x1x512 .f32) (w8 : a8.IsWhole) (a9 : Memref sig .tc .vmem S17x128x512 .f32) (w9 : a9.IsWhole) (a10 : Memref sig .tc .vmem S4x16x64x512 .f32) (w10 : a10.IsWhole) (a11 : Memref sig .tc .vmem S4x64x512 .f32) (w11 : a11.IsWhole) (a12 : Memref sig .tc .vmem S4x64x512 .f32) (w12 : a12.IsWhole) (hc0 : cond1_0 i)
    (x0 : Vec F S4x16x64x512 .bf16) (x1 : Vec F S4x512x64 .bf16) (x2 : Vec F S4x64x512 .bf16) (x3 : Vec F S4x512x64 .bf16) (x4 : Vec F S4x16x64x512 .bf16) (x5 : Vec F S4x16x1x512 .f32) (x6 : Vec F S4x16x1x512 .f32) (x7 : Vec F S17x128x512 .f32)

set_option maxHeartbeats 1000000 in
/-- What the body's stores leave in each output's staging memref, as pieces. -/
noncomputable def kernelRun1_A :
    Σ' (L8 : List (View.Piece (Elt F) S4x16x64x512 .f32)), Σ' (L9 : List (View.Piece (Elt F) S4x64x512 .f32)), { L10 : List (View.Piece (Elt F) S4x64x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ f, a10.view.loc (c : Thread nD τ) ↦[a10.view.set]{fullShare} a10.view.writes (Elt F) f L8) ∗ (∃ f, a11.view.loc (c : Thread nD τ) ↦[a11.view.set]{fullShare} a11.view.writes (Elt F) f L9) ∗ (∃ f, a12.view.loc (c : Thread nD τ) ↦[a12.view.set]{fullShare} a12.view.writes (Elt F) f L10)) -∗ K ⟨⟩))
          ⊢ wp frame (wpE (defs₀ (F := F)) Variants.none c none) E (cc1_attn_bwd i a2 w2 a3 w3 a4 w4 a5 w5 a6 w6 a7 w7 a8 w8 a9 w9 a10 w10 a11 w11 a12 w12) K } := by
  refine ⟨?_, ?_, ?_, fun E K => ?run⟩
  case run =>
    simp only [cc1_attn_bwd_eq_skeleton]; unfold cc1_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6; obtain rfl := w9.eq_unread hf7
    sl_exec (disch := first | sl_exact hc0)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr; · ipureintro; exact w5.read_unread _
      iexact H3
    isplitl [H4]
    · iexists _; isplitr; · ipureintro; exact w6.read_unread _
      iexact H4
    isplitl [H5]
    · iexists _; isplitr; · ipureintro; exact w7.read_unread _
      iexact H5
    isplitl [H6]
    · iexists _; isplitr; · ipureintro; exact w8.read_unread _
      iexact H6
    isplitl [H7]
    · iexists _; isplitr; · ipureintro; exact w9.read_unread _
      iexact H7
    isplitl [H8]; · iexists _; iexact H8
    isplitl [H9]; · iexists _; iexact H9
    iexists _; iexact H10

/-- Case A's pieces cover output 8's staging buffer. -/
theorem cover1_A_8 (y : S4x16x64x512.Idx) :
    ∃ pc ∈ (kernelRun1_A c i a2 w2 a3 w3 a4 w4 a5 w5 a6 w6 a7 w7 a8 w8 a9 w9 a10 w10 a11 w11 a12 w12 hc0 x0 x1 x2 x3 x4 x5 x6 x7).1, y ∈ pc.1.set :=
  View.cover_of_wholeMem (kernelRun1_A c i a2 w2 a3 w3 a4 w4 a5 w5 a6 w6 a7 w7 a8 w8 a9 w9 a10 w10 a11 w11 a12 w12 hc0 x0 x1 x2 x3 x4 x5 x6 x7).1 (by sl_whole_mem) y

/-- What case A leaves in output 8's staging buffer. -/
def out1_A_8 : Vec F S4x16x64x512 .f32 :=
  VO1_8.read (Elt F) (VO1_8.writes (Elt F) VO1_8.junk (kernelRun1_A c i a2 w2 a3 w3 a4 w4 a5 w5 a6 w6 a7 w7 a8 w8 a9 w9 a10 w10 a11 w11 a12 w12 hc0 x0 x1 x2 x3 x4 x5 x6 x7).1)

/-- Case A's pieces cover output 9's staging buffer. -/
theorem cover1_A_9 (y : S4x64x512.Idx) :
    ∃ pc ∈ (kernelRun1_A c i a2 w2 a3 w3 a4 w4 a5 w5 a6 w6 a7 w7 a8 w8 a9 w9 a10 w10 a11 w11 a12 w12 hc0 x0 x1 x2 x3 x4 x5 x6 x7).2.1, y ∈ pc.1.set :=
  View.cover_of_wholeMem (kernelRun1_A c i a2 w2 a3 w3 a4 w4 a5 w5 a6 w6 a7 w7 a8 w8 a9 w9 a10 w10 a11 w11 a12 w12 hc0 x0 x1 x2 x3 x4 x5 x6 x7).2.1 (by sl_whole_mem) y

/-- What case A leaves in output 9's staging buffer. -/
def out1_A_9 : Vec F S4x64x512 .f32 :=
  VO1_9.read (Elt F) (VO1_9.writes (Elt F) VO1_9.junk (kernelRun1_A c i a2 w2 a3 w3 a4 w4 a5 w5 a6 w6 a7 w7 a8 w8 a9 w9 a10 w10 a11 w11 a12 w12 hc0 x0 x1 x2 x3 x4 x5 x6 x7).2.1)

/-- Case A's pieces cover output 10's staging buffer. -/
theorem cover1_A_10 (y : S4x64x512.Idx) :
    ∃ pc ∈ (kernelRun1_A c i a2 w2 a3 w3 a4 w4 a5 w5 a6 w6 a7 w7 a8 w8 a9 w9 a10 w10 a11 w11 a12 w12 hc0 x0 x1 x2 x3 x4 x5 x6 x7).2.2.1, y ∈ pc.1.set :=
  View.cover_of_wholeMem (kernelRun1_A c i a2 w2 a3 w3 a4 w4 a5 w5 a6 w6 a7 w7 a8 w8 a9 w9 a10 w10 a11 w11 a12 w12 hc0 x0 x1 x2 x3 x4 x5 x6 x7).2.2.1 (by sl_whole_mem) y

/-- What case A leaves in output 10's staging buffer. -/
def out1_A_10 : Vec F S4x64x512 .f32 :=
  VO1_10.read (Elt F) (VO1_10.writes (Elt F) VO1_10.junk (kernelRun1_A c i a2 w2 a3 w3 a4 w4 a5 w5 a6 w6 a7 w7 a8 w8 a9 w9 a10 w10 a11 w11 a12 w12 hc0 x0 x1 x2 x3 x4 x5 x6 x7).2.2.1)

end CaseA

section CaseB
variable (c : Dev nD) (i : grid1.Coords) (a2 : Memref sig .tc .vmem S4x16x64x512 .bf16) (w2 : a2.IsWhole) (a3 : Memref sig .tc .vmem S4x512x64 .bf16) (w3 : a3.IsWhole) (a4 : Memref sig .tc .vmem S4x64x512 .bf16) (w4 : a4.IsWhole) (a5 : Memref sig .tc .vmem S4x512x64 .bf16) (w5 : a5.IsWhole) (a6 : Memref sig .tc .vmem S4x16x64x512 .bf16) (w6 : a6.IsWhole) (a7 : Memref sig .tc .vmem S4x16x1x512 .f32) (w7 : a7.IsWhole) (a8 : Memref sig .tc .vmem S4x16x1x512 .f32) (w8 : a8.IsWhole) (a9 : Memref sig .tc .vmem S17x128x512 .f32) (w9 : a9.IsWhole) (a10 : Memref sig .tc .vmem S4x16x64x512 .f32) (w10 : a10.IsWhole) (a11 : Memref sig .tc .vmem S4x64x512 .f32) (w11 : a11.IsWhole) (a12 : Memref sig .tc .vmem S4x64x512 .f32) (w12 : a12.IsWhole) (hc0 : ¬cond1_0 i)
    (x0 : Vec F S4x16x64x512 .bf16) (x1 : Vec F S4x512x64 .bf16) (x2 : Vec F S4x64x512 .bf16) (x3 : Vec F S4x512x64 .bf16) (x4 : Vec F S4x16x64x512 .bf16) (x5 : Vec F S4x16x1x512 .f32) (x6 : Vec F S4x16x1x512 .f32) (x7 : Vec F S17x128x512 .f32) (xo8 : Vec F S4x16x64x512 .f32)

set_option maxHeartbeats 1000000 in
/-- What the body's stores leave in each output's staging memref, as pieces. -/
noncomputable def kernelRun1_B :
    Σ' (L8 : List (View.Piece (Elt F) S4x16x64x512 .f32)), Σ' (L9 : List (View.Piece (Elt F) S4x64x512 .f32)), { L10 : List (View.Piece (Elt F) S4x64x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xo8 ∗ (∃ d, owns (c : Thread nD τ) a11 fullShare d) ∗ (∃ d, owns (c : Thread nD τ) a12 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (a10.view.loc (c : Thread nD τ) ↦[a10.view.set]{fullShare} a10.view.writes (Elt F) (w10.unread xo8) L8) ∗ (∃ f, a11.view.loc (c : Thread nD τ) ↦[a11.view.set]{fullShare} a11.view.writes (Elt F) f L9) ∗ (∃ f, a12.view.loc (c : Thread nD τ) ↦[a12.view.set]{fullShare} a12.view.writes (Elt F) f L10)) -∗ K ⟨⟩))
          ⊢ wp frame (wpE (defs₀ (F := F)) Variants.none c none) E (cc1_attn_bwd i a2 w2 a3 w3 a4 w4 a5 w5 a6 w6 a7 w7 a8 w8 a9 w9 a10 w10 a11 w11 a12 w12) K } := by
  refine ⟨?_, ?_, ?_, fun E K => ?run⟩
  case run =>
    simp only [cc1_attn_bwd_eq_skeleton]; unfold cc1_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6; obtain rfl := w9.eq_unread hf7; obtain rfl := w10.eq_unread hf8
    sl_exec (disch := first | sl_exact hc0)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr; · ipureintro; exact w5.read_unread _
      iexact H3
    isplitl [H4]
    · iexists _; isplitr; · ipureintro; exact w6.read_unread _
      iexact H4
    isplitl [H5]
    · iexists _; isplitr; · ipureintro; exact w7.read_unread _
      iexact H5
    isplitl [H6]
    · iexists _; isplitr; · ipureintro; exact w8.read_unread _
      iexact H6
    isplitl [H7]
    · iexists _; isplitr; · ipureintro; exact w9.read_unread _
      iexact H7
    isplitl [H8]; · iexact H8
    isplitl [H9]; · iexists _; iexact H9
    iexists _; iexact H10

/-- What case B leaves in output 8's staging buffer. -/
def out1_B_8 : Vec F S4x16x64x512 .f32 :=
  a10.view.read (Elt F) (a10.view.writes (Elt F) (w10.unread xo8) (kernelRun1_B c i a2 w2 a3 w3 a4 w4 a5 w5 a6 w6 a7 w7 a8 w8 a9 w9 a10 w10 a11 w11 a12 w12 hc0 x0 x1 x2 x3 x4 x5 x6 x7 xo8).1)

/-- Case B's pieces cover output 9's staging buffer. -/
theorem cover1_B_9 (y : S4x64x512.Idx) :
    ∃ pc ∈ (kernelRun1_B c i a2 w2 a3 w3 a4 w4 a5 w5 a6 w6 a7 w7 a8 w8 a9 w9 a10 w10 a11 w11 a12 w12 hc0 x0 x1 x2 x3 x4 x5 x6 x7 xo8).2.1, y ∈ pc.1.set :=
  View.cover_of_wholeMem (kernelRun1_B c i a2 w2 a3 w3 a4 w4 a5 w5 a6 w6 a7 w7 a8 w8 a9 w9 a10 w10 a11 w11 a12 w12 hc0 x0 x1 x2 x3 x4 x5 x6 x7 xo8).2.1 (by sl_whole_mem) y

/-- What case B leaves in output 9's staging buffer. -/
def out1_B_9 : Vec F S4x64x512 .f32 :=
  VO1_9.read (Elt F) (VO1_9.writes (Elt F) VO1_9.junk (kernelRun1_B c i a2 w2 a3 w3 a4 w4 a5 w5 a6 w6 a7 w7 a8 w8 a9 w9 a10 w10 a11 w11 a12 w12 hc0 x0 x1 x2 x3 x4 x5 x6 x7 xo8).2.1)

/-- Case B's pieces cover output 10's staging buffer. -/
theorem cover1_B_10 (y : S4x64x512.Idx) :
    ∃ pc ∈ (kernelRun1_B c i a2 w2 a3 w3 a4 w4 a5 w5 a6 w6 a7 w7 a8 w8 a9 w9 a10 w10 a11 w11 a12 w12 hc0 x0 x1 x2 x3 x4 x5 x6 x7 xo8).2.2.1, y ∈ pc.1.set :=
  View.cover_of_wholeMem (kernelRun1_B c i a2 w2 a3 w3 a4 w4 a5 w5 a6 w6 a7 w7 a8 w8 a9 w9 a10 w10 a11 w11 a12 w12 hc0 x0 x1 x2 x3 x4 x5 x6 x7 xo8).2.2.1 (by sl_whole_mem) y

/-- What case B leaves in output 10's staging buffer. -/
def out1_B_10 : Vec F S4x64x512 .f32 :=
  VO1_10.read (Elt F) (VO1_10.writes (Elt F) VO1_10.junk (kernelRun1_B c i a2 w2 a3 w3 a4 w4 a5 w5 a6 w6 a7 w7 a8 w8 a9 w9 a10 w10 a11 w11 a12 w12 hc0 x0 x1 x2 x3 x4 x5 x6 x7 xo8).2.2.1)

end CaseB

/-- What the body leaves at a point of case A. -/
def trA (c : Dev nD) (t : Fin cfg1.N) (h0 : t.val % 4 = 0) : Vec F S4x16x64x512 .f32 × Vec F S4x64x512 .f32 × Vec F S4x64x512 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t))

/-- What the body leaves at a point of case B, output 8's buffer holding `xo8` before. -/
def trB (c : Dev nD) (t : Fin cfg1.N) (h0 : ¬t.val % 4 = 0) (xo8 : Vec F S4x16x64x512 .f32) : Vec F S4x16x64x512 .f32 × Vec F S4x64x512 .f32 × Vec F S4x64x512 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) xo8, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) xo8, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) xo8)

/-- THE ACCUMULATION. What the outputs' staging buffers hold after the body at position `n` (a tuple, in window order): the case the closed forms select at `n`, run at the point's memrefs and input blocks, an output it reads before covering at what this leaves at `n - 1` (its buffer is not written back between: `before1_W_κ`). -/
def outsAt1 (c : Dev nD) : (n : ℕ) → n < cfg1.N → Vec F S4x16x64x512 .f32 × Vec F S4x64x512 .f32 × Vec F S4x64x512 .f32
  | 0, hn => trA V c ⟨0, hn⟩ (Nat.zero_mod _)
  | n + 1, hn =>
    if h0 : (n + 1) % 4 = 0 then trA V c ⟨n + 1, hn⟩ h0
    else trB V c ⟨n + 1, hn⟩ h0 (outsAt1 c n (Nat.lt_of_succ_lt hn)).1

/-- `outsAt1` at a point of case A. -/
theorem outsAt1_A (c : Dev nD) (t : Fin cfg1.N) (h0 : t.val % 4 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans rfl

/-- `outsAt1` at a point of case B. -/
theorem outsAt1_B (c : Dev nD) (t : Fin cfg1.N) (h0 : ¬t.val % 4 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2.1
    | ⟨10, _⟩ => (outsAt1 V c t.val t.isLt).2.2
  Φ _ := Pipeline.ΦA spec1 c
  q _ := fullShare
  owed _ := 0

/-- The proof data's arrays are the region-entry contents, by projecting the definition. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2.1 := by dsimp only [dat1]
theorem after1_10 (c : Dev nD) (t : Fin cfg1.N) : (dat1 V c).after 10 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
/-- At a point of case B output 8's current staging buffer holds what the body left at the point before. -/
theorem before1_8_B (c : Dev nD) (t : Fin cfg1.N) (h0 : ¬t.val % 4 = 0) (d) :
    (dat1 V c).before 8 t d = (outsAt1 V c (t.val - 1) (Nat.lt_of_le_of_lt (Nat.sub_le _ _) t.isLt)).1 := by
  have hN : t.val < 4 := lt_of_lt_of_eq t.isLt (show cfg1.N = 4 from N_1)
  rw [Dat.before_out_kept _ 8 rfl t (by omega) (Bool.eq_false_iff.mpr fun h => by have := (flush1_8 _).mp h; dsimp only at this; omega)
    (fun _ => rfl) (fun _ _ => rfl)]
  dsimp only [dat1]

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- What the body returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  have hN : t.val < 4 := lt_of_lt_of_eq t.isLt (show cfg1.N = 4 from N_1)
  by_cases h0 : t.val % 4 = 0
  · rw [outsAt1_A V c t h0]
    unfold out1_A_8 out1_A_9 out1_A_10; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover1_A_10 c _ _ _ _ _ _ _ _ _ _ _ _ _ _ _ _ _ _ _ _ _ _ _ _ _ _ _ _ _ _ _ _)
  · rw [outsAt1_B V c t h0]
    simp only [before1_8_B V c t h0]
    unfold out1_B_8 out1_B_9 out1_B_10; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rfl
    isplitl [H9]
    · unfold owns; iexists _; isplitr
      swap; · iexact H9
      ipureintro; exact View.read_writes_of_cover _ _ _ _ _ (cover1_B_9 c _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover1_B_10 c _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references. -/
abbrev argRefs : List (Ref sig .tc) := [main_arg0, main_arg1, main_arg2, main_arg3]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_c, main_v3, main_v4, main_c_0, main_v5, main_v6, main_v7, main_c_1, main_v8, main_v9, main_c_2, main_v10, main_v11, main_v12, main_v13, main_v14, main_v15, main_cst]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_v16]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays. -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_3, main_v17, main_v18, main_v19, main_v20, main_v21, main_cst_4, main_v22, main_v23, main_v24, main_v25, main_v26, main_v27, main_v28, main_v29, main_c_5, main_v30, main_v31, main_c_6, main_v32, main_v33, main_v34, main_c_7, main_v35, main_v36, main_c_8, main_v37, main_v38, main_v39, main_v40, main_v41, main_v42, main_cst_9]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays. -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_call1_v2, main_v43]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays. -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_cst_10, main_v44, main_v45, main_v46, main_v47, main_v48, main_cst_11, main_v49, main_v50, main_v51, main_v52, main_v53, main_v54, main_v55, main_v56, main_c_12, main_v57, main_v58, main_c_13, main_v59, main_v60, main_v61, main_c_14, main_v62, main_v63, main_c_15, main_v64, main_v65, main_v66, main_v67, main_v68, main_v69, main_cst_16]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays. -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_call2_v2, main_v70]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays. -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_cst_17, main_v71, main_v72, main_v73, main_v74, main_v75, main_cst_18, main_v76, main_v77, main_v78, main_v79, main_v80, main_v81, main_v82, main_v83, main_v84, main_cst_19, main_v85, main_v86, main_v87, main_v88, main_v89, main_v90, main_v91, main_v92, main_v93, main_v94, main_v95, main_v96, main_v97, main_v98, main_cst_20, main_v99, main_v100, main_v101, main_v102, main_cst_21, main_v103, main_v104, main_v105, main_v106, main_v107, main_v108, main_v109, main_v110, main_v111, main_v112, main_v113, main_v114, main_v115, main_v116, main_v117, main_v118, main_v119, main_v120, main_v121, main_v122, main_v123, main_v124, main_v125, main_cst_22, main_v126, main_v127, main_v128, main_v129, main_v130, main_v131, main_v132, main_v133]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays. -/
theorem hostOps0_6_args : ∀ a ∈ argRefs, a ∉ hostOps0_6_W := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6` (region 0's entry). -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- The same read at the TensorCore's references. -/
abbrev V7 : (c : Dev nD) → (b : Ref sig .tc) → Buf (Elt F) ((c : Thread nD τ).loc b) := fun c b => W7 m ρ c b
/-- At region 0's exit: its arrays at what the pipeline leaves (the inputs as entered, each output's write-backs folded: `Dat.arrAt … N`), every other buffer as entered (Lib/Pipeline/FrameSuffix.lean `withArrays`) (region 1's entry). -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- A reference that is none of region 0's OUTPUT arrays keeps its entry contents across it. -/
theorem W8_of (c : Dev nD) (r : Ref sig .tc) (h : ∀ w : Fin cfg0.W, Pipeline.arrRef spec0 w = r → (cfg0.win w).isOut = false) :
    W8 m ρ c (Proc.devRef .tc r) = W7 m ρ c (Proc.devRef .tc r) := by
  by_cases hw : ∃ w : Fin cfg0.W, Pipeline.arrRef spec0 w = r
  · obtain ⟨w, rfl⟩ := hw
    exact (W8_arr m ρ c w).trans (((dat0 (V7 m ρ) c).arrAt_in w (h w rfl) _).trans (A_eq0 (V7 m ρ) c w))
  · exact W8_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn0 a ha)).trans (W7_args m ρ c a ha)
/-- The same read at the TensorCore's references. -/
abbrev V8 : (c : Dev nD) → (b : Ref sig .tc) → Buf (Elt F) ((c : Thread nD τ).loc b) := fun c b => W8 m ρ c b
/-- At region 0's exit each of its arrays holds what the pipeline leaves. -/
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

/-- At region 1's exit: its arrays at what the pipeline leaves (the inputs as entered, each output's write-backs folded: `Dat.arrAt … N`), every other buffer as entered (Lib/Pipeline/FrameSuffix.lean `withArrays`). -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- A reference that is none of region 1's OUTPUT arrays keeps its entry contents across it. -/
theorem W9_of (c : Dev nD) (r : Ref sig .tc) (h : ∀ w : Fin cfg1.W, Pipeline.arrRef spec1 w = r → (cfg1.win w).isOut = false) :
    W9 m ρ c (Proc.devRef .tc r) = W8 m ρ c (Proc.devRef .tc r) := by
  by_cases hw : ∃ w : Fin cfg1.W, Pipeline.arrRef spec1 w = r
  · obtain ⟨w, rfl⟩ := hw
    exact (W9_arr m ρ c w).trans (((dat1 (V8 m ρ) c).arrAt_in w (h w rfl) _).trans (A_eq1 (V8 m ρ) c w))
  · exact W9_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn1 a ha)).trans (W8_args m ρ c a ha)
/-- The same read at the TensorCore's references. -/
abbrev V9 : (c : Dev nD) → (b : Ref sig .tc) → Buf (Elt F) ((c : Thread nD τ).loc b) := fun c b => W9 m ρ c b
/-- At region 1's exit each of its arrays holds what the pipeline leaves. -/
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-! ### The arguments end as launched: no host stretch writes one and no region may change one (a region reads it
    through an input window or bypasses it) -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)

/-- The prefetched tables' admissible contents. -/
abbrev adm : (p : Fin 2) → (pcfgs (F := F) p).Adm := fun p => (cfgs p).toPCfg_adm
/-- Every pipeline's proof data, each at its region's entry contents — a literal `match`, so that the kit's `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V8 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m ρ c) ∗ ∃ r, prngReg c r)

set_option backward.isDefEq.respectTransparency.types false in
/-- REGION 0 (custom_call 0) over the thread state: entered from every unscoped buffer at `W7`, left at `W8` (what the next segment is entered from). Its arrays split out of the unscoped buffers (`arrays_of_unscopedBufs`) and put back at the exit contents (`unscopedBufs_of_arrays`); the generator register into the class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) (A_eq0 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W8`, left at `W9` (what the launch reads at the end). Its arrays split out of the unscoped buffers (`arrays_of_unscopedBufs`) and put back at the exit contents (`unscopedBufs_of_arrays`); the generator register into the class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) (A_eq1 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's 9 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .region (reg1 m ρ) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The launch: at the compiled mesh, from any memory with zero counters, every weakly fair execution of @main on the TensorCores terminates, nothing faulting, and in every final state every unscoped buffer of every device holds the last boundary's contents `W9`, and every semaphore counter of the machine is zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W9 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- The frame: the argument arrays end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W9_main_arg0 m ρ c),
       (h.1 c _ (mem_uc main_arg1 (by decide))).trans (W9_main_arg1 m ρ c),
       (h.1 c _ (mem_uc main_arg2 (by decide))).trans (W9_main_arg2 m ρ c),
       (h.1 c _ (mem_uc main_arg3 (by decide))).trans (W9_main_arg3 m ρ c)⟩, h.2⟩) (run_all m ρ)

/-- The run with its results. -/
theorem run_results : θ_run defs (onTc (τ := τ) (main (F := F))) ⟨m, fun _ => 0, ρ⟩ (fun r => ∀ c : Dev nD,
      r.2.mem ((c.tc : Thread nD τ).loc main_v135_0) = (dat1 (V8 m ρ) c).arrAt 8 cfg1.N
      ∧ r.2.mem ((c.tc : Thread nD τ).loc main_v135_1) = (dat1 (V8 m ρ) c).arrAt 9 cfg1.N
      ∧ r.2.mem ((c.tc : Thread nD τ).loc main_v135_2) = (dat1 (V8 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h.1 c _ (mem_uc main_v135_0 (by decide))).trans (W9_arr m ρ c 8),
       (h.1 c _ (mem_uc main_v135_1 (by decide))).trans (W9_arr m ρ c 9),
       (h.1 c _ (mem_uc main_v135_2 (by decide))).trans (W9_arr m ρ c 10),
       (h.1 c _ (mem_uc main_arg0 (by decide))).trans (W9_main_arg0 m ρ c),
       (h.1 c _ (mem_uc main_arg1 (by decide))).trans (W9_main_arg1 m ρ c),
       (h.1 c _ (mem_uc main_arg2 (by decide))).trans (W9_main_arg2 m ρ c),
       (h.1 c _ (mem_uc main_arg3 (by decide))).trans (W9_main_arg3 m ρ c)⟩) (run_all m ρ)

end Cert.KernelIdeal.Gen

end
-- ==== Proof.Row.lean ====
module

public import Mathlib.Analysis.SpecialFunctions.Exp
public import Mathlib.Tactic.FieldSimp
public import Mathlib.Tactic.Ring
public import Mathlib.Data.Fintype.BigOperators
public import Mathlib.Algebra.BigOperators.Field

@[expose] public section
noncomputable section

/-! One row of the mixture of dilated attentions over the reals: a query's scores against all keys, the
    three masks, the maxima subtracted before the exponentials, the values and the cotangent of the row.
    The quantities the backward pass forms from them are named here, and the identities that turn its
    gradient of the scores into "probability times (value dot cotangent minus output dot cotangent)" proved. -/

namespace Cert.Row

/-- The data of one row: scores `z`, masks `msk`, subtracted maxima `M` (per pattern) and `T` (over the
    patterns), the values `v` of the keys and the cotangent `c` of the row's output. -/
structure Data (ι κ : Type) where
  z : ι → ℝ
  msk : Fin 3 → ι → Bool
  M : Fin 3 → ℝ
  T : ℝ
  v : ι → κ → ℝ
  c : κ → ℝ

variable {ι κ : Type} [Fintype ι] [Fintype κ] (R : Data ι κ)

namespace Data

/-- The exponential of a score under pattern `P`, zero outside its mask. -/
def p (P : Fin 3) (s : ι) : ℝ := if R.msk P s then Real.exp (R.z s - R.M P) else 0
/-- The denominator of pattern `P`. -/
def L (P : Fin 3) : ℝ := ∑ s, R.p P s
/-- The unnormalised output of pattern `P`. -/
def X (P : Fin 3) (d : κ) : ℝ := ∑ s, R.p P s * R.v s d
/-- The factor that brings pattern `P` to the common maximum. -/
def E (P : Fin 3) : ℝ := Real.exp (R.M P - R.T)
/-- The weight of pattern `P` in the mixture. -/
def W (P : Fin 3) : ℝ := R.L P * R.E P
/-- The sum of the weights. -/
def den : ℝ := ∑ P : Fin 3, R.W P
/-- The weighted sum of the patterns' outputs. -/
def num (d : κ) : ℝ := ∑ P : Fin 3, R.W P * (R.X P d / R.L P)
/-- The row's output. -/
def out (d : κ) : ℝ := R.num d / R.den
/-- The gradient of the weight of pattern `P`. -/
def dW (P : Fin 3) : ℝ :=
  (∑ d, R.c d / R.den * (R.X P d / R.L P)) + -(∑ d, R.c d * (1 / (R.den * R.den)) * R.num d)
/-- The gradient of the unnormalised output of pattern `P`. -/
def a (P : Fin 3) (d : κ) : ℝ := R.W P * (R.c d / R.den) / R.L P
/-- The gradient of the denominator of pattern `P`. -/
def dL (P : Fin 3) : ℝ :=
  R.dW P * R.E P + -(∑ d, R.W P * (R.c d / R.den) * (1 / (R.L P * R.L P)) * R.X P d)
/-- The gradient of the scores under pattern `P`. -/
def dS (P : Fin 3) (s : ι) : ℝ := ((∑ d, R.a P d * R.v s d) + R.dL P) * R.p P s
/-- The share of key `s` under pattern `P`. -/
def sh (P : Fin 3) (s : ι) : ℝ := if R.msk P s then Real.exp (R.z s - R.T) / R.den else 0
/-- In how many of the patterns key `s` takes part. -/
def cnt (s : ι) : ℝ := ∑ P : Fin 3, if R.msk P s then 1 else 0
/-- The share of key `s` in the row. -/
def pt (s : ι) : ℝ := R.cnt s * Real.exp (R.z s - R.T) / R.den
/-- The output dot the cotangent. -/
def dl : ℝ := ∑ d, R.out d * R.c d
/-- The value of key `s` dot the cotangent. -/
def vc (s : ι) : ℝ := ∑ d, R.v s d * R.c d

/-- The shares under the three patterns add to the share in the row. -/
theorem sum_sh (s : ι) : ∑ P : Fin 3, R.sh P s = R.pt s := by
  unfold sh pt cnt
  rw [Finset.sum_mul, Finset.sum_div]
  refine Finset.sum_congr rfl fun P _ => ?_
  split <;> simp

/-- The gradients of the weights, weighted, add to zero. -/
theorem sum_W_dW (hd : R.den ≠ 0) : ∑ P : Fin 3, R.W P * R.dW P = 0 := by
  have h1 : ∑ P : Fin 3, R.W P * (∑ d, R.c d / R.den * (R.X P d / R.L P)) = ∑ d, R.c d / R.den * R.num d := by
    simp only [num, Finset.mul_sum]
    rw [Finset.sum_comm]
    refine Finset.sum_congr rfl fun d _ => Finset.sum_congr rfl fun P _ => by ring
  have h2 : ∑ P : Fin 3, R.W P * -(∑ d, R.c d * (1 / (R.den * R.den)) * R.num d)
      = -(∑ d, R.c d / R.den * R.num d) := by
    rw [← Finset.sum_mul, ← den, mul_neg, Finset.mul_sum]
    congr 1
    refine Finset.sum_congr rfl fun d _ => by field_simp
  simp only [dW, mul_add, Finset.sum_add_distrib, h1, h2]
  ring

/-- The gradients of a pattern's scores add to the weighted gradient of its weight. -/
theorem sum_dS (P : Fin 3) (hL : R.L P ≠ 0) : ∑ s, R.dS P s = R.W P * R.dW P := by
  have h1 : ∑ s, (∑ d, R.a P d * R.v s d) * R.p P s = ∑ d, R.a P d * R.X P d := by
    simp only [X, Finset.mul_sum, Finset.sum_mul]
    rw [Finset.sum_comm]
    refine Finset.sum_congr rfl fun d _ => Finset.sum_congr rfl fun s _ => by ring
  have h2 : (∑ d, R.W P * (R.c d / R.den) * (1 / (R.L P * R.L P)) * R.X P d) * R.L P
      = ∑ d, R.a P d * R.X P d := by
    rw [Finset.sum_mul]
    refine Finset.sum_congr rfl fun d _ => ?_
    unfold a
    field_simp
  simp only [dS, add_mul, Finset.sum_add_distrib, h1]
  rw [← Finset.mul_sum, ← L, dL, add_mul, neg_mul, h2, W]
  ring

/-- The gradient of a pattern's scores in closed form. -/
theorem dS_eq (P : Fin 3) (s : ι) (hL : R.L P ≠ 0) : R.dS P s = R.sh P s * (R.vc s - R.dl) := by
  have ha : ∀ d, R.a P d = R.E P / R.den * R.c d := fun d => by
    unfold a W; field_simp
  have h1 : (∑ d, R.a P d * R.v s d) = R.E P / R.den * R.vc s := by
    rw [vc, Finset.mul_sum]
    refine Finset.sum_congr rfl fun d _ => by rw [ha]; ring
  have h2 : (∑ d, R.W P * (R.c d / R.den) * (1 / (R.L P * R.L P)) * R.X P d)
      = (∑ d, R.c d / R.den * (R.X P d / R.L P)) * R.E P := by
    rw [Finset.sum_mul]
    refine Finset.sum_congr rfl fun d _ => ?_
    unfold W
    field_simp
  have h3 : (∑ d, R.c d * (1 / (R.den * R.den)) * R.num d) = R.dl / R.den := by
    rw [dl, Finset.sum_div]
    refine Finset.sum_congr rfl fun d _ => ?_
    unfold out
    by_cases h : R.den = 0
    · simp [h]
    · field_simp
  have h4 : R.dL P = -(R.E P / R.den * R.dl) := by
    rw [dL, h2, dW, h3]; ring
  rw [dS, h1, h4, p, sh]
  split
  · have : Real.exp (R.z s - R.T) = R.E P * Real.exp (R.z s - R.M P) := by
      rw [E, ← Real.exp_add]; congr 1; ring
    rw [this]; ring
  · simp

/-- The gradient of the unnormalised output, times the exponential of a score. -/
theorem a_p (P : Fin 3) (s : ι) (d : κ) (hL : R.L P ≠ 0) : R.a P d * R.p P s = R.sh P s * R.c d := by
  have ha : R.a P d = R.E P / R.den * R.c d := by
    unfold a W; field_simp
  rw [ha, p, sh]
  split
  · have : Real.exp (R.z s - R.T) = R.E P * Real.exp (R.z s - R.M P) := by
      rw [E, ← Real.exp_add]; congr 1; ring
    rw [this]; ring
  · simp

/-- The gradients of the three patterns' scores add to the closed form the kernel computes. -/
theorem total_dS (s : ι) (hL : ∀ P, R.L P ≠ 0) : ∑ P : Fin 3, R.dS P s = R.pt s * (R.vc s - R.dl) := by
  rw [← sum_sh, Finset.sum_mul]
  exact Finset.sum_congr rfl fun P _ => R.dS_eq P s (hL P)

/-- The three patterns' gradients of a value add to the closed form the kernel computes. -/
theorem total_a_p (s : ι) (d : κ) (hL : ∀ P, R.L P ≠ 0) : ∑ P : Fin 3, R.a P d * R.p P s = R.pt s * R.c d := by
  rw [← sum_sh, Finset.sum_mul]
  exact Finset.sum_congr rfl fun P _ => R.a_p P s d (hL P)

end Data

end Cert.Row

end
end
-- ==== Proof.Tile.lean ====
module

public import proofs.«01_k».proof.Proof.Gen.KernelIdeal.Loops
public import Idealize.ShloMosaic.Lib.Pointwise
public import Idealize.ShloMosaic.Lib.Pipeline.Value
public import Idealize.ShloMosaic.Lib.WritesUnit

@[expose] public section
set_option maxRecDepth 16384
noncomputable section

open Idealize.ShloMosaic Cert.KernelIdeal Cert.KernelIdeal.Gen

/-! One tile of the backward attention: the scores of a query block against a block of 512 keys, the
    probabilities, the gradient of the scores, and the three products accumulated, as the kernel's vector
    operations, each read at an index. -/

namespace Cert.Tile

/-- The probabilities of a tile: keys `k` against queries `q`, the bias in four strips, the row statistic `l`. -/
def pV (k : FVec Ideal S512x64 .bf16) (q : FVec Ideal S64x512 .bf16) (b0 b1 b2 b3 : FVec Ideal S128x512 .f32)
    (l : FVec Ideal S1x512 .f32) : FVec Ideal S512x512 .f32 :=
  exp (subf (addf (matmul dot_S512x64_S64x512_S512x512_1_0_0_1_n_n none k q (constant S512x512 FTy.f32 0#32))
    (concatenate S512x512 0 [⟨S128x512, b0⟩, ⟨S128x512, b1⟩, ⟨S128x512, b2⟩, ⟨S128x512, b3⟩]
      concatenates_S128x512_S128x512_S128x512_S128x512_S512x512_d0))
    (broadcastTo S512x512 l broadcasts_S1x512_S512x512))

/-- The gradient of a tile's scores: the probabilities `p`, values `v` against the cotangent `c`, less `dl`. -/
def sV (p : FVec Ideal S512x512 .f32) (v : FVec Ideal S512x64 .bf16) (c : FVec Ideal S64x512 .bf16)
    (dl : FVec Ideal S1x512 .f32) : FVec Ideal S512x512 .f32 :=
  mulf p (subf (matmul dot_S512x64_S64x512_S512x512_1_0_0_1_n_n none v c (constant S512x512 FTy.f32 0#32))
    (broadcastTo S512x512 dl broadcasts_S1x512_S512x512))

/-- The product over the keys of a tile. -/
def mK (a : FVec Ideal S64x512 .bf16) (s : FVec Ideal S512x512 .f32) : FVec Ideal S64x512 .f32 :=
  matmul dot_S64x512_S512x512_S64x512_1_0_0_1_n_n none a (truncf .bf16 s bitsLt_bf16_f32) (constant S64x512 FTy.f32 0#32)

/-- The product over the queries of a tile. -/
def mQ (a : FVec Ideal S64x512 .bf16) (s : FVec Ideal S512x512 .f32) : FVec Ideal S64x512 .f32 :=
  matmul dot_S64x512_S512x512_S64x512_1_1_0_0_n_n none a (truncf .bf16 s bitsLt_bf16_f32) (constant S64x512 FTy.f32 0#32)

/-- Four strips of 128 rows, one under the other, read at a row below 512. -/
def strip (b0 b1 b2 b3 : FVec Ideal S128x512 .f32) (i j : Fin 512) : EReal :=
  if h : i.val < 128 then b0 (ix2 ⟨i.val, h⟩ j)
  else if h : i.val - 128 < 128 then b1 (ix2 ⟨i.val - 128, h⟩ j)
  else if h : i.val - 128 - 128 < 128 then b2 (ix2 ⟨i.val - 128 - 128, h⟩ j)
  else b3 (ix2 ⟨i.val - 128 - 128 - 128, by omega⟩ j)

/-- Strips that read one function of the row within the whole read that function. -/
theorem strip_of (b0 b1 b2 b3 : FVec Ideal S128x512 .f32) (G : ℕ → ℕ → Fin 512 → EReal)
    (h0 : ∀ (r : Fin 128) j, b0 (ix2 r j) = G 0 r j) (h1 : ∀ (r : Fin 128) j, b1 (ix2 r j) = G 1 r j)
    (h2 : ∀ (r : Fin 128) j, b2 (ix2 r j) = G 2 r j) (h3 : ∀ (r : Fin 128) j, b3 (ix2 r j) = G 3 r j)
    (i j : Fin 512) : strip b0 b1 b2 b3 i j = G (i.val / 128) (i.val % 128) j := by
  have hi := i.isLt
  have e : ∀ t r : ℕ, t = i.val / 128 → r = i.val % 128 → G t r j = G (i.val / 128) (i.val % 128) j := by
    rintro t r rfl rfl; rfl
  unfold strip
  split
  · rw [h0]; exact e _ _ (by omega) (by show i.val = _; omega)
  split
  · rw [h1]; exact e _ _ (by omega) (by show i.val - 128 = _; omega)
  split
  · rw [h2]; exact e _ _ (by omega) (by show i.val - 128 - 128 = _; omega)
  · rw [h3]; exact e _ _ (by omega) (by show i.val - 128 - 128 - 128 = _; omega)

theorem pV_apply (k : FVec Ideal S512x64 .bf16) (q : FVec Ideal S64x512 .bf16) (b0 b1 b2 b3 : FVec Ideal S128x512 .f32)
    (l : FVec Ideal S1x512 .f32) (i j : Fin 512) :
    pV k q b0 b1 b2 b3 l (ix2 i j)
      = Ideal.exp ((∑ d : Fin 64, k (ix2 i d) * q (ix2 d j)) + strip b0 b1 b2 b3 i j - l (ix2 0 j)) := by
  pointwise [pV, strip]

theorem sV_apply (p : FVec Ideal S512x512 .f32) (v : FVec Ideal S512x64 .bf16) (c : FVec Ideal S64x512 .bf16)
    (dl : FVec Ideal S1x512 .f32) (i j : Fin 512) :
    sV p v c dl (ix2 i j) = p (ix2 i j) * ((∑ d : Fin 64, v (ix2 i d) * c (ix2 d j)) - dl (ix2 0 j)) := by
  pointwise [sV]

theorem mK_apply (a : FVec Ideal S64x512 .bf16) (s : FVec Ideal S512x512 .f32) (d : Fin 64) (j : Fin 512) :
    mK a s (ix2 d j) = ∑ i : Fin 512, a (ix2 d i) * s (ix2 i j) := by
  pointwise [mK]

theorem mQ_apply (a : FVec Ideal S64x512 .bf16) (s : FVec Ideal S512x512 .f32) (d : Fin 64) (i : Fin 512) :
    mQ a s (ix2 d i) = ∑ j : Fin 512, a (ix2 d j) * s (ix2 i j) := by
  pointwise [mQ]

end Cert.Tile

end
end
-- ==== Proof.Trip.lean ====
module

public import proofs.«01_k».proof.Proof.Tile
public import Idealize.ShloMosaic.Lib.Pointwise
public import Idealize.ShloMosaic.Lib.Pipeline.Value
public import Idealize.ShloMosaic.Lib.WritesUnit

@[expose] public section
set_option maxRecDepth 16384
noncomputable section

open Idealize.ShloMosaic Cert.KernelIdeal Cert.KernelIdeal.Gen

namespace Cert.Tile

/-! Slices of the tables, one head and one block at a time, and how the kernel's loads read them. -/

/-- Head `h` of a table of rows. -/
def kS (T : FVec Ideal S4x512x64 .bf16) (h : Fin 4) : FVec Ideal S512x64 .bf16 := fun y => T (ix3 h (y 0) (y 1))

/-- Head `h` of a table of columns. -/
def tS {t : FTy} (T : FVec Ideal S4x64x512 t) (h : Fin 4) : FVec Ideal S64x512 t := fun y => T (ix3 h (y 0) (y 1))

/-- Head `h`, query block `b` of a table of blocks of columns. -/
def qS {t : FTy} (T : FVec Ideal S4x16x64x512 t) (h : Fin 4) (b : Fin 16) : FVec Ideal S64x512 t :=
  fun y => T (ix4 h b (y 0) (y 1))

/-- Head `h`, query block `b` of a table of one statistic per query. -/
def lS (T : FVec Ideal S4x16x1x512 .f32) (h : Fin 4) (b : Fin 16) : FVec Ideal S1x512 .f32 :=
  fun y => T (ix4 h b (y 0) (y 1))

/-- Strip `n` of the bias table. -/
def bS (T : FVec Ideal S17x128x512 .f32) (n : Fin 17) : FVec Ideal S128x512 .f32 := fun y => T (ix3 n (y 0) (y 1))

theorem sc3 {α : Type} {a b : ℕ} (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show (0 * a + i.val) * b + j.val = i.val * b + j.val
    simp)

theorem sc4 {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem sc3' {α : Type} {a b : ℕ} (x : (⟨2, ![a, b]⟩ : Shape).Idx → α)
    (h : (⟨2, ![a, b]⟩ : Shape).ShapeCasts ⟨3, ![1, a, b]⟩) (i : Fin a) (j : Fin b) :
    shapeCast ⟨3, ![1, a, b]⟩ x h (ix3 (0 : Fin 1) i j) = x (ix2 i j) :=
  shapeCast_apply x h _ _ (by
    rw [Shape.rowMajor_val_three, Shape.rowMajor_val_two]
    show i.val * b + j.val = (0 * a + i.val) * b + j.val
    simp)

theorem sc4' {α : Type} {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp)

theorem sc33 (x : FVec Ideal S64x512 .f32) (h : S64x512.ShapeCasts S1x64x512) (h' : S1x64x512.ShapeCasts S64x512) :
    shapeCast S64x512 (shapeCast S1x64x512 x h) h' = x := by
  funext y
  obtain ⟨i, j, rfl⟩ : ∃ i j, y = ix2 i j := ⟨y 0, y 1, (eq_ix2 y)⟩
  rw [sc3, sc3']

theorem ld_kS (a : Memref sig .tc .vmem S4x512x64 .bf16) (X : BufTy.Contents (Elt Ideal) a.view.ty) (h : Fin 4)
    (off : Fin 3 → ℕ) (inb : ∀ x, off x + S1x512x64.size x ≤ S4x512x64.size x) (pf : S1x512x64.ShapeCasts S512x64)
    (e : off = ![h.val, 0, 0]) :
    shapeCast S512x64 (View.readAt (Elt Ideal) a.view (Rect.unit (s := S4x512x64) off S1x512x64.size inb).toLoadRect X : FVec Ideal S1x512x64 .bf16) pf
      = kS (a.view.read (Elt Ideal) X) h := by
  subst e; rw [View.readAt_eq_ld]; funext y
  obtain ⟨i, j, rfl⟩ : ∃ i j, y = ix2 i j := ⟨y 0, y 1, (eq_ix2 y)⟩
  rw [sc3]
  refine congrArg (a.view.read (Elt Ideal) X) (funext fun x => Fin.ext ?_)
  fin_cases x <;> simp [LoadRect.idx, Rect.toLoadRect, Rect.unit, ix3, ix4]

theorem ld_tS (a : Memref sig .tc .vmem S4x64x512 .bf16) (X : BufTy.Contents (Elt Ideal) a.view.ty) (h : Fin 4)
    (off : Fin 3 → ℕ) (inb : ∀ x, off x + S1x64x512.size x ≤ S4x64x512.size x) (pf : S1x64x512.ShapeCasts S64x512)
    (e : off = ![h.val, 0, 0]) :
    shapeCast S64x512 (View.readAt (Elt Ideal) a.view (Rect.unit (s := S4x64x512) off S1x64x512.size inb).toLoadRect X : FVec Ideal S1x64x512 .bf16) pf
      = tS (t := .bf16) (a.view.read (Elt Ideal) X) h := by
  subst e; rw [View.readAt_eq_ld]; funext y
  obtain ⟨i, j, rfl⟩ : ∃ i j, y = ix2 i j := ⟨y 0, y 1, (eq_ix2 y)⟩
  rw [sc3]
  refine congrArg (a.view.read (Elt Ideal) X) (funext fun x => Fin.ext ?_)
  fin_cases x <;> simp [LoadRect.idx, Rect.toLoadRect, Rect.unit, ix3, ix4]

theorem ld_tSf (a : Memref sig .tc .vmem S4x64x512 .f32) (X : BufTy.Contents (Elt Ideal) a.view.ty) (h : Fin 4)
    (off : Fin 3 → ℕ) (inb : ∀ x, off x + S1x64x512.size x ≤ S4x64x512.size x) (pf : S1x64x512.ShapeCasts S64x512)
    (e : off = ![h.val, 0, 0]) :
    shapeCast S64x512 (View.readAt (Elt Ideal) a.view (Rect.unit (s := S4x64x512) off S1x64x512.size inb).toLoadRect X : FVec Ideal S1x64x512 .f32) pf
      = tS (t := .f32) (a.view.read (Elt Ideal) X) h := by
  subst e; rw [View.readAt_eq_ld]; funext y
  obtain ⟨i, j, rfl⟩ : ∃ i j, y = ix2 i j := ⟨y 0, y 1, (eq_ix2 y)⟩
  rw [sc3]
  refine congrArg (a.view.read (Elt Ideal) X) (funext fun x => Fin.ext ?_)
  fin_cases x <;> simp [LoadRect.idx, Rect.toLoadRect, Rect.unit, ix3, ix4]

theorem ld_bS (a : Memref sig .tc .vmem S17x128x512 .f32) (X : BufTy.Contents (Elt Ideal) a.view.ty) (h : Fin 17)
    (off : Fin 3 → ℕ) (inb : ∀ x, off x + S1x128x512.size x ≤ S17x128x512.size x) (pf : S1x128x512.ShapeCasts S128x512)
    (e : off = ![h.val, 0, 0]) :
    shapeCast S128x512 (View.readAt (Elt Ideal) a.view (Rect.unit (s := S17x128x512) off S1x128x512.size inb).toLoadRect X : FVec Ideal S1x128x512 .f32) pf
      = bS (a.view.read (Elt Ideal) X) h := by
  subst e; rw [View.readAt_eq_ld]; funext y
  obtain ⟨i, j, rfl⟩ : ∃ i j, y = ix2 i j := ⟨y 0, y 1, (eq_ix2 y)⟩
  rw [sc3]
  refine congrArg (a.view.read (Elt Ideal) X) (funext fun x => Fin.ext ?_)
  fin_cases x <;> simp [LoadRect.idx, Rect.toLoadRect, Rect.unit, ix3, ix4]

theorem ld_qS (a : Memref sig .tc .vmem S4x16x64x512 .bf16) (X : BufTy.Contents (Elt Ideal) a.view.ty) (h : Fin 4) (b : Fin 16)
    (off : Fin 4 → ℕ) (inb : ∀ x, off x + S1x1x64x512.size x ≤ S4x16x64x512.size x) (pf : S1x1x64x512.ShapeCasts S64x512)
    (e : off = ![h.val, b.val, 0, 0]) :
    shapeCast S64x512 (View.readAt (Elt Ideal) a.view (Rect.unit (s := S4x16x64x512) off S1x1x64x512.size inb).toLoadRect X : FVec Ideal S1x1x64x512 .bf16) pf
      = qS (t := .bf16) (a.view.read (Elt Ideal) X) h b := by
  subst e; rw [View.readAt_eq_ld]; funext y
  obtain ⟨i, j, rfl⟩ : ∃ i j, y = ix2 i j := ⟨y 0, y 1, (eq_ix2 y)⟩
  rw [sc4]
  refine congrArg (a.view.read (Elt Ideal) X) (funext fun x => Fin.ext ?_)
  fin_cases x <;> simp [LoadRect.idx, Rect.toLoadRect, Rect.unit, ix3, ix4]

theorem ld_qSf (a : Memref sig .tc .vmem S4x16x64x512 .f32) (X : BufTy.Contents (Elt Ideal) a.view.ty) (h : Fin 4) (b : Fin 16)
    (off : Fin 4 → ℕ) (inb : ∀ x, off x + S1x1x64x512.size x ≤ S4x16x64x512.size x) (pf : S1x1x64x512.ShapeCasts S64x512)
    (e : off = ![h.val, b.val, 0, 0]) :
    shapeCast S64x512 (View.readAt (Elt Ideal) a.view (Rect.unit (s := S4x16x64x512) off S1x1x64x512.size inb).toLoadRect X : FVec Ideal S1x1x64x512 .f32) pf
      = qS (t := .f32) (a.view.read (Elt Ideal) X) h b := by
  subst e; rw [View.readAt_eq_ld]; funext y
  obtain ⟨i, j, rfl⟩ : ∃ i j, y = ix2 i j := ⟨y 0, y 1, (eq_ix2 y)⟩
  rw [sc4]
  refine congrArg (a.view.read (Elt Ideal) X) (funext fun x => Fin.ext ?_)
  fin_cases x <;> simp [LoadRect.idx, Rect.toLoadRect, Rect.unit, ix3, ix4]

theorem ld_lS (a : Memref sig .tc .vmem S4x16x1x512 .f32) (X : BufTy.Contents (Elt Ideal) a.view.ty) (h : Fin 4) (b : Fin 16)
    (off : Fin 4 → ℕ) (inb : ∀ x, off x + S1x1x1x512.size x ≤ S4x16x1x512.size x) (pf : S1x1x1x512.ShapeCasts S1x512)
    (e : off = ![h.val, b.val, 0, 0]) :
    shapeCast S1x512 (View.readAt (Elt Ideal) a.view (Rect.unit (s := S4x16x1x512) off S1x1x1x512.size inb).toLoadRect X : FVec Ideal S1x1x1x512 .f32) pf
      = lS (a.view.read (Elt Ideal) X) h b := by
  subst e; rw [View.readAt_eq_ld]; funext y
  obtain ⟨i, j, rfl⟩ : ∃ i j, y = ix2 i j := ⟨y 0, y 1, (eq_ix2 y)⟩
  rw [sc4]
  refine congrArg (a.view.read (Elt Ideal) X) (funext fun x => Fin.ext ?_)
  fin_cases x <;> simp [LoadRect.idx, Rect.toLoadRect, Rect.unit, ix3, ix4]

/-! The trip of the loop over the query blocks, word by word: each of the eight tiles (four heads, an even and an
    odd block) in terms of the slices. -/

/-- The query block of grid point `i`, trip `k`, parity `e`. -/
def qb (i : grid1.Coords) (k e : ℕ) : Fin 16 := Fin.ofNat 16 (4 * (i 1).val + 2 * k + e)

theorem trips_le : ∀ i : grid1.Coords, 4 * (i 1).val + 2 * (k1_t1_loop i).trips = 16 := by decide +kernel

theorem qb_val (i : grid1.Coords) (k : Fin (k1_t1_loop i).trips) (e : ℕ) (he : e < 2) :
    (qb i k e).val = 4 * (i 1).val + 2 * k.val + e := by
  have h1 := trips_le i
  have h2 := k.isLt
  show (4 * (i 1).val + 2 * k.val + e) % 16 = _
  rw [Nat.mod_eq_of_lt (by omega)]

theorem off1_eq : ∀ (i : grid1.Coords) (k : Fin (k1_t1_loop i).trips) (t : Fin 4),
    k1_off1 i k (BitVec.ofNat 32 t.val) = ![(Fin.ofNat 17 (2 * k.val + 1 - t.val)).val, 0, 0] := by decide +kernel

theorem off4_eq : ∀ (i : grid1.Coords) (k : Fin (k1_t1_loop i).trips) (t : Fin 4),
    k1_off4 i k (BitVec.ofNat 32 t.val) = ![(Fin.ofNat 17 (2 * k.val + 2 - t.val)).val, 0, 0] := by decide +kernel

/-- The probabilities of head `h` at query block `b`, whose bias strips start at strip `m`. -/
def ptV (K : FVec Ideal S4x512x64 .bf16) (Q : FVec Ideal S4x16x64x512 .bf16) (B : FVec Ideal S17x128x512 .f32)
    (L : FVec Ideal S4x16x1x512 .f32) (h : Fin 4) (b : Fin 16) (m : ℕ) : FVec Ideal S512x512 .f32 :=
  pV (kS K h) (qS Q h b) (bS B (Fin.ofNat 17 (m - 0))) (bS B (Fin.ofNat 17 (m - 1))) (bS B (Fin.ofNat 17 (m - 2)))
    (bS B (Fin.ofNat 17 (m - 3))) (lS L h b)

/-- The gradient of the scores of head `h` at query block `b`. -/
def dsV (K : FVec Ideal S4x512x64 .bf16) (Q : FVec Ideal S4x16x64x512 .bf16) (B : FVec Ideal S17x128x512 .f32)
    (L : FVec Ideal S4x16x1x512 .f32) (V : FVec Ideal S4x512x64 .bf16) (C : FVec Ideal S4x16x64x512 .bf16)
    (D : FVec Ideal S4x16x1x512 .f32) (h : Fin 4) (b : Fin 16) (m : ℕ) : FVec Ideal S512x512 .f32 :=
  sV (ptV K Q B L h b m) (kS V h) (qS C h b) (lS D h b)

section Words
variable (i : grid1.Coords) (k : Fin (k1_t1_loop i).trips)
  (arg2 : Memref sig .tc .vmem S4x16x64x512 .bf16)
  (arg3 : Memref sig .tc .vmem S4x512x64 .bf16)
  (arg4 : Memref sig .tc .vmem S4x64x512 .bf16)
  (arg5 : Memref sig .tc .vmem S4x512x64 .bf16)
  (arg6 : Memref sig .tc .vmem S4x16x64x512 .bf16)
  (arg7 : Memref sig .tc .vmem S4x16x1x512 .f32)
  (arg8 : Memref sig .tc .vmem S4x16x1x512 .f32)
  (arg9 : Memref sig .tc .vmem S17x128x512 .f32)
  (arg10 : Memref sig .tc .vmem S4x16x64x512 .f32)
  (arg11 : Memref sig .tc .vmem S4x64x512 .f32)
  (arg12 : Memref sig .tc .vmem S4x64x512 .f32)
  (X_arg2 : BufTy.Contents (Elt Ideal) arg2.view.ty)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (f_arg10 : BufTy.Contents (Elt Ideal) arg10.view.ty)
  (f_arg11 : BufTy.Contents (Elt Ideal) arg11.view.ty)
  (f_arg12 : BufTy.Contents (Elt Ideal) arg12.view.ty)

theorem p_00 : trip_k1_t1.sl.v71 (F := Ideal) i arg2 arg3 arg7 arg9 X_arg2 X_arg3 X_arg7 X_arg9 k
    = ptV (arg3.view.read (Elt Ideal) X_arg3) (arg2.view.read (Elt Ideal) X_arg2) (arg9.view.read (Elt Ideal) X_arg9) (arg7.view.read (Elt Ideal) X_arg7) 0 (qb i k.val 0) (2 * k.val + 1) := by
  unfold trip_k1_t1.sl.v71 trip_k1_t1.sl.v70 trip_k1_t1.sl.v65 trip_k1_t1.sl.v64 trip_k1_t1.sl.v20 trip_k1_t1.sl.v63 trip_k1_t1.sl.cst_51 trip_k1_t1.sl.v60 trip_k1_t1.sl.v35 trip_k1_t1.sl.v43 trip_k1_t1.sl.v51 trip_k1_t1.sl.v59 trip_k1_t1.sl.v69 trip_k1_t1.sl.v68
  rw [ld_kS arg3 X_arg3 0 ![0, 0, 0] _ _ rfl, ld_qS arg2 X_arg2 0 (qb i k.val 0) (k1_off2 i k) _ _ (by rw [k1_off2_eq, qb_val i k 0 (by omega)]; rfl), ld_lS arg7 X_arg7 0 (qb i k.val 0) (k1_off3 i k) _ _ (by rw [k1_off3_eq, qb_val i k 0 (by omega)]; rfl),
    ld_bS arg9 X_arg9 (Fin.ofNat 17 ((2 * k.val + 1) - 0)) (k1_off1 i k 0#32) _ _ (off1_eq i k 0), ld_bS arg9 X_arg9 (Fin.ofNat 17 ((2 * k.val + 1) - 1)) (k1_off1 i k 1#32) _ _ (off1_eq i k 1), ld_bS arg9 X_arg9 (Fin.ofNat 17 ((2 * k.val + 1) - 2)) (k1_off1 i k 2#32) _ _ (off1_eq i k 2), ld_bS arg9 X_arg9 (Fin.ofNat 17 ((2 * k.val + 1) - 3)) (k1_off1 i k 3#32) _ _ (off1_eq i k 3)]
  rfl

theorem s_00 : trip_k1_t1.sl.v81 (F := Ideal) i arg2 arg3 arg5 arg6 arg7 arg8 arg9 X_arg2 X_arg3 X_arg5 X_arg6 X_arg7 X_arg8 X_arg9 k
    = dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 0) (2 * k.val + 1) := by
  unfold trip_k1_t1.sl.v81 trip_k1_t1.sl.v80 trip_k1_t1.sl.v75 trip_k1_t1.sl.v24 trip_k1_t1.sl.v74 trip_k1_t1.sl.cst_51 trip_k1_t1.sl.v79 trip_k1_t1.sl.v78
  rw [p_00, ld_kS arg5 X_arg5 0 ![0, 0, 0] _ _ rfl, ld_qS arg6 X_arg6 0 (qb i k.val 0) (k1_off2 i k) _ _ (by rw [k1_off2_eq, qb_val i k 0 (by omega)]; rfl), ld_lS arg8 X_arg8 0 (qb i k.val 0) (k1_off3 i k) _ _ (by rw [k1_off3_eq, qb_val i k 0 (by omega)]; rfl)]
  rfl

theorem dq_00 : trip_k1_t1.sl.v91 (F := Ideal) i arg2 arg3 arg4 arg5 arg6 arg7 arg8 arg9 arg10 X_arg2 X_arg3 X_arg4 X_arg5 X_arg6 X_arg7 X_arg8 X_arg9 k f_arg10
    = shapeCast S1x1x64x512 (addf (qS (t := .f32) (arg10.view.read (Elt Ideal) f_arg10) 0 (qb i k.val 0))
        (mK (tS (t := .bf16) (arg4.view.read (Elt Ideal) X_arg4) 0) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 0) (2 * k.val + 1)))) shapeCasts_S64x512_S1x1x64x512 := by
  unfold trip_k1_t1.sl.v91 trip_k1_t1.sl.v87 trip_k1_t1.sl.v84 trip_k1_t1.sl.v86 trip_k1_t1.sl.v22 trip_k1_t1.sl.v85 trip_k1_t1.sl.cst_65
  rw [s_00, ld_tS arg4 X_arg4 0 ![0, 0, 0] _ _ rfl, ld_qSf arg10 f_arg10 0 (qb i k.val 0) (k1_off2 i k) _ _ (by rw [k1_off2_eq, qb_val i k 0 (by omega)]; rfl)]
  rfl

theorem dk_00 : trip_k1_t1.sl.v102 (F := Ideal) i arg2 arg3 arg5 arg6 arg7 arg8 arg9 arg11 X_arg2 X_arg3 X_arg5 X_arg6 X_arg7 X_arg8 X_arg9 k f_arg11
    = shapeCast S1x64x512 (addf (tS (t := .f32) (arg11.view.read (Elt Ideal) f_arg11) 0) (mQ (qS (t := .bf16) (arg2.view.read (Elt Ideal) X_arg2) 0 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 0) (2 * k.val + 1)))) shapeCasts_S64x512_S1x64x512 := by
  unfold trip_k1_t1.sl.v102 trip_k1_t1.sl.v99 trip_k1_t1.sl.v93 trip_k1_t1.sl.v98 trip_k1_t1.sl.v63 trip_k1_t1.sl.v85 trip_k1_t1.sl.cst_65
  rw [s_00, ld_qS arg2 X_arg2 0 (qb i k.val 0) (k1_off2 i k) _ _ (by rw [k1_off2_eq, qb_val i k 0 (by omega)]; rfl), ld_tSf arg11 f_arg11 0 ![0, 0, 0] _ _ rfl]
  rfl

theorem dv_00 : trip_k1_t1.sl.v113 (F := Ideal) i arg2 arg3 arg6 arg7 arg9 arg12 X_arg2 X_arg3 X_arg6 X_arg7 X_arg9 k f_arg12
    = shapeCast S1x64x512 (addf (tS (t := .f32) (arg12.view.read (Elt Ideal) f_arg12) 0) (mQ (qS (t := .bf16) (arg6.view.read (Elt Ideal) X_arg6) 0 (qb i k.val 0)) (ptV (arg3.view.read (Elt Ideal) X_arg3) (arg2.view.read (Elt Ideal) X_arg2) (arg9.view.read (Elt Ideal) X_arg9) (arg7.view.read (Elt Ideal) X_arg7) 0 (qb i k.val 0) (2 * k.val + 1)))) shapeCasts_S64x512_S1x64x512 := by
  unfold trip_k1_t1.sl.v113 trip_k1_t1.sl.v110 trip_k1_t1.sl.v104 trip_k1_t1.sl.v109 trip_k1_t1.sl.v74 trip_k1_t1.sl.v108 trip_k1_t1.sl.cst_65
  rw [p_00, ld_qS arg6 X_arg6 0 (qb i k.val 0) (k1_off2 i k) _ _ (by rw [k1_off2_eq, qb_val i k 0 (by omega)]; rfl), ld_tSf arg12 f_arg12 0 ![0, 0, 0] _ _ rfl]
  rfl

theorem p_01 : trip_k1_t1.sl.v157 (F := Ideal) i arg2 arg3 arg7 arg9 X_arg2 X_arg3 X_arg7 X_arg9 k
    = ptV (arg3.view.read (Elt Ideal) X_arg3) (arg2.view.read (Elt Ideal) X_arg2) (arg9.view.read (Elt Ideal) X_arg9) (arg7.view.read (Elt Ideal) X_arg7) 0 (qb i k.val 1) (2 * k.val + 2) := by
  unfold trip_k1_t1.sl.v157 trip_k1_t1.sl.v156 trip_k1_t1.sl.v151 trip_k1_t1.sl.v150 trip_k1_t1.sl.v20 trip_k1_t1.sl.v149 trip_k1_t1.sl.r trip_k1_t1.sl.cst_51 trip_k1_t1.sl.v146 trip_k1_t1.sl.v121 trip_k1_t1.sl.v129 trip_k1_t1.sl.v137 trip_k1_t1.sl.v145 trip_k1_t1.sl.v155 trip_k1_t1.sl.v154
  rw [ld_kS arg3 X_arg3 0 ![0, 0, 0] _ _ rfl, ld_qS arg2 X_arg2 0 (qb i k.val 1) (k1_off5 i k) _ _ (by rw [k1_off5_eq, qb_val i k 1 (by omega)]; rfl), ld_lS arg7 X_arg7 0 (qb i k.val 1) (k1_off6 i k) _ _ (by rw [k1_off6_eq, qb_val i k 1 (by omega)]; rfl),
    ld_bS arg9 X_arg9 (Fin.ofNat 17 ((2 * k.val + 2) - 0)) (k1_off4 i k 0#32) _ _ (off4_eq i k 0), ld_bS arg9 X_arg9 (Fin.ofNat 17 ((2 * k.val + 2) - 1)) (k1_off4 i k 1#32) _ _ (off4_eq i k 1), ld_bS arg9 X_arg9 (Fin.ofNat 17 ((2 * k.val + 2) - 2)) (k1_off4 i k 2#32) _ _ (off4_eq i k 2), ld_bS arg9 X_arg9 (Fin.ofNat 17 ((2 * k.val + 2) - 3)) (k1_off4 i k 3#32) _ _ (off4_eq i k 3)]
  rfl

theorem s_01 : trip_k1_t1.sl.v167 (F := Ideal) i arg2 arg3 arg5 arg6 arg7 arg8 arg9 X_arg2 X_arg3 X_arg5 X_arg6 X_arg7 X_arg8 X_arg9 k
    = dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 1) (2 * k.val + 2) := by
  unfold trip_k1_t1.sl.v167 trip_k1_t1.sl.v166 trip_k1_t1.sl.v161 trip_k1_t1.sl.v24 trip_k1_t1.sl.v160 trip_k1_t1.sl.cst_51 trip_k1_t1.sl.v165 trip_k1_t1.sl.v164
  rw [p_01, ld_kS arg5 X_arg5 0 ![0, 0, 0] _ _ rfl, ld_qS arg6 X_arg6 0 (qb i k.val 1) (k1_off5 i k) _ _ (by rw [k1_off5_eq, qb_val i k 1 (by omega)]; rfl), ld_lS arg8 X_arg8 0 (qb i k.val 1) (k1_off6 i k) _ _ (by rw [k1_off6_eq, qb_val i k 1 (by omega)]; rfl)]
  rfl

theorem dq_01 : trip_k1_t1.sl.v177 (F := Ideal) i arg2 arg3 arg4 arg5 arg6 arg7 arg8 arg9 arg10 X_arg2 X_arg3 X_arg4 X_arg5 X_arg6 X_arg7 X_arg8 X_arg9 k f_arg10
    = shapeCast S1x1x64x512 (addf (qS (t := .f32) (arg10.view.read (Elt Ideal) f_arg10) 0 (qb i k.val 1))
        (mK (tS (t := .bf16) (arg4.view.read (Elt Ideal) X_arg4) 0) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 1) (2 * k.val + 2)))) shapeCasts_S64x512_S1x1x64x512 := by
  unfold trip_k1_t1.sl.v177 trip_k1_t1.sl.v173 trip_k1_t1.sl.v170 trip_k1_t1.sl.v169 trip_k1_t1.sl.v172 trip_k1_t1.sl.v22 trip_k1_t1.sl.v171 trip_k1_t1.sl.cst_65
  rw [s_01, ld_tS arg4 X_arg4 0 ![0, 0, 0] _ _ rfl, ld_qSf arg10 f_arg10 0 (qb i k.val 1) (k1_off5 i k) _ _ (by rw [k1_off5_eq, qb_val i k 1 (by omega)]; rfl)]
  rfl

theorem dk_01 : trip_k1_t1.sl.v188 (F := Ideal) i arg2 arg3 arg5 arg6 arg7 arg8 arg9 arg11 X_arg2 X_arg3 X_arg5 X_arg6 X_arg7 X_arg8 X_arg9 k f_arg11
    = shapeCast S1x64x512 (addf (addf (tS (t := .f32) (arg11.view.read (Elt Ideal) f_arg11) 0) (mQ (qS (t := .bf16) (arg2.view.read (Elt Ideal) X_arg2) 0 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 0) (2 * k.val + 1)))) (mQ (qS (t := .bf16) (arg2.view.read (Elt Ideal) X_arg2) 0 (qb i k.val 1)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 1) (2 * k.val + 2)))) shapeCasts_S64x512_S1x64x512 := by
  unfold trip_k1_t1.sl.v188 trip_k1_t1.sl.v185 trip_k1_t1.sl.v179 trip_k1_t1.sl.v178 trip_k1_t1.sl.HW_arg11_1 trip_k1_t1.sl.v184 trip_k1_t1.sl.v182 trip_k1_t1.sl.v171 trip_k1_t1.sl.cst_65
  rw [View.readCov_cons_toLoadRect, dk_00, sc33, s_01, ld_qS arg2 X_arg2 0 (qb i k.val 1) (k1_off5 i k) _ _ (by rw [k1_off5_eq, qb_val i k 1 (by omega)]; rfl)]
  rfl

theorem dv_01 : trip_k1_t1.sl.v199 (F := Ideal) i arg2 arg3 arg6 arg7 arg9 arg12 X_arg2 X_arg3 X_arg6 X_arg7 X_arg9 k f_arg12
    = shapeCast S1x64x512 (addf (addf (tS (t := .f32) (arg12.view.read (Elt Ideal) f_arg12) 0) (mQ (qS (t := .bf16) (arg6.view.read (Elt Ideal) X_arg6) 0 (qb i k.val 0)) (ptV (arg3.view.read (Elt Ideal) X_arg3) (arg2.view.read (Elt Ideal) X_arg2) (arg9.view.read (Elt Ideal) X_arg9) (arg7.view.read (Elt Ideal) X_arg7) 0 (qb i k.val 0) (2 * k.val + 1)))) (mQ (qS (t := .bf16) (arg6.view.read (Elt Ideal) X_arg6) 0 (qb i k.val 1)) (ptV (arg3.view.read (Elt Ideal) X_arg3) (arg2.view.read (Elt Ideal) X_arg2) (arg9.view.read (Elt Ideal) X_arg9) (arg7.view.read (Elt Ideal) X_arg7) 0 (qb i k.val 1) (2 * k.val + 2)))) shapeCasts_S64x512_S1x64x512 := by
  unfold trip_k1_t1.sl.v199 trip_k1_t1.sl.v196 trip_k1_t1.sl.v190 trip_k1_t1.sl.v189 trip_k1_t1.sl.HW_arg12_1 trip_k1_t1.sl.v195 trip_k1_t1.sl.v160 trip_k1_t1.sl.v194 trip_k1_t1.sl.cst_65
  rw [View.readCov_cons_toLoadRect, dv_00, sc33, p_01, ld_qS arg6 X_arg6 0 (qb i k.val 1) (k1_off5 i k) _ _ (by rw [k1_off5_eq, qb_val i k 1 (by omega)]; rfl)]
  rfl

theorem p_10 : trip_k1_t1.sl.v252 (F := Ideal) i arg2 arg3 arg7 arg9 X_arg2 X_arg3 X_arg7 X_arg9 k
    = ptV (arg3.view.read (Elt Ideal) X_arg3) (arg2.view.read (Elt Ideal) X_arg2) (arg9.view.read (Elt Ideal) X_arg9) (arg7.view.read (Elt Ideal) X_arg7) 1 (qb i k.val 0) (2 * k.val + 1) := by
  unfold trip_k1_t1.sl.v252 trip_k1_t1.sl.v251 trip_k1_t1.sl.v246 trip_k1_t1.sl.v245 trip_k1_t1.sl.v201 trip_k1_t1.sl.v244 trip_k1_t1.sl.cst_51 trip_k1_t1.sl.v60 trip_k1_t1.sl.v35 trip_k1_t1.sl.v43 trip_k1_t1.sl.v51 trip_k1_t1.sl.v59 trip_k1_t1.sl.v250 trip_k1_t1.sl.v249
  rw [ld_kS arg3 X_arg3 1 ![1, 0, 0] _ _ rfl, ld_qS arg2 X_arg2 1 (qb i k.val 0) (k1_off7 i k) _ _ (by rw [k1_off7_eq, qb_val i k 0 (by omega)]; rfl), ld_lS arg7 X_arg7 1 (qb i k.val 0) (k1_off8 i k) _ _ (by rw [k1_off8_eq, qb_val i k 0 (by omega)]; rfl),
    ld_bS arg9 X_arg9 (Fin.ofNat 17 ((2 * k.val + 1) - 0)) (k1_off1 i k 0#32) _ _ (off1_eq i k 0), ld_bS arg9 X_arg9 (Fin.ofNat 17 ((2 * k.val + 1) - 1)) (k1_off1 i k 1#32) _ _ (off1_eq i k 1), ld_bS arg9 X_arg9 (Fin.ofNat 17 ((2 * k.val + 1) - 2)) (k1_off1 i k 2#32) _ _ (off1_eq i k 2), ld_bS arg9 X_arg9 (Fin.ofNat 17 ((2 * k.val + 1) - 3)) (k1_off1 i k 3#32) _ _ (off1_eq i k 3)]
  rfl

theorem s_10 : trip_k1_t1.sl.v262 (F := Ideal) i arg2 arg3 arg5 arg6 arg7 arg8 arg9 X_arg2 X_arg3 X_arg5 X_arg6 X_arg7 X_arg8 X_arg9 k
    = dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 0) (2 * k.val + 1) := by
  unfold trip_k1_t1.sl.v262 trip_k1_t1.sl.v261 trip_k1_t1.sl.v256 trip_k1_t1.sl.v205 trip_k1_t1.sl.v255 trip_k1_t1.sl.cst_51 trip_k1_t1.sl.v260 trip_k1_t1.sl.v259
  rw [p_10, ld_kS arg5 X_arg5 1 ![1, 0, 0] _ _ rfl, ld_qS arg6 X_arg6 1 (qb i k.val 0) (k1_off7 i k) _ _ (by rw [k1_off7_eq, qb_val i k 0 (by omega)]; rfl), ld_lS arg8 X_arg8 1 (qb i k.val 0) (k1_off8 i k) _ _ (by rw [k1_off8_eq, qb_val i k 0 (by omega)]; rfl)]
  rfl

theorem dq_10 : trip_k1_t1.sl.v272 (F := Ideal) i arg2 arg3 arg4 arg5 arg6 arg7 arg8 arg9 arg10 X_arg2 X_arg3 X_arg4 X_arg5 X_arg6 X_arg7 X_arg8 X_arg9 k f_arg10
    = shapeCast S1x1x64x512 (addf (qS (t := .f32) (arg10.view.read (Elt Ideal) f_arg10) 1 (qb i k.val 0))
        (mK (tS (t := .bf16) (arg4.view.read (Elt Ideal) X_arg4) 1) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 0) (2 * k.val + 1)))) shapeCasts_S64x512_S1x1x64x512 := by
  unfold trip_k1_t1.sl.v272 trip_k1_t1.sl.v268 trip_k1_t1.sl.v265 trip_k1_t1.sl.v264 trip_k1_t1.sl.v267 trip_k1_t1.sl.v203 trip_k1_t1.sl.v266 trip_k1_t1.sl.cst_65
  rw [s_10, ld_tS arg4 X_arg4 1 ![1, 0, 0] _ _ rfl, ld_qSf arg10 f_arg10 1 (qb i k.val 0) (k1_off7 i k) _ _ (by rw [k1_off7_eq, qb_val i k 0 (by omega)]; rfl)]
  rfl

theorem dk_10 : trip_k1_t1.sl.v283 (F := Ideal) i arg2 arg3 arg5 arg6 arg7 arg8 arg9 arg11 X_arg2 X_arg3 X_arg5 X_arg6 X_arg7 X_arg8 X_arg9 k f_arg11
    = shapeCast S1x64x512 (addf (tS (t := .f32) (arg11.view.read (Elt Ideal) f_arg11) 1) (mQ (qS (t := .bf16) (arg2.view.read (Elt Ideal) X_arg2) 1 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 0) (2 * k.val + 1)))) shapeCasts_S64x512_S1x64x512 := by
  unfold trip_k1_t1.sl.v283 trip_k1_t1.sl.v280 trip_k1_t1.sl.v274 trip_k1_t1.sl.v273 trip_k1_t1.sl.v279 trip_k1_t1.sl.v244 trip_k1_t1.sl.v266 trip_k1_t1.sl.cst_65
  rw [s_10, ld_qS arg2 X_arg2 1 (qb i k.val 0) (k1_off7 i k) _ _ (by rw [k1_off7_eq, qb_val i k 0 (by omega)]; rfl), ld_tSf arg11 f_arg11 1 ![1, 0, 0] _ _ rfl]
  rfl

theorem dv_10 : trip_k1_t1.sl.v294 (F := Ideal) i arg2 arg3 arg6 arg7 arg9 arg12 X_arg2 X_arg3 X_arg6 X_arg7 X_arg9 k f_arg12
    = shapeCast S1x64x512 (addf (tS (t := .f32) (arg12.view.read (Elt Ideal) f_arg12) 1) (mQ (qS (t := .bf16) (arg6.view.read (Elt Ideal) X_arg6) 1 (qb i k.val 0)) (ptV (arg3.view.read (Elt Ideal) X_arg3) (arg2.view.read (Elt Ideal) X_arg2) (arg9.view.read (Elt Ideal) X_arg9) (arg7.view.read (Elt Ideal) X_arg7) 1 (qb i k.val 0) (2 * k.val + 1)))) shapeCasts_S64x512_S1x64x512 := by
  unfold trip_k1_t1.sl.v294 trip_k1_t1.sl.v291 trip_k1_t1.sl.v285 trip_k1_t1.sl.v284 trip_k1_t1.sl.v290 trip_k1_t1.sl.v255 trip_k1_t1.sl.v289 trip_k1_t1.sl.cst_65
  rw [p_10, ld_qS arg6 X_arg6 1 (qb i k.val 0) (k1_off7 i k) _ _ (by rw [k1_off7_eq, qb_val i k 0 (by omega)]; rfl), ld_tSf arg12 f_arg12 1 ![1, 0, 0] _ _ rfl]
  rfl

theorem p_11 : trip_k1_t1.sl.v338 (F := Ideal) i arg2 arg3 arg7 arg9 X_arg2 X_arg3 X_arg7 X_arg9 k
    = ptV (arg3.view.read (Elt Ideal) X_arg3) (arg2.view.read (Elt Ideal) X_arg2) (arg9.view.read (Elt Ideal) X_arg9) (arg7.view.read (Elt Ideal) X_arg7) 1 (qb i k.val 1) (2 * k.val + 2) := by
  unfold trip_k1_t1.sl.v338 trip_k1_t1.sl.v337 trip_k1_t1.sl.v332 trip_k1_t1.sl.v331 trip_k1_t1.sl.v201 trip_k1_t1.sl.v330 trip_k1_t1.sl.cst_51 trip_k1_t1.sl.v146 trip_k1_t1.sl.v121 trip_k1_t1.sl.v129 trip_k1_t1.sl.v137 trip_k1_t1.sl.v145 trip_k1_t1.sl.v336 trip_k1_t1.sl.v335
  rw [ld_kS arg3 X_arg3 1 ![1, 0, 0] _ _ rfl, ld_qS arg2 X_arg2 1 (qb i k.val 1) (k1_off9 i k) _ _ (by rw [k1_off9_eq, qb_val i k 1 (by omega)]; rfl), ld_lS arg7 X_arg7 1 (qb i k.val 1) (k1_off10 i k) _ _ (by rw [k1_off10_eq, qb_val i k 1 (by omega)]; rfl),
    ld_bS arg9 X_arg9 (Fin.ofNat 17 ((2 * k.val + 2) - 0)) (k1_off4 i k 0#32) _ _ (off4_eq i k 0), ld_bS arg9 X_arg9 (Fin.ofNat 17 ((2 * k.val + 2) - 1)) (k1_off4 i k 1#32) _ _ (off4_eq i k 1), ld_bS arg9 X_arg9 (Fin.ofNat 17 ((2 * k.val + 2) - 2)) (k1_off4 i k 2#32) _ _ (off4_eq i k 2), ld_bS arg9 X_arg9 (Fin.ofNat 17 ((2 * k.val + 2) - 3)) (k1_off4 i k 3#32) _ _ (off4_eq i k 3)]
  rfl

theorem s_11 : trip_k1_t1.sl.v348 (F := Ideal) i arg2 arg3 arg5 arg6 arg7 arg8 arg9 X_arg2 X_arg3 X_arg5 X_arg6 X_arg7 X_arg8 X_arg9 k
    = dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 1) (2 * k.val + 2) := by
  unfold trip_k1_t1.sl.v348 trip_k1_t1.sl.v347 trip_k1_t1.sl.v342 trip_k1_t1.sl.v205 trip_k1_t1.sl.v341 trip_k1_t1.sl.cst_51 trip_k1_t1.sl.v346 trip_k1_t1.sl.v345
  rw [p_11, ld_kS arg5 X_arg5 1 ![1, 0, 0] _ _ rfl, ld_qS arg6 X_arg6 1 (qb i k.val 1) (k1_off9 i k) _ _ (by rw [k1_off9_eq, qb_val i k 1 (by omega)]; rfl), ld_lS arg8 X_arg8 1 (qb i k.val 1) (k1_off10 i k) _ _ (by rw [k1_off10_eq, qb_val i k 1 (by omega)]; rfl)]
  rfl

theorem dq_11 : trip_k1_t1.sl.v358 (F := Ideal) i arg2 arg3 arg4 arg5 arg6 arg7 arg8 arg9 arg10 X_arg2 X_arg3 X_arg4 X_arg5 X_arg6 X_arg7 X_arg8 X_arg9 k f_arg10
    = shapeCast S1x1x64x512 (addf (qS (t := .f32) (arg10.view.read (Elt Ideal) f_arg10) 1 (qb i k.val 1))
        (mK (tS (t := .bf16) (arg4.view.read (Elt Ideal) X_arg4) 1) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 1) (2 * k.val + 2)))) shapeCasts_S64x512_S1x1x64x512 := by
  unfold trip_k1_t1.sl.v358 trip_k1_t1.sl.v354 trip_k1_t1.sl.v351 trip_k1_t1.sl.v350 trip_k1_t1.sl.v353 trip_k1_t1.sl.v203 trip_k1_t1.sl.v352 trip_k1_t1.sl.cst_65
  rw [s_11, ld_tS arg4 X_arg4 1 ![1, 0, 0] _ _ rfl, ld_qSf arg10 f_arg10 1 (qb i k.val 1) (k1_off9 i k) _ _ (by rw [k1_off9_eq, qb_val i k 1 (by omega)]; rfl)]
  rfl

theorem dk_11 : trip_k1_t1.sl.v369 (F := Ideal) i arg2 arg3 arg5 arg6 arg7 arg8 arg9 arg11 X_arg2 X_arg3 X_arg5 X_arg6 X_arg7 X_arg8 X_arg9 k f_arg11
    = shapeCast S1x64x512 (addf (addf (tS (t := .f32) (arg11.view.read (Elt Ideal) f_arg11) 1) (mQ (qS (t := .bf16) (arg2.view.read (Elt Ideal) X_arg2) 1 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 0) (2 * k.val + 1)))) (mQ (qS (t := .bf16) (arg2.view.read (Elt Ideal) X_arg2) 1 (qb i k.val 1)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 1) (2 * k.val + 2)))) shapeCasts_S64x512_S1x64x512 := by
  unfold trip_k1_t1.sl.v369 trip_k1_t1.sl.v366 trip_k1_t1.sl.v360 trip_k1_t1.sl.v359 trip_k1_t1.sl.HW_arg11_3 trip_k1_t1.sl.v188 trip_k1_t1.sl.v185 trip_k1_t1.sl.v179 trip_k1_t1.sl.v178 trip_k1_t1.sl.v184 trip_k1_t1.sl.v182 trip_k1_t1.sl.v171 trip_k1_t1.sl.v167 trip_k1_t1.sl.v157 trip_k1_t1.sl.v156 trip_k1_t1.sl.v151 trip_k1_t1.sl.v150 trip_k1_t1.sl.v20 trip_k1_t1.sl.v149 trip_k1_t1.sl.r trip_k1_t1.sl.cst_51 trip_k1_t1.sl.v146 trip_k1_t1.sl.v121 trip_k1_t1.sl.v129 trip_k1_t1.sl.v137 trip_k1_t1.sl.v145 trip_k1_t1.sl.v155 trip_k1_t1.sl.v154 trip_k1_t1.sl.v166 trip_k1_t1.sl.v161 trip_k1_t1.sl.v24 trip_k1_t1.sl.v160 trip_k1_t1.sl.v165 trip_k1_t1.sl.v164 trip_k1_t1.sl.cst_65 trip_k1_t1.sl.v365 trip_k1_t1.sl.v330 trip_k1_t1.sl.v352
  rw [View.readCov_cons_toLoadRect, dk_10, sc33, s_11, ld_qS arg2 X_arg2 1 (qb i k.val 1) (k1_off9 i k) _ _ (by rw [k1_off9_eq, qb_val i k 1 (by omega)]; rfl)]
  rfl

theorem dv_11 : trip_k1_t1.sl.v380 (F := Ideal) i arg2 arg3 arg6 arg7 arg9 arg12 X_arg2 X_arg3 X_arg6 X_arg7 X_arg9 k f_arg12
    = shapeCast S1x64x512 (addf (addf (tS (t := .f32) (arg12.view.read (Elt Ideal) f_arg12) 1) (mQ (qS (t := .bf16) (arg6.view.read (Elt Ideal) X_arg6) 1 (qb i k.val 0)) (ptV (arg3.view.read (Elt Ideal) X_arg3) (arg2.view.read (Elt Ideal) X_arg2) (arg9.view.read (Elt Ideal) X_arg9) (arg7.view.read (Elt Ideal) X_arg7) 1 (qb i k.val 0) (2 * k.val + 1)))) (mQ (qS (t := .bf16) (arg6.view.read (Elt Ideal) X_arg6) 1 (qb i k.val 1)) (ptV (arg3.view.read (Elt Ideal) X_arg3) (arg2.view.read (Elt Ideal) X_arg2) (arg9.view.read (Elt Ideal) X_arg9) (arg7.view.read (Elt Ideal) X_arg7) 1 (qb i k.val 1) (2 * k.val + 2)))) shapeCasts_S64x512_S1x64x512 := by
  unfold trip_k1_t1.sl.v380 trip_k1_t1.sl.v377 trip_k1_t1.sl.v371 trip_k1_t1.sl.v370 trip_k1_t1.sl.HW_arg12_3 trip_k1_t1.sl.v199 trip_k1_t1.sl.v196 trip_k1_t1.sl.v190 trip_k1_t1.sl.v189 trip_k1_t1.sl.v195 trip_k1_t1.sl.v160 trip_k1_t1.sl.v194 trip_k1_t1.sl.v157 trip_k1_t1.sl.v156 trip_k1_t1.sl.v151 trip_k1_t1.sl.v150 trip_k1_t1.sl.v20 trip_k1_t1.sl.v149 trip_k1_t1.sl.r trip_k1_t1.sl.cst_51 trip_k1_t1.sl.v146 trip_k1_t1.sl.v121 trip_k1_t1.sl.v129 trip_k1_t1.sl.v137 trip_k1_t1.sl.v145 trip_k1_t1.sl.v155 trip_k1_t1.sl.v154 trip_k1_t1.sl.cst_65 trip_k1_t1.sl.v376 trip_k1_t1.sl.v341 trip_k1_t1.sl.v375
  rw [View.readCov_cons_toLoadRect, dv_10, sc33, p_11, ld_qS arg6 X_arg6 1 (qb i k.val 1) (k1_off9 i k) _ _ (by rw [k1_off9_eq, qb_val i k 1 (by omega)]; rfl)]
  rfl

theorem p_20 : trip_k1_t1.sl.v433 (F := Ideal) i arg2 arg3 arg7 arg9 X_arg2 X_arg3 X_arg7 X_arg9 k
    = ptV (arg3.view.read (Elt Ideal) X_arg3) (arg2.view.read (Elt Ideal) X_arg2) (arg9.view.read (Elt Ideal) X_arg9) (arg7.view.read (Elt Ideal) X_arg7) 2 (qb i k.val 0) (2 * k.val + 1) := by
  unfold trip_k1_t1.sl.v433 trip_k1_t1.sl.v432 trip_k1_t1.sl.v427 trip_k1_t1.sl.v426 trip_k1_t1.sl.v382 trip_k1_t1.sl.v425 trip_k1_t1.sl.cst_51 trip_k1_t1.sl.v60 trip_k1_t1.sl.v35 trip_k1_t1.sl.v43 trip_k1_t1.sl.v51 trip_k1_t1.sl.v59 trip_k1_t1.sl.v431 trip_k1_t1.sl.v430
  rw [ld_kS arg3 X_arg3 2 ![2, 0, 0] _ _ rfl, ld_qS arg2 X_arg2 2 (qb i k.val 0) (k1_off11 i k) _ _ (by rw [k1_off11_eq, qb_val i k 0 (by omega)]; rfl), ld_lS arg7 X_arg7 2 (qb i k.val 0) (k1_off12 i k) _ _ (by rw [k1_off12_eq, qb_val i k 0 (by omega)]; rfl),
    ld_bS arg9 X_arg9 (Fin.ofNat 17 ((2 * k.val + 1) - 0)) (k1_off1 i k 0#32) _ _ (off1_eq i k 0), ld_bS arg9 X_arg9 (Fin.ofNat 17 ((2 * k.val + 1) - 1)) (k1_off1 i k 1#32) _ _ (off1_eq i k 1), ld_bS arg9 X_arg9 (Fin.ofNat 17 ((2 * k.val + 1) - 2)) (k1_off1 i k 2#32) _ _ (off1_eq i k 2), ld_bS arg9 X_arg9 (Fin.ofNat 17 ((2 * k.val + 1) - 3)) (k1_off1 i k 3#32) _ _ (off1_eq i k 3)]
  rfl

theorem s_20 : trip_k1_t1.sl.v443 (F := Ideal) i arg2 arg3 arg5 arg6 arg7 arg8 arg9 X_arg2 X_arg3 X_arg5 X_arg6 X_arg7 X_arg8 X_arg9 k
    = dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 0) (2 * k.val + 1) := by
  unfold trip_k1_t1.sl.v443 trip_k1_t1.sl.v442 trip_k1_t1.sl.v437 trip_k1_t1.sl.v386 trip_k1_t1.sl.v436 trip_k1_t1.sl.cst_51 trip_k1_t1.sl.v441 trip_k1_t1.sl.v440
  rw [p_20, ld_kS arg5 X_arg5 2 ![2, 0, 0] _ _ rfl, ld_qS arg6 X_arg6 2 (qb i k.val 0) (k1_off11 i k) _ _ (by rw [k1_off11_eq, qb_val i k 0 (by omega)]; rfl), ld_lS arg8 X_arg8 2 (qb i k.val 0) (k1_off12 i k) _ _ (by rw [k1_off12_eq, qb_val i k 0 (by omega)]; rfl)]
  rfl

theorem dq_20 : trip_k1_t1.sl.v453 (F := Ideal) i arg2 arg3 arg4 arg5 arg6 arg7 arg8 arg9 arg10 X_arg2 X_arg3 X_arg4 X_arg5 X_arg6 X_arg7 X_arg8 X_arg9 k f_arg10
    = shapeCast S1x1x64x512 (addf (qS (t := .f32) (arg10.view.read (Elt Ideal) f_arg10) 2 (qb i k.val 0))
        (mK (tS (t := .bf16) (arg4.view.read (Elt Ideal) X_arg4) 2) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 0) (2 * k.val + 1)))) shapeCasts_S64x512_S1x1x64x512 := by
  unfold trip_k1_t1.sl.v453 trip_k1_t1.sl.v449 trip_k1_t1.sl.v446 trip_k1_t1.sl.v445 trip_k1_t1.sl.v448 trip_k1_t1.sl.v384 trip_k1_t1.sl.v447 trip_k1_t1.sl.cst_65
  rw [s_20, ld_tS arg4 X_arg4 2 ![2, 0, 0] _ _ rfl, ld_qSf arg10 f_arg10 2 (qb i k.val 0) (k1_off11 i k) _ _ (by rw [k1_off11_eq, qb_val i k 0 (by omega)]; rfl)]
  rfl

theorem dk_20 : trip_k1_t1.sl.v464 (F := Ideal) i arg2 arg3 arg5 arg6 arg7 arg8 arg9 arg11 X_arg2 X_arg3 X_arg5 X_arg6 X_arg7 X_arg8 X_arg9 k f_arg11
    = shapeCast S1x64x512 (addf (tS (t := .f32) (arg11.view.read (Elt Ideal) f_arg11) 2) (mQ (qS (t := .bf16) (arg2.view.read (Elt Ideal) X_arg2) 2 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 0) (2 * k.val + 1)))) shapeCasts_S64x512_S1x64x512 := by
  unfold trip_k1_t1.sl.v464 trip_k1_t1.sl.v461 trip_k1_t1.sl.v455 trip_k1_t1.sl.v454 trip_k1_t1.sl.v460 trip_k1_t1.sl.v425 trip_k1_t1.sl.v447 trip_k1_t1.sl.cst_65
  rw [s_20, ld_qS arg2 X_arg2 2 (qb i k.val 0) (k1_off11 i k) _ _ (by rw [k1_off11_eq, qb_val i k 0 (by omega)]; rfl), ld_tSf arg11 f_arg11 2 ![2, 0, 0] _ _ rfl]
  rfl

theorem dv_20 : trip_k1_t1.sl.v475 (F := Ideal) i arg2 arg3 arg6 arg7 arg9 arg12 X_arg2 X_arg3 X_arg6 X_arg7 X_arg9 k f_arg12
    = shapeCast S1x64x512 (addf (tS (t := .f32) (arg12.view.read (Elt Ideal) f_arg12) 2) (mQ (qS (t := .bf16) (arg6.view.read (Elt Ideal) X_arg6) 2 (qb i k.val 0)) (ptV (arg3.view.read (Elt Ideal) X_arg3) (arg2.view.read (Elt Ideal) X_arg2) (arg9.view.read (Elt Ideal) X_arg9) (arg7.view.read (Elt Ideal) X_arg7) 2 (qb i k.val 0) (2 * k.val + 1)))) shapeCasts_S64x512_S1x64x512 := by
  unfold trip_k1_t1.sl.v475 trip_k1_t1.sl.v472 trip_k1_t1.sl.v466 trip_k1_t1.sl.v465 trip_k1_t1.sl.v471 trip_k1_t1.sl.v436 trip_k1_t1.sl.v470 trip_k1_t1.sl.cst_65
  rw [p_20, ld_qS arg6 X_arg6 2 (qb i k.val 0) (k1_off11 i k) _ _ (by rw [k1_off11_eq, qb_val i k 0 (by omega)]; rfl), ld_tSf arg12 f_arg12 2 ![2, 0, 0] _ _ rfl]
  rfl

theorem p_21 : trip_k1_t1.sl.v519 (F := Ideal) i arg2 arg3 arg7 arg9 X_arg2 X_arg3 X_arg7 X_arg9 k
    = ptV (arg3.view.read (Elt Ideal) X_arg3) (arg2.view.read (Elt Ideal) X_arg2) (arg9.view.read (Elt Ideal) X_arg9) (arg7.view.read (Elt Ideal) X_arg7) 2 (qb i k.val 1) (2 * k.val + 2) := by
  unfold trip_k1_t1.sl.v519 trip_k1_t1.sl.v518 trip_k1_t1.sl.v513 trip_k1_t1.sl.v512 trip_k1_t1.sl.v382 trip_k1_t1.sl.v511 trip_k1_t1.sl.cst_51 trip_k1_t1.sl.v146 trip_k1_t1.sl.v121 trip_k1_t1.sl.v129 trip_k1_t1.sl.v137 trip_k1_t1.sl.v145 trip_k1_t1.sl.v517 trip_k1_t1.sl.v516
  rw [ld_kS arg3 X_arg3 2 ![2, 0, 0] _ _ rfl, ld_qS arg2 X_arg2 2 (qb i k.val 1) (k1_off13 i k) _ _ (by rw [k1_off13_eq, qb_val i k 1 (by omega)]; rfl), ld_lS arg7 X_arg7 2 (qb i k.val 1) (k1_off14 i k) _ _ (by rw [k1_off14_eq, qb_val i k 1 (by omega)]; rfl),
    ld_bS arg9 X_arg9 (Fin.ofNat 17 ((2 * k.val + 2) - 0)) (k1_off4 i k 0#32) _ _ (off4_eq i k 0), ld_bS arg9 X_arg9 (Fin.ofNat 17 ((2 * k.val + 2) - 1)) (k1_off4 i k 1#32) _ _ (off4_eq i k 1), ld_bS arg9 X_arg9 (Fin.ofNat 17 ((2 * k.val + 2) - 2)) (k1_off4 i k 2#32) _ _ (off4_eq i k 2), ld_bS arg9 X_arg9 (Fin.ofNat 17 ((2 * k.val + 2) - 3)) (k1_off4 i k 3#32) _ _ (off4_eq i k 3)]
  rfl

theorem s_21 : trip_k1_t1.sl.v529 (F := Ideal) i arg2 arg3 arg5 arg6 arg7 arg8 arg9 X_arg2 X_arg3 X_arg5 X_arg6 X_arg7 X_arg8 X_arg9 k
    = dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 1) (2 * k.val + 2) := by
  unfold trip_k1_t1.sl.v529 trip_k1_t1.sl.v528 trip_k1_t1.sl.v523 trip_k1_t1.sl.v386 trip_k1_t1.sl.v522 trip_k1_t1.sl.cst_51 trip_k1_t1.sl.v527 trip_k1_t1.sl.v526
  rw [p_21, ld_kS arg5 X_arg5 2 ![2, 0, 0] _ _ rfl, ld_qS arg6 X_arg6 2 (qb i k.val 1) (k1_off13 i k) _ _ (by rw [k1_off13_eq, qb_val i k 1 (by omega)]; rfl), ld_lS arg8 X_arg8 2 (qb i k.val 1) (k1_off14 i k) _ _ (by rw [k1_off14_eq, qb_val i k 1 (by omega)]; rfl)]
  rfl

theorem dq_21 : trip_k1_t1.sl.v539 (F := Ideal) i arg2 arg3 arg4 arg5 arg6 arg7 arg8 arg9 arg10 X_arg2 X_arg3 X_arg4 X_arg5 X_arg6 X_arg7 X_arg8 X_arg9 k f_arg10
    = shapeCast S1x1x64x512 (addf (qS (t := .f32) (arg10.view.read (Elt Ideal) f_arg10) 2 (qb i k.val 1))
        (mK (tS (t := .bf16) (arg4.view.read (Elt Ideal) X_arg4) 2) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 1) (2 * k.val + 2)))) shapeCasts_S64x512_S1x1x64x512 := by
  unfold trip_k1_t1.sl.v539 trip_k1_t1.sl.v535 trip_k1_t1.sl.v532 trip_k1_t1.sl.v531 trip_k1_t1.sl.v534 trip_k1_t1.sl.v384 trip_k1_t1.sl.v533 trip_k1_t1.sl.cst_65
  rw [s_21, ld_tS arg4 X_arg4 2 ![2, 0, 0] _ _ rfl, ld_qSf arg10 f_arg10 2 (qb i k.val 1) (k1_off13 i k) _ _ (by rw [k1_off13_eq, qb_val i k 1 (by omega)]; rfl)]
  rfl

theorem dk_21 : trip_k1_t1.sl.v550 (F := Ideal) i arg2 arg3 arg5 arg6 arg7 arg8 arg9 arg11 X_arg2 X_arg3 X_arg5 X_arg6 X_arg7 X_arg8 X_arg9 k f_arg11
    = shapeCast S1x64x512 (addf (addf (tS (t := .f32) (arg11.view.read (Elt Ideal) f_arg11) 2) (mQ (qS (t := .bf16) (arg2.view.read (Elt Ideal) X_arg2) 2 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 0) (2 * k.val + 1)))) (mQ (qS (t := .bf16) (arg2.view.read (Elt Ideal) X_arg2) 2 (qb i k.val 1)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 1) (2 * k.val + 2)))) shapeCasts_S64x512_S1x64x512 := by
  unfold trip_k1_t1.sl.v550 trip_k1_t1.sl.v547 trip_k1_t1.sl.v541 trip_k1_t1.sl.v540 trip_k1_t1.sl.HW_arg11_5 trip_k1_t1.sl.v369 trip_k1_t1.sl.v366 trip_k1_t1.sl.v360 trip_k1_t1.sl.v359 trip_k1_t1.sl.v365 trip_k1_t1.sl.v330 trip_k1_t1.sl.v352 trip_k1_t1.sl.v348 trip_k1_t1.sl.v338 trip_k1_t1.sl.v337 trip_k1_t1.sl.v332 trip_k1_t1.sl.v331 trip_k1_t1.sl.v201 trip_k1_t1.sl.cst_51 trip_k1_t1.sl.v146 trip_k1_t1.sl.v121 trip_k1_t1.sl.v129 trip_k1_t1.sl.v137 trip_k1_t1.sl.v145 trip_k1_t1.sl.v336 trip_k1_t1.sl.v335 trip_k1_t1.sl.v347 trip_k1_t1.sl.v342 trip_k1_t1.sl.v205 trip_k1_t1.sl.v341 trip_k1_t1.sl.v346 trip_k1_t1.sl.v345 trip_k1_t1.sl.cst_65 trip_k1_t1.sl.v546 trip_k1_t1.sl.v511 trip_k1_t1.sl.v533
  rw [View.readCov_cons_toLoadRect, dk_20, sc33, s_21, ld_qS arg2 X_arg2 2 (qb i k.val 1) (k1_off13 i k) _ _ (by rw [k1_off13_eq, qb_val i k 1 (by omega)]; rfl)]
  rfl

theorem dv_21 : trip_k1_t1.sl.v561 (F := Ideal) i arg2 arg3 arg6 arg7 arg9 arg12 X_arg2 X_arg3 X_arg6 X_arg7 X_arg9 k f_arg12
    = shapeCast S1x64x512 (addf (addf (tS (t := .f32) (arg12.view.read (Elt Ideal) f_arg12) 2) (mQ (qS (t := .bf16) (arg6.view.read (Elt Ideal) X_arg6) 2 (qb i k.val 0)) (ptV (arg3.view.read (Elt Ideal) X_arg3) (arg2.view.read (Elt Ideal) X_arg2) (arg9.view.read (Elt Ideal) X_arg9) (arg7.view.read (Elt Ideal) X_arg7) 2 (qb i k.val 0) (2 * k.val + 1)))) (mQ (qS (t := .bf16) (arg6.view.read (Elt Ideal) X_arg6) 2 (qb i k.val 1)) (ptV (arg3.view.read (Elt Ideal) X_arg3) (arg2.view.read (Elt Ideal) X_arg2) (arg9.view.read (Elt Ideal) X_arg9) (arg7.view.read (Elt Ideal) X_arg7) 2 (qb i k.val 1) (2 * k.val + 2)))) shapeCasts_S64x512_S1x64x512 := by
  unfold trip_k1_t1.sl.v561 trip_k1_t1.sl.v558 trip_k1_t1.sl.v552 trip_k1_t1.sl.v551 trip_k1_t1.sl.HW_arg12_5 trip_k1_t1.sl.v380 trip_k1_t1.sl.v377 trip_k1_t1.sl.v371 trip_k1_t1.sl.v370 trip_k1_t1.sl.v376 trip_k1_t1.sl.v341 trip_k1_t1.sl.v375 trip_k1_t1.sl.v338 trip_k1_t1.sl.v337 trip_k1_t1.sl.v332 trip_k1_t1.sl.v331 trip_k1_t1.sl.v201 trip_k1_t1.sl.v330 trip_k1_t1.sl.cst_51 trip_k1_t1.sl.v146 trip_k1_t1.sl.v121 trip_k1_t1.sl.v129 trip_k1_t1.sl.v137 trip_k1_t1.sl.v145 trip_k1_t1.sl.v336 trip_k1_t1.sl.v335 trip_k1_t1.sl.cst_65 trip_k1_t1.sl.v557 trip_k1_t1.sl.v522 trip_k1_t1.sl.v556
  rw [View.readCov_cons_toLoadRect, dv_20, sc33, p_21, ld_qS arg6 X_arg6 2 (qb i k.val 1) (k1_off13 i k) _ _ (by rw [k1_off13_eq, qb_val i k 1 (by omega)]; rfl)]
  rfl

theorem p_30 : trip_k1_t1.sl.v614 (F := Ideal) i arg2 arg3 arg7 arg9 X_arg2 X_arg3 X_arg7 X_arg9 k
    = ptV (arg3.view.read (Elt Ideal) X_arg3) (arg2.view.read (Elt Ideal) X_arg2) (arg9.view.read (Elt Ideal) X_arg9) (arg7.view.read (Elt Ideal) X_arg7) 3 (qb i k.val 0) (2 * k.val + 1) := by
  unfold trip_k1_t1.sl.v614 trip_k1_t1.sl.v613 trip_k1_t1.sl.v608 trip_k1_t1.sl.v607 trip_k1_t1.sl.v563 trip_k1_t1.sl.v606 trip_k1_t1.sl.cst_51 trip_k1_t1.sl.v60 trip_k1_t1.sl.v35 trip_k1_t1.sl.v43 trip_k1_t1.sl.v51 trip_k1_t1.sl.v59 trip_k1_t1.sl.v612 trip_k1_t1.sl.v611
  rw [ld_kS arg3 X_arg3 3 ![3, 0, 0] _ _ rfl, ld_qS arg2 X_arg2 3 (qb i k.val 0) (k1_off15 i k) _ _ (by rw [k1_off15_eq, qb_val i k 0 (by omega)]; rfl), ld_lS arg7 X_arg7 3 (qb i k.val 0) (k1_off16 i k) _ _ (by rw [k1_off16_eq, qb_val i k 0 (by omega)]; rfl),
    ld_bS arg9 X_arg9 (Fin.ofNat 17 ((2 * k.val + 1) - 0)) (k1_off1 i k 0#32) _ _ (off1_eq i k 0), ld_bS arg9 X_arg9 (Fin.ofNat 17 ((2 * k.val + 1) - 1)) (k1_off1 i k 1#32) _ _ (off1_eq i k 1), ld_bS arg9 X_arg9 (Fin.ofNat 17 ((2 * k.val + 1) - 2)) (k1_off1 i k 2#32) _ _ (off1_eq i k 2), ld_bS arg9 X_arg9 (Fin.ofNat 17 ((2 * k.val + 1) - 3)) (k1_off1 i k 3#32) _ _ (off1_eq i k 3)]
  rfl

theorem s_30 : trip_k1_t1.sl.v624 (F := Ideal) i arg2 arg3 arg5 arg6 arg7 arg8 arg9 X_arg2 X_arg3 X_arg5 X_arg6 X_arg7 X_arg8 X_arg9 k
    = dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 0) (2 * k.val + 1) := by
  unfold trip_k1_t1.sl.v624 trip_k1_t1.sl.v623 trip_k1_t1.sl.v618 trip_k1_t1.sl.v567 trip_k1_t1.sl.v617 trip_k1_t1.sl.cst_51 trip_k1_t1.sl.v622 trip_k1_t1.sl.v621
  rw [p_30, ld_kS arg5 X_arg5 3 ![3, 0, 0] _ _ rfl, ld_qS arg6 X_arg6 3 (qb i k.val 0) (k1_off15 i k) _ _ (by rw [k1_off15_eq, qb_val i k 0 (by omega)]; rfl), ld_lS arg8 X_arg8 3 (qb i k.val 0) (k1_off16 i k) _ _ (by rw [k1_off16_eq, qb_val i k 0 (by omega)]; rfl)]
  rfl

theorem dq_30 : trip_k1_t1.sl.v634 (F := Ideal) i arg2 arg3 arg4 arg5 arg6 arg7 arg8 arg9 arg10 X_arg2 X_arg3 X_arg4 X_arg5 X_arg6 X_arg7 X_arg8 X_arg9 k f_arg10
    = shapeCast S1x1x64x512 (addf (qS (t := .f32) (arg10.view.read (Elt Ideal) f_arg10) 3 (qb i k.val 0))
        (mK (tS (t := .bf16) (arg4.view.read (Elt Ideal) X_arg4) 3) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 0) (2 * k.val + 1)))) shapeCasts_S64x512_S1x1x64x512 := by
  unfold trip_k1_t1.sl.v634 trip_k1_t1.sl.v630 trip_k1_t1.sl.v627 trip_k1_t1.sl.v626 trip_k1_t1.sl.v629 trip_k1_t1.sl.v565 trip_k1_t1.sl.v628 trip_k1_t1.sl.cst_65
  rw [s_30, ld_tS arg4 X_arg4 3 ![3, 0, 0] _ _ rfl, ld_qSf arg10 f_arg10 3 (qb i k.val 0) (k1_off15 i k) _ _ (by rw [k1_off15_eq, qb_val i k 0 (by omega)]; rfl)]
  rfl

theorem dk_30 : trip_k1_t1.sl.v645 (F := Ideal) i arg2 arg3 arg5 arg6 arg7 arg8 arg9 arg11 X_arg2 X_arg3 X_arg5 X_arg6 X_arg7 X_arg8 X_arg9 k f_arg11
    = shapeCast S1x64x512 (addf (tS (t := .f32) (arg11.view.read (Elt Ideal) f_arg11) 3) (mQ (qS (t := .bf16) (arg2.view.read (Elt Ideal) X_arg2) 3 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 0) (2 * k.val + 1)))) shapeCasts_S64x512_S1x64x512 := by
  unfold trip_k1_t1.sl.v645 trip_k1_t1.sl.v642 trip_k1_t1.sl.v636 trip_k1_t1.sl.v635 trip_k1_t1.sl.v641 trip_k1_t1.sl.v606 trip_k1_t1.sl.v628 trip_k1_t1.sl.cst_65
  rw [s_30, ld_qS arg2 X_arg2 3 (qb i k.val 0) (k1_off15 i k) _ _ (by rw [k1_off15_eq, qb_val i k 0 (by omega)]; rfl), ld_tSf arg11 f_arg11 3 ![3, 0, 0] _ _ rfl]
  rfl

theorem dv_30 : trip_k1_t1.sl.v656 (F := Ideal) i arg2 arg3 arg6 arg7 arg9 arg12 X_arg2 X_arg3 X_arg6 X_arg7 X_arg9 k f_arg12
    = shapeCast S1x64x512 (addf (tS (t := .f32) (arg12.view.read (Elt Ideal) f_arg12) 3) (mQ (qS (t := .bf16) (arg6.view.read (Elt Ideal) X_arg6) 3 (qb i k.val 0)) (ptV (arg3.view.read (Elt Ideal) X_arg3) (arg2.view.read (Elt Ideal) X_arg2) (arg9.view.read (Elt Ideal) X_arg9) (arg7.view.read (Elt Ideal) X_arg7) 3 (qb i k.val 0) (2 * k.val + 1)))) shapeCasts_S64x512_S1x64x512 := by
  unfold trip_k1_t1.sl.v656 trip_k1_t1.sl.v653 trip_k1_t1.sl.v647 trip_k1_t1.sl.v646 trip_k1_t1.sl.v652 trip_k1_t1.sl.v617 trip_k1_t1.sl.v651 trip_k1_t1.sl.cst_65
  rw [p_30, ld_qS arg6 X_arg6 3 (qb i k.val 0) (k1_off15 i k) _ _ (by rw [k1_off15_eq, qb_val i k 0 (by omega)]; rfl), ld_tSf arg12 f_arg12 3 ![3, 0, 0] _ _ rfl]
  rfl

theorem p_31 : trip_k1_t1.sl.v700 (F := Ideal) i arg2 arg3 arg7 arg9 X_arg2 X_arg3 X_arg7 X_arg9 k
    = ptV (arg3.view.read (Elt Ideal) X_arg3) (arg2.view.read (Elt Ideal) X_arg2) (arg9.view.read (Elt Ideal) X_arg9) (arg7.view.read (Elt Ideal) X_arg7) 3 (qb i k.val 1) (2 * k.val + 2) := by
  unfold trip_k1_t1.sl.v700 trip_k1_t1.sl.v699 trip_k1_t1.sl.v694 trip_k1_t1.sl.v693 trip_k1_t1.sl.v563 trip_k1_t1.sl.v692 trip_k1_t1.sl.cst_51 trip_k1_t1.sl.v146 trip_k1_t1.sl.v121 trip_k1_t1.sl.v129 trip_k1_t1.sl.v137 trip_k1_t1.sl.v145 trip_k1_t1.sl.v698 trip_k1_t1.sl.v697
  rw [ld_kS arg3 X_arg3 3 ![3, 0, 0] _ _ rfl, ld_qS arg2 X_arg2 3 (qb i k.val 1) (k1_off17 i k) _ _ (by rw [k1_off17_eq, qb_val i k 1 (by omega)]; rfl), ld_lS arg7 X_arg7 3 (qb i k.val 1) (k1_off18 i k) _ _ (by rw [k1_off18_eq, qb_val i k 1 (by omega)]; rfl),
    ld_bS arg9 X_arg9 (Fin.ofNat 17 ((2 * k.val + 2) - 0)) (k1_off4 i k 0#32) _ _ (off4_eq i k 0), ld_bS arg9 X_arg9 (Fin.ofNat 17 ((2 * k.val + 2) - 1)) (k1_off4 i k 1#32) _ _ (off4_eq i k 1), ld_bS arg9 X_arg9 (Fin.ofNat 17 ((2 * k.val + 2) - 2)) (k1_off4 i k 2#32) _ _ (off4_eq i k 2), ld_bS arg9 X_arg9 (Fin.ofNat 17 ((2 * k.val + 2) - 3)) (k1_off4 i k 3#32) _ _ (off4_eq i k 3)]
  rfl

theorem s_31 : trip_k1_t1.sl.v710 (F := Ideal) i arg2 arg3 arg5 arg6 arg7 arg8 arg9 X_arg2 X_arg3 X_arg5 X_arg6 X_arg7 X_arg8 X_arg9 k
    = dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 1) (2 * k.val + 2) := by
  unfold trip_k1_t1.sl.v710 trip_k1_t1.sl.v709 trip_k1_t1.sl.v704 trip_k1_t1.sl.v567 trip_k1_t1.sl.v703 trip_k1_t1.sl.cst_51 trip_k1_t1.sl.v708 trip_k1_t1.sl.v707
  rw [p_31, ld_kS arg5 X_arg5 3 ![3, 0, 0] _ _ rfl, ld_qS arg6 X_arg6 3 (qb i k.val 1) (k1_off17 i k) _ _ (by rw [k1_off17_eq, qb_val i k 1 (by omega)]; rfl), ld_lS arg8 X_arg8 3 (qb i k.val 1) (k1_off18 i k) _ _ (by rw [k1_off18_eq, qb_val i k 1 (by omega)]; rfl)]
  rfl

theorem dq_31 : trip_k1_t1.sl.v720 (F := Ideal) i arg2 arg3 arg4 arg5 arg6 arg7 arg8 arg9 arg10 X_arg2 X_arg3 X_arg4 X_arg5 X_arg6 X_arg7 X_arg8 X_arg9 k f_arg10
    = shapeCast S1x1x64x512 (addf (qS (t := .f32) (arg10.view.read (Elt Ideal) f_arg10) 3 (qb i k.val 1))
        (mK (tS (t := .bf16) (arg4.view.read (Elt Ideal) X_arg4) 3) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 1) (2 * k.val + 2)))) shapeCasts_S64x512_S1x1x64x512 := by
  unfold trip_k1_t1.sl.v720 trip_k1_t1.sl.v716 trip_k1_t1.sl.v713 trip_k1_t1.sl.v712 trip_k1_t1.sl.v715 trip_k1_t1.sl.v565 trip_k1_t1.sl.v714 trip_k1_t1.sl.cst_65
  rw [s_31, ld_tS arg4 X_arg4 3 ![3, 0, 0] _ _ rfl, ld_qSf arg10 f_arg10 3 (qb i k.val 1) (k1_off17 i k) _ _ (by rw [k1_off17_eq, qb_val i k 1 (by omega)]; rfl)]
  rfl

theorem dk_31 : trip_k1_t1.sl.v731 (F := Ideal) i arg2 arg3 arg5 arg6 arg7 arg8 arg9 arg11 X_arg2 X_arg3 X_arg5 X_arg6 X_arg7 X_arg8 X_arg9 k f_arg11
    = shapeCast S1x64x512 (addf (addf (tS (t := .f32) (arg11.view.read (Elt Ideal) f_arg11) 3) (mQ (qS (t := .bf16) (arg2.view.read (Elt Ideal) X_arg2) 3 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 0) (2 * k.val + 1)))) (mQ (qS (t := .bf16) (arg2.view.read (Elt Ideal) X_arg2) 3 (qb i k.val 1)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 1) (2 * k.val + 2)))) shapeCasts_S64x512_S1x64x512 := by
  unfold trip_k1_t1.sl.v731 trip_k1_t1.sl.v728 trip_k1_t1.sl.v722 trip_k1_t1.sl.v721 trip_k1_t1.sl.HW_arg11_7 trip_k1_t1.sl.v550 trip_k1_t1.sl.v547 trip_k1_t1.sl.v541 trip_k1_t1.sl.v540 trip_k1_t1.sl.v546 trip_k1_t1.sl.v511 trip_k1_t1.sl.v533 trip_k1_t1.sl.v529 trip_k1_t1.sl.v519 trip_k1_t1.sl.v518 trip_k1_t1.sl.v513 trip_k1_t1.sl.v512 trip_k1_t1.sl.v382 trip_k1_t1.sl.cst_51 trip_k1_t1.sl.v146 trip_k1_t1.sl.v121 trip_k1_t1.sl.v129 trip_k1_t1.sl.v137 trip_k1_t1.sl.v145 trip_k1_t1.sl.v517 trip_k1_t1.sl.v516 trip_k1_t1.sl.v528 trip_k1_t1.sl.v523 trip_k1_t1.sl.v386 trip_k1_t1.sl.v522 trip_k1_t1.sl.v527 trip_k1_t1.sl.v526 trip_k1_t1.sl.cst_65 trip_k1_t1.sl.v727 trip_k1_t1.sl.v692 trip_k1_t1.sl.v714
  rw [View.readCov_cons_toLoadRect, dk_30, sc33, s_31, ld_qS arg2 X_arg2 3 (qb i k.val 1) (k1_off17 i k) _ _ (by rw [k1_off17_eq, qb_val i k 1 (by omega)]; rfl)]
  rfl

end Words

end Cert.Tile

end
end
-- ==== Proof.TripRead.lean ====
module

public import proofs.«01_k».proof.Proof.Trip
public import Idealize.ShloMosaic.Lib.Pointwise
public import Idealize.ShloMosaic.Lib.Pipeline.Value
public import Idealize.ShloMosaic.Lib.WritesUnit

@[expose] public section
set_option maxRecDepth 16384
noncomputable section

open Idealize.ShloMosaic Cert.KernelIdeal Cert.KernelIdeal.Gen

/-! What one trip of the loop leaves in the three outputs, read at an index. -/

namespace Cert.Tile

variable (𝒱 : Variants) (c : Dev nD) (bd : Option 𝒱.V) (i : grid1.Coords)
  (arg2 : Memref sig .tc .vmem S4x16x64x512 .bf16) (harg2 : arg2.IsWhole)
  (arg3 : Memref sig .tc .vmem S4x512x64 .bf16) (harg3 : arg3.IsWhole)
  (arg4 : Memref sig .tc .vmem S4x64x512 .bf16) (harg4 : arg4.IsWhole)
  (arg5 : Memref sig .tc .vmem S4x512x64 .bf16) (harg5 : arg5.IsWhole)
  (arg6 : Memref sig .tc .vmem S4x16x64x512 .bf16) (harg6 : arg6.IsWhole)
  (arg7 : Memref sig .tc .vmem S4x16x1x512 .f32) (harg7 : arg7.IsWhole)
  (arg8 : Memref sig .tc .vmem S4x16x1x512 .f32) (harg8 : arg8.IsWhole)
  (arg9 : Memref sig .tc .vmem S17x128x512 .f32) (harg9 : arg9.IsWhole)
  (arg10 : Memref sig .tc .vmem S4x16x64x512 .f32) (harg10 : arg10.IsWhole)
  (arg11 : Memref sig .tc .vmem S4x64x512 .f32) (harg11 : arg11.IsWhole)
  (arg12 : Memref sig .tc .vmem S4x64x512 .f32) (harg12 : arg12.IsWhole)
  (arg1 : BitVec 32) (v7 : BitVec 32)
  (X_arg2 : BufTy.Contents (Elt Ideal) arg2.view.ty)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (k : Fin (k1_t1_loop i).trips)
  (f_arg10 : BufTy.Contents (Elt Ideal) arg10.view.ty)
  (f_arg11 : BufTy.Contents (Elt Ideal) arg11.view.ty)
  (f_arg12 : BufTy.Contents (Elt Ideal) arg12.view.ty)

theorem dv_31 : k1_pay4 (trip_k1_t1.sl.v700 (F := Ideal) i arg2 arg3 arg7 arg9 X_arg2 X_arg3 X_arg7 X_arg9 k) (trip_k1_t1.sl.v732 (F := Ideal) i arg2 arg3 arg6 arg7 arg9 arg12 X_arg2 X_arg3 X_arg6 X_arg7 X_arg9 k f_arg12)
      (View.readAt (Elt Ideal) arg6.view (Rect.unit (s := S4x16x64x512) (k1_off17 i k) S1x1x64x512.size (k1_off17_inb i k)).toLoadRect X_arg6)
    = shapeCast S1x64x512 (addf (addf (tS (t := .f32) (arg12.view.read (Elt Ideal) f_arg12) 3) (mQ (qS (t := .bf16) (arg6.view.read (Elt Ideal) X_arg6) 3 (qb i k.val 0)) (ptV (arg3.view.read (Elt Ideal) X_arg3) (arg2.view.read (Elt Ideal) X_arg2) (arg9.view.read (Elt Ideal) X_arg9) (arg7.view.read (Elt Ideal) X_arg7) 3 (qb i k.val 0) (2 * k.val + 1))))
        (mQ (qS (t := .bf16) (arg6.view.read (Elt Ideal) X_arg6) 3 (qb i k.val 1)) (ptV (arg3.view.read (Elt Ideal) X_arg3) (arg2.view.read (Elt Ideal) X_arg2) (arg9.view.read (Elt Ideal) X_arg9) (arg7.view.read (Elt Ideal) X_arg7) 3 (qb i k.val 1) (2 * k.val + 2)))) shapeCasts_S64x512_S1x64x512 := by
  unfold k1_pay4 trip_k1_t1.sl.v732 trip_k1_t1.sl.HW_arg12_7
  have e := ld_qS arg6 X_arg6 3 (qb i k.val 1) (k1_off17 i k) (k1_off17_inb i k) shapeCasts_S1x1x64x512_S64x512 (by rw [k1_off17_eq, qb_val i k 1 (by omega)]; rfl)
  dsimp only
  rw [View.readCov_cons_toLoadRect, dv_30, sc33, p_31]
  refine congrArg (fun z => shapeCast S1x64x512 z shapeCasts_S64x512_S1x64x512) ?_
  refine congrArg (addf _) ?_
  exact congrArg (fun z => mQ z _) e

theorem dkR_0 (d : Fin 64) (s : Fin 512) :
    arg11.view.read (Elt Ideal) (arg11.view.writes (Elt Ideal) f_arg11 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.1 f_arg10 f_arg11 f_arg12)) (ix3 0 d s)
      = arg11.view.read (Elt Ideal) f_arg11 (ix3 0 d s) + (∑ j : Fin 512, (arg2.view.read (Elt Ideal) X_arg2) (ix4 0 (qb i k.val 0) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 0) (2 * k.val + 1) (ix2 s j))
        + (∑ j : Fin 512, (arg2.view.read (Elt Ideal) X_arg2) (ix4 0 (qb i k.val 1) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 1) (2 * k.val + 2) (ix2 s j)) := by
  unfold trip_k1_t1; dsimp only
  unfold trip_k1_t1.sl.HW_arg11_7 trip_k1_t1.sl.HW_arg11_5 trip_k1_t1.sl.HW_arg11_3 trip_k1_t1.sl.HW_arg11_1
  rw [View.read_writes_cons_unit_of_not_mem _ _ _ _ _ _ rfl 0 (by left; show 0 < 3; omega),
    View.read_writes_cons_unit_of_not_mem _ _ _ _ _ _ rfl 0 (by left; show 0 < 3; omega)]
  rw [View.read_writes_cons_unit_of_not_mem _ _ _ _ _ _ rfl 0 (by left; show 0 < 2; omega),
    View.read_writes_cons_unit_of_not_mem _ _ _ _ _ _ rfl 0 (by left; show 0 < 2; omega)]
  rw [View.read_writes_cons_unit_of_not_mem _ _ _ _ _ _ rfl 0 (by left; show 0 < 1; omega),
    View.read_writes_cons_unit_of_not_mem _ _ _ _ _ _ rfl 0 (by left; show 0 < 1; omega)]
  rw [View.read_writes_cons_unit_of_mem _ _ _ _ _ _ (ix3 (0 : Fin 1) d s) rfl
    (by intro a; fin_cases a <;> simp [ix3])]
  rw [dk_01]
  refine (sc3' _ _ d s).trans ?_
  show arg11.view.read (Elt Ideal) f_arg11 (ix3 0 d s) + mQ (qS (t := .bf16) (arg2.view.read (Elt Ideal) X_arg2) 0 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 0) (2 * k.val + 1)) (ix2 d s) + mQ (qS (t := .bf16) (arg2.view.read (Elt Ideal) X_arg2) 0 (qb i k.val 1)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 1) (2 * k.val + 2)) (ix2 d s) = _
  rw [mQ_apply, mQ_apply]; rfl

theorem dkR_1 (d : Fin 64) (s : Fin 512) :
    arg11.view.read (Elt Ideal) (arg11.view.writes (Elt Ideal) f_arg11 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.1 f_arg10 f_arg11 f_arg12)) (ix3 1 d s)
      = arg11.view.read (Elt Ideal) f_arg11 (ix3 1 d s) + (∑ j : Fin 512, (arg2.view.read (Elt Ideal) X_arg2) (ix4 1 (qb i k.val 0) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 0) (2 * k.val + 1) (ix2 s j))
        + (∑ j : Fin 512, (arg2.view.read (Elt Ideal) X_arg2) (ix4 1 (qb i k.val 1) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 1) (2 * k.val + 2) (ix2 s j)) := by
  unfold trip_k1_t1; dsimp only
  unfold trip_k1_t1.sl.HW_arg11_7 trip_k1_t1.sl.HW_arg11_5 trip_k1_t1.sl.HW_arg11_3 trip_k1_t1.sl.HW_arg11_1
  rw [View.read_writes_cons_unit_of_not_mem _ _ _ _ _ _ rfl 0 (by left; show 1 < 3; omega),
    View.read_writes_cons_unit_of_not_mem _ _ _ _ _ _ rfl 0 (by left; show 1 < 3; omega)]
  rw [View.read_writes_cons_unit_of_not_mem _ _ _ _ _ _ rfl 0 (by left; show 1 < 2; omega),
    View.read_writes_cons_unit_of_not_mem _ _ _ _ _ _ rfl 0 (by left; show 1 < 2; omega)]
  rw [View.read_writes_cons_unit_of_mem _ _ _ _ _ _ (ix3 (0 : Fin 1) d s) rfl
    (by intro a; fin_cases a <;> simp [ix3])]
  rw [dk_11]
  refine (sc3' _ _ d s).trans ?_
  show arg11.view.read (Elt Ideal) f_arg11 (ix3 1 d s) + mQ (qS (t := .bf16) (arg2.view.read (Elt Ideal) X_arg2) 1 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 0) (2 * k.val + 1)) (ix2 d s) + mQ (qS (t := .bf16) (arg2.view.read (Elt Ideal) X_arg2) 1 (qb i k.val 1)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 1) (2 * k.val + 2)) (ix2 d s) = _
  rw [mQ_apply, mQ_apply]; rfl

theorem dkR_2 (d : Fin 64) (s : Fin 512) :
    arg11.view.read (Elt Ideal) (arg11.view.writes (Elt Ideal) f_arg11 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.1 f_arg10 f_arg11 f_arg12)) (ix3 2 d s)
      = arg11.view.read (Elt Ideal) f_arg11 (ix3 2 d s) + (∑ j : Fin 512, (arg2.view.read (Elt Ideal) X_arg2) (ix4 2 (qb i k.val 0) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 0) (2 * k.val + 1) (ix2 s j))
        + (∑ j : Fin 512, (arg2.view.read (Elt Ideal) X_arg2) (ix4 2 (qb i k.val 1) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 1) (2 * k.val + 2) (ix2 s j)) := by
  unfold trip_k1_t1; dsimp only
  unfold trip_k1_t1.sl.HW_arg11_7 trip_k1_t1.sl.HW_arg11_5 trip_k1_t1.sl.HW_arg11_3 trip_k1_t1.sl.HW_arg11_1
  rw [View.read_writes_cons_unit_of_not_mem _ _ _ _ _ _ rfl 0 (by left; show 2 < 3; omega),
    View.read_writes_cons_unit_of_not_mem _ _ _ _ _ _ rfl 0 (by left; show 2 < 3; omega)]
  rw [View.read_writes_cons_unit_of_mem _ _ _ _ _ _ (ix3 (0 : Fin 1) d s) rfl
    (by intro a; fin_cases a <;> simp [ix3])]
  rw [dk_21]
  refine (sc3' _ _ d s).trans ?_
  show arg11.view.read (Elt Ideal) f_arg11 (ix3 2 d s) + mQ (qS (t := .bf16) (arg2.view.read (Elt Ideal) X_arg2) 2 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 0) (2 * k.val + 1)) (ix2 d s) + mQ (qS (t := .bf16) (arg2.view.read (Elt Ideal) X_arg2) 2 (qb i k.val 1)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 1) (2 * k.val + 2)) (ix2 d s) = _
  rw [mQ_apply, mQ_apply]; rfl

theorem dkR_3 (d : Fin 64) (s : Fin 512) :
    arg11.view.read (Elt Ideal) (arg11.view.writes (Elt Ideal) f_arg11 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.1 f_arg10 f_arg11 f_arg12)) (ix3 3 d s)
      = arg11.view.read (Elt Ideal) f_arg11 (ix3 3 d s) + (∑ j : Fin 512, (arg2.view.read (Elt Ideal) X_arg2) (ix4 3 (qb i k.val 0) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 0) (2 * k.val + 1) (ix2 s j))
        + (∑ j : Fin 512, (arg2.view.read (Elt Ideal) X_arg2) (ix4 3 (qb i k.val 1) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 1) (2 * k.val + 2) (ix2 s j)) := by
  unfold trip_k1_t1; dsimp only
  unfold trip_k1_t1.sl.HW_arg11_7 trip_k1_t1.sl.HW_arg11_5 trip_k1_t1.sl.HW_arg11_3 trip_k1_t1.sl.HW_arg11_1
  rw [View.read_writes_cons_unit_of_mem _ _ _ _ _ _ (ix3 (0 : Fin 1) d s) rfl
    (by intro a; fin_cases a <;> simp [ix3])]
  rw [dk_31]
  refine (sc3' _ _ d s).trans ?_
  show arg11.view.read (Elt Ideal) f_arg11 (ix3 3 d s) + mQ (qS (t := .bf16) (arg2.view.read (Elt Ideal) X_arg2) 3 (qb i k.val 0)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 0) (2 * k.val + 1)) (ix2 d s) + mQ (qS (t := .bf16) (arg2.view.read (Elt Ideal) X_arg2) 3 (qb i k.val 1)) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 1) (2 * k.val + 2)) (ix2 d s) = _
  rw [mQ_apply, mQ_apply]; rfl

theorem dvR_0 (d : Fin 64) (s : Fin 512) :
    arg12.view.read (Elt Ideal) (arg12.view.writes (Elt Ideal) f_arg12 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.2.1 f_arg10 f_arg11 f_arg12)) (ix3 0 d s)
      = arg12.view.read (Elt Ideal) f_arg12 (ix3 0 d s) + (∑ j : Fin 512, (arg6.view.read (Elt Ideal) X_arg6) (ix4 0 (qb i k.val 0) d j) * ptV (arg3.view.read (Elt Ideal) X_arg3) (arg2.view.read (Elt Ideal) X_arg2) (arg9.view.read (Elt Ideal) X_arg9) (arg7.view.read (Elt Ideal) X_arg7) 0 (qb i k.val 0) (2 * k.val + 1) (ix2 s j))
        + (∑ j : Fin 512, (arg6.view.read (Elt Ideal) X_arg6) (ix4 0 (qb i k.val 1) d j) * ptV (arg3.view.read (Elt Ideal) X_arg3) (arg2.view.read (Elt Ideal) X_arg2) (arg9.view.read (Elt Ideal) X_arg9) (arg7.view.read (Elt Ideal) X_arg7) 0 (qb i k.val 1) (2 * k.val + 2) (ix2 s j)) := by
  unfold trip_k1_t1; dsimp only
  unfold trip_k1_t1.sl.HW_arg12_7 trip_k1_t1.sl.HW_arg12_5 trip_k1_t1.sl.HW_arg12_3 trip_k1_t1.sl.HW_arg12_1
  rw [View.read_writes_cons_unit_of_not_mem _ _ _ _ _ _ rfl 0 (by left; show 0 < 3; omega),
    View.read_writes_cons_unit_of_not_mem _ _ _ _ _ _ rfl 0 (by left; show 0 < 3; omega)]
  rw [View.read_writes_cons_unit_of_not_mem _ _ _ _ _ _ rfl 0 (by left; show 0 < 2; omega),
    View.read_writes_cons_unit_of_not_mem _ _ _ _ _ _ rfl 0 (by left; show 0 < 2; omega)]
  rw [View.read_writes_cons_unit_of_not_mem _ _ _ _ _ _ rfl 0 (by left; show 0 < 1; omega),
    View.read_writes_cons_unit_of_not_mem _ _ _ _ _ _ rfl 0 (by left; show 0 < 1; omega)]
  rw [View.read_writes_cons_unit_of_mem _ _ _ _ _ _ (ix3 (0 : Fin 1) d s) rfl
    (by intro a; fin_cases a <;> simp [ix3])]
  rw [dv_01]
  refine (sc3' _ _ d s).trans ?_
  show arg12.view.read (Elt Ideal) f_arg12 (ix3 0 d s) + mQ (qS (t := .bf16) (arg6.view.read (Elt Ideal) X_arg6) 0 (qb i k.val 0)) (ptV (arg3.view.read (Elt Ideal) X_arg3) (arg2.view.read (Elt Ideal) X_arg2) (arg9.view.read (Elt Ideal) X_arg9) (arg7.view.read (Elt Ideal) X_arg7) 0 (qb i k.val 0) (2 * k.val + 1)) (ix2 d s) + mQ (qS (t := .bf16) (arg6.view.read (Elt Ideal) X_arg6) 0 (qb i k.val 1)) (ptV (arg3.view.read (Elt Ideal) X_arg3) (arg2.view.read (Elt Ideal) X_arg2) (arg9.view.read (Elt Ideal) X_arg9) (arg7.view.read (Elt Ideal) X_arg7) 0 (qb i k.val 1) (2 * k.val + 2)) (ix2 d s) = _
  rw [mQ_apply, mQ_apply]; rfl

theorem dvR_1 (d : Fin 64) (s : Fin 512) :
    arg12.view.read (Elt Ideal) (arg12.view.writes (Elt Ideal) f_arg12 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.2.1 f_arg10 f_arg11 f_arg12)) (ix3 1 d s)
      = arg12.view.read (Elt Ideal) f_arg12 (ix3 1 d s) + (∑ j : Fin 512, (arg6.view.read (Elt Ideal) X_arg6) (ix4 1 (qb i k.val 0) d j) * ptV (arg3.view.read (Elt Ideal) X_arg3) (arg2.view.read (Elt Ideal) X_arg2) (arg9.view.read (Elt Ideal) X_arg9) (arg7.view.read (Elt Ideal) X_arg7) 1 (qb i k.val 0) (2 * k.val + 1) (ix2 s j))
        + (∑ j : Fin 512, (arg6.view.read (Elt Ideal) X_arg6) (ix4 1 (qb i k.val 1) d j) * ptV (arg3.view.read (Elt Ideal) X_arg3) (arg2.view.read (Elt Ideal) X_arg2) (arg9.view.read (Elt Ideal) X_arg9) (arg7.view.read (Elt Ideal) X_arg7) 1 (qb i k.val 1) (2 * k.val + 2) (ix2 s j)) := by
  unfold trip_k1_t1; dsimp only
  unfold trip_k1_t1.sl.HW_arg12_7 trip_k1_t1.sl.HW_arg12_5 trip_k1_t1.sl.HW_arg12_3 trip_k1_t1.sl.HW_arg12_1
  rw [View.read_writes_cons_unit_of_not_mem _ _ _ _ _ _ rfl 0 (by left; show 1 < 3; omega),
    View.read_writes_cons_unit_of_not_mem _ _ _ _ _ _ rfl 0 (by left; show 1 < 3; omega)]
  rw [View.read_writes_cons_unit_of_not_mem _ _ _ _ _ _ rfl 0 (by left; show 1 < 2; omega),
    View.read_writes_cons_unit_of_not_mem _ _ _ _ _ _ rfl 0 (by left; show 1 < 2; omega)]
  rw [View.read_writes_cons_unit_of_mem _ _ _ _ _ _ (ix3 (0 : Fin 1) d s) rfl
    (by intro a; fin_cases a <;> simp [ix3])]
  rw [dv_11]
  refine (sc3' _ _ d s).trans ?_
  show arg12.view.read (Elt Ideal) f_arg12 (ix3 1 d s) + mQ (qS (t := .bf16) (arg6.view.read (Elt Ideal) X_arg6) 1 (qb i k.val 0)) (ptV (arg3.view.read (Elt Ideal) X_arg3) (arg2.view.read (Elt Ideal) X_arg2) (arg9.view.read (Elt Ideal) X_arg9) (arg7.view.read (Elt Ideal) X_arg7) 1 (qb i k.val 0) (2 * k.val + 1)) (ix2 d s) + mQ (qS (t := .bf16) (arg6.view.read (Elt Ideal) X_arg6) 1 (qb i k.val 1)) (ptV (arg3.view.read (Elt Ideal) X_arg3) (arg2.view.read (Elt Ideal) X_arg2) (arg9.view.read (Elt Ideal) X_arg9) (arg7.view.read (Elt Ideal) X_arg7) 1 (qb i k.val 1) (2 * k.val + 2)) (ix2 d s) = _
  rw [mQ_apply, mQ_apply]; rfl

theorem dvR_2 (d : Fin 64) (s : Fin 512) :
    arg12.view.read (Elt Ideal) (arg12.view.writes (Elt Ideal) f_arg12 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.2.1 f_arg10 f_arg11 f_arg12)) (ix3 2 d s)
      = arg12.view.read (Elt Ideal) f_arg12 (ix3 2 d s) + (∑ j : Fin 512, (arg6.view.read (Elt Ideal) X_arg6) (ix4 2 (qb i k.val 0) d j) * ptV (arg3.view.read (Elt Ideal) X_arg3) (arg2.view.read (Elt Ideal) X_arg2) (arg9.view.read (Elt Ideal) X_arg9) (arg7.view.read (Elt Ideal) X_arg7) 2 (qb i k.val 0) (2 * k.val + 1) (ix2 s j))
        + (∑ j : Fin 512, (arg6.view.read (Elt Ideal) X_arg6) (ix4 2 (qb i k.val 1) d j) * ptV (arg3.view.read (Elt Ideal) X_arg3) (arg2.view.read (Elt Ideal) X_arg2) (arg9.view.read (Elt Ideal) X_arg9) (arg7.view.read (Elt Ideal) X_arg7) 2 (qb i k.val 1) (2 * k.val + 2) (ix2 s j)) := by
  unfold trip_k1_t1; dsimp only
  unfold trip_k1_t1.sl.HW_arg12_7 trip_k1_t1.sl.HW_arg12_5 trip_k1_t1.sl.HW_arg12_3 trip_k1_t1.sl.HW_arg12_1
  rw [View.read_writes_cons_unit_of_not_mem _ _ _ _ _ _ rfl 0 (by left; show 2 < 3; omega),
    View.read_writes_cons_unit_of_not_mem _ _ _ _ _ _ rfl 0 (by left; show 2 < 3; omega)]
  rw [View.read_writes_cons_unit_of_mem _ _ _ _ _ _ (ix3 (0 : Fin 1) d s) rfl
    (by intro a; fin_cases a <;> simp [ix3])]
  rw [dv_21]
  refine (sc3' _ _ d s).trans ?_
  show arg12.view.read (Elt Ideal) f_arg12 (ix3 2 d s) + mQ (qS (t := .bf16) (arg6.view.read (Elt Ideal) X_arg6) 2 (qb i k.val 0)) (ptV (arg3.view.read (Elt Ideal) X_arg3) (arg2.view.read (Elt Ideal) X_arg2) (arg9.view.read (Elt Ideal) X_arg9) (arg7.view.read (Elt Ideal) X_arg7) 2 (qb i k.val 0) (2 * k.val + 1)) (ix2 d s) + mQ (qS (t := .bf16) (arg6.view.read (Elt Ideal) X_arg6) 2 (qb i k.val 1)) (ptV (arg3.view.read (Elt Ideal) X_arg3) (arg2.view.read (Elt Ideal) X_arg2) (arg9.view.read (Elt Ideal) X_arg9) (arg7.view.read (Elt Ideal) X_arg7) 2 (qb i k.val 1) (2 * k.val + 2)) (ix2 d s) = _
  rw [mQ_apply, mQ_apply]; rfl

theorem dvR_3 (d : Fin 64) (s : Fin 512) :
    arg12.view.read (Elt Ideal) (arg12.view.writes (Elt Ideal) f_arg12 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.2.1 f_arg10 f_arg11 f_arg12)) (ix3 3 d s)
      = arg12.view.read (Elt Ideal) f_arg12 (ix3 3 d s) + (∑ j : Fin 512, (arg6.view.read (Elt Ideal) X_arg6) (ix4 3 (qb i k.val 0) d j) * ptV (arg3.view.read (Elt Ideal) X_arg3) (arg2.view.read (Elt Ideal) X_arg2) (arg9.view.read (Elt Ideal) X_arg9) (arg7.view.read (Elt Ideal) X_arg7) 3 (qb i k.val 0) (2 * k.val + 1) (ix2 s j))
        + (∑ j : Fin 512, (arg6.view.read (Elt Ideal) X_arg6) (ix4 3 (qb i k.val 1) d j) * ptV (arg3.view.read (Elt Ideal) X_arg3) (arg2.view.read (Elt Ideal) X_arg2) (arg9.view.read (Elt Ideal) X_arg9) (arg7.view.read (Elt Ideal) X_arg7) 3 (qb i k.val 1) (2 * k.val + 2) (ix2 s j)) := by
  unfold trip_k1_t1; dsimp only
  unfold trip_k1_t1.sl.HW_arg12_7 trip_k1_t1.sl.HW_arg12_5 trip_k1_t1.sl.HW_arg12_3 trip_k1_t1.sl.HW_arg12_1
  rw [View.read_writes_cons_unit_of_mem _ _ _ _ _ _ (ix3 (0 : Fin 1) d s) rfl
    (by intro a; fin_cases a <;> simp [ix3])]
  refine (congrFun (dv_31 i arg2 arg3 arg6 arg7 arg9 arg12 X_arg2 X_arg3 X_arg6 X_arg7 X_arg9 k f_arg12) (ix3 (0 : Fin 1) d s)).trans ?_
  refine (sc3' _ _ d s).trans ?_
  show arg12.view.read (Elt Ideal) f_arg12 (ix3 3 d s) + mQ (qS (t := .bf16) (arg6.view.read (Elt Ideal) X_arg6) 3 (qb i k.val 0)) (ptV (arg3.view.read (Elt Ideal) X_arg3) (arg2.view.read (Elt Ideal) X_arg2) (arg9.view.read (Elt Ideal) X_arg9) (arg7.view.read (Elt Ideal) X_arg7) 3 (qb i k.val 0) (2 * k.val + 1)) (ix2 d s) + mQ (qS (t := .bf16) (arg6.view.read (Elt Ideal) X_arg6) 3 (qb i k.val 1)) (ptV (arg3.view.read (Elt Ideal) X_arg3) (arg2.view.read (Elt Ideal) X_arg2) (arg9.view.read (Elt Ideal) X_arg9) (arg7.view.read (Elt Ideal) X_arg7) 3 (qb i k.val 1) (2 * k.val + 2)) (ix2 d s) = _
  rw [mQ_apply, mQ_apply]; rfl

theorem dqR_00 (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 0 (qb i k.val 0) d r)
      = arg10.view.read (Elt Ideal) f_arg10 (ix4 0 (qb i k.val 0) d r) + (∑ s : Fin 512, (arg4.view.read (Elt Ideal) X_arg4) (ix3 0 d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 0) (2 * k.val + 1) (ix2 s r)) := by
  have hb0 := qb_val i k 0 (by omega)
  have hb1 := qb_val i k 1 (by omega)
  unfold trip_k1_t1; dsimp only
  rw [View.read_writes_cons_unit_of_not_mem _ _ _ _ _ _ (k1_off17_eq i k) 0 (by left; show 0 < 3; omega)]
  rw [View.read_writes_cons_unit_of_not_mem _ _ _ _ _ _ (k1_off15_eq i k) 0 (by left; show 0 < 3; omega)]
  rw [View.read_writes_cons_unit_of_not_mem _ _ _ _ _ _ (k1_off13_eq i k) 0 (by left; show 0 < 2; omega)]
  rw [View.read_writes_cons_unit_of_not_mem _ _ _ _ _ _ (k1_off11_eq i k) 0 (by left; show 0 < 2; omega)]
  rw [View.read_writes_cons_unit_of_not_mem _ _ _ _ _ _ (k1_off9_eq i k) 0 (by left; show 0 < 1; omega)]
  rw [View.read_writes_cons_unit_of_not_mem _ _ _ _ _ _ (k1_off7_eq i k) 0 (by left; show 0 < 1; omega)]
  rw [View.read_writes_cons_unit_of_not_mem _ _ _ _ _ _ (k1_off5_eq i k) 1 (by left; show (qb i k.val 0).val < 4 * (i 1).val + 2 * k.val + 1; omega)]
  rw [View.read_writes_cons_unit_of_mem _ _ _ _ _ _ (ix4 (0 : Fin 1) (0 : Fin 1) d r) (k1_off2_eq i k)
    (by intro a; fin_cases a; · rfl
        · exact hb0
        · exact (Nat.zero_add _).symm
        · exact (Nat.zero_add _).symm)]
  rw [dq_00]
  refine (sc4' _ _ d r).trans ?_
  show arg10.view.read (Elt Ideal) f_arg10 (ix4 0 (qb i k.val 0) d r) + mK (tS (t := .bf16) (arg4.view.read (Elt Ideal) X_arg4) 0) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 0) (2 * k.val + 1)) (ix2 d r) = _
  rw [mK_apply]; rfl

theorem dqR_01 (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 0 (qb i k.val 1) d r)
      = arg10.view.read (Elt Ideal) f_arg10 (ix4 0 (qb i k.val 1) d r) + (∑ s : Fin 512, (arg4.view.read (Elt Ideal) X_arg4) (ix3 0 d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 1) (2 * k.val + 2) (ix2 s r)) := by
  have hb0 := qb_val i k 0 (by omega)
  have hb1 := qb_val i k 1 (by omega)
  unfold trip_k1_t1; dsimp only
  rw [View.read_writes_cons_unit_of_not_mem _ _ _ _ _ _ (k1_off17_eq i k) 0 (by left; show 0 < 3; omega)]
  rw [View.read_writes_cons_unit_of_not_mem _ _ _ _ _ _ (k1_off15_eq i k) 0 (by left; show 0 < 3; omega)]
  rw [View.read_writes_cons_unit_of_not_mem _ _ _ _ _ _ (k1_off13_eq i k) 0 (by left; show 0 < 2; omega)]
  rw [View.read_writes_cons_unit_of_not_mem _ _ _ _ _ _ (k1_off11_eq i k) 0 (by left; show 0 < 2; omega)]
  rw [View.read_writes_cons_unit_of_not_mem _ _ _ _ _ _ (k1_off9_eq i k) 0 (by left; show 0 < 1; omega)]
  rw [View.read_writes_cons_unit_of_not_mem _ _ _ _ _ _ (k1_off7_eq i k) 0 (by left; show 0 < 1; omega)]
  rw [View.read_writes_cons_unit_of_mem _ _ _ _ _ _ (ix4 (0 : Fin 1) (0 : Fin 1) d r) (k1_off5_eq i k)
    (by intro a; fin_cases a; · rfl
        · exact hb1
        · exact (Nat.zero_add _).symm
        · exact (Nat.zero_add _).symm)]
  rw [dq_01]
  refine (sc4' _ _ d r).trans ?_
  show arg10.view.read (Elt Ideal) f_arg10 (ix4 0 (qb i k.val 1) d r) + mK (tS (t := .bf16) (arg4.view.read (Elt Ideal) X_arg4) 0) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 0 (qb i k.val 1) (2 * k.val + 2)) (ix2 d r) = _
  rw [mK_apply]; rfl

theorem dqR_10 (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 1 (qb i k.val 0) d r)
      = arg10.view.read (Elt Ideal) f_arg10 (ix4 1 (qb i k.val 0) d r) + (∑ s : Fin 512, (arg4.view.read (Elt Ideal) X_arg4) (ix3 1 d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 0) (2 * k.val + 1) (ix2 s r)) := by
  have hb0 := qb_val i k 0 (by omega)
  have hb1 := qb_val i k 1 (by omega)
  unfold trip_k1_t1; dsimp only
  rw [View.read_writes_cons_unit_of_not_mem _ _ _ _ _ _ (k1_off17_eq i k) 0 (by left; show 1 < 3; omega)]
  rw [View.read_writes_cons_unit_of_not_mem _ _ _ _ _ _ (k1_off15_eq i k) 0 (by left; show 1 < 3; omega)]
  rw [View.read_writes_cons_unit_of_not_mem _ _ _ _ _ _ (k1_off13_eq i k) 0 (by left; show 1 < 2; omega)]
  rw [View.read_writes_cons_unit_of_not_mem _ _ _ _ _ _ (k1_off11_eq i k) 0 (by left; show 1 < 2; omega)]
  rw [View.read_writes_cons_unit_of_not_mem _ _ _ _ _ _ (k1_off9_eq i k) 1 (by left; show (qb i k.val 0).val < 4 * (i 1).val + 2 * k.val + 1; omega)]
  rw [View.read_writes_cons_unit_of_mem _ _ _ _ _ _ (ix4 (0 : Fin 1) (0 : Fin 1) d r) (k1_off7_eq i k)
    (by intro a; fin_cases a; · rfl
        · exact hb0
        · exact (Nat.zero_add _).symm
        · exact (Nat.zero_add _).symm)]
  rw [dq_10]
  refine (sc4' _ _ d r).trans ?_
  show arg10.view.read (Elt Ideal) f_arg10 (ix4 1 (qb i k.val 0) d r) + mK (tS (t := .bf16) (arg4.view.read (Elt Ideal) X_arg4) 1) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 0) (2 * k.val + 1)) (ix2 d r) = _
  rw [mK_apply]; rfl

theorem dqR_11 (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 1 (qb i k.val 1) d r)
      = arg10.view.read (Elt Ideal) f_arg10 (ix4 1 (qb i k.val 1) d r) + (∑ s : Fin 512, (arg4.view.read (Elt Ideal) X_arg4) (ix3 1 d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 1) (2 * k.val + 2) (ix2 s r)) := by
  have hb0 := qb_val i k 0 (by omega)
  have hb1 := qb_val i k 1 (by omega)
  unfold trip_k1_t1; dsimp only
  rw [View.read_writes_cons_unit_of_not_mem _ _ _ _ _ _ (k1_off17_eq i k) 0 (by left; show 1 < 3; omega)]
  rw [View.read_writes_cons_unit_of_not_mem _ _ _ _ _ _ (k1_off15_eq i k) 0 (by left; show 1 < 3; omega)]
  rw [View.read_writes_cons_unit_of_not_mem _ _ _ _ _ _ (k1_off13_eq i k) 0 (by left; show 1 < 2; omega)]
  rw [View.read_writes_cons_unit_of_not_mem _ _ _ _ _ _ (k1_off11_eq i k) 0 (by left; show 1 < 2; omega)]
  rw [View.read_writes_cons_unit_of_mem _ _ _ _ _ _ (ix4 (0 : Fin 1) (0 : Fin 1) d r) (k1_off9_eq i k)
    (by intro a; fin_cases a; · rfl
        · exact hb1
        · exact (Nat.zero_add _).symm
        · exact (Nat.zero_add _).symm)]
  rw [dq_11]
  refine (sc4' _ _ d r).trans ?_
  show arg10.view.read (Elt Ideal) f_arg10 (ix4 1 (qb i k.val 1) d r) + mK (tS (t := .bf16) (arg4.view.read (Elt Ideal) X_arg4) 1) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 1 (qb i k.val 1) (2 * k.val + 2)) (ix2 d r) = _
  rw [mK_apply]; rfl

theorem dqR_20 (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 2 (qb i k.val 0) d r)
      = arg10.view.read (Elt Ideal) f_arg10 (ix4 2 (qb i k.val 0) d r) + (∑ s : Fin 512, (arg4.view.read (Elt Ideal) X_arg4) (ix3 2 d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 0) (2 * k.val + 1) (ix2 s r)) := by
  have hb0 := qb_val i k 0 (by omega)
  have hb1 := qb_val i k 1 (by omega)
  unfold trip_k1_t1; dsimp only
  rw [View.read_writes_cons_unit_of_not_mem _ _ _ _ _ _ (k1_off17_eq i k) 0 (by left; show 2 < 3; omega)]
  rw [View.read_writes_cons_unit_of_not_mem _ _ _ _ _ _ (k1_off15_eq i k) 0 (by left; show 2 < 3; omega)]
  rw [View.read_writes_cons_unit_of_not_mem _ _ _ _ _ _ (k1_off13_eq i k) 1 (by left; show (qb i k.val 0).val < 4 * (i 1).val + 2 * k.val + 1; omega)]
  rw [View.read_writes_cons_unit_of_mem _ _ _ _ _ _ (ix4 (0 : Fin 1) (0 : Fin 1) d r) (k1_off11_eq i k)
    (by intro a; fin_cases a; · rfl
        · exact hb0
        · exact (Nat.zero_add _).symm
        · exact (Nat.zero_add _).symm)]
  rw [dq_20]
  refine (sc4' _ _ d r).trans ?_
  show arg10.view.read (Elt Ideal) f_arg10 (ix4 2 (qb i k.val 0) d r) + mK (tS (t := .bf16) (arg4.view.read (Elt Ideal) X_arg4) 2) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 0) (2 * k.val + 1)) (ix2 d r) = _
  rw [mK_apply]; rfl

theorem dqR_21 (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 2 (qb i k.val 1) d r)
      = arg10.view.read (Elt Ideal) f_arg10 (ix4 2 (qb i k.val 1) d r) + (∑ s : Fin 512, (arg4.view.read (Elt Ideal) X_arg4) (ix3 2 d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 1) (2 * k.val + 2) (ix2 s r)) := by
  have hb0 := qb_val i k 0 (by omega)
  have hb1 := qb_val i k 1 (by omega)
  unfold trip_k1_t1; dsimp only
  rw [View.read_writes_cons_unit_of_not_mem _ _ _ _ _ _ (k1_off17_eq i k) 0 (by left; show 2 < 3; omega)]
  rw [View.read_writes_cons_unit_of_not_mem _ _ _ _ _ _ (k1_off15_eq i k) 0 (by left; show 2 < 3; omega)]
  rw [View.read_writes_cons_unit_of_mem _ _ _ _ _ _ (ix4 (0 : Fin 1) (0 : Fin 1) d r) (k1_off13_eq i k)
    (by intro a; fin_cases a; · rfl
        · exact hb1
        · exact (Nat.zero_add _).symm
        · exact (Nat.zero_add _).symm)]
  rw [dq_21]
  refine (sc4' _ _ d r).trans ?_
  show arg10.view.read (Elt Ideal) f_arg10 (ix4 2 (qb i k.val 1) d r) + mK (tS (t := .bf16) (arg4.view.read (Elt Ideal) X_arg4) 2) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 2 (qb i k.val 1) (2 * k.val + 2)) (ix2 d r) = _
  rw [mK_apply]; rfl

theorem dqR_30 (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 3 (qb i k.val 0) d r)
      = arg10.view.read (Elt Ideal) f_arg10 (ix4 3 (qb i k.val 0) d r) + (∑ s : Fin 512, (arg4.view.read (Elt Ideal) X_arg4) (ix3 3 d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 0) (2 * k.val + 1) (ix2 s r)) := by
  have hb0 := qb_val i k 0 (by omega)
  have hb1 := qb_val i k 1 (by omega)
  unfold trip_k1_t1; dsimp only
  rw [View.read_writes_cons_unit_of_not_mem _ _ _ _ _ _ (k1_off17_eq i k) 1 (by left; show (qb i k.val 0).val < 4 * (i 1).val + 2 * k.val + 1; omega)]
  rw [View.read_writes_cons_unit_of_mem _ _ _ _ _ _ (ix4 (0 : Fin 1) (0 : Fin 1) d r) (k1_off15_eq i k)
    (by intro a; fin_cases a; · rfl
        · exact hb0
        · exact (Nat.zero_add _).symm
        · exact (Nat.zero_add _).symm)]
  rw [dq_30]
  refine (sc4' _ _ d r).trans ?_
  show arg10.view.read (Elt Ideal) f_arg10 (ix4 3 (qb i k.val 0) d r) + mK (tS (t := .bf16) (arg4.view.read (Elt Ideal) X_arg4) 3) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 0) (2 * k.val + 1)) (ix2 d r) = _
  rw [mK_apply]; rfl

theorem dqR_31 (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 3 (qb i k.val 1) d r)
      = arg10.view.read (Elt Ideal) f_arg10 (ix4 3 (qb i k.val 1) d r) + (∑ s : Fin 512, (arg4.view.read (Elt Ideal) X_arg4) (ix3 3 d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 1) (2 * k.val + 2) (ix2 s r)) := by
  have hb0 := qb_val i k 0 (by omega)
  have hb1 := qb_val i k 1 (by omega)
  unfold trip_k1_t1; dsimp only
  rw [View.read_writes_cons_unit_of_mem _ _ _ _ _ _ (ix4 (0 : Fin 1) (0 : Fin 1) d r) (k1_off17_eq i k)
    (by intro a; fin_cases a; · rfl
        · exact hb1
        · exact (Nat.zero_add _).symm
        · exact (Nat.zero_add _).symm)]
  rw [dq_31]
  refine (sc4' _ _ d r).trans ?_
  show arg10.view.read (Elt Ideal) f_arg10 (ix4 3 (qb i k.val 1) d r) + mK (tS (t := .bf16) (arg4.view.read (Elt Ideal) X_arg4) 3) (dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) 3 (qb i k.val 1) (2 * k.val + 2)) (ix2 d r) = _
  rw [mK_apply]; rfl

theorem dqR_other (h : Fin 4) (b : Fin 16) (d : Fin 64) (r : Fin 512) (h0 : b ≠ (qb i k.val 0)) (h1 : b ≠ (qb i k.val 1)) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 h b d r)
      = arg10.view.read (Elt Ideal) f_arg10 (ix4 h b d r) := by
  have hb0 := qb_val i k 0 (by omega)
  have hb1 := qb_val i k 1 (by omega)
  have g0 : b.val ≠ 4 * (i 1).val + 2 * k.val := fun e => h0 (Fin.ext (by rw [hb0]; exact e))
  have g1 : b.val ≠ 4 * (i 1).val + 2 * k.val + 1 := fun e => h1 (Fin.ext (by rw [hb1]; exact e))
  unfold trip_k1_t1; dsimp only
  rw [View.read_writes_cons_unit_of_not_mem _ _ _ _ _ _ (k1_off17_eq i k) 1 (by show b.val < 4 * (i 1).val + 2 * k.val + 1 ∨ 4 * (i 1).val + 2 * k.val + 1 + 1 ≤ b.val; omega)]
  rw [View.read_writes_cons_unit_of_not_mem _ _ _ _ _ _ (k1_off15_eq i k) 1 (by show b.val < 4 * (i 1).val + 2 * k.val ∨ 4 * (i 1).val + 2 * k.val + 1 ≤ b.val; omega)]
  rw [View.read_writes_cons_unit_of_not_mem _ _ _ _ _ _ (k1_off13_eq i k) 1 (by show b.val < 4 * (i 1).val + 2 * k.val + 1 ∨ 4 * (i 1).val + 2 * k.val + 1 + 1 ≤ b.val; omega)]
  rw [View.read_writes_cons_unit_of_not_mem _ _ _ _ _ _ (k1_off11_eq i k) 1 (by show b.val < 4 * (i 1).val + 2 * k.val ∨ 4 * (i 1).val + 2 * k.val + 1 ≤ b.val; omega)]
  rw [View.read_writes_cons_unit_of_not_mem _ _ _ _ _ _ (k1_off9_eq i k) 1 (by show b.val < 4 * (i 1).val + 2 * k.val + 1 ∨ 4 * (i 1).val + 2 * k.val + 1 + 1 ≤ b.val; omega)]
  rw [View.read_writes_cons_unit_of_not_mem _ _ _ _ _ _ (k1_off7_eq i k) 1 (by show b.val < 4 * (i 1).val + 2 * k.val ∨ 4 * (i 1).val + 2 * k.val + 1 ≤ b.val; omega)]
  rw [View.read_writes_cons_unit_of_not_mem _ _ _ _ _ _ (k1_off5_eq i k) 1 (by show b.val < 4 * (i 1).val + 2 * k.val + 1 ∨ 4 * (i 1).val + 2 * k.val + 1 + 1 ≤ b.val; omega)]
  rw [View.read_writes_cons_unit_of_not_mem _ _ _ _ _ _ (k1_off2_eq i k) 1 (by show b.val < 4 * (i 1).val + 2 * k.val ∨ 4 * (i 1).val + 2 * k.val + 1 ≤ b.val; omega)]
  rfl

end Cert.Tile

end
end
-- ==== Proof.Loop.lean ====
module

public import proofs.«01_k».proof.Proof.TripRead
public import Idealize.ShloMosaic.Lib.Pointwise
public import Idealize.ShloMosaic.Lib.Pipeline.Value
public import Idealize.ShloMosaic.Lib.WritesUnit

@[expose] public section
set_option maxRecDepth 16384
noncomputable section

open Idealize.ShloMosaic Cert.KernelIdeal Cert.KernelIdeal.Gen

/-! What the whole loop over the query blocks leaves in the three outputs, read at an index. -/

namespace Cert.Tile

variable (𝒱 : Variants) (c : Dev nD) (bd : Option 𝒱.V) (i : grid1.Coords)
  (arg2 : Memref sig .tc .vmem S4x16x64x512 .bf16) (harg2 : arg2.IsWhole)
  (arg3 : Memref sig .tc .vmem S4x512x64 .bf16) (harg3 : arg3.IsWhole)
  (arg4 : Memref sig .tc .vmem S4x64x512 .bf16) (harg4 : arg4.IsWhole)
  (arg5 : Memref sig .tc .vmem S4x512x64 .bf16) (harg5 : arg5.IsWhole)
  (arg6 : Memref sig .tc .vmem S4x16x64x512 .bf16) (harg6 : arg6.IsWhole)
  (arg7 : Memref sig .tc .vmem S4x16x1x512 .f32) (harg7 : arg7.IsWhole)
  (arg8 : Memref sig .tc .vmem S4x16x1x512 .f32) (harg8 : arg8.IsWhole)
  (arg9 : Memref sig .tc .vmem S17x128x512 .f32) (harg9 : arg9.IsWhole)
  (arg10 : Memref sig .tc .vmem S4x16x64x512 .f32) (harg10 : arg10.IsWhole)
  (arg11 : Memref sig .tc .vmem S4x64x512 .f32) (harg11 : arg11.IsWhole)
  (arg12 : Memref sig .tc .vmem S4x64x512 .f32) (harg12 : arg12.IsWhole)
  (arg1 : BitVec 32) (v7 : BitVec 32)
  (X_arg2 : BufTy.Contents (Elt Ideal) arg2.view.ty)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (f_arg10 : BufTy.Contents (Elt Ideal) arg10.view.ty)
  (f_arg11 : BufTy.Contents (Elt Ideal) arg11.view.ty)
  (f_arg12 : BufTy.Contents (Elt Ideal) arg12.view.ty)

theorem dkR (k : Fin (k1_t1_loop i).trips) (h : Fin 4) (d : Fin 64) (s : Fin 512) :
    arg11.view.read (Elt Ideal) (arg11.view.writes (Elt Ideal) f_arg11 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.1 f_arg10 f_arg11 f_arg12)) (ix3 h d s)
      = arg11.view.read (Elt Ideal) f_arg11 (ix3 h d s) + (∑ j : Fin 512, (arg2.view.read (Elt Ideal) X_arg2) (ix4 h (qb i k.val 0) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) h (qb i k.val 0) (2 * k.val + 1) (ix2 s j)) + (∑ j : Fin 512, (arg2.view.read (Elt Ideal) X_arg2) (ix4 h (qb i k.val 1) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) h (qb i k.val 1) (2 * k.val + 2) (ix2 s j)) := by
  match h with
  | 0 => exact dkR_0 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d s
  | 1 => exact dkR_1 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d s
  | 2 => exact dkR_2 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d s
  | 3 => exact dkR_3 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d s

theorem dkL (h : Fin 4) (d : Fin 64) (s : Fin 512) (n : ℕ) (hn : n ≤ (k1_t1_loop i).trips) :
    arg11.view.read (Elt Ideal) (arg11.view.writes (Elt Ideal) f_arg11 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).2.1)) (ix3 h d s)
      = arg11.view.read (Elt Ideal) f_arg11 (ix3 h d s) + ∑ k ∈ Finset.range n, ((∑ j : Fin 512, (arg2.view.read (Elt Ideal) X_arg2) (ix4 h (qb i k 0) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) h (qb i k 0) (2 * k + 1) (ix2 s j)) + (∑ j : Fin 512, (arg2.view.read (Elt Ideal) X_arg2) (ix4 h (qb i k 1) d j) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) h (qb i k 1) (2 * k + 2) (ix2 s j))) := by
  induction n with
  | zero => rw [Finset.sum_range_zero, add_zero]; rfl
  | succ n ih =>
    have e := dkR 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 ((arg10.view.writes (Elt Ideal) f_arg10 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).1))) ((arg11.view.writes (Elt Ideal) f_arg11 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).2.1))) ((arg12.view.writes (Elt Ideal) f_arg12 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).2.2))) ⟨n, hn⟩ h d s
    rw [ih (by omega)] at e
    rw [pb_k1_t1_succ 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 ⟨n, hn⟩]
    dsimp only
    rw [View.writes_append, e, Finset.sum_range_succ, add_assoc, add_assoc]

theorem dvR (k : Fin (k1_t1_loop i).trips) (h : Fin 4) (d : Fin 64) (s : Fin 512) :
    arg12.view.read (Elt Ideal) (arg12.view.writes (Elt Ideal) f_arg12 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).2.2.1 f_arg10 f_arg11 f_arg12)) (ix3 h d s)
      = arg12.view.read (Elt Ideal) f_arg12 (ix3 h d s) + (∑ j : Fin 512, (arg6.view.read (Elt Ideal) X_arg6) (ix4 h (qb i k.val 0) d j) * ptV (arg3.view.read (Elt Ideal) X_arg3) (arg2.view.read (Elt Ideal) X_arg2) (arg9.view.read (Elt Ideal) X_arg9) (arg7.view.read (Elt Ideal) X_arg7) h (qb i k.val 0) (2 * k.val + 1) (ix2 s j)) + (∑ j : Fin 512, (arg6.view.read (Elt Ideal) X_arg6) (ix4 h (qb i k.val 1) d j) * ptV (arg3.view.read (Elt Ideal) X_arg3) (arg2.view.read (Elt Ideal) X_arg2) (arg9.view.read (Elt Ideal) X_arg9) (arg7.view.read (Elt Ideal) X_arg7) h (qb i k.val 1) (2 * k.val + 2) (ix2 s j)) := by
  match h with
  | 0 => exact dvR_0 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d s
  | 1 => exact dvR_1 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d s
  | 2 => exact dvR_2 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d s
  | 3 => exact dvR_3 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d s

theorem dvL (h : Fin 4) (d : Fin 64) (s : Fin 512) (n : ℕ) (hn : n ≤ (k1_t1_loop i).trips) :
    arg12.view.read (Elt Ideal) (arg12.view.writes (Elt Ideal) f_arg12 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).2.2)) (ix3 h d s)
      = arg12.view.read (Elt Ideal) f_arg12 (ix3 h d s) + ∑ k ∈ Finset.range n, ((∑ j : Fin 512, (arg6.view.read (Elt Ideal) X_arg6) (ix4 h (qb i k 0) d j) * ptV (arg3.view.read (Elt Ideal) X_arg3) (arg2.view.read (Elt Ideal) X_arg2) (arg9.view.read (Elt Ideal) X_arg9) (arg7.view.read (Elt Ideal) X_arg7) h (qb i k 0) (2 * k + 1) (ix2 s j)) + (∑ j : Fin 512, (arg6.view.read (Elt Ideal) X_arg6) (ix4 h (qb i k 1) d j) * ptV (arg3.view.read (Elt Ideal) X_arg3) (arg2.view.read (Elt Ideal) X_arg2) (arg9.view.read (Elt Ideal) X_arg9) (arg7.view.read (Elt Ideal) X_arg7) h (qb i k 1) (2 * k + 2) (ix2 s j))) := by
  induction n with
  | zero => rw [Finset.sum_range_zero, add_zero]; rfl
  | succ n ih =>
    have e := dvR 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 ((arg10.view.writes (Elt Ideal) f_arg10 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).1))) ((arg11.view.writes (Elt Ideal) f_arg11 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).2.1))) ((arg12.view.writes (Elt Ideal) f_arg12 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).2.2))) ⟨n, hn⟩ h d s
    rw [ih (by omega)] at e
    rw [pb_k1_t1_succ 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 ⟨n, hn⟩]
    dsimp only
    rw [View.writes_append, e, Finset.sum_range_succ, add_assoc, add_assoc]

theorem dqR (k : Fin (k1_t1_loop i).trips) (h : Fin 4) (b : Fin 16) (d : Fin 64) (r : Fin 512) :
    arg10.view.read (Elt Ideal) (arg10.view.writes (Elt Ideal) f_arg10 ((trip_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k).1 f_arg10 f_arg11 f_arg12)) (ix4 h b d r)
      = arg10.view.read (Elt Ideal) f_arg10 (ix4 h b d r)
        + (if b = qb i k.val 0 ∨ b = qb i k.val 1 then (∑ s : Fin 512, (arg4.view.read (Elt Ideal) X_arg4) (ix3 h d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) h b (b.val + 1 - 4 * (i 1).val) (ix2 s r)) else 0) := by
  have hb0 := qb_val i k 0 (by omega)
  have hb1 := qb_val i k 1 (by omega)
  by_cases h0 : b = qb i k.val 0
  · rw [if_pos (Or.inl h0)]; subst h0
    rw [show (qb i k.val 0).val + 1 - 4 * (i 1).val = 2 * k.val + 1 by omega]
    match h with
    | 0 => exact dqR_00 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d r
    | 1 => exact dqR_10 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d r
    | 2 => exact dqR_20 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d r
    | 3 => exact dqR_30 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d r
  by_cases h1 : b = qb i k.val 1
  · rw [if_pos (Or.inr h1)]; subst h1
    rw [show (qb i k.val 1).val + 1 - 4 * (i 1).val = 2 * k.val + 2 by omega]
    match h with
    | 0 => exact dqR_01 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d r
    | 1 => exact dqR_11 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d r
    | 2 => exact dqR_21 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d r
    | 3 => exact dqR_31 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 d r
  · rw [if_neg (by tauto), add_zero]
    exact dqR_other 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 k f_arg10 f_arg11 f_arg12 h b d r h0 h1

theorem dqL (h : Fin 4) (b : Fin 16) (d : Fin 64) (r : Fin 512) (n : ℕ) (hn : n ≤ (k1_t1_loop i).trips) :
    arg10.view.read (Elt Ideal) (arg10.view.writes (Elt Ideal) f_arg10 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).1)) (ix4 h b d r)
      = arg10.view.read (Elt Ideal) f_arg10 (ix4 h b d r)
        + (if 4 * (i 1).val ≤ b.val ∧ b.val < 4 * (i 1).val + 2 * n then (∑ s : Fin 512, (arg4.view.read (Elt Ideal) X_arg4) (ix3 h d s) * dsV (arg3.view.read (Elt Ideal) X_arg3) (arg2.view.read (Elt Ideal) X_arg2) (arg9.view.read (Elt Ideal) X_arg9) (arg7.view.read (Elt Ideal) X_arg7) (arg5.view.read (Elt Ideal) X_arg5) (arg6.view.read (Elt Ideal) X_arg6) (arg8.view.read (Elt Ideal) X_arg8) h b (b.val + 1 - 4 * (i 1).val) (ix2 s r)) else 0) := by
  induction n with
  | zero => rw [if_neg (by omega), add_zero]; rfl
  | succ n ih =>
    have e := dqR 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 ((arg10.view.writes (Elt Ideal) f_arg10 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).1))) ((arg11.view.writes (Elt Ideal) f_arg11 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).2.1))) ((arg12.view.writes (Elt Ideal) f_arg12 ((pb_k1_t1 (F := Ideal) 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 n).2.2))) ⟨n, hn⟩ h b d r
    rw [ih (by omega)] at e
    rw [pb_k1_t1_succ 𝒱 c bd i arg2 harg2 arg3 harg3 arg4 harg4 arg5 harg5 arg6 harg6 arg7 harg7 arg8 harg8 arg9 harg9 arg10 harg10 arg11 harg11 arg12 harg12 arg1 v7 X_arg2 X_arg3 X_arg4 X_arg5 X_arg6 X_arg7 X_arg8 X_arg9 f_arg10 f_arg11 f_arg12 ⟨n, hn⟩]
    dsimp only
    rw [View.writes_append, e, add_assoc]
    congr 1
    have hb0 := qb_val i ⟨n, hn⟩ 0 (by omega)
    have hb1 := qb_val i ⟨n, hn⟩ 1 (by omega)
    have g0 : b = qb i n 0 ↔ b.val = 4 * (i 1).val + 2 * n := by rw [Fin.ext_iff, hb0]; rfl
    have g1 : b = qb i n 1 ↔ b.val = 4 * (i 1).val + 2 * n + 1 := by rw [Fin.ext_iff, hb1]
    by_cases c0 : b.val < 4 * (i 1).val + 2 * n
    · rw [if_neg (show ¬(b = qb i n 0 ∨ b = qb i n 1) by rw [g0, g1]; omega), add_zero]
      by_cases c1 : 4 * (i 1).val ≤ b.val
      · rw [if_pos ⟨c1, c0⟩, if_pos ⟨c1, by omega⟩]
      · rw [if_neg (by omega), if_neg (by omega)]
    · rw [if_neg (show ¬(4 * (i 1).val ≤ b.val ∧ b.val < 4 * (i 1).val + 2 * n) by omega), zero_add]
      by_cases c1 : b.val < 4 * (i 1).val + 2 * (n + 1)
      · rw [if_pos (show b = qb i n 0 ∨ b = qb i n 1 by rw [g0, g1]; omega), if_pos (by omega)]
      · rw [if_neg (show ¬(b = qb i n 0 ∨ b = qb i n 1) by rw [g0, g1]; omega), if_neg (by omega)]

end Cert.Tile

end
end
-- ==== Proof.Host.lean ====
/- What the host prepares for the backward call, as terms of the program's arguments: stage by stage, the
contents a buffer has after the host's operations. -/
module

public import proofs.«01_k».proof.Proof.FrameIdeal
public import proofs.«01_k».proof.Proof.Gen.ReferenceIdeal.Read
public import Idealize.ShloMosaic.Lib.StableHlo.Run

@[expose] public section

set_option maxRecDepth 16384

noncomputable section

namespace Cert.Host

open Idealize.ShloMosaic Cert.KernelIdeal Cert.KernelIdeal.Gen
open Cert.ReferenceIdeal.Read
section Stages

variable (V : Valuation τ sig (Elt Ideal))

/-- The contents of the buffers of the argument types. -/
abbrev Q4 := FVec Ideal S2048x4x4x64 .f32
abbrev K3 := FVec Ideal S2048x4x64 .f32

variable (x0 : Q4) (x1 x2 : K3) (x3 : Q4)

/-- The fill of the masked scores. -/
abbrev negInf : FVec Ideal S_ .f32 := constant S_ .f32 0xFF800000#32

set_option maxHeartbeats 400000 in
/-- The scores of the first pattern before its mask. -/
theorem z0
    (harg0 : V (Proc.devRef .tc main_arg0) = x0)
    (harg1 : V (Proc.devRef .tc main_arg1) = x1) :
    StableHlo.after hostOps0 V (Proc.devRef .tc main_v14) = (val_main_v14 (F := Ideal) x0 x1 : FVec Ideal _ .f32) := by
  after_results_simp
  simp only [harg0, harg1]
  all_goals rfl

set_option maxHeartbeats 400000 in
/-- The mask of the first pattern. -/
theorem k0 :
    StableHlo.after hostOps0 V (Proc.devRef .tc main_v15) = (val_main_v15 (F := Ideal) : IVec S1x1x2048x2048 1) := by
  after_results_simp
  all_goals rfl

set_option maxHeartbeats 400000 in
/-- The fill of the first pattern's masked scores. -/
theorem c0 :
    StableHlo.after hostOps0 V (Proc.devRef .tc main_cst) = (negInf : FVec Ideal _ .f32) := by
  after_results_simp
  all_goals rfl

set_option maxHeartbeats 400000 in
/-- The masked scores of the first pattern. -/
theorem s0
    (hv14 : V (Proc.devRef .tc main_v14) = val_main_v14 (F := Ideal) x0 x1)
    (hv15 : V (Proc.devRef .tc main_v15) = val_main_v15 (F := Ideal))
    (hcst : V (Proc.devRef .tc main_cst) = negInf) :
    StableHlo.after hostOps0_1 V (Proc.devRef .tc main_v16) = (val_main_v16_0 (F := Ideal) x0 x1 : FVec Ideal _ .f32) := by
  simp only [hostOps0_1, hostOps0_3, hostOps0_5, StableHlo.TRef.nullary, StableHlo.TRef.ternary, StableHlo.TRef.unary, StableHlo.TRef.toBuf, StableHlo.TRef.ofBuf, cast_eq]
  after_results_simp
  rw [hv14, hv15, hcst]
  all_goals rfl

set_option maxHeartbeats 400000 in
/-- The row maxima of the first pattern. -/
theorem m0
    (hv16 : V (Proc.devRef .tc main_v16) = val_main_v16_0 (F := Ideal) x0 x1) :
    StableHlo.after hostOps0_2 V (Proc.devRef .tc main_v17) = (val_main_v17 (F := Ideal) x0 x1 : FVec Ideal _ .f32) := by
  after_results_simp
  simp only [hv16]
  all_goals rfl

set_option maxHeartbeats 400000 in
/-- The row sums of the first pattern. -/
theorem l0
    (hv16 : V (Proc.devRef .tc main_v16) = val_main_v16_0 (F := Ideal) x0 x1) :
    StableHlo.after hostOps0_2 V (Proc.devRef .tc main_v22) = (val_main_v27 (F := Ideal) x0 x1 : FVec Ideal _ .f32) := by
  after_results_simp
  simp only [hv16]
  all_goals rfl

set_option maxHeartbeats 400000 in
/-- The rows of the first pattern. -/
theorem o0
    (hv16 : V (Proc.devRef .tc main_v16) = val_main_v16_0 (F := Ideal) x0 x1)
    (harg2 : V (Proc.devRef .tc main_arg2) = x2) :
    StableHlo.after hostOps0_2 V (Proc.devRef .tc main_v26) = (val_main_v31 (F := Ideal) x0 x1 x2 : FVec Ideal _ .f32) := by
  after_results_simp
  simp only [hv16, harg2]
  all_goals rfl

set_option maxHeartbeats 400000 in
/-- The scores of the second pattern before its mask. -/
theorem z1
    (harg0 : V (Proc.devRef .tc main_arg0) = x0)
    (harg1 : V (Proc.devRef .tc main_arg1) = x1) :
    StableHlo.after hostOps0_2 V (Proc.devRef .tc main_v41) = (val_main_v49 (F := Ideal) x0 x1 : FVec Ideal _ .f32) := by
  after_results_simp
  simp only [harg0, harg1]
  all_goals rfl

set_option maxHeartbeats 400000 in
/-- The mask of the second pattern. -/
theorem k1 :
    StableHlo.after hostOps0_2 V (Proc.devRef .tc main_v42) = (val_main_v50 (F := Ideal) : IVec S1x1x2048x2048 1) := by
  after_results_simp
  all_goals rfl

set_option maxHeartbeats 400000 in
/-- The fill of the second pattern's masked scores. -/
theorem c1 :
    StableHlo.after hostOps0_2 V (Proc.devRef .tc main_cst_9) = (negInf : FVec Ideal _ .f32) := by
  after_results_simp
  all_goals rfl

set_option maxHeartbeats 400000 in
/-- The masked scores of the second pattern. -/
theorem s1
    (hv41 : V (Proc.devRef .tc main_v41) = val_main_v49 (F := Ideal) x0 x1)
    (hv42 : V (Proc.devRef .tc main_v42) = val_main_v50 (F := Ideal))
    (hcst_9 : V (Proc.devRef .tc main_cst_9) = negInf) :
    StableHlo.after hostOps0_3 V (Proc.devRef .tc main_v43) = (val_main_v51_0 (F := Ideal) x0 x1 : FVec Ideal _ .f32) := by
  simp only [hostOps0_1, hostOps0_3, hostOps0_5, StableHlo.TRef.nullary, StableHlo.TRef.ternary, StableHlo.TRef.unary, StableHlo.TRef.toBuf, StableHlo.TRef.ofBuf, cast_eq]
  after_results_simp
  rw [hv41, hv42, hcst_9]
  all_goals rfl

set_option maxHeartbeats 400000 in
/-- The row maxima of the second pattern. -/
theorem m1
    (hv43 : V (Proc.devRef .tc main_v43) = val_main_v51_0 (F := Ideal) x0 x1) :
    StableHlo.after hostOps0_4 V (Proc.devRef .tc main_v44) = (val_main_v52 (F := Ideal) x0 x1 : FVec Ideal _ .f32) := by
  after_results_simp
  simp only [hv43]
  all_goals rfl

set_option maxHeartbeats 400000 in
/-- The row sums of the second pattern. -/
theorem l1
    (hv43 : V (Proc.devRef .tc main_v43) = val_main_v51_0 (F := Ideal) x0 x1) :
    StableHlo.after hostOps0_4 V (Proc.devRef .tc main_v49) = (val_main_v62 (F := Ideal) x0 x1 : FVec Ideal _ .f32) := by
  after_results_simp
  simp only [hv43]
  all_goals rfl

set_option maxHeartbeats 400000 in
/-- The rows of the second pattern. -/
theorem o1
    (hv43 : V (Proc.devRef .tc main_v43) = val_main_v51_0 (F := Ideal) x0 x1)
    (harg2 : V (Proc.devRef .tc main_arg2) = x2) :
    StableHlo.after hostOps0_4 V (Proc.devRef .tc main_v53) = (val_main_v66 (F := Ideal) x0 x1 x2 : FVec Ideal _ .f32) := by
  after_results_simp
  simp only [hv43, harg2]
  all_goals rfl

set_option maxHeartbeats 400000 in
/-- The scores of the third pattern before its mask. -/
theorem z2
    (harg0 : V (Proc.devRef .tc main_arg0) = x0)
    (harg1 : V (Proc.devRef .tc main_arg1) = x1) :
    StableHlo.after hostOps0_4 V (Proc.devRef .tc main_v68) = (val_main_v84 (F := Ideal) x0 x1 : FVec Ideal _ .f32) := by
  after_results_simp
  simp only [harg0, harg1]
  all_goals rfl

set_option maxHeartbeats 400000 in
/-- The mask of the third pattern. -/
theorem k2 :
    StableHlo.after hostOps0_4 V (Proc.devRef .tc main_v69) = (val_main_v85 (F := Ideal) : IVec S1x1x2048x2048 1) := by
  after_results_simp
  all_goals rfl

set_option maxHeartbeats 400000 in
/-- The fill of the third pattern's masked scores. -/
theorem c2 :
    StableHlo.after hostOps0_4 V (Proc.devRef .tc main_cst_16) = (negInf : FVec Ideal _ .f32) := by
  after_results_simp
  all_goals rfl

set_option maxHeartbeats 400000 in
/-- The masked scores of the third pattern. -/
theorem s2
    (hv68 : V (Proc.devRef .tc main_v68) = val_main_v84 (F := Ideal) x0 x1)
    (hv69 : V (Proc.devRef .tc main_v69) = val_main_v85 (F := Ideal))
    (hcst_16 : V (Proc.devRef .tc main_cst_16) = negInf) :
    StableHlo.after hostOps0_5 V (Proc.devRef .tc main_v70) = (val_main_v86_0 (F := Ideal) x0 x1 : FVec Ideal _ .f32) := by
  simp only [hostOps0_1, hostOps0_3, hostOps0_5, StableHlo.TRef.nullary, StableHlo.TRef.ternary, StableHlo.TRef.unary, StableHlo.TRef.toBuf, StableHlo.TRef.ofBuf, cast_eq]
  after_results_simp
  rw [hv68, hv69, hcst_16]
  all_goals rfl

set_option maxHeartbeats 400000 in
/-- The queries, in the call's layout. -/
theorem qt
    (harg0 : V (Proc.devRef .tc main_arg0) = x0) :
    StableHlo.after hostOps0_6 V (Proc.devRef .tc main_v115) = (truncf .bf16 (shapeCast S4x16x64x512 (transpose S4x16x64x4x128 [2, 0, 4, 3, 1] (shapeCast S16x128x4x4x64 x0 shapeCasts_S2048x4x4x64_S16x128x4x4x64) transposes_S16x128x4x4x64_S4x16x64x4x128_2_0_4_3_1) shapeCasts_S4x16x64x4x128_S4x16x64x512) bitsLt_bf16_f32 : FVec Ideal _ .bf16) := by
  after_results_simp
  simp only [harg0]
  all_goals rfl

set_option maxHeartbeats 400000 in
/-- The cotangents, in the call's layout. -/
theorem ct
    (harg3 : V (Proc.devRef .tc main_arg3) = x3) :
    StableHlo.after hostOps0_6 V (Proc.devRef .tc main_v119) = (truncf .bf16 (shapeCast S4x16x64x512 (transpose S4x16x64x4x128 [2, 0, 4, 3, 1] (shapeCast S16x128x4x4x64 x3 shapeCasts_S2048x4x4x64_S16x128x4x4x64) transposes_S16x128x4x4x64_S4x16x64x4x128_2_0_4_3_1) shapeCasts_S4x16x64x4x128_S4x16x64x512) bitsLt_bf16_f32 : FVec Ideal _ .bf16) := by
  after_results_simp
  simp only [harg3]
  all_goals rfl

set_option maxHeartbeats 400000 in
/-- The keys, one head after another. -/
theorem kh
    (harg1 : V (Proc.devRef .tc main_arg1) = x1) :
    StableHlo.after hostOps0_6 V (Proc.devRef .tc main_v129) = (truncf .bf16 (transpose S4x2048x64 [1, 0, 2] x1 transposes_S2048x4x64_S4x2048x64_1_0_2) bitsLt_bf16_f32 : FVec Ideal _ .bf16) := by
  after_results_simp
  simp only [harg1]
  all_goals rfl

set_option maxHeartbeats 400000 in
/-- The values, one head after another. -/
theorem vh
    (harg2 : V (Proc.devRef .tc main_arg2) = x2) :
    StableHlo.after hostOps0_6 V (Proc.devRef .tc main_v131) = (truncf .bf16 (transpose S4x2048x64 [1, 0, 2] x2 transposes_S2048x4x64_S4x2048x64_1_0_2) bitsLt_bf16_f32 : FVec Ideal _ .bf16) := by
  after_results_simp
  simp only [harg2]
  all_goals rfl

set_option maxHeartbeats 400000 in
/-- The keys with their positions last. -/
theorem kt
    (harg1 : V (Proc.devRef .tc main_arg1) = x1) :
    StableHlo.after hostOps0_6 V (Proc.devRef .tc main_v133) = (truncf .bf16 (transpose S4x64x2048 [1, 2, 0] x1 transposes_S2048x4x64_S4x64x2048_1_2_0) bitsLt_bf16_f32 : FVec Ideal _ .bf16) := by
  after_results_simp
  simp only [harg1]
  all_goals rfl

end Stages

end Cert.Host
-- ==== Proof.HostLse.lean ====
/- What the host prepares for the backward call, as terms of the program's arguments: stage by stage, the
contents a buffer has after the host's operations. -/
module

public import proofs.«01_k».proof.Proof.Host
public import proofs.«01_k».proof.Proof.Gen.ReferenceIdeal.Read
public import Idealize.ShloMosaic.Lib.StableHlo.Run

@[expose] public section

set_option maxRecDepth 16384

noncomputable section

namespace Cert.Host

open Idealize.ShloMosaic Cert.KernelIdeal Cert.KernelIdeal.Gen
open Cert.ReferenceIdeal.Read

/-- Three arrays, one after another. -/
def cat4 (x y z : FVec Ideal S1x4x4x2048 .f32) : FVec Ideal S3x4x4x2048 .f32 :=
  concatenate S3x4x4x2048 0 [⟨S1x4x4x2048, x⟩, ⟨S1x4x4x2048, y⟩, ⟨S1x4x4x2048, z⟩] concatenates_S1x4x4x2048_S1x4x4x2048_S1x4x4x2048_S3x4x4x2048_d0

theorem v84_result (hxs hy) (F : Valuation τ sig (Elt Ideal)) :
    (StableHlo.nary (τ := τ) ![main_v81, main_v82, main_v83] main_v84 (fun u => (concatenate S3x4x4x2048 0 [⟨S1x4x4x2048, (u 0 : (⟨S1x4x4x2048, .f32⟩ : BufTy).Contents (Elt Ideal))⟩, ⟨S1x4x4x2048, (u 1 : (⟨S1x4x4x2048, .f32⟩ : BufTy).Contents (Elt Ideal))⟩, ⟨S1x4x4x2048, (u 2 : (⟨S1x4x4x2048, .f32⟩ : BufTy).Contents (Elt Ideal))⟩] concatenates_S1x4x4x2048_S1x4x4x2048_S1x4x4x2048_S3x4x4x2048_d0 : (⟨S3x4x4x2048, .f32⟩ : BufTy).Contents (Elt Ideal))) hxs hy).result F (no_index (Proc.devRef .tc main_v84))
      = cat4 (F (Proc.devRef .tc main_v81)) (F (Proc.devRef .tc main_v82)) (F (Proc.devRef .tc main_v83)) := by
  rw [StableHlo.nary_result]; rfl

theorem v89_result (hxs hy) (F : Valuation τ sig (Elt Ideal)) :
    (StableHlo.nary (τ := τ) ![main_v86, main_v87, main_v88] main_v89 (fun u => (concatenate S3x4x4x2048 0 [⟨S1x4x4x2048, (u 0 : (⟨S1x4x4x2048, .f32⟩ : BufTy).Contents (Elt Ideal))⟩, ⟨S1x4x4x2048, (u 1 : (⟨S1x4x4x2048, .f32⟩ : BufTy).Contents (Elt Ideal))⟩, ⟨S1x4x4x2048, (u 2 : (⟨S1x4x4x2048, .f32⟩ : BufTy).Contents (Elt Ideal))⟩] concatenates_S1x4x4x2048_S1x4x4x2048_S1x4x4x2048_S3x4x4x2048_d0 : (⟨S3x4x4x2048, .f32⟩ : BufTy).Contents (Elt Ideal))) hxs hy).result F (no_index (Proc.devRef .tc main_v89))
      = cat4 (F (Proc.devRef .tc main_v86)) (F (Proc.devRef .tc main_v87)) (F (Proc.devRef .tc main_v88)) := by
  rw [StableHlo.nary_result]; rfl

/-- Three arrays, one after another. -/
def cat5 (x y z : FVec Ideal S1x4x4x2048x64 .f32) : FVec Ideal S3x4x4x2048x64 .f32 :=
  concatenate S3x4x4x2048x64 0 [⟨S1x4x4x2048x64, x⟩, ⟨S1x4x4x2048x64, y⟩, ⟨S1x4x4x2048x64, z⟩] concatenates_S1x4x4x2048x64_S1x4x4x2048x64_S1x4x4x2048x64_S3x4x4x2048x64_d0

theorem v98_result (hxs hy) (F : Valuation τ sig (Elt Ideal)) :
    (StableHlo.nary (τ := τ) ![main_v95, main_v96, main_v97] main_v98 (fun u => (concatenate S3x4x4x2048x64 0 [⟨S1x4x4x2048x64, (u 0 : (⟨S1x4x4x2048x64, .f32⟩ : BufTy).Contents (Elt Ideal))⟩, ⟨S1x4x4x2048x64, (u 1 : (⟨S1x4x4x2048x64, .f32⟩ : BufTy).Contents (Elt Ideal))⟩, ⟨S1x4x4x2048x64, (u 2 : (⟨S1x4x4x2048x64, .f32⟩ : BufTy).Contents (Elt Ideal))⟩] concatenates_S1x4x4x2048x64_S1x4x4x2048x64_S1x4x4x2048x64_S3x4x4x2048x64_d0 : (⟨S3x4x4x2048x64, .f32⟩ : BufTy).Contents (Elt Ideal))) hxs hy).result F (no_index (Proc.devRef .tc main_v98))
      = cat5 (F (Proc.devRef .tc main_v95)) (F (Proc.devRef .tc main_v96)) (F (Proc.devRef .tc main_v97)) := by
  rw [StableHlo.nary_result]; rfl

section Stages

variable (V : Valuation τ sig (Elt Ideal))

/-- The contents of the buffers of the argument types. -/
abbrev Q4' := FVec Ideal S2048x4x4x64 .f32
abbrev K3' := FVec Ideal S2048x4x64 .f32

variable (x0 : Q4) (x1 x2 : K3) (x3 : Q4)

/-- The fill of the masked scores. -/
abbrev negInf' : FVec Ideal S_ .f32 := constant S_ .f32 0xFF800000#32

set_option maxHeartbeats 400000 in
/-- The greatest row maximum of the three patterns. -/
theorem top
    (hv70 : V (Proc.devRef .tc main_v70) = val_main_v86_0 (F := Ideal) x0 x1)
    (hv17 : V (Proc.devRef .tc main_v17) = val_main_v17 (F := Ideal) x0 x1)
    (hv44 : V (Proc.devRef .tc main_v44) = val_main_v52 (F := Ideal) x0 x1)
    (hv22 : V (Proc.devRef .tc main_v22) = val_main_v27 (F := Ideal) x0 x1)
    (hv49 : V (Proc.devRef .tc main_v49) = val_main_v62 (F := Ideal) x0 x1) :
    StableHlo.after hostOps0_6 V (Proc.devRef .tc main_v85) = (val_main_v109 (F := Ideal) x0 x1 : FVec Ideal _ .f32) := by
  simp (disch := decide) only [↓ StableHlo.readResult, StableHlo.after_cons, StableHlo.after_nil,
    StableHlo.nullary_result', StableHlo.unary_result', StableHlo.binary_result', StableHlo.reshape_result',
    v84_result, v89_result, v98_result, StableHlo.nullary_result_ne', StableHlo.unary_result_ne', StableHlo.binary_result_ne',
    StableHlo.reshape_result_ne', StableHlo.nary_result_ne']
  simp only [hv70, hv17, hv44, hv22, hv49]
  all_goals rfl

set_option maxHeartbeats 400000 in
/-- The rows' normalisers over the three patterns. -/
theorem den
    (hv70 : V (Proc.devRef .tc main_v70) = val_main_v86_0 (F := Ideal) x0 x1)
    (hv17 : V (Proc.devRef .tc main_v17) = val_main_v17 (F := Ideal) x0 x1)
    (hv44 : V (Proc.devRef .tc main_v44) = val_main_v52 (F := Ideal) x0 x1)
    (hv22 : V (Proc.devRef .tc main_v22) = val_main_v27 (F := Ideal) x0 x1)
    (hv49 : V (Proc.devRef .tc main_v49) = val_main_v62 (F := Ideal) x0 x1) :
    StableHlo.after hostOps0_6 V (Proc.devRef .tc main_v99) = (val_main_v128 (F := Ideal) x0 x1 : FVec Ideal _ .f32) := by
  simp (disch := decide) only [↓ StableHlo.readResult, StableHlo.after_cons, StableHlo.after_nil,
    StableHlo.nullary_result', StableHlo.unary_result', StableHlo.binary_result', StableHlo.reshape_result',
    v84_result, v89_result, v98_result, StableHlo.nullary_result_ne', StableHlo.unary_result_ne', StableHlo.binary_result_ne',
    StableHlo.reshape_result_ne', StableHlo.nary_result_ne']
  simp only [hv70, hv17, hv44, hv22, hv49]
  all_goals rfl

set_option maxHeartbeats 400000 in
/-- The attention. -/
theorem out
    (hv70 : V (Proc.devRef .tc main_v70) = val_main_v86_0 (F := Ideal) x0 x1)
    (hv17 : V (Proc.devRef .tc main_v17) = val_main_v17 (F := Ideal) x0 x1)
    (hv44 : V (Proc.devRef .tc main_v44) = val_main_v52 (F := Ideal) x0 x1)
    (hv22 : V (Proc.devRef .tc main_v22) = val_main_v27 (F := Ideal) x0 x1)
    (hv49 : V (Proc.devRef .tc main_v49) = val_main_v62 (F := Ideal) x0 x1)
    (hv26 : V (Proc.devRef .tc main_v26) = val_main_v31 (F := Ideal) x0 x1 x2)
    (hv53 : V (Proc.devRef .tc main_v53) = val_main_v66 (F := Ideal) x0 x1 x2)
    (harg2 : V (Proc.devRef .tc main_arg2) = x2) :
    StableHlo.after hostOps0_6 V (Proc.devRef .tc main_v106) = (val_main_v135 (F := Ideal) x0 x1 x2 : FVec Ideal _ .f32) := by
  simp (disch := decide) only [↓ StableHlo.readResult, StableHlo.after_cons, StableHlo.after_nil,
    StableHlo.nullary_result', StableHlo.unary_result', StableHlo.binary_result', StableHlo.reshape_result',
    v84_result, v89_result, v98_result, StableHlo.nullary_result_ne', StableHlo.unary_result_ne', StableHlo.binary_result_ne',
    StableHlo.reshape_result_ne', StableHlo.nary_result_ne']
  simp only [hv70, hv17, hv44, hv22, hv49, hv26, hv53, harg2]
  all_goals rfl

set_option maxHeartbeats 400000 in
/-- The log of the rows' normalisers, over the three patterns. -/
theorem lse
    (hv70 : V (Proc.devRef .tc main_v70) = val_main_v86_0 (F := Ideal) x0 x1)
    (hv17 : V (Proc.devRef .tc main_v17) = val_main_v17 (F := Ideal) x0 x1)
    (hv44 : V (Proc.devRef .tc main_v44) = val_main_v52 (F := Ideal) x0 x1)
    (hv22 : V (Proc.devRef .tc main_v22) = val_main_v27 (F := Ideal) x0 x1)
    (hv49 : V (Proc.devRef .tc main_v49) = val_main_v62 (F := Ideal) x0 x1) :
    StableHlo.after hostOps0_6 V (Proc.devRef .tc main_v111) = (shapeCast S4x16x1x512 (transpose S4x16x4x128 [0, 2, 1, 3] (shapeCast S4x4x16x128 (addf (val_main_v109 (F := Ideal) x0 x1) (Host.log (val_main_v128 (F := Ideal) x0 x1))) shapeCasts_S4x4x2048_S4x4x16x128) transposes_S4x4x16x128_S4x16x4x128_0_2_1_3) shapeCasts_S4x16x4x128_S4x16x1x512 : FVec Ideal _ .f32) := by
  simp (disch := decide) only [↓ StableHlo.readResult, StableHlo.after_cons, StableHlo.after_nil,
    StableHlo.nullary_result', StableHlo.unary_result', StableHlo.binary_result', StableHlo.reshape_result',
    v84_result, v89_result, v98_result, StableHlo.nullary_result_ne', StableHlo.unary_result_ne', StableHlo.binary_result_ne',
    StableHlo.reshape_result_ne', StableHlo.nary_result_ne']
  simp only [hv70, hv17, hv44, hv22, hv49]
  all_goals rfl

set_option maxHeartbeats 400000 in
/-- The rows' products of the attention with its cotangent. -/
theorem delta
    (hv70 : V (Proc.devRef .tc main_v70) = val_main_v86_0 (F := Ideal) x0 x1)
    (hv17 : V (Proc.devRef .tc main_v17) = val_main_v17 (F := Ideal) x0 x1)
    (hv44 : V (Proc.devRef .tc main_v44) = val_main_v52 (F := Ideal) x0 x1)
    (hv22 : V (Proc.devRef .tc main_v22) = val_main_v27 (F := Ideal) x0 x1)
    (hv49 : V (Proc.devRef .tc main_v49) = val_main_v62 (F := Ideal) x0 x1)
    (hv26 : V (Proc.devRef .tc main_v26) = val_main_v31 (F := Ideal) x0 x1 x2)
    (hv53 : V (Proc.devRef .tc main_v53) = val_main_v66 (F := Ideal) x0 x1 x2)
    (harg2 : V (Proc.devRef .tc main_arg2) = x2)
    (harg3 : V (Proc.devRef .tc main_arg3) = x3) :
    StableHlo.after hostOps0_6 V (Proc.devRef .tc main_v127) = (broadcastInDim S4x16x1x512 ![0, 1, 3] bcast_S4x16x512_S4x16x1x512_0_1_3 (Host.reduceAdd (mulf (shapeCast S4x16x64x512 (transpose S4x16x64x4x128 [2, 0, 4, 3, 1] (shapeCast S16x128x4x4x64 (transpose S2048x4x4x64 [2, 0, 1, 3] (val_main_v135 (F := Ideal) x0 x1 x2) transposes_S4x4x2048x64_S2048x4x4x64_2_0_1_3) shapeCasts_S2048x4x4x64_S16x128x4x4x64) transposes_S16x128x4x4x64_S4x16x64x4x128_2_0_4_3_1) shapeCasts_S4x16x64x4x128_S4x16x64x512) (extf .f32 (truncf .bf16 (shapeCast S4x16x64x512 (transpose S4x16x64x4x128 [2, 0, 4, 3, 1] (shapeCast S16x128x4x4x64 x3 shapeCasts_S2048x4x4x64_S16x128x4x4x64) transposes_S16x128x4x4x64_S4x16x64x4x128_2_0_4_3_1) shapeCasts_S4x16x64x4x128_S4x16x64x512) bitsLt_bf16_f32) bitsLt_bf16_f32)) (constant S_ .f32 0x00000000#32) reducesTo_S4x16x64x512_S4x16x512_d2 h_S_) : FVec Ideal _ .f32) := by
  simp (disch := decide) only [↓ StableHlo.readResult, StableHlo.after_cons, StableHlo.after_nil,
    StableHlo.nullary_result', StableHlo.unary_result', StableHlo.binary_result', StableHlo.reshape_result',
    v84_result, v89_result, v98_result, StableHlo.nullary_result_ne', StableHlo.unary_result_ne', StableHlo.binary_result_ne',
    StableHlo.reshape_result_ne', StableHlo.nary_result_ne']
  simp only [hv70, hv17, hv44, hv22, hv49, hv26, hv53, harg2, harg3]
  all_goals rfl

end Stages

end Cert.Host
-- ==== Proof.Operands.lean ====
/- The operands the backward call finds, as terms of the program's arguments. -/
module

public import proofs.«01_k».proof.Proof.HostLse

@[expose] public section

set_option maxRecDepth 16384

noncomputable section

namespace Cert.Host

open Idealize.ShloMosaic Cert.KernelIdeal Cert.KernelIdeal.Gen
open Cert.ReferenceIdeal.Read

variable (m : (ℓ : Loc nD τ sig) → Buf (Elt Ideal) ℓ) (ρ : Dev nD → PrngReg) (c : Dev nD)

/-- The queries, the keys, the values and the cotangent of core `c`. -/
abbrev X0 : Q4 := m ((c.tc : Thread nD τ).loc main_arg0)
abbrev X1 : K3 := m ((c.tc : Thread nD τ).loc main_arg1)
abbrev X2 : K3 := m ((c.tc : Thread nD τ).loc main_arg2)
abbrev X3 : Q4 := m ((c.tc : Thread nD τ).loc main_arg3)

theorem w_s0 : W2 m ρ c (Proc.devRef .tc main_v16) = (val_main_v16_0 (F := Ideal) (X0 m c) (X1 m c) : FVec Ideal _ .f32) :=
  s0 (W1 m ρ c) (X0 m c) (X1 m c) (z0 (W0 m ρ c) _ _ (W0_args m ρ c main_arg0 (by decide)) (W0_args m ρ c main_arg1 (by decide))) (k0 (W0 m ρ c)) (c0 (W0 m ρ c))

theorem w_m0 : W3 m ρ c (Proc.devRef .tc main_v17) = (val_main_v17 (F := Ideal) (X0 m c) (X1 m c) : FVec Ideal _ .f32) :=
  m0 (W2 m ρ c) (X0 m c) (X1 m c) (w_s0 m ρ c)

theorem w_l0 : W3 m ρ c (Proc.devRef .tc main_v22) = (val_main_v27 (F := Ideal) (X0 m c) (X1 m c) : FVec Ideal _ .f32) :=
  l0 (W2 m ρ c) (X0 m c) (X1 m c) (w_s0 m ρ c)

theorem w_o0 : W3 m ρ c (Proc.devRef .tc main_v26) = (val_main_v31 (F := Ideal) (X0 m c) (X1 m c) (X2 m c) : FVec Ideal _ .f32) :=
  o0 (W2 m ρ c) (X0 m c) (X1 m c) (X2 m c) (w_s0 m ρ c) (W2_args m ρ c main_arg2 (by decide))

theorem w_s1 : W4 m ρ c (Proc.devRef .tc main_v43) = (val_main_v51_0 (F := Ideal) (X0 m c) (X1 m c) : FVec Ideal _ .f32) :=
  s1 (W3 m ρ c) (X0 m c) (X1 m c) (z1 (W2 m ρ c) _ _ (W2_args m ρ c main_arg0 (by decide)) (W2_args m ρ c main_arg1 (by decide))) (k1 (W2 m ρ c)) (c1 (W2 m ρ c))

theorem w_m1 : W5 m ρ c (Proc.devRef .tc main_v44) = (val_main_v52 (F := Ideal) (X0 m c) (X1 m c) : FVec Ideal _ .f32) :=
  m1 (W4 m ρ c) (X0 m c) (X1 m c) (w_s1 m ρ c)

theorem w_l1 : W5 m ρ c (Proc.devRef .tc main_v49) = (val_main_v62 (F := Ideal) (X0 m c) (X1 m c) : FVec Ideal _ .f32) :=
  l1 (W4 m ρ c) (X0 m c) (X1 m c) (w_s1 m ρ c)

theorem w_o1 : W5 m ρ c (Proc.devRef .tc main_v53) = (val_main_v66 (F := Ideal) (X0 m c) (X1 m c) (X2 m c) : FVec Ideal _ .f32) :=
  o1 (W4 m ρ c) (X0 m c) (X1 m c) (X2 m c) (w_s1 m ρ c) (W4_args m ρ c main_arg2 (by decide))

theorem w_s2 : W6 m ρ c (Proc.devRef .tc main_v70) = (val_main_v86_0 (F := Ideal) (X0 m c) (X1 m c) : FVec Ideal _ .f32) :=
  s2 (W5 m ρ c) (X0 m c) (X1 m c) (z2 (W4 m ρ c) _ _ (W4_args m ρ c main_arg0 (by decide)) (W4_args m ρ c main_arg1 (by decide))) (k2 (W4 m ρ c)) (c2 (W4 m ρ c))

theorem w_lse : W8 m ρ c (Proc.devRef .tc main_v111) = (shapeCast S4x16x1x512 (transpose S4x16x4x128 [0, 2, 1, 3] (shapeCast S4x4x16x128 (addf (val_main_v109 (F := Ideal) (X0 m c) (X1 m c)) (Host.log (val_main_v128 (F := Ideal) (X0 m c) (X1 m c)))) shapeCasts_S4x4x2048_S4x4x16x128) transposes_S4x4x16x128_S4x16x4x128_0_2_1_3) shapeCasts_S4x16x4x128_S4x16x1x512 : FVec Ideal _ .f32) :=
  (W8_of m ρ c main_v111 (by decide)).trans (lse (W6 m ρ c) (X0 m c) (X1 m c) (w_s2 m ρ c) ((W6_of m ρ c main_v17 (by decide)).trans ((W5_of m ρ c main_v17 (by decide)).trans ((W4_of m ρ c main_v17 (by decide)).trans (w_m0 m ρ c)))) ((W6_of m ρ c main_v44 (by decide)).trans (w_m1 m ρ c)) ((W6_of m ρ c main_v22 (by decide)).trans ((W5_of m ρ c main_v22 (by decide)).trans ((W4_of m ρ c main_v22 (by decide)).trans (w_l0 m ρ c)))) ((W6_of m ρ c main_v49 (by decide)).trans (w_l1 m ρ c)))

theorem w_delta : W8 m ρ c (Proc.devRef .tc main_v127) = (broadcastInDim S4x16x1x512 ![0, 1, 3] bcast_S4x16x512_S4x16x1x512_0_1_3 (Host.reduceAdd (mulf (shapeCast S4x16x64x512 (transpose S4x16x64x4x128 [2, 0, 4, 3, 1] (shapeCast S16x128x4x4x64 (transpose S2048x4x4x64 [2, 0, 1, 3] (val_main_v135 (F := Ideal) (X0 m c) (X1 m c) (X2 m c)) transposes_S4x4x2048x64_S2048x4x4x64_2_0_1_3) shapeCasts_S2048x4x4x64_S16x128x4x4x64) transposes_S16x128x4x4x64_S4x16x64x4x128_2_0_4_3_1) shapeCasts_S4x16x64x4x128_S4x16x64x512) (extf .f32 (truncf .bf16 (shapeCast S4x16x64x512 (transpose S4x16x64x4x128 [2, 0, 4, 3, 1] (shapeCast S16x128x4x4x64 (X3 m c) shapeCasts_S2048x4x4x64_S16x128x4x4x64) transposes_S16x128x4x4x64_S4x16x64x4x128_2_0_4_3_1) shapeCasts_S4x16x64x4x128_S4x16x64x512) bitsLt_bf16_f32) bitsLt_bf16_f32)) (constant S_ .f32 0x00000000#32) reducesTo_S4x16x64x512_S4x16x512_d2 h_S_) : FVec Ideal _ .f32) :=
  (W8_of m ρ c main_v127 (by decide)).trans (delta (W6 m ρ c) (X0 m c) (X1 m c) (X2 m c) (X3 m c) (w_s2 m ρ c) ((W6_of m ρ c main_v17 (by decide)).trans ((W5_of m ρ c main_v17 (by decide)).trans ((W4_of m ρ c main_v17 (by decide)).trans (w_m0 m ρ c)))) ((W6_of m ρ c main_v44 (by decide)).trans (w_m1 m ρ c)) ((W6_of m ρ c main_v22 (by decide)).trans ((W5_of m ρ c main_v22 (by decide)).trans ((W4_of m ρ c main_v22 (by decide)).trans (w_l0 m ρ c)))) ((W6_of m ρ c main_v49 (by decide)).trans (w_l1 m ρ c)) ((W6_of m ρ c main_v26 (by decide)).trans ((W5_of m ρ c main_v26 (by decide)).trans ((W4_of m ρ c main_v26 (by decide)).trans (w_o0 m ρ c)))) ((W6_of m ρ c main_v53 (by decide)).trans (w_o1 m ρ c)) (W6_args m ρ c main_arg2 (by decide)) (W6_args m ρ c main_arg3 (by decide)))

theorem w_qt : W8 m ρ c (Proc.devRef .tc main_v115) = (truncf .bf16 (shapeCast S4x16x64x512 (transpose S4x16x64x4x128 [2, 0, 4, 3, 1] (shapeCast S16x128x4x4x64 (X0 m c) shapeCasts_S2048x4x4x64_S16x128x4x4x64) transposes_S16x128x4x4x64_S4x16x64x4x128_2_0_4_3_1) shapeCasts_S4x16x64x4x128_S4x16x64x512) bitsLt_bf16_f32 : FVec Ideal _ .bf16) :=
  (W8_of m ρ c main_v115 (by decide)).trans (qt (W6 m ρ c) (X0 m c) (W6_args m ρ c main_arg0 (by decide)))

theorem w_ct : W8 m ρ c (Proc.devRef .tc main_v119) = (truncf .bf16 (shapeCast S4x16x64x512 (transpose S4x16x64x4x128 [2, 0, 4, 3, 1] (shapeCast S16x128x4x4x64 (X3 m c) shapeCasts_S2048x4x4x64_S16x128x4x4x64) transposes_S16x128x4x4x64_S4x16x64x4x128_2_0_4_3_1) shapeCasts_S4x16x64x4x128_S4x16x64x512) bitsLt_bf16_f32 : FVec Ideal _ .bf16) :=
  (W8_of m ρ c main_v119 (by decide)).trans (ct (W6 m ρ c) (X3 m c) (W6_args m ρ c main_arg3 (by decide)))

theorem w_kh : W8 m ρ c (Proc.devRef .tc main_v129) = (truncf .bf16 (transpose S4x2048x64 [1, 0, 2] (X1 m c) transposes_S2048x4x64_S4x2048x64_1_0_2) bitsLt_bf16_f32 : FVec Ideal _ .bf16) :=
  (W8_of m ρ c main_v129 (by decide)).trans (kh (W6 m ρ c) (X1 m c) (W6_args m ρ c main_arg1 (by decide)))

theorem w_vh : W8 m ρ c (Proc.devRef .tc main_v131) = (truncf .bf16 (transpose S4x2048x64 [1, 0, 2] (X2 m c) transposes_S2048x4x64_S4x2048x64_1_0_2) bitsLt_bf16_f32 : FVec Ideal _ .bf16) :=
  (W8_of m ρ c main_v131 (by decide)).trans (vh (W6 m ρ c) (X2 m c) (W6_args m ρ c main_arg2 (by decide)))

theorem w_kt : W8 m ρ c (Proc.devRef .tc main_v133) = (truncf .bf16 (transpose S4x64x2048 [1, 2, 0] (X1 m c) transposes_S2048x4x64_S4x64x2048_1_2_0) bitsLt_bf16_f32 : FVec Ideal _ .bf16) :=
  (W8_of m ρ c main_v133 (by decide)).trans (kt (W6 m ρ c) (X1 m c) (W6_args m ρ c main_arg1 (by decide)))

end Cert.Host
-- ==== Proof.Bias.lean ====
/- The table of biases the first call writes. -/
module

public import proofs.«01_k».proof.Proof.FrameIdeal
public import Idealize.ShloMosaic.Lib.Pointwise

@[expose] public section

set_option maxRecDepth 16384

noncomputable section

namespace Cert.Bias

open Idealize.ShloMosaic Cert.KernelIdeal Cert.KernelIdeal.Gen

/-- How many of the three patterns a query `d` positions after its key falls in. -/
def cntN (d : ℕ) : ℕ :=
  (if d ≤ 128 then 1 else 0) + (if d % 4 = 0 ∧ d ≤ 512 then 1 else 0) + (if d % 16 = 0 then 1 else 0)

/-- The distance, as the call computes it. -/
def word (n : ℕ) : BitVec 32 := BitVec.ofNat 32 n - 256#32

theorem word_eq (e : Fin 17) (r : Fin 128) (j : Fin 512) :
    IntOp.subi (IntOp.addi (IntOp.muli (IntOp.subi (BitVec.ofNat 32 e.val) 1#32) 128#32)
      (IntOp.andi (BitVec.ofNat 32 j.val) 127#32)) (BitVec.ofNat 32 r.val)
      = word (128 * e.val + j.val % 128 + 128 - r.val) := by
  have hj : (BitVec.ofNat 32 j.val &&& 127#32) = BitVec.ofNat 32 (j.val % 128) := by
    apply BitVec.eq_of_toNat_eq
    rw [BitVec.toNat_and, BitVec.toNat_ofNat, BitVec.toNat_ofNat, BitVec.toNat_ofNat]
    have := Nat.and_two_pow_sub_one_eq_mod j.val 7
    have e1 : j.val % 2 ^ 32 = j.val := Nat.mod_eq_of_lt (by omega)
    have e2 : 127 % 2 ^ 32 = 2 ^ 7 - 1 := by norm_num
    rw [e1, e2, this]
    have e3 : (2:ℕ) ^ 7 = 128 := by norm_num
    rw [e3]
    omega
  show (BitVec.ofNat 32 e.val - 1#32) * 128#32 + (BitVec.ofNat 32 j.val &&& 127#32) - BitVec.ofNat 32 r.val = _
  rw [hj]
  unfold word
  apply BitVec.eq_of_toNat_eq
  simp only [BitVec.toNat_sub, BitVec.toNat_add, BitVec.toNat_mul, BitVec.toNat_ofNat]
  omega

theorem log_pos {x : ℝ} (h : 0 < x) : Ideal.log (x : EReal) = ((Real.log x : ℝ) : EReal) := by
  show (if x ≤ 0 then (⊥ : EReal) else ((Real.log x : ℝ) : EReal)) = _
  rw [if_neg (not_le.mpr h)]

theorem bits : ∀ n : Fin 2560,
    IntOp.cmpi CmpIPredicate.sge (word n.val) 0#32 = BitVec.ofBool (decide (256 ≤ n.val))
    ∧ BitVec.setWidth 32 (IntOp.cmpi CmpIPredicate.sle (word n.val) 128#32)
        = (if n.val ≤ 384 then 1#32 else 0#32)
    ∧ BitVec.setWidth 32 (IntOp.andi (IntOp.cmpi CmpIPredicate.eq (IntOp.andi (word n.val) 3#32) 0#32)
        (IntOp.cmpi CmpIPredicate.sle (word n.val) 512#32))
        = (if n.val % 4 = 0 ∧ n.val ≤ 768 then 1#32 else 0#32)
    ∧ BitVec.setWidth 32 (IntOp.cmpi CmpIPredicate.eq (IntOp.andi (word n.val) 15#32) 0#32)
        = (if n.val % 16 = 0 then 1#32 else 0#32) := by
  decide +kernel

theorem sitofp_ite (p : Prop) [Decidable p] :
    (FloatOps.sitofp FTy.f32 (if p then 1#32 else 0#32) : Ideal .f32) = (((if p then 1 else 0 : ℕ) : ℝ) : EReal) := by
  by_cases h : p
  · rw [if_pos h, if_pos h]
    show (((1#32).toInt : ℝ) : EReal) = _
    norm_num
  · rw [if_neg h, if_neg h]
    show (((0#32).toInt : ℝ) : EReal) = _
    norm_num

/-- The table's entry for block distance `e` (counted from one), key row `r` and query column `j`: the log of the
number of patterns, or `⊥` where the key comes after the query or no pattern takes it. -/
theorem pay (e : Fin 17) (r : Fin 128) (j : Fin 512) :
    k0_pay1 (F := Ideal) (ix3 e r j)
      = if 128 + r.val ≤ 128 * e.val + j.val % 128 ∧ cntN (128 * e.val + j.val % 128 - 128 - r.val) ≠ 0
        then ((Real.log (cntN (128 * e.val + j.val % 128 - 128 - r.val)) : ℝ) : EReal) else ⊥ := by
  obtain ⟨n, hn⟩ : ∃ n : Fin 2560, n.val = 128 * e.val + j.val % 128 + 128 - r.val :=
    ⟨⟨128 * e.val + j.val % 128 + 128 - r.val, by omega⟩, rfl⟩
  obtain ⟨b0, b1, b2, b3⟩ := bits n
  pointwise [k0_pay1]
  rw [word_eq e r j, ← hn, b0, b1, b2, b3]
  simp only [sitofp_ite]
  rw [← EReal.coe_add, ← EReal.coe_add, ← Nat.cast_add, ← Nat.cast_add]
  by_cases hd : 256 ≤ n.val
  · obtain ⟨d, hd'⟩ : ∃ d, n.val = 256 + d := ⟨n.val - 256, by omega⟩
    have hdd : 128 * e.val + j.val % 128 - 128 - r.val = d := by omega
    rw [hdd, hd']
    have hc : (if 256 + d ≤ 384 then 1 else 0) + (if (256 + d) % 4 = 0 ∧ 256 + d ≤ 768 then 1 else 0)
        + (if (256 + d) % 16 = 0 then 1 else 0) = cntN d := by
      unfold cntN
      have a1 : (256 + d ≤ 384) = (d ≤ 128) := propext (by omega)
      have a2 : ((256 + d) % 4 = 0 ∧ 256 + d ≤ 768) = (d % 4 = 0 ∧ d ≤ 512) := propext (by omega)
      have a3 : ((256 + d) % 16 = 0) = (d % 16 = 0) := propext (by omega)
      simp only [a1, a2, a3]
    rw [hc]
    by_cases h0 : cntN d = 0
    · rw [if_neg (fun h => h.2 h0), h0]
      simp [Scalar.select, IntOp.andi]
      rfl
    · rw [if_pos ⟨by omega, h0⟩]
      have hpos : (1:ℝ) ≤ (cntN d : ℝ) := by exact_mod_cast Nat.one_le_iff_ne_zero.mpr h0
      have h1 : (0 : EReal) < ((cntN d : ℝ) : EReal) := by exact_mod_cast (lt_of_lt_of_le zero_lt_one hpos)
      have h2 : max (((cntN d : ℝ)) : EReal) 1 = ((cntN d : ℝ) : EReal) := max_eq_left (by exact_mod_cast hpos)
      rw [h2]
      have h3 : decide ((0 : EReal) < ((cntN d : ℝ) : EReal)) = true := decide_eq_true h1
      have h4 : decide (256 ≤ 256 + d) = true := decide_eq_true (by omega)
      rw [h3, h4]
      show Ideal.log ((cntN d : ℝ) : EReal) = _
      exact log_pos (lt_of_lt_of_le zero_lt_one hpos)
  · refine Eq.trans ?_ (if_neg (fun h => hd (by have := h.1; omega))).symm
    simp [Scalar.select, IntOp.andi, hd]
    rfl

end Cert.Bias
-- ==== Proof.Out.lean ====
module

public import proofs.«01_k».proof.Proof.Loop
public import proofs.«01_k».proof.Proof.FrameIdeal
public import Idealize.ShloMosaic.Lib.Pointwise
public import Idealize.ShloMosaic.Lib.Pipeline.Value
public import Idealize.ShloMosaic.Lib.WritesUnit

@[expose] public section
set_option maxRecDepth 16384
noncomputable section

open Idealize.ShloMosaic Cert.KernelIdeal Cert.KernelIdeal.Gen

/-! What one grid point leaves in the three outputs: the loop over the query blocks, from zero (or, for the
    query gradient after the first point, from what the point before left). -/

namespace Cert.Tile

/-- The second loop of the kernel's counted pair makes no trip. -/
theorem trips2 : ∀ i : grid1.Coords, Scf.trips
            (Scalar.addi (0#32)
              (Scalar.muli
                (Scalar.divsi
                  (Scalar.subi
                    (Scalar.divsi
                      (Scalar.addi (Scalar.subi (8#32) (Scalar.muli (2#32) (BitVec.ofNat 32 (i 1).val)))
                        (Scalar.subi 1#32 1#32))
                      1#32)
                    0#32)
                  1#32)
                1#32))
            (Scalar.addi (0#32)
              (Scalar.subi
                (Scalar.divsi
                  (Scalar.addi (Scalar.subi (8#32) (Scalar.muli (2#32) (BitVec.ofNat 32 (i 1).val)))
                    (Scalar.subi 1#32 1#32))
                  1#32)
                0#32))
            1#32 = 0 := by decide +kernel

/-- The first loop of the pair makes all the trips. -/
theorem trips1 (i : grid1.Coords) : Scf.trips (0#32)
            (Scalar.addi (0#32)
              (Scalar.muli
                (Scalar.divsi
                  (Scalar.subi
                    (Scalar.divsi
                      (Scalar.addi (Scalar.subi (8#32) (Scalar.muli (2#32) (BitVec.ofNat 32 (i 1).val)))
                        (Scalar.subi 1#32 1#32))
                      1#32)
                    0#32)
                  1#32)
                1#32))
            1#32 = (k1_t1_loop i).trips := rfl

/-- The two query blocks of each trip, all trips together: every query block from the point's first one on. -/
theorem sum_trips (i : grid1.Coords) (F : Fin 16 → ℕ → EReal) :
    ∑ k ∈ Finset.range (k1_t1_loop i).trips, (F (qb i k 0) (2 * k + 1) + F (qb i k 1) (2 * k + 2))
      = ∑ b : Fin 16, if 4 * (i 1).val ≤ b.val then F b (b.val + 1 - 4 * (i 1).val) else 0 := by
  have h1 : (k1_t1_loop i).trips = 8 - 2 * (i 1).val := by have := trips_le i; omega
  rw [h1]
  unfold qb
  have h2 : (i 1).val < 4 := (i 1).isLt
  generalize (i 1).val = a at h2
  interval_cases a <;> simp [Finset.sum_range_succ, Fin.sum_univ_succ, add_assoc, Fin.ofNat] <;> rfl

/-- Output 8 after its zero fill reads zero. -/
theorem zero_8 (a : Memref sig .tc .vmem S4x16x64x512 .f32) (f : BufTy.Contents (Elt Ideal) a.view.ty) (h : Fin 4) (b : Fin 16) (d : Fin 64) (s : Fin 512) :
    a.view.read (Elt Ideal) (a.view.writes (Elt Ideal) f [⟨Rect.unit (s := S4x16x64x512) ![0, 0, 0, 0] S4x16x64x512.size inb_S4x16x64x512_S4x16x64x512_0_0_0_0, k1_pay1 (F := Ideal)⟩]) (ix4 h b d s) = 0 :=
  (View.read_writes_cons_unit_of_mem _ _ _ _ _ (ix4 h b d s) (off := ![0, 0, 0, 0]) (size := S4x16x64x512.size) (off' := ![0, 0, 0, 0]) (ix4 h b d s) rfl
    (fun a => by fin_cases a <;> exact (Nat.zero_add _).symm)).trans Ideal.ofBits_zero_f32

/-- Output 9 after its zero fill reads zero. -/
theorem zero_9 (a : Memref sig .tc .vmem S4x64x512 .f32) (f : BufTy.Contents (Elt Ideal) a.view.ty) (h : Fin 4) (d : Fin 64) (s : Fin 512) :
    a.view.read (Elt Ideal) (a.view.writes (Elt Ideal) f [⟨Rect.unit (s := S4x64x512) ![0, 0, 0] S4x64x512.size inb_S4x64x512_S4x64x512_0_0_0, k1_pay2 (F := Ideal)⟩]) (ix3 h d s) = 0 :=
  (View.read_writes_cons_unit_of_mem _ _ _ _ _ (ix3 h d s) (off := ![0, 0, 0]) (size := S4x64x512.size) (off' := ![0, 0, 0]) (ix3 h d s) rfl
    (fun a => by fin_cases a <;> exact (Nat.zero_add _).symm)).trans Ideal.ofBits_zero_f32

/-- Output 10 after its zero fill reads zero. -/
theorem zero_10 (a : Memref sig .tc .vmem S4x64x512 .f32) (f : BufTy.Contents (Elt Ideal) a.view.ty) (h : Fin 4) (d : Fin 64) (s : Fin 512) :
    a.view.read (Elt Ideal) (a.view.writes (Elt Ideal) f [⟨Rect.unit (s := S4x64x512) ![0, 0, 0] S4x64x512.size inb_S4x64x512_S4x64x512_0_0_0, k1_pay3 (F := Ideal)⟩]) (ix3 h d s) = 0 :=
  (View.read_writes_cons_unit_of_mem _ _ _ _ _ (ix3 h d s) (off := ![0, 0, 0]) (size := S4x64x512.size) (off' := ![0, 0, 0]) (ix3 h d s) rfl
    (fun a => by fin_cases a <;> exact (Nat.zero_add _).symm)).trans Ideal.ofBits_zero_f32

variable (c : Dev nD) (i : grid1.Coords)
  (arg2 : Memref sig .tc .vmem S4x16x64x512 .bf16) (harg2 : arg2.IsWhole)
  (arg3 : Memref sig .tc .vmem S4x512x64 .bf16) (harg3 : arg3.IsWhole)
  (arg4 : Memref sig .tc .vmem S4x64x512 .bf16) (harg4 : arg4.IsWhole)
  (arg5 : Memref sig .tc .vmem S4x512x64 .bf16) (harg5 : arg5.IsWhole)
  (arg6 : Memref sig .tc .vmem S4x16x64x512 .bf16) (harg6 : arg6.IsWhole)
  (arg7 : Memref sig .tc .vmem S4x16x1x512 .f32) (harg7 : arg7.IsWhole)
  (arg8 : Memref sig .tc .vmem S4x16x1x512 .f32) (harg8 : arg8.IsWhole)
  (arg9 : Memref sig .tc .vmem S17x128x512 .f32) (harg9 : arg9.IsWhole)
  (arg10 : Memref sig .tc .vmem S4x16x64x512 .f32) (harg10 : arg10.IsWhole)
  (arg11 : Memref sig .tc .vmem S4x64x512 .f32) (harg11 : arg11.IsWhole)
  (arg12 : Memref sig .tc .vmem S4x64x512 .f32) (harg12 : arg12.IsWhole)
  (x0 : Vec Ideal S4x16x64x512 .bf16)
  (x1 : Vec Ideal S4x512x64 .bf16)
  (x2 : Vec Ideal S4x64x512 .bf16)
  (x3 : Vec Ideal S4x512x64 .bf16)
  (x4 : Vec Ideal S4x16x64x512 .bf16)
  (x5 : Vec Ideal S4x16x1x512 .f32)
  (x6 : Vec Ideal S4x16x1x512 .f32)
  (x7 : Vec Ideal S17x128x512 .f32)

theorem runA_8 (hc0 : cond1_0 i) :
    (kernelRun1_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).1 = (pb_k1_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) (Scalar.muli 2#32 (BitVec.ofNat 32 (i 1).val)) (harg2.unread x0) (harg3.unread x1) (harg4.unread x2) (harg5.unread x3) (harg6.unread x4) (harg7.unread x5) (harg8.unread x6) (harg9.unread x7) (arg10.view.writes (Elt Ideal) arg10.view.junk [⟨Rect.unit (s := S4x16x64x512) ![0, 0, 0, 0] S4x16x64x512.size inb_S4x16x64x512_S4x16x64x512_0_0_0_0, k1_pay1 (F := Ideal)⟩]) (arg11.view.writes (Elt Ideal) arg11.view.junk [⟨Rect.unit (s := S4x64x512) ![0, 0, 0] S4x64x512.size inb_S4x64x512_S4x64x512_0_0_0, k1_pay2 (F := Ideal)⟩]) (arg12.view.writes (Elt Ideal) arg12.view.junk [⟨Rect.unit (s := S4x64x512) ![0, 0, 0] S4x64x512.size inb_S4x64x512_S4x64x512_0_0_0, k1_pay3 (F := Ideal)⟩]) (k1_t1_loop i).trips).1 ++ [⟨Rect.unit (s := S4x16x64x512) ![0, 0, 0, 0] S4x16x64x512.size inb_S4x16x64x512_S4x16x64x512_0_0_0_0, k1_pay1 (F := Ideal)⟩] := by
  unfold kernelRun1_A
  dsimp only
  sl_unfold_words
  rw [trips2 i, trips1 i]
  simp only [pb_k1_t2, List.nil_append]

theorem runA_9 (hc0 : cond1_0 i) :
    (kernelRun1_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).2.1 = (pb_k1_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) (Scalar.muli 2#32 (BitVec.ofNat 32 (i 1).val)) (harg2.unread x0) (harg3.unread x1) (harg4.unread x2) (harg5.unread x3) (harg6.unread x4) (harg7.unread x5) (harg8.unread x6) (harg9.unread x7) (arg10.view.writes (Elt Ideal) arg10.view.junk [⟨Rect.unit (s := S4x16x64x512) ![0, 0, 0, 0] S4x16x64x512.size inb_S4x16x64x512_S4x16x64x512_0_0_0_0, k1_pay1 (F := Ideal)⟩]) (arg11.view.writes (Elt Ideal) arg11.view.junk [⟨Rect.unit (s := S4x64x512) ![0, 0, 0] S4x64x512.size inb_S4x64x512_S4x64x512_0_0_0, k1_pay2 (F := Ideal)⟩]) (arg12.view.writes (Elt Ideal) arg12.view.junk [⟨Rect.unit (s := S4x64x512) ![0, 0, 0] S4x64x512.size inb_S4x64x512_S4x64x512_0_0_0, k1_pay3 (F := Ideal)⟩]) (k1_t1_loop i).trips).2.1 ++ [⟨Rect.unit (s := S4x64x512) ![0, 0, 0] S4x64x512.size inb_S4x64x512_S4x64x512_0_0_0, k1_pay2 (F := Ideal)⟩] := by
  unfold kernelRun1_A
  dsimp only
  sl_unfold_words
  rw [trips2 i, trips1 i]
  simp only [pb_k1_t2, List.nil_append]

theorem runA_10 (hc0 : cond1_0 i) :
    (kernelRun1_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).2.2.1 = (pb_k1_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) (Scalar.muli 2#32 (BitVec.ofNat 32 (i 1).val)) (harg2.unread x0) (harg3.unread x1) (harg4.unread x2) (harg5.unread x3) (harg6.unread x4) (harg7.unread x5) (harg8.unread x6) (harg9.unread x7) (arg10.view.writes (Elt Ideal) arg10.view.junk [⟨Rect.unit (s := S4x16x64x512) ![0, 0, 0, 0] S4x16x64x512.size inb_S4x16x64x512_S4x16x64x512_0_0_0_0, k1_pay1 (F := Ideal)⟩]) (arg11.view.writes (Elt Ideal) arg11.view.junk [⟨Rect.unit (s := S4x64x512) ![0, 0, 0] S4x64x512.size inb_S4x64x512_S4x64x512_0_0_0, k1_pay2 (F := Ideal)⟩]) (arg12.view.writes (Elt Ideal) arg12.view.junk [⟨Rect.unit (s := S4x64x512) ![0, 0, 0] S4x64x512.size inb_S4x64x512_S4x64x512_0_0_0, k1_pay3 (F := Ideal)⟩]) (k1_t1_loop i).trips).2.2 ++ [⟨Rect.unit (s := S4x64x512) ![0, 0, 0] S4x64x512.size inb_S4x64x512_S4x64x512_0_0_0, k1_pay3 (F := Ideal)⟩] := by
  unfold kernelRun1_A
  dsimp only
  sl_unfold_words
  rw [trips2 i, trips1 i]
  simp only [pb_k1_t2, List.nil_append]

theorem outA_9 (hc0 : cond1_0 i) (h : Fin 4) (d : Fin 64) (s : Fin 512) :
    out1_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix3 h d s)
      = ∑ b : Fin 16, if 4 * (i 1).val ≤ b.val then
          (∑ j : Fin 512, x0 (ix4 h b d j) * dsV x1 x0 x7 x5 x3 x4 x6 h b (b.val + 1 - 4 * (i 1).val) (ix2 s j)) else 0 := by
  unfold out1_A_9
  rw [View.read_writes_of_cover _ _ arg11.view arg11.view.junk _ (cover1_A_9 c i arg2 harg2 arg3 harg3 arg4 harg4 arg5 harg5 arg6 harg6 arg7 harg7 arg8 harg8 arg9 harg9 arg10 harg10 arg11 harg11 arg12 harg12 hc0 x0 x1 x2 x3 x4 x5 x6 x7),
    runA_9, View.writes_append, dkL, Memref.IsWhole.read_unread, Memref.IsWhole.read_unread, Memref.IsWhole.read_unread, Memref.IsWhole.read_unread, Memref.IsWhole.read_unread, Memref.IsWhole.read_unread, Memref.IsWhole.read_unread,
    sum_trips i fun b m => ∑ j : Fin 512, x0 (ix4 h b d j) * dsV x1 x0 x7 x5 x3 x4 x6 h b m (ix2 s j)]
  · rw [zero_9, zero_add]
  · exact le_refl _

theorem outA_10 (hc0 : cond1_0 i) (h : Fin 4) (d : Fin 64) (s : Fin 512) :
    out1_A_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix3 h d s)
      = ∑ b : Fin 16, if 4 * (i 1).val ≤ b.val then
          (∑ j : Fin 512, x4 (ix4 h b d j) * ptV x1 x0 x7 x5 h b (b.val + 1 - 4 * (i 1).val) (ix2 s j)) else 0 := by
  unfold out1_A_10
  rw [View.read_writes_of_cover _ _ arg12.view arg12.view.junk _ (cover1_A_10 c i arg2 harg2 arg3 harg3 arg4 harg4 arg5 harg5 arg6 harg6 arg7 harg7 arg8 harg8 arg9 harg9 arg10 harg10 arg11 harg11 arg12 harg12 hc0 x0 x1 x2 x3 x4 x5 x6 x7),
    runA_10, View.writes_append, dvL, Memref.IsWhole.read_unread, Memref.IsWhole.read_unread, Memref.IsWhole.read_unread, Memref.IsWhole.read_unread, Memref.IsWhole.read_unread,
    sum_trips i fun b m => ∑ j : Fin 512, x4 (ix4 h b d j) * ptV x1 x0 x7 x5 h b m (ix2 s j)]
  · rw [zero_10, zero_add]
  · exact le_refl _

theorem outA_8 (hc0 : cond1_0 i) (h : Fin 4) (b : Fin 16) (d : Fin 64) (r : Fin 512) :
    out1_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix4 h b d r)
      = 0 + if 4 * (i 1).val ≤ b.val then
          (∑ s : Fin 512, x2 (ix3 h d s) * dsV x1 x0 x7 x5 x3 x4 x6 h b (b.val + 1 - 4 * (i 1).val) (ix2 s r)) else 0 := by
  have hb : (4 * (i 1).val ≤ b.val ∧ b.val < 4 * (i 1).val + 2 * (k1_t1_loop i).trips) ↔ 4 * (i 1).val ≤ b.val := by
    have := trips_le i; omega
  unfold out1_A_8
  rw [View.read_writes_of_cover _ _ arg10.view arg10.view.junk _ (cover1_A_8 c i arg2 harg2 arg3 harg3 arg4 harg4 arg5 harg5 arg6 harg6 arg7 harg7 arg8 harg8 arg9 harg9 arg10 harg10 arg11 harg11 arg12 harg12 hc0 x0 x1 x2 x3 x4 x5 x6 x7),
    runA_8, View.writes_append, dqL]
  · simp only [Memref.IsWhole.read_unread, hb]
    rw [zero_8]
  · exact le_refl _

theorem runB_8 (hc0 : ¬cond1_0 i) (xo8 : Vec Ideal S4x16x64x512 .f32) :
    (kernelRun1_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8).1 = (pb_k1_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) (Scalar.muli 2#32 (BitVec.ofNat 32 (i 1).val)) (harg2.unread x0) (harg3.unread x1) (harg4.unread x2) (harg5.unread x3) (harg6.unread x4) (harg7.unread x5) (harg8.unread x6) (harg9.unread x7) (harg10.unread xo8) (arg11.view.writes (Elt Ideal) arg11.view.junk [⟨Rect.unit (s := S4x64x512) ![0, 0, 0] S4x64x512.size inb_S4x64x512_S4x64x512_0_0_0, k1_pay2 (F := Ideal)⟩]) (arg12.view.writes (Elt Ideal) arg12.view.junk [⟨Rect.unit (s := S4x64x512) ![0, 0, 0] S4x64x512.size inb_S4x64x512_S4x64x512_0_0_0, k1_pay3 (F := Ideal)⟩]) (k1_t1_loop i).trips).1 := by
  unfold kernelRun1_B
  dsimp only
  sl_unfold_words
  rw [trips2 i, trips1 i]
  simp only [pb_k1_t2, List.nil_append]

theorem runB_9 (hc0 : ¬cond1_0 i) (xo8 : Vec Ideal S4x16x64x512 .f32) :
    (kernelRun1_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8).2.1 = (pb_k1_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) (Scalar.muli 2#32 (BitVec.ofNat 32 (i 1).val)) (harg2.unread x0) (harg3.unread x1) (harg4.unread x2) (harg5.unread x3) (harg6.unread x4) (harg7.unread x5) (harg8.unread x6) (harg9.unread x7) (harg10.unread xo8) (arg11.view.writes (Elt Ideal) arg11.view.junk [⟨Rect.unit (s := S4x64x512) ![0, 0, 0] S4x64x512.size inb_S4x64x512_S4x64x512_0_0_0, k1_pay2 (F := Ideal)⟩]) (arg12.view.writes (Elt Ideal) arg12.view.junk [⟨Rect.unit (s := S4x64x512) ![0, 0, 0] S4x64x512.size inb_S4x64x512_S4x64x512_0_0_0, k1_pay3 (F := Ideal)⟩]) (k1_t1_loop i).trips).2.1 ++ [⟨Rect.unit (s := S4x64x512) ![0, 0, 0] S4x64x512.size inb_S4x64x512_S4x64x512_0_0_0, k1_pay2 (F := Ideal)⟩] := by
  unfold kernelRun1_B
  dsimp only
  sl_unfold_words
  rw [trips2 i, trips1 i]
  simp only [pb_k1_t2, List.nil_append]

theorem runB_10 (hc0 : ¬cond1_0 i) (xo8 : Vec Ideal S4x16x64x512 .f32) :
    (kernelRun1_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8).2.2.1 = (pb_k1_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) (Scalar.muli 2#32 (BitVec.ofNat 32 (i 1).val)) (harg2.unread x0) (harg3.unread x1) (harg4.unread x2) (harg5.unread x3) (harg6.unread x4) (harg7.unread x5) (harg8.unread x6) (harg9.unread x7) (harg10.unread xo8) (arg11.view.writes (Elt Ideal) arg11.view.junk [⟨Rect.unit (s := S4x64x512) ![0, 0, 0] S4x64x512.size inb_S4x64x512_S4x64x512_0_0_0, k1_pay2 (F := Ideal)⟩]) (arg12.view.writes (Elt Ideal) arg12.view.junk [⟨Rect.unit (s := S4x64x512) ![0, 0, 0] S4x64x512.size inb_S4x64x512_S4x64x512_0_0_0, k1_pay3 (F := Ideal)⟩]) (k1_t1_loop i).trips).2.2 ++ [⟨Rect.unit (s := S4x64x512) ![0, 0, 0] S4x64x512.size inb_S4x64x512_S4x64x512_0_0_0, k1_pay3 (F := Ideal)⟩] := by
  unfold kernelRun1_B
  dsimp only
  sl_unfold_words
  rw [trips2 i, trips1 i]
  simp only [pb_k1_t2, List.nil_append]

theorem outB_9 (hc0 : ¬cond1_0 i) (xo8 : Vec Ideal S4x16x64x512 .f32) (h : Fin 4) (d : Fin 64) (s : Fin 512) :
    out1_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 (ix3 h d s)
      = ∑ b : Fin 16, if 4 * (i 1).val ≤ b.val then
          (∑ j : Fin 512, x0 (ix4 h b d j) * dsV x1 x0 x7 x5 x3 x4 x6 h b (b.val + 1 - 4 * (i 1).val) (ix2 s j)) else 0 := by
  unfold out1_B_9
  rw [View.read_writes_of_cover _ _ arg11.view arg11.view.junk _ (cover1_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8),
    runB_9, View.writes_append, dkL, Memref.IsWhole.read_unread, Memref.IsWhole.read_unread, Memref.IsWhole.read_unread, Memref.IsWhole.read_unread, Memref.IsWhole.read_unread, Memref.IsWhole.read_unread, Memref.IsWhole.read_unread,
    sum_trips i fun b m => ∑ j : Fin 512, x0 (ix4 h b d j) * dsV x1 x0 x7 x5 x3 x4 x6 h b m (ix2 s j)]
  · rw [zero_9, zero_add]
  · exact le_refl _

theorem outB_10 (hc0 : ¬cond1_0 i) (xo8 : Vec Ideal S4x16x64x512 .f32) (h : Fin 4) (d : Fin 64) (s : Fin 512) :
    out1_B_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 (ix3 h d s)
      = ∑ b : Fin 16, if 4 * (i 1).val ≤ b.val then
          (∑ j : Fin 512, x4 (ix4 h b d j) * ptV x1 x0 x7 x5 h b (b.val + 1 - 4 * (i 1).val) (ix2 s j)) else 0 := by
  unfold out1_B_10
  rw [View.read_writes_of_cover _ _ arg12.view arg12.view.junk _ (cover1_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8),
    runB_10, View.writes_append, dvL, Memref.IsWhole.read_unread, Memref.IsWhole.read_unread, Memref.IsWhole.read_unread, Memref.IsWhole.read_unread, Memref.IsWhole.read_unread,
    sum_trips i fun b m => ∑ j : Fin 512, x4 (ix4 h b d j) * ptV x1 x0 x7 x5 h b m (ix2 s j)]
  · rw [zero_10, zero_add]
  · exact le_refl _

theorem outB_8 (hc0 : ¬cond1_0 i) (xo8 : Vec Ideal S4x16x64x512 .f32) (h : Fin 4) (b : Fin 16) (d : Fin 64) (r : Fin 512) :
    out1_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 (ix4 h b d r)
      = xo8 (ix4 h b d r) + if 4 * (i 1).val ≤ b.val then
          (∑ s : Fin 512, x2 (ix3 h d s) * dsV x1 x0 x7 x5 x3 x4 x6 h b (b.val + 1 - 4 * (i 1).val) (ix2 s r)) else 0 := by
  have hb : (4 * (i 1).val ≤ b.val ∧ b.val < 4 * (i 1).val + 2 * (k1_t1_loop i).trips) ↔ 4 * (i 1).val ≤ b.val := by
    have := trips_le i; omega
  unfold out1_B_8
  rw [runB_8, dqL]
  · simp only [Memref.IsWhole.read_unread, hb]
  · exact le_refl _

end Cert.Tile

end
end
-- ==== Proof.Grid.lean ====
module

public import proofs.«01_k».proof.Proof.Out
public import Idealize.ShloMosaic.Lib.Pipeline.ValueKit

@[expose] public section
set_option maxRecDepth 16384
noncomputable section

open Idealize.ShloMosaic Cert.KernelIdeal Cert.KernelIdeal.Gen

/-! The three arrays the backward attention leaves, each entry a sum over all keys or over all query blocks. -/

namespace Cert.Tile

/-- Key `i` of block `a`. -/
def key (a : Fin 4) (i : Fin 512) : Fin 2048 := ⟨512 * a.val + i.val, by omega⟩

/-- A sum over the keys is one over the blocks of keys and the keys of each. -/
theorem sum_key (F : Fin 2048 → EReal) : ∑ n, F n = ∑ a : Fin 4, ∑ s : Fin 512, F (key a s) := by
  rw [← Fintype.sum_prod_type']
  refine (Fintype.sum_equiv (finProdFinEquiv (m := 4) (n := 512)) (fun x => F (key x.1 x.2)) F fun x => ?_).symm
  congr 1
  exact Fin.ext (Nat.add_comm _ _)

section Forms
variable (K W : FVec Ideal S4x2048x64 .bf16) (Q C : FVec Ideal S4x16x64x512 .bf16) (B : FVec Ideal S17x128x512 .f32)
  (L D : FVec Ideal S4x16x1x512 .f32)

/-- The probability of key `n` for query `j` of block `b`, under the row statistic and the bias table. -/
def pG (h : Fin 4) (b : Fin 16) (n : Fin 2048) (j : Fin 512) : EReal :=
  Ideal.exp ((∑ d : Fin 64, K (ix3 h n d) * Q (ix4 h b d j))
    + B (ix3 (Fin.ofNat 17 (b.val + 1 - n.val / 128)) (Fin.ofNat 128 (n.val % 128)) j) - L (ix4 h b 0 j))

/-- The gradient of that score. -/
def dG (h : Fin 4) (b : Fin 16) (n : Fin 2048) (j : Fin 512) : EReal :=
  pG K Q B L h b n j * ((∑ d : Fin 64, W (ix3 h n d) * C (ix4 h b d j)) - D (ix4 h b 0 j))

theorem ptV_key (k : FVec Ideal S4x512x64 .bf16) (a : Fin 4) (hk : ∀ h s d, k (ix3 h s d) = K (ix3 h (key a s) d))
    (h : Fin 4) (b : Fin 16) (s j : Fin 512) :
    ptV k Q B L h b (b.val + 1 - 4 * a.val) (ix2 s j) = pG K Q B L h b (key a s) j := by
  unfold ptV pG
  rw [pV_apply, strip_of _ _ _ _ (fun t r j => B (ix3 (Fin.ofNat 17 (b.val + 1 - 4 * a.val - t)) (Fin.ofNat 128 r) j))
    (fun r j => ?_) (fun r j => ?_) (fun r j => ?_) (fun r j => ?_)]
  · have e1 : (key a s).val / 128 = 4 * a.val + s.val / 128 := by show (512 * a.val + s.val) / 128 = _; omega
    have e2 : (key a s).val % 128 = s.val % 128 := by show (512 * a.val + s.val) % 128 = _; omega
    rw [e1, e2, ← Nat.sub_sub]
    simp only [kS, qS, lS]
    congr 3
    exact Finset.sum_congr rfl fun d _ => congrArg (· * _) (hk h s d)
  all_goals
    show B (ix3 _ r j) = B (ix3 _ (Fin.ofNat 128 r.val) j)
    congr 2
    exact (Fin.ext (Nat.mod_eq_of_lt r.isLt)).symm

theorem dsV_key (k w : FVec Ideal S4x512x64 .bf16) (a : Fin 4) (hk : ∀ h s d, k (ix3 h s d) = K (ix3 h (key a s) d))
    (hw : ∀ h s d, w (ix3 h s d) = W (ix3 h (key a s) d)) (h : Fin 4) (b : Fin 16) (s j : Fin 512) :
    dsV k Q B L w C D h b (b.val + 1 - 4 * a.val) (ix2 s j) = dG K W Q C B L D h b (key a s) j := by
  unfold dsV dG
  rw [sV_apply, ptV_key K Q B L k a hk]
  simp only [kS, qS, lS]
  congr 2
  exact Finset.sum_congr rfl fun d _ => congrArg (· * _) (hw h s d)

end Forms

variable (V : (c : Dev nD) → (b : Ref sig .tc) → Buf (Elt Ideal) ((c.tc : Thread nD τ).loc b)) (c : Dev nD)

/-- The block of keys of a grid point. -/
def blkOf (t : Fin cfg1.N) : Fin 4 := ⟨t.val, t.isLt⟩

theorem co1 : ∀ t : Fin cfg1.N, (grid1.coords t 1).val = t.val := by decide +kernel
theorem wix0 : ∀ t : Fin cfg1.N, win1_0.index t = ![0, 0, 0, 0] := by decide +kernel
theorem wix1 : ∀ t : Fin cfg1.N, win1_1.index t = ![0, t.val, 0] := by decide +kernel
theorem wix2 : ∀ t : Fin cfg1.N, win1_2.index t = ![0, 0, t.val] := by decide +kernel
theorem wix3 : ∀ t : Fin cfg1.N, win1_3.index t = ![0, t.val, 0] := by decide +kernel
theorem wix4 : ∀ t : Fin cfg1.N, win1_4.index t = ![0, 0, 0, 0] := by decide +kernel
theorem wix5 : ∀ t : Fin cfg1.N, win1_5.index t = ![0, 0, 0, 0] := by decide +kernel
theorem wix6 : ∀ t : Fin cfg1.N, win1_6.index t = ![0, 0, 0, 0] := by decide +kernel
theorem wix7 : ∀ t : Fin cfg1.N, win1_7.index t = ![0, 0, 0] := by decide +kernel
theorem wix9 : ∀ t : Fin cfg1.N, win1_9.index t = ![0, 0, t.val] := by decide +kernel
theorem wix10 : ∀ t : Fin cfg1.N, win1_10.index t = ![0, 0, t.val] := by decide +kernel

-- The call's operands as it finds them, and their blocks at a grid point.
abbrev aQ : FVec Ideal S4x16x64x512 .bf16 := V c main_v115
abbrev b0 (t : Fin cfg1.N) : FVec Ideal S4x16x64x512 .bf16 := iblk1 V c 0 t
abbrev aK : FVec Ideal S4x2048x64 .bf16 := V c main_v129
abbrev b1 (t : Fin cfg1.N) : FVec Ideal S4x512x64 .bf16 := iblk1 V c 1 t
abbrev aT : FVec Ideal S4x64x2048 .bf16 := V c main_v133
abbrev b2 (t : Fin cfg1.N) : FVec Ideal S4x64x512 .bf16 := iblk1 V c 2 t
abbrev aW : FVec Ideal S4x2048x64 .bf16 := V c main_v131
abbrev b3 (t : Fin cfg1.N) : FVec Ideal S4x512x64 .bf16 := iblk1 V c 3 t
abbrev aC : FVec Ideal S4x16x64x512 .bf16 := V c main_v119
abbrev b4 (t : Fin cfg1.N) : FVec Ideal S4x16x64x512 .bf16 := iblk1 V c 4 t
abbrev aL : FVec Ideal S4x16x1x512 .f32 := V c main_v111
abbrev b5 (t : Fin cfg1.N) : FVec Ideal S4x16x1x512 .f32 := iblk1 V c 5 t
abbrev aD : FVec Ideal S4x16x1x512 .f32 := V c main_v127
abbrev b6 (t : Fin cfg1.N) : FVec Ideal S4x16x1x512 .f32 := iblk1 V c 6 t
abbrev aB : FVec Ideal S17x128x512 .f32 := V c main_v134
abbrev b7 (t : Fin cfg1.N) : FVec Ideal S17x128x512 .f32 := iblk1 V c 7 t

theorem iblk_0 (t : Fin cfg1.N) : iblk1 V c 0 t = (aQ V c) := by
  funext y
  blk_simp [iblk1]
  congr 1
  blk_ext [wix0]

theorem iblk_0' (t : Fin cfg1.N) : b0 V c t = (aQ V c) := iblk_0 V c t

theorem iblk_1 (t : Fin cfg1.N) (h : Fin 4) (s : Fin 512) (d : Fin 64) :
    iblk1 V c 1 t (ix3 h s d) = (aK V c) (ix3 h (key (blkOf t) s) d) := by
  blk_simp [iblk1]
  congr 1
  unfold key blkOf
  blk_ext [wix1]

theorem iblk_2 (t : Fin cfg1.N) (h : Fin 4) (d : Fin 64) (s : Fin 512) :
    iblk1 V c 2 t (ix3 h d s) = (aT V c) (ix3 h d (key (blkOf t) s)) := by
  blk_simp [iblk1]
  congr 1
  unfold key blkOf
  blk_ext [wix2]

theorem iblk_3 (t : Fin cfg1.N) (h : Fin 4) (s : Fin 512) (d : Fin 64) :
    iblk1 V c 3 t (ix3 h s d) = (aW V c) (ix3 h (key (blkOf t) s) d) := by
  blk_simp [iblk1]
  congr 1
  unfold key blkOf
  blk_ext [wix3]

theorem iblk_4 (t : Fin cfg1.N) : iblk1 V c 4 t = (aC V c) := by
  funext y
  blk_simp [iblk1]
  congr 1
  blk_ext [wix4]

theorem iblk_4' (t : Fin cfg1.N) : b4 V c t = (aC V c) := iblk_4 V c t

theorem iblk_5 (t : Fin cfg1.N) : iblk1 V c 5 t = (aL V c) := by
  funext y
  blk_simp [iblk1]
  congr 1
  blk_ext [wix5]

theorem iblk_5' (t : Fin cfg1.N) : b5 V c t = (aL V c) := iblk_5 V c t

theorem iblk_6 (t : Fin cfg1.N) : iblk1 V c 6 t = (aD V c) := by
  funext y
  blk_simp [iblk1]
  congr 1
  blk_ext [wix6]

theorem iblk_6' (t : Fin cfg1.N) : b6 V c t = (aD V c) := iblk_6 V c t

theorem iblk_7 (t : Fin cfg1.N) : iblk1 V c 7 t = (aB V c) := by
  funext y
  blk_simp [iblk1]
  congr 1
  blk_ext [wix7]

theorem iblk_7' (t : Fin cfg1.N) : b7 V c t = (aB V c) := iblk_7 V c t

/-- The probabilities of the arrays as the call finds them. -/
def pA (h : Fin 4) (b : Fin 16) (n : Fin 2048) (j : Fin 512) : EReal :=
  pG (aK V c) (aQ V c) (aB V c) (aL V c) h b n j

/-- The gradients of the scores of the arrays as the call finds them. -/
def dA (h : Fin 4) (b : Fin 16) (n : Fin 2048) (j : Fin 512) : EReal :=
  dG (aK V c) (aW V c) (aQ V c) (aC V c) (aB V c) (aL V c) (aD V c) h b n j

theorem pt_at (t : Fin cfg1.N) (h : Fin 4) (b : Fin 16) (s j : Fin 512) :
    ptV (b1 V c t) (b0 V c t) (b7 V c t) (b5 V c t) h b (b.val + 1 - 4 * t.val) (ix2 s j)
      = pA V c h b (key (blkOf t) s) j := by
  rw [iblk_0', iblk_7', iblk_5']
  exact ptV_key _ _ _ _ _ (blkOf t) (fun h s d => iblk_1 V c t h s d) h b s j

theorem ds_at (t : Fin cfg1.N) (h : Fin 4) (b : Fin 16) (s j : Fin 512) :
    dsV (b1 V c t) (b0 V c t) (b7 V c t) (b5 V c t) (b3 V c t) (b4 V c t) (b6 V c t)
        h b (b.val + 1 - 4 * t.val) (ix2 s j)
      = dA V c h b (key (blkOf t) s) j := by
  rw [iblk_0', iblk_7', iblk_5', iblk_4', iblk_6']
  exact dsV_key _ _ _ _ _ _ _ _ _ (blkOf t) (fun h s d => iblk_1 V c t h s d) (fun h s d => iblk_3 V c t h s d) h b s j

/-- What block `a` of keys adds to the query gradient. -/
def dqT (h : Fin 4) (b : Fin 16) (d : Fin 64) (r : Fin 512) (a : Fin 4) : EReal :=
  if 4 * a.val ≤ b.val then ∑ s : Fin 512, (aT V c) (ix3 h d (key a s)) * dA V c h b (key a s) r else 0

theorem dq_step (t : Fin cfg1.N) (h : Fin 4) (b : Fin 16) (d : Fin 64) (r : Fin 512) :
    (if 4 * (grid1.coords t 1).val ≤ b.val then
      (∑ s : Fin 512, b2 V c t (ix3 h d s) * dsV (b1 V c t) (b0 V c t) (b7 V c t) (b5 V c t)
        (b3 V c t) (b4 V c t) (b6 V c t) h b (b.val + 1 - 4 * (grid1.coords t 1).val) (ix2 s r)) else 0)
      = dqT V c h b d r (blkOf t) := by
  unfold dqT
  rw [co1]
  congr 1
  exact Finset.sum_congr rfl fun s _ => congrArg₂ (· * ·) (iblk_2 V c t h d s) (ds_at V c t h b s r)

theorem dq_at (h : Fin 4) (b : Fin 16) (d : Fin 64) (r : Fin 512) (n : ℕ) (hn : n < cfg1.N) :
    (outsAt1 V c n hn).1 (ix4 h b d r) = ∑ a ∈ Finset.range (n + 1), dqT V c h b d r (Fin.ofNat 4 a) := by
  induction n with
  | zero =>
    rw [outsAt1_A V c ⟨0, hn⟩ rfl]
    dsimp only
    rw [outA_8, zero_add, dq_step, Finset.sum_range_one]
    rfl
  | succ n ih =>
    have hN : cfg1.N = 4 := rfl
    rw [outsAt1_B V c ⟨n + 1, hn⟩ (by show ¬((n + 1) % 4 = 0); omega)]
    dsimp only
    rw [outB_8, dq_step, Finset.sum_range_succ]
    congr 1
    · exact ih (by omega)
    · congr 1
      exact Fin.ext (Nat.mod_eq_of_lt (by omega)).symm

theorem dk_step (t : Fin cfg1.N) (h : Fin 4) (d : Fin 64) (s : Fin 512) :
    (∑ b : Fin 16, if 4 * (grid1.coords t 1).val ≤ b.val then
      (∑ j : Fin 512, b0 V c t (ix4 h b d j) * dsV (b1 V c t) (b0 V c t) (b7 V c t) (b5 V c t)
        (b3 V c t) (b4 V c t) (b6 V c t) h b (b.val + 1 - 4 * (grid1.coords t 1).val) (ix2 s j)) else 0)
      = ∑ b : Fin 16, if 4 * t.val ≤ b.val then
          ∑ j : Fin 512, (aQ V c) (ix4 h b d j) * dA V c h b (key (blkOf t) s) j else 0 := by
  rw [co1]
  refine Finset.sum_congr rfl fun b _ => ?_
  congr 1
  exact Finset.sum_congr rfl fun j _ => congrArg₂ (· * ·) (congrFun (iblk_0 V c t) _) (ds_at V c t h b s j)

theorem dk_at (t : Fin cfg1.N) (h : Fin 4) (d : Fin 64) (s : Fin 512) :
    (outsAt1 V c t.val t.isLt).2.1 (ix3 h d s)
      = ∑ b : Fin 16, if 4 * t.val ≤ b.val then
          ∑ j : Fin 512, (aQ V c) (ix4 h b d j) * dA V c h b (key (blkOf t) s) j else 0 := by
  by_cases h0 : t.val % 4 = 0
  · rw [outsAt1_A V c t h0]
    dsimp only
    rw [outA_9, dk_step]
  · rw [outsAt1_B V c t h0]
    dsimp only
    rw [outB_9, dk_step]

/-- The key gradient, entry by entry. -/
def dkG : FVec Ideal S4x64x2048 .f32 := fun y => ∑ b : Fin 16, if 4 * ((y 2).val / 512) ≤ b.val then
  ∑ j : Fin 512, (aQ V c) (ix4 (y 0) b (y 1) j) * dA V c (y 0) b (y 2) j else 0

theorem dkG_key (t : Fin cfg1.N) (h : Fin 4) (d : Fin 64) (s : Fin 512) :
    dkG V c (ix3 h d (key (blkOf t) s)) = ∑ b : Fin 16, if 4 * t.val ≤ b.val then
      ∑ j : Fin 512, (aQ V c) (ix4 h b d j) * dA V c h b (key (blkOf t) s) j else 0 := by
  have e1 : (key (blkOf t) s).val / 512 = t.val := by
    show (512 * t.val + s.val) / 512 = t.val
    omega
  show (∑ b : Fin 16, if 4 * ((key (blkOf t) s).val / 512) ≤ b.val then _ else 0) = _
  rw [e1]
  rfl

theorem arr_9 : (dat1 V c).arrAt 9 cfg1.N = dkG V c := by
  refine (dat1 V c).arrAt_eq_of_covers 9 _ (by decide +kernel) fun t hf y => ?_
  have e : ((cfg1.win 9).blk t).view.emb y = ix3 (y 0) (y 1) (key (blkOf t) (y 2)) := by
    unfold key blkOf
    blk_ext [wix9]
  rw [e]
  blk_simp
  rw [after1_9]
  have hy : y = ix3 (y 0) (y 1) (y 2) := eq_ix3 y
  refine (congrArg _ hy).trans ((dk_at V c t (y 0) (y 1) (y 2)).trans ?_)
  exact (dkG_key V c t (y 0) (y 1) (y 2)).symm

theorem dv_step (t : Fin cfg1.N) (h : Fin 4) (d : Fin 64) (s : Fin 512) :
    (∑ b : Fin 16, if 4 * (grid1.coords t 1).val ≤ b.val then
      (∑ j : Fin 512, b4 V c t (ix4 h b d j) * ptV (b1 V c t) (b0 V c t) (b7 V c t) (b5 V c t)
         h b (b.val + 1 - 4 * (grid1.coords t 1).val) (ix2 s j)) else 0)
      = ∑ b : Fin 16, if 4 * t.val ≤ b.val then
          ∑ j : Fin 512, (aC V c) (ix4 h b d j) * pA V c h b (key (blkOf t) s) j else 0 := by
  rw [co1]
  refine Finset.sum_congr rfl fun b _ => ?_
  congr 1
  exact Finset.sum_congr rfl fun j _ => congrArg₂ (· * ·) (congrFun (iblk_4 V c t) _) (pt_at V c t h b s j)

theorem dv_at (t : Fin cfg1.N) (h : Fin 4) (d : Fin 64) (s : Fin 512) :
    (outsAt1 V c t.val t.isLt).2.2 (ix3 h d s)
      = ∑ b : Fin 16, if 4 * t.val ≤ b.val then
          ∑ j : Fin 512, (aC V c) (ix4 h b d j) * pA V c h b (key (blkOf t) s) j else 0 := by
  by_cases h0 : t.val % 4 = 0
  · rw [outsAt1_A V c t h0]
    dsimp only
    rw [outA_10, dv_step]
  · rw [outsAt1_B V c t h0]
    dsimp only
    rw [outB_10, dv_step]

/-- The value gradient, entry by entry. -/
def dvG : FVec Ideal S4x64x2048 .f32 := fun y => ∑ b : Fin 16, if 4 * ((y 2).val / 512) ≤ b.val then
  ∑ j : Fin 512, (aC V c) (ix4 (y 0) b (y 1) j) * pA V c (y 0) b (y 2) j else 0

theorem dvG_key (t : Fin cfg1.N) (h : Fin 4) (d : Fin 64) (s : Fin 512) :
    dvG V c (ix3 h d (key (blkOf t) s)) = ∑ b : Fin 16, if 4 * t.val ≤ b.val then
      ∑ j : Fin 512, (aC V c) (ix4 h b d j) * pA V c h b (key (blkOf t) s) j else 0 := by
  have e1 : (key (blkOf t) s).val / 512 = t.val := by
    show (512 * t.val + s.val) / 512 = t.val
    omega
  show (∑ b : Fin 16, if 4 * ((key (blkOf t) s).val / 512) ≤ b.val then _ else 0) = _
  rw [e1]
  rfl

theorem arr_10 : (dat1 V c).arrAt 10 cfg1.N = dvG V c := by
  refine (dat1 V c).arrAt_eq_of_covers 10 _ (by decide +kernel) fun t hf y => ?_
  have e : ((cfg1.win 10).blk t).view.emb y = ix3 (y 0) (y 1) (key (blkOf t) (y 2)) := by
    unfold key blkOf
    blk_ext [wix10]
  rw [e]
  blk_simp
  rw [after1_10]
  have hy : y = ix3 (y 0) (y 1) (y 2) := eq_ix3 y
  refine (congrArg _ hy).trans ((dv_at V c t (y 0) (y 1) (y 2)).trans ?_)
  exact (dvG_key V c t (y 0) (y 1) (y 2)).symm

/-- The query gradient, entry by entry. -/
def dqG : FVec Ideal S4x16x64x512 .f32 := fun y => ∑ n : Fin 2048, if 4 * (n.val / 512) ≤ (y 1).val then
  (aT V c) (ix3 (y 0) (y 2) n) * dA V c (y 0) (y 1) n (y 3) else 0

theorem arr_8 : (dat1 V c).arrAt 8 cfg1.N = dqG V c := by
  refine (dat1 V c).arrAt_eq_of_after_last 8 ⟨3, by decide⟩ (by decide +kernel) _ fun y => ?_
  blk_simp
  refine (congrFun (after1_8 V c ⟨3, by decide⟩) _).trans ?_
  have hy : y = ix4 (y 0) (y 1) (y 2) (y 3) := eq_ix4 y
  refine (congrArg (outsAt1 V c 3 (by decide)).1 hy).trans ((dq_at V c (y 0) (y 1) (y 2) (y 3) 3 (by decide)).trans ?_)
  unfold dqG
  rw [sum_key, Finset.sum_range]
  refine Finset.sum_congr rfl fun a _ => ?_
  have e0 : Fin.ofNat 4 a.val = a := Fin.ext (Nat.mod_eq_of_lt a.isLt)
  rw [e0]
  unfold dqT
  have e1 : ∀ s : Fin 512, (key a s).val / 512 = a.val := fun s => by
    show (512 * a.val + s.val) / 512 = a.val
    omega
  simp only [e1]
  show _ = ∑ s : Fin 512, if 4 * a.val ≤ (y 1).val then _ else 0
  by_cases h : 4 * a.val ≤ (y 1).val
  · simp only [if_pos h]
  · simp only [if_neg h, Finset.sum_const_zero]

end Cert.Tile
end
end
-- ==== Proof.Coe.lean ====
/- Operations of the extended reals on real operands, maxima over an axis, and the three masks. -/
module

public import Idealize.ShloMosaic.Lib.Pointwise
public import Idealize.ShloMosaic.PureOps.Reduce
public import Idealize.ShloMosaic.PureOps.Ideal.Laws

@[expose] public section

set_option maxRecDepth 16384

noncomputable section

namespace Cert.Coe

open Idealize.ShloMosaic

/-- A sum of real terms, from zero. -/
theorem csum {n : ℕ} {z : EReal} (hz : z = 0) (f : Fin n → EReal) (r : Fin n → ℝ) (h : ∀ k, f k = (r k : EReal)) :
    z + ∑ k, f k = ((∑ k, r k : ℝ) : EReal) := by
  rw [hz, zero_add]
  have : ∀ s : Finset (Fin n), ∑ k ∈ s, f k = ((∑ k ∈ s, r k : ℝ) : EReal) := fun s => by
    induction s using Finset.cons_induction with
    | empty => simp
    | cons a s ha ih => rw [Finset.sum_cons, Finset.sum_cons, ih, h, EReal.coe_add]
  exact this _

/-- A sum of products of real terms. -/
theorem cdot {n : ℕ} (f f' : Fin n → EReal) (r r' : Fin n → ℝ) (h : ∀ k, f k = (r k : EReal)) (h' : ∀ k, f' k = (r' k : EReal)) :
    ∑ k, f k * f' k = ((∑ k, r k * r' k : ℝ) : EReal) := by
  have := csum (z := 0) rfl (fun k => f k * f' k) (fun k => r k * r' k) (fun k => by rw [h, h', EReal.coe_mul])
  rw [zero_add] at this
  exact this

theorem cdiv {x y : EReal} {a b : ℝ} (hx : x = (a : EReal)) (hy : y = (b : EReal)) (hb : b ≠ 0) :
    Ideal.div x y = ((a / b : ℝ) : EReal) := by
  rw [hx, hy, Ideal.div_coe hb, ← EReal.coe_mul, mul_one_div]

theorem cmul {x y : EReal} {a b : ℝ} (hx : x = (a : EReal)) (hy : y = (b : EReal)) :
    x * y = ((a * b : ℝ) : EReal) := by rw [hx, hy, EReal.coe_mul]

theorem cadd {x y : EReal} {a b : ℝ} (hx : x = (a : EReal)) (hy : y = (b : EReal)) :
    x + y = ((a + b : ℝ) : EReal) := by rw [hx, hy, EReal.coe_add]

theorem csub {x y : EReal} {a b : ℝ} (hx : x = (a : EReal)) (hy : y = (b : EReal)) :
    x - y = ((a - b : ℝ) : EReal) := by rw [hx, hy, EReal.coe_sub]

theorem cneg {x : EReal} {a : ℝ} (hx : x = (a : EReal)) : -x = ((-a : ℝ) : EReal) := by rw [hx, EReal.coe_neg]

theorem cexp {x : EReal} {a : ℝ} (hx : x = (a : EReal)) : Ideal.exp x = ((Real.exp a : ℝ) : EReal) := by
  rw [hx]; rfl

theorem csel {α : Type} (b : Bool) (x y : α) : Scalar.select (BitVec.ofBool b) x y = if b then x else y := by
  cases b <;> rfl

/-- The exponential of a score below its maximum, and zero where the score is masked. -/
theorem cexp_sub {x y : EReal} {b : Bool} {a m : ℝ} (hx : x = if b then (a : EReal) else ⊥) (hy : y = (m : EReal)) :
    Ideal.exp (x - y) = ((if b then Real.exp (a - m) else 0 : ℝ) : EReal) := by
  cases b
  · rw [hx, hy]
    have : (⊥ : EReal) - (m : EReal) = ⊥ := EReal.bot_sub _
    simp only [Bool.false_eq_true, if_false, this]
    rfl
  · rw [if_pos rfl] at hx ⊢
    exact cexp (csub hx hy)

section Max

variable {s t : Shape} {a : List (Fin s.rank)} {u : Shape} (x : s.Idx → EReal) (b : u.Idx → EReal)
  (h : s.ReducesTo a t) (hu : 0 < u.numel)

theorem reduce_max (j : t.Idx) : Host.reduce (FloatOps.maximumf (F := Ideal) (φ := .f32)) x b h hu j
    = (Finset.univ.filter fun i => h.drop i = j).fold max (b (Shape.Idx.first hu)) x :=
  Host.reduce_eq_fold (FloatOps.maximumf (F := Ideal) (φ := .f32)) x b h hu j

/-- Every entry of a row is at most the row's maximum. -/
theorem le_max (j : t.Idx) (i : s.Idx) (hi : h.drop i = j) :
    x i ≤ Host.reduce (FloatOps.maximumf (F := Ideal) (φ := .f32)) x b h hu j := by
  rw [reduce_max]
  exact Finset.le_fold_max _ |>.mpr (Or.inr ⟨i, Finset.mem_filter.mpr ⟨Finset.mem_univ _, hi⟩, le_rfl⟩)

/-- A row's maximum is one of its entries, or the initial value. -/
theorem max_mem (j : t.Idx) :
    Host.reduce (FloatOps.maximumf (F := Ideal) (φ := .f32)) x b h hu j ≤ b (Shape.Idx.first hu)
    ∨ ∃ i, h.drop i = j ∧ Host.reduce (FloatOps.maximumf (F := Ideal) (φ := .f32)) x b h hu j = x i := by
  rcases (Finset.le_fold_max (s := Finset.univ.filter fun i => h.drop i = j) (f := x) (b := b (Shape.Idx.first hu)) _).mp
    (le_of_eq (reduce_max x b h hu j)) with h1 | ⟨i, hi, h1⟩
  · exact Or.inl h1
  · have hi' := (Finset.mem_filter.mp hi).2
    exact Or.inr ⟨i, hi', le_antisymm h1 (le_max x b h hu j i hi')⟩

end Max

/-- A row's maximum, all its entries masked or real and one of them real: real, and attained. -/
theorem max_real {n : ℕ} {X : EReal} {f : Fin n → EReal} (hle : ∀ k, f k ≤ X) (hmem : X ≤ ⊥ ∨ ∃ k, X = f k)
    (hf : ∀ k, f k = ⊥ ∨ ∃ r : ℝ, f k = (r : EReal)) (k0 : Fin n) (hk0 : f k0 ≠ ⊥) :
    X = ((X.toReal : ℝ) : EReal) ∧ ∃ k, f k = X := by
  have hb : X ≠ ⊥ := fun e => hk0 (le_bot_iff.mp (e ▸ hle k0))
  rcases hmem with h | ⟨k, h⟩
  · exact absurd (le_bot_iff.mp h) hb
  · refine ⟨?_, k, h.symm⟩
    rcases hf k with h' | ⟨r, h'⟩
    · exact absurd (h.trans h') hb
    · rw [h, h', EReal.toReal_coe]

/-- How many entries are the maximum: not zero, since one is. -/
theorem ties_ne {n : ℕ} (f : Fin n → EReal) (X : EReal) (h : ∃ k, f k = X) :
    (∑ k, (if f k = X then (1 : ℝ) else 0)) ≠ 0 := by
  obtain ⟨k, hk⟩ := h
  refine ne_of_gt (lt_of_lt_of_le zero_lt_one ?_)
  refine le_trans (le_of_eq (if_pos hk).symm) (Finset.single_le_sum (f := fun k => if f k = X then (1 : ℝ) else 0) (fun i _ => ?_) (Finset.mem_univ k))
  show (0 : ℝ) ≤ if f i = X then 1 else 0
  split <;> norm_num

theorem ctie {x y : EReal} :
    FloatOps.uitofp (F := Ideal) FTy.f32 (FloatOps.cmpf (F := Ideal) (φ := .f32) .oeq x y) = (((if x = y then (1 : ℝ) else 0 : ℝ)) : EReal) := by
  by_cases h : x = y
  · rw [if_pos h]
    have : (FloatOps.cmpf (F := Ideal) (φ := .f32) .oeq x y) = 1#1 := by
      show BitVec.ofBool (decide (x = y)) = 1#1
      rw [decide_eq_true h]; rfl
    rw [this]
    show (((1#1).toNat : ℝ) : EReal) = _
    norm_num
  · rw [if_neg h]
    have : (FloatOps.cmpf (F := Ideal) (φ := .f32) .oeq x y) = 0#1 := by
      show BitVec.ofBool (decide (x = y)) = 0#1
      rw [decide_eq_false h]; rfl
    rw [this]
    show (((0#1).toNat : ℝ) : EReal) = _
    norm_num

/-- The window and the dilation of a pattern. -/
def win : Fin 3 → ℕ := ![128, 512, 2048]
def dil : Fin 3 → ℕ := ![1, 4, 16]

/-- Query `t` attends to key `s` under pattern `P`. -/
def mk (P : Fin 3) (t s : Fin 2048) : Bool :=
  decide (s.val ≤ t.val ∧ t.val - s.val ≤ win P ∧ (t.val - s.val) % dil P = 0)

/-- A distance as the reference computes it. -/
def word (n : ℕ) : BitVec 32 := BitVec.ofNat 32 n - 2048#32

theorem word_eq (t s : Fin 2048) : IntOp.subi (BitVec.ofNat 32 t.val) (BitVec.ofNat 32 s.val) = word (t.val + 2048 - s.val) := by
  show BitVec.ofNat 32 t.val - BitVec.ofNat 32 s.val = _
  unfold word
  apply BitVec.eq_of_toNat_eq
  simp only [BitVec.toNat_sub, BitVec.toNat_ofNat]
  omega

/-- The test for a window and a dilation, as the reference computes it. -/
def test (w d x : BitVec 32) : BitVec 1 :=
  IntOp.andi (IntOp.andi (IntOp.cmpi .sge x 0#32) (IntOp.cmpi .sle x w)) (IntOp.cmpi .eq (IntOp.remsi .host x d) 0#32)

theorem test_all : ∀ n : Fin 4096,
    test 128#32 1#32 (word n.val) = BitVec.ofBool (decide (2048 ≤ n.val ∧ n.val - 2048 ≤ 128 ∧ (n.val - 2048) % 1 = 0))
    ∧ test 512#32 4#32 (word n.val) = BitVec.ofBool (decide (2048 ≤ n.val ∧ n.val - 2048 ≤ 512 ∧ (n.val - 2048) % 4 = 0))
    ∧ test 2048#32 16#32 (word n.val) = BitVec.ofBool (decide (2048 ≤ n.val ∧ n.val - 2048 ≤ 2048 ∧ (n.val - 2048) % 16 = 0)) := by
  decide +kernel

theorem mask_aux (t s : Fin 2048) (w d : ℕ) :
    decide (2048 ≤ t.val + 2048 - s.val ∧ t.val + 2048 - s.val - 2048 ≤ w ∧ (t.val + 2048 - s.val - 2048) % d = 0)
      = decide (s.val ≤ t.val ∧ t.val - s.val ≤ w ∧ (t.val - s.val) % d = 0) := by
  by_cases h : s.val ≤ t.val
  · have e : t.val + 2048 - s.val - 2048 = t.val - s.val := by omega
    rw [e]
    simp only [h, true_and]
    have e2 : 2048 ≤ t.val + 2048 - s.val := by omega
    simp only [e2, true_and]
  · have e2 : ¬ 2048 ≤ t.val + 2048 - s.val := by omega
    simp only [h, e2, false_and]

theorem mask_0 (t s : Fin 2048) : test 128#32 1#32 (IntOp.subi (BitVec.ofNat 32 t.val) (BitVec.ofNat 32 s.val)) = BitVec.ofBool (mk 0 t s) := by
  rw [word_eq]
  exact ((test_all ⟨t.val + 2048 - s.val, by omega⟩).1).trans (congrArg BitVec.ofBool (mask_aux t s 128 1))
theorem mask_1 (t s : Fin 2048) : test 512#32 4#32 (IntOp.subi (BitVec.ofNat 32 t.val) (BitVec.ofNat 32 s.val)) = BitVec.ofBool (mk 1 t s) := by
  rw [word_eq]
  exact ((test_all ⟨t.val + 2048 - s.val, by omega⟩).2.1).trans (congrArg BitVec.ofBool (mask_aux t s 512 4))
theorem mask_2 (t s : Fin 2048) : test 2048#32 16#32 (IntOp.subi (BitVec.ofNat 32 t.val) (BitVec.ofNat 32 s.val)) = BitVec.ofBool (mk 2 t s) := by
  rw [word_eq]
  exact ((test_all ⟨t.val + 2048 - s.val, by omega⟩).2.2).trans (congrArg BitVec.ofBool (mask_aux t s 2048 16))

/-- A query attends to its own position under every pattern. -/
theorem mk_self (P : Fin 3) (t : Fin 2048) : mk P t t = true := by
  unfold mk
  simp

end Cert.Coe
-- ==== Proof.RefFwd.lean ====
/- The forward part of the reference over real arguments: scores, masks, row maxima, exponentials, denominators and outputs of the three patterns. -/
module

public import proofs.«01_k».proof.Proof.Gen.ReferenceIdeal.Read
public import proofs.«01_k».proof.Proof.Coe
public import proofs.«01_k».proof.Proof.Row
public import Idealize.ShloMosaic.Lib.Pointwise

@[expose] public section

set_option maxRecDepth 16384

noncomputable section

set_option maxHeartbeats 400000

namespace Cert.Ref

open Idealize.ShloMosaic Cert.ReferenceIdeal Cert.ReferenceIdeal.Gen Cert.ReferenceIdeal.Read Cert.Coe

/-- An argument of real entries. -/
abbrev up {s : Shape} (f : s.Idx → ℝ) : (⟨s, .f32⟩ : BufTy).Contents (Elt Ideal) := fun i => ((f i : ℝ) : EReal)

theorem ixe3 {n0 n1 n2 : ℕ} {i : (⟨3, ![n0, n1, n2]⟩ : Shape).Idx} {a : Fin n0} {b : Fin n1} {c : Fin n2}
    (h0 : i 0 = a) (h1 : i 1 = b) (h2 : i 2 = c) : i = ix3 a b c := by
  subst h0 h1 h2; exact eq_ix3 i
theorem ixe4 {n0 n1 n2 n3 : ℕ} {i : (⟨4, ![n0, n1, n2, n3]⟩ : Shape).Idx} {a : Fin n0} {b : Fin n1} {c : Fin n2} {d : Fin n3}
    (h0 : i 0 = a) (h1 : i 1 = b) (h2 : i 2 = c) (h3 : i 3 = d) : i = ix4 a b c d := by
  subst h0 h1 h2 h3; exact eq_ix4 i
theorem ixe5 {n0 n1 n2 n3 n4 : ℕ} {i : (⟨5, ![n0, n1, n2, n3, n4]⟩ : Shape).Idx} {a : Fin n0} {b : Fin n1} {c : Fin n2} {d : Fin n3}
    {e : Fin n4} (h0 : i 0 = a) (h1 : i 1 = b) (h2 : i 2 = c) (h3 : i 3 = d) (h4 : i 4 = e) : i = ix5 a b c d e := by
  subst h0 h1 h2 h3 h4; exact eq_ix5 i

/-- A triple as a function of the pattern. -/
def three {α : Type} (a b c : α) : Fin 3 → α
  | 0 => a
  | 1 => b
  | 2 => c
theorem three_0 {α : Type} (a b c : α) : three a b c 0 = a := rfl
theorem three_1 {α : Type} (a b c : α) : three a b c 1 = b := rfl
theorem three_2 {α : Type} (a b c : α) : three a b c 2 = c := rfl

theorem csum1 {z : EReal} (hz : z = 0) (f : Fin 1 → EReal) {r : ℝ} (h : f 0 = (r : EReal)) :
    z + ∑ k, f k = (r : EReal) := by
  rw [hz, zero_add, Fin.sum_univ_one, h]

theorem cst_one : FloatOps.ofBits (F := Ideal) .f32 0x3F800000#32 = ((1 : ℝ) : EReal) := by
  rw [EReal.coe_one]; exact Ideal.ofBits_one_f32

/-- The mask of each pattern, as the reference computes it. -/

theorem t_v12 (t s : Fin 2048) : val_main_v12 (F := Ideal) (ix2 t s) = BitVec.ofBool (mk 0 t s) :=
  mask_0 t s
theorem t_v16_1 (h g : Fin 4) (t s : Fin 2048) : val_main_v16_1 (F := Ideal) (ix4 h g t s) = BitVec.ofBool (mk 0 t s) := by
  rw [val_main_v16_1_apply, val_main_v15_apply, show idx_main_v15 (idx_main_v16_1 (ix4 h g t s)) = ix2 t s from by funext a; fin_cases a <;> rfl]
  exact t_v12 t s

theorem t_v47 (t s : Fin 2048) : val_main_v47 (F := Ideal) (ix2 t s) = BitVec.ofBool (mk 1 t s) :=
  mask_1 t s
theorem t_v51_1 (h g : Fin 4) (t s : Fin 2048) : val_main_v51_1 (F := Ideal) (ix4 h g t s) = BitVec.ofBool (mk 1 t s) := by
  rw [val_main_v51_1_apply, val_main_v50_apply, show idx_main_v50 (idx_main_v51_1 (ix4 h g t s)) = ix2 t s from by funext a; fin_cases a <;> rfl]
  exact t_v47 t s

theorem t_v82 (t s : Fin 2048) : val_main_v82 (F := Ideal) (ix2 t s) = BitVec.ofBool (mk 2 t s) :=
  mask_2 t s
theorem t_v86_1 (h g : Fin 4) (t s : Fin 2048) : val_main_v86_1 (F := Ideal) (ix4 h g t s) = BitVec.ofBool (mk 2 t s) := by
  rw [val_main_v86_1_apply, val_main_v85_apply, show idx_main_v85 (idx_main_v86_1 (ix4 h g t s)) = ix2 t s from by funext a; fin_cases a <;> rfl]
  exact t_v82 t s

variable (qf : S2048x4x4x64.Idx → ℝ) (kf vf : S2048x4x64.Idx → ℝ) (cf : S2048x4x4x64.Idx → ℝ)

/-- The score of query `(t, h, g)` against key `(s, h)`. -/
def sc (h g : Fin 4) (t s : Fin 2048) : ℝ := ∑ d : Fin 64, kf (ix3 s h d) * qf (ix4 t h g d)
/-- The row maximum under a pattern. -/
def mx (h g : Fin 4) (t : Fin 2048) : Fin 3 → ℝ :=
  three (val_main_v17 (F := Ideal) (up qf) (up kf) (ix3 h g t)).toReal (val_main_v52 (F := Ideal) (up qf) (up kf) (ix3 h g t)).toReal
    (val_main_v87 (F := Ideal) (up qf) (up kf) (ix3 h g t)).toReal
/-- The row maximum over the patterns. -/
def tp (h g : Fin 4) (t : Fin 2048) : ℝ := (val_main_v109 (F := Ideal) (up qf) (up kf) (ix3 h g t)).toReal
/-- The row of query `(t, h, g)`. -/
def row (h g : Fin 4) (t : Fin 2048) : Row.Data (Fin 2048) (Fin 64) where
  z := sc qf kf h g t
  msk := fun P => mk P t
  M := mx qf kf h g t
  T := tp qf kf h g t
  v := fun s d => vf (ix3 s h d)
  c := fun d => cf (ix4 t h g d)

theorem row_M (h g : Fin 4) (t : Fin 2048) : (row qf kf vf cf h g t).M = mx qf kf h g t := by
  unfold row
  dsimp only
theorem row_T (h g : Fin 4) (t : Fin 2048) : (row qf kf vf cf h g t).T = tp qf kf h g t := by
  unfold row
  dsimp only

theorem p_nonneg (h g : Fin 4) (t s : Fin 2048) (P : Fin 3) : 0 ≤ (row qf kf vf cf h g t).p P s := by
  unfold Row.Data.p
  split
  · exact (Real.exp_pos _).le
  · exact le_rfl

theorem L_pos (h g : Fin 4) (t : Fin 2048) (P : Fin 3) : 0 < (row qf kf vf cf h g t).L P := by
  refine lt_of_lt_of_le ?_ (Finset.single_le_sum (f := fun s => (row qf kf vf cf h g t).p P s) (fun s _ => p_nonneg qf kf vf cf h g t s P) (Finset.mem_univ t))
  show 0 < (row qf kf vf cf h g t).p P t
  unfold Row.Data.p
  rw [if_pos (show (row qf kf vf cf h g t).msk P t = true from mk_self P t)]
  exact Real.exp_pos _

theorem L_ne (h g : Fin 4) (t : Fin 2048) (P : Fin 3) : (row qf kf vf cf h g t).L P ≠ 0 := (L_pos qf kf vf cf h g t P).ne'

theorem W_pos (h g : Fin 4) (t : Fin 2048) (P : Fin 3) : 0 < (row qf kf vf cf h g t).W P :=
  mul_pos (L_pos qf kf vf cf h g t P) (Real.exp_pos _)

theorem den_pos (h g : Fin 4) (t : Fin 2048) : 0 < (row qf kf vf cf h g t).den :=
  Finset.sum_pos (fun P _ => W_pos qf kf vf cf h g t P) ⟨0, Finset.mem_univ _⟩

theorem den_ne (h g : Fin 4) (t : Fin 2048) : (row qf kf vf cf h g t).den ≠ 0 := (den_pos qf kf vf cf h g t).ne'

include qf kf vf cf

theorem t_v13 (h : Fin 4) (s : Fin 2048) (t : Fin 2048) (g : Fin 4) : val_main_v13 (F := Ideal) (up qf) (up kf) (ix4 h s t g) = ((sc qf kf h g t s : ℝ) : EReal) := by
  rw [val_main_v13_apply]
  refine cdot _ _ _ _ (fun k => ?_) (fun k => ?_)
  · rw [show lidx_main_v13 (ix4 h s t g) k = (ix3 s h k) from by funext a; fin_cases a <;> rfl]
    try rfl
  · rw [show ridx_main_v13 (ix4 h s t g) k = (ix4 t h g k) from by funext a; fin_cases a <;> rfl]
    try rfl

theorem t_v14 (h : Fin 4) (g : Fin 4) (t : Fin 2048) (s : Fin 2048) : val_main_v14 (F := Ideal) (up qf) (up kf) (ix4 h g t s) = ((sc qf kf h g t s : ℝ) : EReal) := by
  rw [val_main_v14_apply, show idx_main_v14 (ix4 h g t s) = (ix4 h s t g) from by funext a; fin_cases a <;> rfl]
  exact (t_v13 qf kf vf cf h s t g)

theorem t_v16_0 (h g : Fin 4) (t s : Fin 2048) : val_main_v16_0 (F := Ideal) (up qf) (up kf) (ix4 h g t s) = if mk 0 t s then ((sc qf kf h g t s : ℝ) : EReal) else ⊥ := by
  rw [val_main_v16_0_apply, t_v16_1, csel, t_v14 qf kf vf cf h g t s]
  rfl

/-- The row maximum is real and attained. -/
theorem max_v17 (h g : Fin 4) (t : Fin 2048) :
    val_main_v17 (F := Ideal) (up qf) (up kf) (ix3 h g t) = (((row qf kf vf cf h g t).M 0 : ℝ) : EReal) ∧ ∃ s, (val_main_v16_0 (F := Ideal) (up qf) (up kf)) (ix4 h g t s) = val_main_v17 (F := Ideal) (up qf) (up kf) (ix3 h g t) := by
  have key : ∀ Y, Y = val_main_v17 (F := Ideal) (up qf) (up kf) (ix3 h g t) → Y = ((Y.toReal : ℝ) : EReal) ∧ ∃ s, (val_main_v16_0 (F := Ideal) (up qf) (up kf)) (ix4 h g t s) = Y := fun Y hY => by
   refine max_real (f := fun s => (val_main_v16_0 (F := Ideal) (up qf) (up kf)) (ix4 h g t s)) (X := Y) (fun s => ?_) ?_ (fun s => ?_) t ?_ <;> try rw [hY]
   · exact le_max _ _ _ _ _ _ (by funext a; fin_cases a <;> rfl)
   · rcases max_mem (val_main_v16_0 (F := Ideal) (up qf) (up kf)) (val_main_cst_3 (F := Ideal)) reducesTo_S4x4x2048x2048_S4x4x2048_d3 h_S_ (ix3 h g t) with hb | ⟨i, hi, hb⟩
     · exact Or.inl hb
     · refine Or.inr ⟨i 3, hb.trans (congrArg (val_main_v16_0 (F := Ideal) (up qf) (up kf)) ?_)⟩
       refine (ixe4 (Fin.ext ?_) (Fin.ext ?_) (Fin.ext ?_) rfl)
       · exact congrArg (fun j => (j 0).val) hi
       · exact congrArg (fun j => (j 1).val) hi
       · exact congrArg (fun j => (j 2).val) hi
   · show (val_main_v16_0 (F := Ideal) (up qf) (up kf)) (ix4 h g t s) = ⊥ ∨ ∃ r : ℝ, (val_main_v16_0 (F := Ideal) (up qf) (up kf)) (ix4 h g t s) = (r : EReal)
     rw [t_v16_0 qf kf vf cf h g t s]
     cases mk 0 t s
     · exact Or.inl rfl
     · exact Or.inr ⟨_, rfl⟩
   · show (val_main_v16_0 (F := Ideal) (up qf) (up kf)) (ix4 h g t t) ≠ ⊥
     rw [t_v16_0 qf kf vf cf h g t t, mk_self, if_pos rfl]
     exact EReal.coe_ne_bot _
  refine ⟨(key _ rfl).1.trans (congrArg Real.toEReal ?_), (key _ rfl).2⟩
  generalize hX : val_main_v17 (F := Ideal) (up qf) (up kf) (ix3 h g t) = X
  rw [row_M]
  unfold mx
  rw [three_0, ← hX]

theorem t_v17 (h g : Fin 4) (t : Fin 2048) : val_main_v17 (F := Ideal) (up qf) (up kf) (ix3 h g t) = (((row qf kf vf cf h g t).M 0 : ℝ) : EReal) := (max_v17 qf kf vf cf h g t).1

/-- How many entries of a row are its maximum. -/
theorem tie_v22 (h g : Fin 4) (t : Fin 2048) : ∃ r : ℝ, r ≠ 0 ∧ val_main_v22 (F := Ideal) (up qf) (up kf) (ix3 h g t) = (r : EReal) := by
  refine ⟨_, ties_ne (fun s => (val_main_v16_0 (F := Ideal) (up qf) (up kf)) (ix4 h g t s)) (val_main_v17 (F := Ideal) (up qf) (up kf) (ix3 h g t)) (max_v17 qf kf vf cf h g t).2, ?_⟩
  rw [val_main_v22_apply]
  refine csum Ideal.ofBits_zero_f32 _ _ fun k => ?_
  rw [show idx_main_v22 (ix3 h g t) k = ix4 h g t k from by funext a; fin_cases a <;> rfl, val_main_v21_apply, val_main_v20_apply, val_main_v19_apply, val_main_v18_apply,
    show idx_main_v18 (idx_main_v19 (ix4 h g t k)) = ix3 h g t from by
      have hh := h.isLt; have hg := g.isLt; have ht := t.isLt
      exact ixe3 (by apply Fin.ext; show (((h.val * 4 + g.val) * 2048 + t.val) * 1 + 0) / 8192 = h.val; omega)
        (by apply Fin.ext; show (((h.val * 4 + g.val) * 2048 + t.val) * 1 + 0) / 2048 % 4 = g.val; omega)
        (by apply Fin.ext; show (((h.val * 4 + g.val) * 2048 + t.val) * 1 + 0) % 2048 = t.val; omega)]
  exact ctie

theorem t_v23 (h : Fin 4) (g : Fin 4) (t : Fin 2048) : val_main_v23 (F := Ideal) (up qf) (up kf) (ix4 h g t 0) = (((row qf kf vf cf h g t).M 0 : ℝ) : EReal) := by
  rw [val_main_v23_apply, show idx_main_v23 (ix4 h g t 0) = (ix3 h g t) from by funext a; fin_cases a <;> rfl]
  exact (t_v17 qf kf vf cf h g t)

theorem t_v24 (h : Fin 4) (g : Fin 4) (t : Fin 2048) (s : Fin 2048) : val_main_v24 (F := Ideal) (up qf) (up kf) (ix4 h g t s) = (((row qf kf vf cf h g t).M 0 : ℝ) : EReal) := by
  rw [val_main_v24_apply, show idx_main_v24 (ix4 h g t s) = (ix4 h g t 0) from by funext a; fin_cases a <;> rfl]
  exact (t_v23 qf kf vf cf h g t)

theorem t_v26 (h g : Fin 4) (t s : Fin 2048) : val_main_v26 (F := Ideal) (up qf) (up kf) (ix4 h g t s) = (((row qf kf vf cf h g t).p 0 s : ℝ) : EReal) := by
  rw [val_main_v26_apply, val_main_v25_apply]
  exact cexp_sub (t_v16_0 qf kf vf cf h g t s) (t_v24 qf kf vf cf h g t s)

theorem t_v27 (h : Fin 4) (g : Fin 4) (t : Fin 2048) : val_main_v27 (F := Ideal) (up qf) (up kf) (ix3 h g t) = (((row qf kf vf cf h g t).L 0 : ℝ) : EReal) := by
  rw [val_main_v27_apply]
  refine csum Ideal.ofBits_zero_f32 _ _ fun k => ?_
  rw [show idx_main_v27 (ix3 h g t) k = (ix4 h g t k) from by funext a; fin_cases a <;> rfl]
  exact (t_v26 qf kf vf cf h g t k)

theorem t_v28 (h : Fin 4) (g : Fin 4) (t : Fin 2048) (d : Fin 64) : val_main_v28 (F := Ideal) (up qf) (up kf) (up vf) (ix4 h g t d) = (((row qf kf vf cf h g t).X 0 d : ℝ) : EReal) := by
  rw [val_main_v28_apply]
  refine cdot _ _ _ _ (fun k => ?_) (fun k => ?_)
  · rw [show lidx_main_v28 (ix4 h g t d) k = (ix4 h g t k) from by funext a; fin_cases a <;> rfl]
    exact (t_v26 qf kf vf cf h g t k)
  · rw [show ridx_main_v28 (ix4 h g t d) k = (ix3 k h d) from by funext a; fin_cases a <;> rfl]
    try rfl

theorem t_v29 (h : Fin 4) (g : Fin 4) (t : Fin 2048) : val_main_v29 (F := Ideal) (up qf) (up kf) (ix4 h g t 0) = (((row qf kf vf cf h g t).L 0 : ℝ) : EReal) := by
  rw [val_main_v29_apply, show idx_main_v29 (ix4 h g t 0) = (ix3 h g t) from by funext a; fin_cases a <;> rfl]
  exact (t_v27 qf kf vf cf h g t)

theorem t_v30 (h : Fin 4) (g : Fin 4) (t : Fin 2048) (d : Fin 64) : val_main_v30 (F := Ideal) (up qf) (up kf) (ix4 h g t d) = (((row qf kf vf cf h g t).L 0 : ℝ) : EReal) := by
  rw [val_main_v30_apply, show idx_main_v30 (ix4 h g t d) = (ix4 h g t 0) from by funext a; fin_cases a <;> rfl]
  exact (t_v29 qf kf vf cf h g t)

theorem t_v31 (h : Fin 4) (g : Fin 4) (t : Fin 2048) (d : Fin 64) : val_main_v31 (F := Ideal) (up qf) (up kf) (up vf) (ix4 h g t d) = (((((row qf kf vf cf h g t).X 0 d) / ((row qf kf vf cf h g t).L 0)) : ℝ) : EReal) := by
  rw [val_main_v31_apply]
  exact cdiv (t_v28 qf kf vf cf h g t d) (t_v30 qf kf vf cf h g t d) (L_ne qf kf vf cf h g t 0)

theorem t_v32 (h : Fin 4) (g : Fin 4) (t : Fin 2048) : val_main_v32 (F := Ideal) (up qf) (up kf) (ix4 h g t 0) = (((((row qf kf vf cf h g t).L 0) * ((row qf kf vf cf h g t).L 0)) : ℝ) : EReal) := by
  rw [val_main_v32_apply]
  exact cmul (t_v29 qf kf vf cf h g t) (t_v29 qf kf vf cf h g t)

theorem t_v33 (h : Fin 4) (g : Fin 4) (t : Fin 2048) : val_main_v33 (F := Ideal)  (ix4 h g t 0) = ((1 : ℝ) : EReal) := by
  rw [val_main_v33_apply]; exact cst_one

theorem t_v34 (h : Fin 4) (g : Fin 4) (t : Fin 2048) : val_main_v34 (F := Ideal) (up qf) (up kf) (ix4 h g t 0) = ((((1) / ((((row qf kf vf cf h g t).L 0) * ((row qf kf vf cf h g t).L 0)))) : ℝ) : EReal) := by
  rw [val_main_v34_apply]
  exact cdiv (t_v33 qf kf vf cf h g t) (t_v32 qf kf vf cf h g t) (mul_ne_zero (L_ne qf kf vf cf h g t 0) (L_ne qf kf vf cf h g t 0))

theorem t_v48 (h : Fin 4) (s : Fin 2048) (t : Fin 2048) (g : Fin 4) : val_main_v48 (F := Ideal) (up qf) (up kf) (ix4 h s t g) = ((sc qf kf h g t s : ℝ) : EReal) := by
  rw [val_main_v48_apply]
  refine cdot _ _ _ _ (fun k => ?_) (fun k => ?_)
  · rw [show lidx_main_v48 (ix4 h s t g) k = (ix3 s h k) from by funext a; fin_cases a <;> rfl]
    try rfl
  · rw [show ridx_main_v48 (ix4 h s t g) k = (ix4 t h g k) from by funext a; fin_cases a <;> rfl]
    try rfl

theorem t_v49 (h : Fin 4) (g : Fin 4) (t : Fin 2048) (s : Fin 2048) : val_main_v49 (F := Ideal) (up qf) (up kf) (ix4 h g t s) = ((sc qf kf h g t s : ℝ) : EReal) := by
  rw [val_main_v49_apply, show idx_main_v49 (ix4 h g t s) = (ix4 h s t g) from by funext a; fin_cases a <;> rfl]
  exact (t_v48 qf kf vf cf h s t g)

theorem t_v51_0 (h g : Fin 4) (t s : Fin 2048) : val_main_v51_0 (F := Ideal) (up qf) (up kf) (ix4 h g t s) = if mk 1 t s then ((sc qf kf h g t s : ℝ) : EReal) else ⊥ := by
  rw [val_main_v51_0_apply, t_v51_1, csel, t_v49 qf kf vf cf h g t s]
  rfl

/-- The row maximum is real and attained. -/
theorem max_v52 (h g : Fin 4) (t : Fin 2048) :
    val_main_v52 (F := Ideal) (up qf) (up kf) (ix3 h g t) = (((row qf kf vf cf h g t).M 1 : ℝ) : EReal) ∧ ∃ s, (val_main_v51_0 (F := Ideal) (up qf) (up kf)) (ix4 h g t s) = val_main_v52 (F := Ideal) (up qf) (up kf) (ix3 h g t) := by
  have key : ∀ Y, Y = val_main_v52 (F := Ideal) (up qf) (up kf) (ix3 h g t) → Y = ((Y.toReal : ℝ) : EReal) ∧ ∃ s, (val_main_v51_0 (F := Ideal) (up qf) (up kf)) (ix4 h g t s) = Y := fun Y hY => by
   refine max_real (f := fun s => (val_main_v51_0 (F := Ideal) (up qf) (up kf)) (ix4 h g t s)) (X := Y) (fun s => ?_) ?_ (fun s => ?_) t ?_ <;> try rw [hY]
   · exact le_max _ _ _ _ _ _ (by funext a; fin_cases a <;> rfl)
   · rcases max_mem (val_main_v51_0 (F := Ideal) (up qf) (up kf)) (val_main_cst_12 (F := Ideal)) reducesTo_S4x4x2048x2048_S4x4x2048_d3 h_S_ (ix3 h g t) with hb | ⟨i, hi, hb⟩
     · exact Or.inl hb
     · refine Or.inr ⟨i 3, hb.trans (congrArg (val_main_v51_0 (F := Ideal) (up qf) (up kf)) ?_)⟩
       refine (ixe4 (Fin.ext ?_) (Fin.ext ?_) (Fin.ext ?_) rfl)
       · exact congrArg (fun j => (j 0).val) hi
       · exact congrArg (fun j => (j 1).val) hi
       · exact congrArg (fun j => (j 2).val) hi
   · show (val_main_v51_0 (F := Ideal) (up qf) (up kf)) (ix4 h g t s) = ⊥ ∨ ∃ r : ℝ, (val_main_v51_0 (F := Ideal) (up qf) (up kf)) (ix4 h g t s) = (r : EReal)
     rw [t_v51_0 qf kf vf cf h g t s]
     cases mk 1 t s
     · exact Or.inl rfl
     · exact Or.inr ⟨_, rfl⟩
   · show (val_main_v51_0 (F := Ideal) (up qf) (up kf)) (ix4 h g t t) ≠ ⊥
     rw [t_v51_0 qf kf vf cf h g t t, mk_self, if_pos rfl]
     exact EReal.coe_ne_bot _
  refine ⟨(key _ rfl).1.trans (congrArg Real.toEReal ?_), (key _ rfl).2⟩
  generalize hX : val_main_v52 (F := Ideal) (up qf) (up kf) (ix3 h g t) = X
  rw [row_M]
  unfold mx
  rw [three_1, ← hX]

theorem t_v52 (h g : Fin 4) (t : Fin 2048) : val_main_v52 (F := Ideal) (up qf) (up kf) (ix3 h g t) = (((row qf kf vf cf h g t).M 1 : ℝ) : EReal) := (max_v52 qf kf vf cf h g t).1

/-- How many entries of a row are its maximum. -/
theorem tie_v57 (h g : Fin 4) (t : Fin 2048) : ∃ r : ℝ, r ≠ 0 ∧ val_main_v57 (F := Ideal) (up qf) (up kf) (ix3 h g t) = (r : EReal) := by
  refine ⟨_, ties_ne (fun s => (val_main_v51_0 (F := Ideal) (up qf) (up kf)) (ix4 h g t s)) (val_main_v52 (F := Ideal) (up qf) (up kf) (ix3 h g t)) (max_v52 qf kf vf cf h g t).2, ?_⟩
  rw [val_main_v57_apply]
  refine csum Ideal.ofBits_zero_f32 _ _ fun k => ?_
  rw [show idx_main_v57 (ix3 h g t) k = ix4 h g t k from by funext a; fin_cases a <;> rfl, val_main_v56_apply, val_main_v55_apply, val_main_v54_apply, val_main_v53_apply,
    show idx_main_v53 (idx_main_v54 (ix4 h g t k)) = ix3 h g t from by
      have hh := h.isLt; have hg := g.isLt; have ht := t.isLt
      exact ixe3 (by apply Fin.ext; show (((h.val * 4 + g.val) * 2048 + t.val) * 1 + 0) / 8192 = h.val; omega)
        (by apply Fin.ext; show (((h.val * 4 + g.val) * 2048 + t.val) * 1 + 0) / 2048 % 4 = g.val; omega)
        (by apply Fin.ext; show (((h.val * 4 + g.val) * 2048 + t.val) * 1 + 0) % 2048 = t.val; omega)]
  exact ctie

theorem t_v58 (h : Fin 4) (g : Fin 4) (t : Fin 2048) : val_main_v58 (F := Ideal) (up qf) (up kf) (ix4 h g t 0) = (((row qf kf vf cf h g t).M 1 : ℝ) : EReal) := by
  rw [val_main_v58_apply, show idx_main_v58 (ix4 h g t 0) = (ix3 h g t) from by funext a; fin_cases a <;> rfl]
  exact (t_v52 qf kf vf cf h g t)

theorem t_v59 (h : Fin 4) (g : Fin 4) (t : Fin 2048) (s : Fin 2048) : val_main_v59 (F := Ideal) (up qf) (up kf) (ix4 h g t s) = (((row qf kf vf cf h g t).M 1 : ℝ) : EReal) := by
  rw [val_main_v59_apply, show idx_main_v59 (ix4 h g t s) = (ix4 h g t 0) from by funext a; fin_cases a <;> rfl]
  exact (t_v58 qf kf vf cf h g t)

theorem t_v61 (h g : Fin 4) (t s : Fin 2048) : val_main_v61 (F := Ideal) (up qf) (up kf) (ix4 h g t s) = (((row qf kf vf cf h g t).p 1 s : ℝ) : EReal) := by
  rw [val_main_v61_apply, val_main_v60_apply]
  exact cexp_sub (t_v51_0 qf kf vf cf h g t s) (t_v59 qf kf vf cf h g t s)

theorem t_v62 (h : Fin 4) (g : Fin 4) (t : Fin 2048) : val_main_v62 (F := Ideal) (up qf) (up kf) (ix3 h g t) = (((row qf kf vf cf h g t).L 1 : ℝ) : EReal) := by
  rw [val_main_v62_apply]
  refine csum Ideal.ofBits_zero_f32 _ _ fun k => ?_
  rw [show idx_main_v62 (ix3 h g t) k = (ix4 h g t k) from by funext a; fin_cases a <;> rfl]
  exact (t_v61 qf kf vf cf h g t k)

theorem t_v63 (h : Fin 4) (g : Fin 4) (t : Fin 2048) (d : Fin 64) : val_main_v63 (F := Ideal) (up qf) (up kf) (up vf) (ix4 h g t d) = (((row qf kf vf cf h g t).X 1 d : ℝ) : EReal) := by
  rw [val_main_v63_apply]
  refine cdot _ _ _ _ (fun k => ?_) (fun k => ?_)
  · rw [show lidx_main_v63 (ix4 h g t d) k = (ix4 h g t k) from by funext a; fin_cases a <;> rfl]
    exact (t_v61 qf kf vf cf h g t k)
  · rw [show ridx_main_v63 (ix4 h g t d) k = (ix3 k h d) from by funext a; fin_cases a <;> rfl]
    try rfl

theorem t_v64 (h : Fin 4) (g : Fin 4) (t : Fin 2048) : val_main_v64 (F := Ideal) (up qf) (up kf) (ix4 h g t 0) = (((row qf kf vf cf h g t).L 1 : ℝ) : EReal) := by
  rw [val_main_v64_apply, show idx_main_v64 (ix4 h g t 0) = (ix3 h g t) from by funext a; fin_cases a <;> rfl]
  exact (t_v62 qf kf vf cf h g t)

theorem t_v65 (h : Fin 4) (g : Fin 4) (t : Fin 2048) (d : Fin 64) : val_main_v65 (F := Ideal) (up qf) (up kf) (ix4 h g t d) = (((row qf kf vf cf h g t).L 1 : ℝ) : EReal) := by
  rw [val_main_v65_apply, show idx_main_v65 (ix4 h g t d) = (ix4 h g t 0) from by funext a; fin_cases a <;> rfl]
  exact (t_v64 qf kf vf cf h g t)

theorem t_v66 (h : Fin 4) (g : Fin 4) (t : Fin 2048) (d : Fin 64) : val_main_v66 (F := Ideal) (up qf) (up kf) (up vf) (ix4 h g t d) = (((((row qf kf vf cf h g t).X 1 d) / ((row qf kf vf cf h g t).L 1)) : ℝ) : EReal) := by
  rw [val_main_v66_apply]
  exact cdiv (t_v63 qf kf vf cf h g t d) (t_v65 qf kf vf cf h g t d) (L_ne qf kf vf cf h g t 1)

theorem t_v67 (h : Fin 4) (g : Fin 4) (t : Fin 2048) : val_main_v67 (F := Ideal) (up qf) (up kf) (ix4 h g t 0) = (((((row qf kf vf cf h g t).L 1) * ((row qf kf vf cf h g t).L 1)) : ℝ) : EReal) := by
  rw [val_main_v67_apply]
  exact cmul (t_v64 qf kf vf cf h g t) (t_v64 qf kf vf cf h g t)

theorem t_v68 (h : Fin 4) (g : Fin 4) (t : Fin 2048) : val_main_v68 (F := Ideal)  (ix4 h g t 0) = ((1 : ℝ) : EReal) := by
  rw [val_main_v68_apply]; exact cst_one

theorem t_v69 (h : Fin 4) (g : Fin 4) (t : Fin 2048) : val_main_v69 (F := Ideal) (up qf) (up kf) (ix4 h g t 0) = ((((1) / ((((row qf kf vf cf h g t).L 1) * ((row qf kf vf cf h g t).L 1)))) : ℝ) : EReal) := by
  rw [val_main_v69_apply]
  exact cdiv (t_v68 qf kf vf cf h g t) (t_v67 qf kf vf cf h g t) (mul_ne_zero (L_ne qf kf vf cf h g t 1) (L_ne qf kf vf cf h g t 1))

theorem t_v83 (h : Fin 4) (s : Fin 2048) (t : Fin 2048) (g : Fin 4) : val_main_v83 (F := Ideal) (up qf) (up kf) (ix4 h s t g) = ((sc qf kf h g t s : ℝ) : EReal) := by
  rw [val_main_v83_apply]
  refine cdot _ _ _ _ (fun k => ?_) (fun k => ?_)
  · rw [show lidx_main_v83 (ix4 h s t g) k = (ix3 s h k) from by funext a; fin_cases a <;> rfl]
    try rfl
  · rw [show ridx_main_v83 (ix4 h s t g) k = (ix4 t h g k) from by funext a; fin_cases a <;> rfl]
    try rfl

theorem t_v84 (h : Fin 4) (g : Fin 4) (t : Fin 2048) (s : Fin 2048) : val_main_v84 (F := Ideal) (up qf) (up kf) (ix4 h g t s) = ((sc qf kf h g t s : ℝ) : EReal) := by
  rw [val_main_v84_apply, show idx_main_v84 (ix4 h g t s) = (ix4 h s t g) from by funext a; fin_cases a <;> rfl]
  exact (t_v83 qf kf vf cf h s t g)

theorem t_v86_0 (h g : Fin 4) (t s : Fin 2048) : val_main_v86_0 (F := Ideal) (up qf) (up kf) (ix4 h g t s) = if mk 2 t s then ((sc qf kf h g t s : ℝ) : EReal) else ⊥ := by
  rw [val_main_v86_0_apply, t_v86_1, csel, t_v84 qf kf vf cf h g t s]
  rfl

/-- The row maximum is real and attained. -/
theorem max_v87 (h g : Fin 4) (t : Fin 2048) :
    val_main_v87 (F := Ideal) (up qf) (up kf) (ix3 h g t) = (((row qf kf vf cf h g t).M 2 : ℝ) : EReal) ∧ ∃ s, (val_main_v86_0 (F := Ideal) (up qf) (up kf)) (ix4 h g t s) = val_main_v87 (F := Ideal) (up qf) (up kf) (ix3 h g t) := by
  have key : ∀ Y, Y = val_main_v87 (F := Ideal) (up qf) (up kf) (ix3 h g t) → Y = ((Y.toReal : ℝ) : EReal) ∧ ∃ s, (val_main_v86_0 (F := Ideal) (up qf) (up kf)) (ix4 h g t s) = Y := fun Y hY => by
   refine max_real (f := fun s => (val_main_v86_0 (F := Ideal) (up qf) (up kf)) (ix4 h g t s)) (X := Y) (fun s => ?_) ?_ (fun s => ?_) t ?_ <;> try rw [hY]
   · exact le_max _ _ _ _ _ _ (by funext a; fin_cases a <;> rfl)
   · rcases max_mem (val_main_v86_0 (F := Ideal) (up qf) (up kf)) (val_main_cst_21 (F := Ideal)) reducesTo_S4x4x2048x2048_S4x4x2048_d3 h_S_ (ix3 h g t) with hb | ⟨i, hi, hb⟩
     · exact Or.inl hb
     · refine Or.inr ⟨i 3, hb.trans (congrArg (val_main_v86_0 (F := Ideal) (up qf) (up kf)) ?_)⟩
       refine (ixe4 (Fin.ext ?_) (Fin.ext ?_) (Fin.ext ?_) rfl)
       · exact congrArg (fun j => (j 0).val) hi
       · exact congrArg (fun j => (j 1).val) hi
       · exact congrArg (fun j => (j 2).val) hi
   · show (val_main_v86_0 (F := Ideal) (up qf) (up kf)) (ix4 h g t s) = ⊥ ∨ ∃ r : ℝ, (val_main_v86_0 (F := Ideal) (up qf) (up kf)) (ix4 h g t s) = (r : EReal)
     rw [t_v86_0 qf kf vf cf h g t s]
     cases mk 2 t s
     · exact Or.inl rfl
     · exact Or.inr ⟨_, rfl⟩
   · show (val_main_v86_0 (F := Ideal) (up qf) (up kf)) (ix4 h g t t) ≠ ⊥
     rw [t_v86_0 qf kf vf cf h g t t, mk_self, if_pos rfl]
     exact EReal.coe_ne_bot _
  refine ⟨(key _ rfl).1.trans (congrArg Real.toEReal ?_), (key _ rfl).2⟩
  generalize hX : val_main_v87 (F := Ideal) (up qf) (up kf) (ix3 h g t) = X
  rw [row_M]
  unfold mx
  rw [three_2, ← hX]

theorem t_v87 (h g : Fin 4) (t : Fin 2048) : val_main_v87 (F := Ideal) (up qf) (up kf) (ix3 h g t) = (((row qf kf vf cf h g t).M 2 : ℝ) : EReal) := (max_v87 qf kf vf cf h g t).1

/-- How many entries of a row are its maximum. -/
theorem tie_v92 (h g : Fin 4) (t : Fin 2048) : ∃ r : ℝ, r ≠ 0 ∧ val_main_v92 (F := Ideal) (up qf) (up kf) (ix3 h g t) = (r : EReal) := by
  refine ⟨_, ties_ne (fun s => (val_main_v86_0 (F := Ideal) (up qf) (up kf)) (ix4 h g t s)) (val_main_v87 (F := Ideal) (up qf) (up kf) (ix3 h g t)) (max_v87 qf kf vf cf h g t).2, ?_⟩
  rw [val_main_v92_apply]
  refine csum Ideal.ofBits_zero_f32 _ _ fun k => ?_
  rw [show idx_main_v92 (ix3 h g t) k = ix4 h g t k from by funext a; fin_cases a <;> rfl, val_main_v91_apply, val_main_v90_apply, val_main_v89_apply, val_main_v88_apply,
    show idx_main_v88 (idx_main_v89 (ix4 h g t k)) = ix3 h g t from by
      have hh := h.isLt; have hg := g.isLt; have ht := t.isLt
      exact ixe3 (by apply Fin.ext; show (((h.val * 4 + g.val) * 2048 + t.val) * 1 + 0) / 8192 = h.val; omega)
        (by apply Fin.ext; show (((h.val * 4 + g.val) * 2048 + t.val) * 1 + 0) / 2048 % 4 = g.val; omega)
        (by apply Fin.ext; show (((h.val * 4 + g.val) * 2048 + t.val) * 1 + 0) % 2048 = t.val; omega)]
  exact ctie

theorem t_v93 (h : Fin 4) (g : Fin 4) (t : Fin 2048) : val_main_v93 (F := Ideal) (up qf) (up kf) (ix4 h g t 0) = (((row qf kf vf cf h g t).M 2 : ℝ) : EReal) := by
  rw [val_main_v93_apply, show idx_main_v93 (ix4 h g t 0) = (ix3 h g t) from by funext a; fin_cases a <;> rfl]
  exact (t_v87 qf kf vf cf h g t)

theorem t_v94 (h : Fin 4) (g : Fin 4) (t : Fin 2048) (s : Fin 2048) : val_main_v94 (F := Ideal) (up qf) (up kf) (ix4 h g t s) = (((row qf kf vf cf h g t).M 2 : ℝ) : EReal) := by
  rw [val_main_v94_apply, show idx_main_v94 (ix4 h g t s) = (ix4 h g t 0) from by funext a; fin_cases a <;> rfl]
  exact (t_v93 qf kf vf cf h g t)

theorem t_v96 (h g : Fin 4) (t s : Fin 2048) : val_main_v96 (F := Ideal) (up qf) (up kf) (ix4 h g t s) = (((row qf kf vf cf h g t).p 2 s : ℝ) : EReal) := by
  rw [val_main_v96_apply, val_main_v95_apply]
  exact cexp_sub (t_v86_0 qf kf vf cf h g t s) (t_v94 qf kf vf cf h g t s)

theorem t_v97 (h : Fin 4) (g : Fin 4) (t : Fin 2048) : val_main_v97 (F := Ideal) (up qf) (up kf) (ix3 h g t) = (((row qf kf vf cf h g t).L 2 : ℝ) : EReal) := by
  rw [val_main_v97_apply]
  refine csum Ideal.ofBits_zero_f32 _ _ fun k => ?_
  rw [show idx_main_v97 (ix3 h g t) k = (ix4 h g t k) from by funext a; fin_cases a <;> rfl]
  exact (t_v96 qf kf vf cf h g t k)

theorem t_v98 (h : Fin 4) (g : Fin 4) (t : Fin 2048) (d : Fin 64) : val_main_v98 (F := Ideal) (up qf) (up kf) (up vf) (ix4 h g t d) = (((row qf kf vf cf h g t).X 2 d : ℝ) : EReal) := by
  rw [val_main_v98_apply]
  refine cdot _ _ _ _ (fun k => ?_) (fun k => ?_)
  · rw [show lidx_main_v98 (ix4 h g t d) k = (ix4 h g t k) from by funext a; fin_cases a <;> rfl]
    exact (t_v96 qf kf vf cf h g t k)
  · rw [show ridx_main_v98 (ix4 h g t d) k = (ix3 k h d) from by funext a; fin_cases a <;> rfl]
    try rfl

theorem t_v99 (h : Fin 4) (g : Fin 4) (t : Fin 2048) : val_main_v99 (F := Ideal) (up qf) (up kf) (ix4 h g t 0) = (((row qf kf vf cf h g t).L 2 : ℝ) : EReal) := by
  rw [val_main_v99_apply, show idx_main_v99 (ix4 h g t 0) = (ix3 h g t) from by funext a; fin_cases a <;> rfl]
  exact (t_v97 qf kf vf cf h g t)

theorem t_v100 (h : Fin 4) (g : Fin 4) (t : Fin 2048) (d : Fin 64) : val_main_v100 (F := Ideal) (up qf) (up kf) (ix4 h g t d) = (((row qf kf vf cf h g t).L 2 : ℝ) : EReal) := by
  rw [val_main_v100_apply, show idx_main_v100 (ix4 h g t d) = (ix4 h g t 0) from by funext a; fin_cases a <;> rfl]
  exact (t_v99 qf kf vf cf h g t)

theorem t_v101 (h : Fin 4) (g : Fin 4) (t : Fin 2048) (d : Fin 64) : val_main_v101 (F := Ideal) (up qf) (up kf) (up vf) (ix4 h g t d) = (((((row qf kf vf cf h g t).X 2 d) / ((row qf kf vf cf h g t).L 2)) : ℝ) : EReal) := by
  rw [val_main_v101_apply]
  exact cdiv (t_v98 qf kf vf cf h g t d) (t_v100 qf kf vf cf h g t d) (L_ne qf kf vf cf h g t 2)

theorem t_v102 (h : Fin 4) (g : Fin 4) (t : Fin 2048) : val_main_v102 (F := Ideal) (up qf) (up kf) (ix4 h g t 0) = (((((row qf kf vf cf h g t).L 2) * ((row qf kf vf cf h g t).L 2)) : ℝ) : EReal) := by
  rw [val_main_v102_apply]
  exact cmul (t_v99 qf kf vf cf h g t) (t_v99 qf kf vf cf h g t)

theorem t_v103 (h : Fin 4) (g : Fin 4) (t : Fin 2048) : val_main_v103 (F := Ideal)  (ix4 h g t 0) = ((1 : ℝ) : EReal) := by
  rw [val_main_v103_apply]; exact cst_one

theorem t_v104 (h : Fin 4) (g : Fin 4) (t : Fin 2048) : val_main_v104 (F := Ideal) (up qf) (up kf) (ix4 h g t 0) = ((((1) / ((((row qf kf vf cf h g t).L 2) * ((row qf kf vf cf h g t).L 2)))) : ℝ) : EReal) := by
  rw [val_main_v104_apply]
  exact cdiv (t_v103 qf kf vf cf h g t) (t_v102 qf kf vf cf h g t) (mul_ne_zero (L_ne qf kf vf cf h g t 2) (L_ne qf kf vf cf h g t 2))

end Cert.Ref
-- ==== Proof.RefMix.lean ====
/- The mixture of the three patterns in the reference, and its gradient with respect to their weights and outputs. -/
module

public import proofs.«01_k».proof.Proof.RefFwd

@[expose] public section

set_option maxRecDepth 16384

noncomputable section

set_option maxHeartbeats 400000

namespace Cert.Ref

open Idealize.ShloMosaic Cert.ReferenceIdeal Cert.ReferenceIdeal.Gen Cert.ReferenceIdeal.Read Cert.Coe

/-- Three slabs stacked along a leading axis. -/
theorem cat3_4 (A : Fin 3 → (S1x4x4x2048.Idx → EReal)) (hc) (P : Fin 3) (h g : Fin 4) (t : Fin 2048) :
    concatenate S3x4x4x2048 0 [⟨S1x4x4x2048, A 0⟩, ⟨S1x4x4x2048, A 1⟩, ⟨S1x4x4x2048, A 2⟩] hc (ix4 P h g t) = A P (ix4 0 h g t) := by
  refine (concatenate_ofFn_unit_apply' (N := 3) (t := S3x4x4x2048) (s₁ := S1x4x4x2048) 0 A hc rfl (ix4 P h g t)).trans ?_
  refine congrArg (A P) ?_
  funext a; fin_cases a <;> rfl
theorem cat3_5 (A : Fin 3 → (S1x4x4x2048x64.Idx → EReal)) (hc) (P : Fin 3) (h g : Fin 4) (t : Fin 2048) (d : Fin 64) :
    concatenate S3x4x4x2048x64 0 [⟨S1x4x4x2048x64, A 0⟩, ⟨S1x4x4x2048x64, A 1⟩, ⟨S1x4x4x2048x64, A 2⟩] hc (ix5 P h g t d) = A P (ix5 0 h g t d) := by
  refine (concatenate_ofFn_unit_apply' (N := 3) (t := S3x4x4x2048x64) (s₁ := S1x4x4x2048x64) 0 A hc rfl (ix5 P h g t d)).trans ?_
  refine congrArg (A P) ?_
  funext a; fin_cases a <;> rfl

theorem rowsum0 (D : Row.Data (Fin 2048) (Fin 64)) (hd : D.den ≠ 0) : ∑ P : Fin 3, -(D.L P * D.dW P * D.E P) = 0 := by
  rw [Finset.sum_neg_distrib, neg_eq_zero, ← D.sum_W_dW hd]
  refine Finset.sum_congr rfl fun P _ => ?_
  unfold Row.Data.W
  ring

variable (qf : S2048x4x4x64.Idx → ℝ) (kf vf : S2048x4x64.Idx → ℝ) (cf : S2048x4x4x64.Idx → ℝ)

include qf kf vf cf

theorem t_v105 (h : Fin 4) (g : Fin 4) (t : Fin 2048) : val_main_v105 (F := Ideal) (up qf) (up kf) (ix4 0 h g t) = (((row qf kf vf cf h g t).M 0 : ℝ) : EReal) := by
  rw [val_main_v105_apply, show idx_main_v105 (ix4 0 h g t) = (ix3 h g t) from by funext a; fin_cases a <;> rfl]
  exact (t_v17 qf kf vf cf h g t)

theorem t_v106 (h : Fin 4) (g : Fin 4) (t : Fin 2048) : val_main_v106 (F := Ideal) (up qf) (up kf) (ix4 0 h g t) = (((row qf kf vf cf h g t).M 1 : ℝ) : EReal) := by
  rw [val_main_v106_apply, show idx_main_v106 (ix4 0 h g t) = (ix3 h g t) from by funext a; fin_cases a <;> rfl]
  exact (t_v52 qf kf vf cf h g t)

theorem t_v107 (h : Fin 4) (g : Fin 4) (t : Fin 2048) : val_main_v107 (F := Ideal) (up qf) (up kf) (ix4 0 h g t) = (((row qf kf vf cf h g t).M 2 : ℝ) : EReal) := by
  rw [val_main_v107_apply, show idx_main_v107 (ix4 0 h g t) = (ix3 h g t) from by funext a; fin_cases a <;> rfl]
  exact (t_v87 qf kf vf cf h g t)

theorem t_v108 (P : Fin 3) (h : Fin 4) (g : Fin 4) (t : Fin 2048) : val_main_v108 (F := Ideal) (up qf) (up kf) (ix4 P h g t) = (((row qf kf vf cf h g t).M P : ℝ) : EReal) := by
  refine (cat3_4 (three (val_main_v105 (F := Ideal) (up qf) (up kf)) (val_main_v106 (F := Ideal) (up qf) (up kf)) (val_main_v107 (F := Ideal) (up qf) (up kf))) concatenates_S1x4x4x2048_S1x4x4x2048_S1x4x4x2048_S3x4x4x2048_d0 P h g t).trans ?_
  match P with
  | 0 => exact (t_v105 qf kf vf cf h g t)
  | 1 => exact (t_v106 qf kf vf cf h g t)
  | 2 => exact (t_v107 qf kf vf cf h g t)

/-- The maximum over the patterns is real and attained. -/
theorem max_v109 (h g : Fin 4) (t : Fin 2048) :
    val_main_v109 (F := Ideal) (up qf) (up kf) (ix3 h g t) = (((row qf kf vf cf h g t).T : ℝ) : EReal) ∧ ∃ P, (val_main_v108 (F := Ideal) (up qf) (up kf)) (ix4 P h g t) = val_main_v109 (F := Ideal) (up qf) (up kf) (ix3 h g t) := by
  have key : ∀ Y, Y = val_main_v109 (F := Ideal) (up qf) (up kf) (ix3 h g t) → Y = ((Y.toReal : ℝ) : EReal) ∧ ∃ P, (val_main_v108 (F := Ideal) (up qf) (up kf)) (ix4 P h g t) = Y := fun Y hY => by
   refine max_real (f := fun P => (val_main_v108 (F := Ideal) (up qf) (up kf)) (ix4 P h g t)) (X := Y) (fun P => ?_) ?_ (fun P => ?_) 0 ?_ <;> try rw [hY]
   · exact le_max _ _ _ _ _ _ (by funext a; fin_cases a <;> rfl)
   · rcases max_mem (val_main_v108 (F := Ideal) (up qf) (up kf)) (val_main_cst_25 (F := Ideal)) reducesTo_S3x4x4x2048_S4x4x2048_d0 h_S_ (ix3 h g t) with hb | ⟨i, hi, hb⟩
     · exact Or.inl hb
     · refine Or.inr ⟨i 0, hb.trans (congrArg (val_main_v108 (F := Ideal) (up qf) (up kf)) ?_)⟩
       refine (ixe4 rfl (Fin.ext ?_) (Fin.ext ?_) (Fin.ext ?_))
       · exact congrArg (fun j => (j 0).val) hi
       · exact congrArg (fun j => (j 1).val) hi
       · exact congrArg (fun j => (j 2).val) hi
   · exact Or.inr ⟨_, t_v108 qf kf vf cf P h g t⟩
   · show (val_main_v108 (F := Ideal) (up qf) (up kf)) (ix4 0 h g t) ≠ ⊥
     rw [t_v108 qf kf vf cf 0 h g t]
     exact EReal.coe_ne_bot _
  refine ⟨(key _ rfl).1.trans (congrArg Real.toEReal ?_), (key _ rfl).2⟩
  rw [row_T]
  unfold tp
  rfl
theorem t_v109 (h g : Fin 4) (t : Fin 2048) : val_main_v109 (F := Ideal) (up qf) (up kf) (ix3 h g t) = (((row qf kf vf cf h g t).T : ℝ) : EReal) := (max_v109 qf kf vf cf h g t).1

/-- How many patterns attain the maximum. -/
theorem tie_v114 (h g : Fin 4) (t : Fin 2048) : ∃ r : ℝ, r ≠ 0 ∧ val_main_v114 (F := Ideal) (up qf) (up kf) (ix3 h g t) = (r : EReal) := by
  refine ⟨_, ties_ne (fun P => (val_main_v108 (F := Ideal) (up qf) (up kf)) (ix4 P h g t)) (val_main_v109 (F := Ideal) (up qf) (up kf) (ix3 h g t)) (max_v109 qf kf vf cf h g t).2, ?_⟩
  rw [val_main_v114_apply]
  refine csum Ideal.ofBits_zero_f32 _ _ fun k => ?_
  rw [show idx_main_v114 (ix3 h g t) k = ix4 k h g t from by funext a; fin_cases a <;> rfl, val_main_v113_apply, val_main_v112_apply, val_main_v111_apply, val_main_v110_apply,
    show idx_main_v110 (idx_main_v111 (ix4 k h g t)) = ix3 h g t from by
      have hh := h.isLt; have hg := g.isLt; have ht := t.isLt
      exact ixe3 (by apply Fin.ext; show (((0 * 4 + h.val) * 4 + g.val) * 2048 + t.val) / 8192 = h.val; omega)
        (by apply Fin.ext; show (((0 * 4 + h.val) * 4 + g.val) * 2048 + t.val) / 2048 % 4 = g.val; omega)
        (by apply Fin.ext; show (((0 * 4 + h.val) * 4 + g.val) * 2048 + t.val) % 2048 = t.val; omega)]
  exact ctie

theorem t_v115 (h : Fin 4) (g : Fin 4) (t : Fin 2048) : val_main_v115 (F := Ideal) (up qf) (up kf) (ix4 0 h g t) = (((row qf kf vf cf h g t).L 0 : ℝ) : EReal) := by
  rw [val_main_v115_apply, show idx_main_v115 (ix4 0 h g t) = (ix3 h g t) from by funext a; fin_cases a <;> rfl]
  exact (t_v27 qf kf vf cf h g t)

theorem t_v116 (h : Fin 4) (g : Fin 4) (t : Fin 2048) : val_main_v116 (F := Ideal) (up qf) (up kf) (ix4 0 h g t) = (((row qf kf vf cf h g t).L 1 : ℝ) : EReal) := by
  rw [val_main_v116_apply, show idx_main_v116 (ix4 0 h g t) = (ix3 h g t) from by funext a; fin_cases a <;> rfl]
  exact (t_v62 qf kf vf cf h g t)

theorem t_v117 (h : Fin 4) (g : Fin 4) (t : Fin 2048) : val_main_v117 (F := Ideal) (up qf) (up kf) (ix4 0 h g t) = (((row qf kf vf cf h g t).L 2 : ℝ) : EReal) := by
  rw [val_main_v117_apply, show idx_main_v117 (ix4 0 h g t) = (ix3 h g t) from by funext a; fin_cases a <;> rfl]
  exact (t_v97 qf kf vf cf h g t)

theorem t_v118 (P : Fin 3) (h : Fin 4) (g : Fin 4) (t : Fin 2048) : val_main_v118 (F := Ideal) (up qf) (up kf) (ix4 P h g t) = (((row qf kf vf cf h g t).L P : ℝ) : EReal) := by
  refine (cat3_4 (three (val_main_v115 (F := Ideal) (up qf) (up kf)) (val_main_v116 (F := Ideal) (up qf) (up kf)) (val_main_v117 (F := Ideal) (up qf) (up kf))) concatenates_S1x4x4x2048_S1x4x4x2048_S1x4x4x2048_S3x4x4x2048_d0 P h g t).trans ?_
  match P with
  | 0 => exact (t_v115 qf kf vf cf h g t)
  | 1 => exact (t_v116 qf kf vf cf h g t)
  | 2 => exact (t_v117 qf kf vf cf h g t)

theorem t_v119 (h : Fin 4) (g : Fin 4) (t : Fin 2048) : val_main_v119 (F := Ideal) (up qf) (up kf) (ix4 0 h g t) = (((row qf kf vf cf h g t).T : ℝ) : EReal) := by
  rw [val_main_v119_apply, show idx_main_v119 (ix4 0 h g t) = (ix3 h g t) from by funext a; fin_cases a <;> rfl]
  exact (t_v109 qf kf vf cf h g t)

theorem t_v120 (P : Fin 3) (h : Fin 4) (g : Fin 4) (t : Fin 2048) : val_main_v120 (F := Ideal) (up qf) (up kf) (ix4 P h g t) = (((row qf kf vf cf h g t).T : ℝ) : EReal) := by
  rw [val_main_v120_apply, show idx_main_v120 (ix4 P h g t) = (ix4 0 h g t) from by funext a; fin_cases a <;> rfl]
  exact (t_v119 qf kf vf cf h g t)

theorem t_v121 (P : Fin 3) (h : Fin 4) (g : Fin 4) (t : Fin 2048) : val_main_v121 (F := Ideal) (up qf) (up kf) (ix4 P h g t) = (((((row qf kf vf cf h g t).M P) - ((row qf kf vf cf h g t).T)) : ℝ) : EReal) := by
  rw [val_main_v121_apply]
  exact csub (t_v108 qf kf vf cf P h g t) (t_v120 qf kf vf cf P h g t)

theorem t_v122 (P : Fin 3) (h : Fin 4) (g : Fin 4) (t : Fin 2048) : val_main_v122 (F := Ideal) (up qf) (up kf) (ix4 P h g t) = (((row qf kf vf cf h g t).E P : ℝ) : EReal) := by
  rw [val_main_v122_apply]
  exact cexp (t_v121 qf kf vf cf P h g t)

theorem t_v123 (P : Fin 3) (h : Fin 4) (g : Fin 4) (t : Fin 2048) : val_main_v123 (F := Ideal) (up qf) (up kf) (ix4 P h g t) = (((row qf kf vf cf h g t).W P : ℝ) : EReal) := by
  rw [val_main_v123_apply]
  exact cmul (t_v118 qf kf vf cf P h g t) (t_v122 qf kf vf cf P h g t)

theorem t_v124 (h : Fin 4) (g : Fin 4) (t : Fin 2048) (d : Fin 64) : val_main_v124 (F := Ideal) (up qf) (up kf) (up vf) (ix5 0 h g t d) = (((((row qf kf vf cf h g t).X 0 d) / ((row qf kf vf cf h g t).L 0)) : ℝ) : EReal) := by
  rw [val_main_v124_apply, show idx_main_v124 (ix5 0 h g t d) = (ix4 h g t d) from by funext a; fin_cases a <;> rfl]
  exact (t_v31 qf kf vf cf h g t d)

theorem t_v125 (h : Fin 4) (g : Fin 4) (t : Fin 2048) (d : Fin 64) : val_main_v125 (F := Ideal) (up qf) (up kf) (up vf) (ix5 0 h g t d) = (((((row qf kf vf cf h g t).X 1 d) / ((row qf kf vf cf h g t).L 1)) : ℝ) : EReal) := by
  rw [val_main_v125_apply, show idx_main_v125 (ix5 0 h g t d) = (ix4 h g t d) from by funext a; fin_cases a <;> rfl]
  exact (t_v66 qf kf vf cf h g t d)

theorem t_v126 (h : Fin 4) (g : Fin 4) (t : Fin 2048) (d : Fin 64) : val_main_v126 (F := Ideal) (up qf) (up kf) (up vf) (ix5 0 h g t d) = (((((row qf kf vf cf h g t).X 2 d) / ((row qf kf vf cf h g t).L 2)) : ℝ) : EReal) := by
  rw [val_main_v126_apply, show idx_main_v126 (ix5 0 h g t d) = (ix4 h g t d) from by funext a; fin_cases a <;> rfl]
  exact (t_v101 qf kf vf cf h g t d)

theorem t_v127 (P : Fin 3) (h : Fin 4) (g : Fin 4) (t : Fin 2048) (d : Fin 64) : val_main_v127 (F := Ideal) (up qf) (up kf) (up vf) (ix5 P h g t d) = (((row qf kf vf cf h g t).X P d / (row qf kf vf cf h g t).L P : ℝ) : EReal) := by
  refine (cat3_5 (three (val_main_v124 (F := Ideal) (up qf) (up kf) (up vf)) (val_main_v125 (F := Ideal) (up qf) (up kf) (up vf)) (val_main_v126 (F := Ideal) (up qf) (up kf) (up vf))) concatenates_S1x4x4x2048x64_S1x4x4x2048x64_S1x4x4x2048x64_S3x4x4x2048x64_d0 P h g t d).trans ?_
  match P with
  | 0 => exact (t_v124 qf kf vf cf h g t d)
  | 1 => exact (t_v125 qf kf vf cf h g t d)
  | 2 => exact (t_v126 qf kf vf cf h g t d)

theorem t_v128 (h : Fin 4) (g : Fin 4) (t : Fin 2048) : val_main_v128 (F := Ideal) (up qf) (up kf) (ix3 h g t) = (((row qf kf vf cf h g t).den : ℝ) : EReal) := by
  rw [val_main_v128_apply]
  refine csum Ideal.ofBits_zero_f32 _ _ fun k => ?_
  rw [show idx_main_v128 (ix3 h g t) k = (ix4 k h g t) from by funext a; fin_cases a <;> rfl]
  exact (t_v123 qf kf vf cf k h g t)

theorem t_v129 (P : Fin 3) (h : Fin 4) (g : Fin 4) (t : Fin 2048) : val_main_v129 (F := Ideal) (up qf) (up kf) (ix5 P h g t 0) = (((row qf kf vf cf h g t).W P : ℝ) : EReal) := by
  rw [val_main_v129_apply, show idx_main_v129 (ix5 P h g t 0) = (ix4 P h g t) from by funext a; fin_cases a <;> rfl]
  exact (t_v123 qf kf vf cf P h g t)

theorem t_v130 (P : Fin 3) (h : Fin 4) (g : Fin 4) (t : Fin 2048) (d : Fin 64) : val_main_v130 (F := Ideal) (up qf) (up kf) (ix5 P h g t d) = (((row qf kf vf cf h g t).W P : ℝ) : EReal) := by
  rw [val_main_v130_apply, show idx_main_v130 (ix5 P h g t d) = (ix5 P h g t 0) from by funext a; fin_cases a <;> rfl]
  exact (t_v129 qf kf vf cf P h g t)

theorem t_v131 (P : Fin 3) (h : Fin 4) (g : Fin 4) (t : Fin 2048) (d : Fin 64) : val_main_v131 (F := Ideal) (up qf) (up kf) (up vf) (ix5 P h g t d) = (((((row qf kf vf cf h g t).W P) * ((row qf kf vf cf h g t).X P d / (row qf kf vf cf h g t).L P)) : ℝ) : EReal) := by
  rw [val_main_v131_apply]
  exact cmul (t_v130 qf kf vf cf P h g t d) (t_v127 qf kf vf cf P h g t d)

theorem t_v132 (h : Fin 4) (g : Fin 4) (t : Fin 2048) (d : Fin 64) : val_main_v132 (F := Ideal) (up qf) (up kf) (up vf) (ix4 h g t d) = (((row qf kf vf cf h g t).num d : ℝ) : EReal) := by
  rw [val_main_v132_apply]
  refine csum Ideal.ofBits_zero_f32 _ _ fun k => ?_
  rw [show idx_main_v132 (ix4 h g t d) k = (ix5 k h g t d) from by funext a; fin_cases a <;> rfl]
  exact (t_v131 qf kf vf cf k h g t d)

theorem t_v133 (h : Fin 4) (g : Fin 4) (t : Fin 2048) : val_main_v133 (F := Ideal) (up qf) (up kf) (ix4 h g t 0) = (((row qf kf vf cf h g t).den : ℝ) : EReal) := by
  rw [val_main_v133_apply, show idx_main_v133 (ix4 h g t 0) = (ix3 h g t) from by funext a; fin_cases a <;> rfl]
  exact (t_v128 qf kf vf cf h g t)

theorem t_v134 (h : Fin 4) (g : Fin 4) (t : Fin 2048) (d : Fin 64) : val_main_v134 (F := Ideal) (up qf) (up kf) (ix4 h g t d) = (((row qf kf vf cf h g t).den : ℝ) : EReal) := by
  rw [val_main_v134_apply, show idx_main_v134 (ix4 h g t d) = (ix4 h g t 0) from by funext a; fin_cases a <;> rfl]
  exact (t_v133 qf kf vf cf h g t)

theorem t_v135 (h : Fin 4) (g : Fin 4) (t : Fin 2048) (d : Fin 64) : val_main_v135 (F := Ideal) (up qf) (up kf) (up vf) (ix4 h g t d) = (((row qf kf vf cf h g t).out d : ℝ) : EReal) := by
  rw [val_main_v135_apply]
  exact cdiv (t_v132 qf kf vf cf h g t d) (t_v134 qf kf vf cf h g t d) (den_ne qf kf vf cf h g t)

theorem t_v136 (h : Fin 4) (g : Fin 4) (t : Fin 2048) : val_main_v136 (F := Ideal) (up qf) (up kf) (ix4 h g t 0) = (((((row qf kf vf cf h g t).den) * ((row qf kf vf cf h g t).den)) : ℝ) : EReal) := by
  rw [val_main_v136_apply]
  exact cmul (t_v133 qf kf vf cf h g t) (t_v133 qf kf vf cf h g t)

theorem t_v137 (h : Fin 4) (g : Fin 4) (t : Fin 2048) : val_main_v137 (F := Ideal)  (ix4 h g t 0) = ((1 : ℝ) : EReal) := by
  rw [val_main_v137_apply]; exact cst_one

theorem t_v138 (h : Fin 4) (g : Fin 4) (t : Fin 2048) : val_main_v138 (F := Ideal) (up qf) (up kf) (ix4 h g t 0) = ((((1) / ((((row qf kf vf cf h g t).den) * ((row qf kf vf cf h g t).den)))) : ℝ) : EReal) := by
  rw [val_main_v138_apply]
  exact cdiv (t_v137 qf kf vf cf h g t) (t_v136 qf kf vf cf h g t) (mul_ne_zero (den_ne qf kf vf cf h g t) (den_ne qf kf vf cf h g t))

theorem t_v140 (h : Fin 4) (g : Fin 4) (t : Fin 2048) (d : Fin 64) : val_main_v140 (F := Ideal) (up cf) (ix4 h g t d) = (((row qf kf vf cf h g t).c d : ℝ) : EReal) := by
  rw [val_main_v140_apply, show idx_main_v140 (ix4 h g t d) = (ix4 t h g d) from by funext a; fin_cases a <;> rfl]
  exact rfl

theorem t_v141 (h : Fin 4) (g : Fin 4) (t : Fin 2048) (d : Fin 64) : val_main_v141 (F := Ideal) (up qf) (up kf) (ix4 h g t d) = ((((1) / ((((row qf kf vf cf h g t).den) * ((row qf kf vf cf h g t).den)))) : ℝ) : EReal) := by
  rw [val_main_v141_apply, show idx_main_v141 (ix4 h g t d) = (ix4 h g t 0) from by funext a; fin_cases a <;> rfl]
  exact (t_v138 qf kf vf cf h g t)

theorem t_v142 (h : Fin 4) (g : Fin 4) (t : Fin 2048) (d : Fin 64) : val_main_v142 (F := Ideal) (up qf) (up kf) (up cf) (ix4 h g t d) = (((((row qf kf vf cf h g t).c d) * (((1) / ((((row qf kf vf cf h g t).den) * ((row qf kf vf cf h g t).den)))))) : ℝ) : EReal) := by
  rw [val_main_v142_apply]
  exact cmul (t_v140 qf kf vf cf h g t d) (t_v141 qf kf vf cf h g t d)

theorem t_v143 (h : Fin 4) (g : Fin 4) (t : Fin 2048) (d : Fin 64) : val_main_v143 (F := Ideal) (up qf) (up kf) (up vf) (up cf) (ix4 h g t d) = (((((((row qf kf vf cf h g t).c d) * (((1) / ((((row qf kf vf cf h g t).den) * ((row qf kf vf cf h g t).den))))))) * ((row qf kf vf cf h g t).num d)) : ℝ) : EReal) := by
  rw [val_main_v143_apply]
  exact cmul (t_v142 qf kf vf cf h g t d) (t_v132 qf kf vf cf h g t d)

theorem t_v144 (h : Fin 4) (g : Fin 4) (t : Fin 2048) : val_main_v144 (F := Ideal) (up qf) (up kf) (up vf) (up cf) (ix3 h g t) = (((∑ k : Fin 64, (((((row qf kf vf cf h g t).c k) * (((1) / ((((row qf kf vf cf h g t).den) * ((row qf kf vf cf h g t).den))))))) * ((row qf kf vf cf h g t).num k))) : ℝ) : EReal) := by
  rw [val_main_v144_apply]
  refine csum Ideal.ofBits_zero_f32 _ _ fun k => ?_
  rw [show idx_main_v144 (ix3 h g t) k = (ix4 h g t k) from by funext a; fin_cases a <;> rfl]
  exact (t_v143 qf kf vf cf h g t k)

theorem t_v145 (h : Fin 4) (g : Fin 4) (t : Fin 2048) : val_main_v145 (F := Ideal) (up qf) (up kf) (up vf) (up cf) (ix4 h g t 0) = (((∑ k : Fin 64, (((((row qf kf vf cf h g t).c k) * (((1) / ((((row qf kf vf cf h g t).den) * ((row qf kf vf cf h g t).den))))))) * ((row qf kf vf cf h g t).num k))) : ℝ) : EReal) := by
  rw [val_main_v145_apply, show idx_main_v145 (ix4 h g t 0) = (ix3 h g t) from by
    have hh := h.isLt; have hg := g.isLt; have ht := t.isLt
    exact ixe3 (by apply Fin.ext; show (((h.val * 4 + g.val) * 2048 + t.val) * 1 + 0) / 8192 = h.val; omega) (by apply Fin.ext; show (((h.val * 4 + g.val) * 2048 + t.val) * 1 + 0) / 2048 % 4 = g.val; omega) (by apply Fin.ext; show (((h.val * 4 + g.val) * 2048 + t.val) * 1 + 0) % 2048 = t.val; omega)]
  exact (t_v144 qf kf vf cf h g t)

theorem t_v146 (h : Fin 4) (g : Fin 4) (t : Fin 2048) : val_main_v146 (F := Ideal) (up qf) (up kf) (up vf) (up cf) (ix4 h g t 0) = (((-((∑ k : Fin 64, (((((row qf kf vf cf h g t).c k) * (((1) / ((((row qf kf vf cf h g t).den) * ((row qf kf vf cf h g t).den))))))) * ((row qf kf vf cf h g t).num k))))) : ℝ) : EReal) := by
  rw [val_main_v146_apply]
  exact cneg (t_v145 qf kf vf cf h g t)

theorem t_v147 (h : Fin 4) (g : Fin 4) (t : Fin 2048) (d : Fin 64) : val_main_v147 (F := Ideal) (up qf) (up kf) (ix4 h g t d) = (((row qf kf vf cf h g t).den : ℝ) : EReal) := by
  rw [val_main_v147_apply, show idx_main_v147 (ix4 h g t d) = (ix4 h g t 0) from by funext a; fin_cases a <;> rfl]
  exact (t_v133 qf kf vf cf h g t)

theorem t_v148 (h : Fin 4) (g : Fin 4) (t : Fin 2048) (d : Fin 64) : val_main_v148 (F := Ideal) (up qf) (up kf) (up cf) (ix4 h g t d) = (((((row qf kf vf cf h g t).c d) / ((row qf kf vf cf h g t).den)) : ℝ) : EReal) := by
  rw [val_main_v148_apply]
  exact cdiv (t_v140 qf kf vf cf h g t d) (t_v147 qf kf vf cf h g t d) (den_ne qf kf vf cf h g t)

theorem t_v149 (h : Fin 4) (g : Fin 4) (t : Fin 2048) : val_main_v149 (F := Ideal) (up qf) (up kf) (up vf) (up cf) (ix3 h g t) = (((-((∑ k : Fin 64, (((((row qf kf vf cf h g t).c k) * (((1) / ((((row qf kf vf cf h g t).den) * ((row qf kf vf cf h g t).den))))))) * ((row qf kf vf cf h g t).num k))))) : ℝ) : EReal) := by
  rw [val_main_v149_apply]
  refine csum1 Ideal.ofBits_zero_f32 _ ?_
  rw [show idx_main_v149 (ix3 h g t) (0 : Fin 1) = (ix4 h g t 0) from by funext a; fin_cases a <;> rfl]
  exact (t_v146 qf kf vf cf h g t)

theorem t_v150 (P : Fin 3) (h : Fin 4) (g : Fin 4) (t : Fin 2048) (d : Fin 64) : val_main_v150 (F := Ideal) (up qf) (up kf) (up cf) (ix5 P h g t d) = (((((row qf kf vf cf h g t).c d) / ((row qf kf vf cf h g t).den)) : ℝ) : EReal) := by
  rw [val_main_v150_apply, show idx_main_v150 (ix5 P h g t d) = (ix4 h g t d) from by funext a; fin_cases a <;> rfl]
  exact (t_v148 qf kf vf cf h g t d)

theorem t_v151 (P : Fin 3) (h : Fin 4) (g : Fin 4) (t : Fin 2048) (d : Fin 64) : val_main_v151 (F := Ideal) (up qf) (up kf) (ix5 P h g t d) = (((row qf kf vf cf h g t).W P : ℝ) : EReal) := by
  rw [val_main_v151_apply, show idx_main_v151 (ix5 P h g t d) = (ix5 P h g t 0) from by funext a; fin_cases a <;> rfl]
  exact (t_v129 qf kf vf cf P h g t)

theorem t_v152 (P : Fin 3) (h : Fin 4) (g : Fin 4) (t : Fin 2048) (d : Fin 64) : val_main_v152 (F := Ideal) (up qf) (up kf) (up cf) (ix5 P h g t d) = (((((row qf kf vf cf h g t).W P) * ((((row qf kf vf cf h g t).c d) / ((row qf kf vf cf h g t).den)))) : ℝ) : EReal) := by
  rw [val_main_v152_apply]
  exact cmul (t_v151 qf kf vf cf P h g t d) (t_v150 qf kf vf cf P h g t d)

theorem t_v153 (P : Fin 3) (h : Fin 4) (g : Fin 4) (t : Fin 2048) (d : Fin 64) : val_main_v153 (F := Ideal) (up qf) (up kf) (up vf) (up cf) (ix5 P h g t d) = (((((((row qf kf vf cf h g t).c d) / ((row qf kf vf cf h g t).den))) * ((row qf kf vf cf h g t).X P d / (row qf kf vf cf h g t).L P)) : ℝ) : EReal) := by
  rw [val_main_v153_apply]
  exact cmul (t_v150 qf kf vf cf P h g t d) (t_v127 qf kf vf cf P h g t d)

theorem t_v154 (P : Fin 3) (h : Fin 4) (g : Fin 4) (t : Fin 2048) : val_main_v154 (F := Ideal) (up qf) (up kf) (up vf) (up cf) (ix4 P h g t) = (((∑ k : Fin 64, (((((row qf kf vf cf h g t).c k) / ((row qf kf vf cf h g t).den))) * ((row qf kf vf cf h g t).X P k / (row qf kf vf cf h g t).L P))) : ℝ) : EReal) := by
  rw [val_main_v154_apply]
  refine csum Ideal.ofBits_zero_f32 _ _ fun k => ?_
  rw [show idx_main_v154 (ix4 P h g t) k = (ix5 P h g t k) from by funext a; fin_cases a <;> rfl]
  exact (t_v153 qf kf vf cf P h g t k)

theorem t_v155 (P : Fin 3) (h : Fin 4) (g : Fin 4) (t : Fin 2048) : val_main_v155 (F := Ideal) (up qf) (up kf) (up vf) (up cf) (ix5 P h g t 0) = (((∑ k : Fin 64, (((((row qf kf vf cf h g t).c k) / ((row qf kf vf cf h g t).den))) * ((row qf kf vf cf h g t).X P k / (row qf kf vf cf h g t).L P))) : ℝ) : EReal) := by
  rw [val_main_v155_apply, show idx_main_v155 (ix5 P h g t 0) = (ix4 P h g t) from by
    have hP := P.isLt; have hh := h.isLt; have hg := g.isLt; have ht := t.isLt
    exact ixe4 (by apply Fin.ext; show ((((P.val * 4 + h.val) * 4 + g.val) * 2048 + t.val) * 1 + 0) / 32768 = P.val; omega) (by apply Fin.ext; show ((((P.val * 4 + h.val) * 4 + g.val) * 2048 + t.val) * 1 + 0) / 8192 % 4 = h.val; omega) (by apply Fin.ext; show ((((P.val * 4 + h.val) * 4 + g.val) * 2048 + t.val) * 1 + 0) / 2048 % 4 = g.val; omega) (by apply Fin.ext; show ((((P.val * 4 + h.val) * 4 + g.val) * 2048 + t.val) * 1 + 0) % 2048 = t.val; omega)]
  exact (t_v154 qf kf vf cf P h g t)

theorem t_v156 (P : Fin 3) (h : Fin 4) (g : Fin 4) (t : Fin 2048) : val_main_v156 (F := Ideal) (up qf) (up kf) (up vf) (up cf) (ix4 P h g t) = (((∑ k : Fin 64, (((((row qf kf vf cf h g t).c k) / ((row qf kf vf cf h g t).den))) * ((row qf kf vf cf h g t).X P k / (row qf kf vf cf h g t).L P))) : ℝ) : EReal) := by
  rw [val_main_v156_apply]
  refine csum1 Ideal.ofBits_zero_f32 _ ?_
  rw [show idx_main_v156 (ix4 P h g t) (0 : Fin 1) = (ix5 P h g t 0) from by funext a; fin_cases a <;> rfl]
  exact (t_v155 qf kf vf cf P h g t)

theorem t_v157 (P : Fin 3) (h : Fin 4) (g : Fin 4) (t : Fin 2048) : val_main_v157 (F := Ideal) (up qf) (up kf) (up vf) (up cf) (ix4 P h g t) = (((-((∑ k : Fin 64, (((((row qf kf vf cf h g t).c k) * (((1) / ((((row qf kf vf cf h g t).den) * ((row qf kf vf cf h g t).den))))))) * ((row qf kf vf cf h g t).num k))))) : ℝ) : EReal) := by
  rw [val_main_v157_apply, show idx_main_v157 (ix4 P h g t) = (ix3 h g t) from by funext a; fin_cases a <;> rfl]
  exact (t_v149 qf kf vf cf h g t)

theorem t_v158 (P : Fin 3) (h : Fin 4) (g : Fin 4) (t : Fin 2048) : val_main_v158 (F := Ideal) (up qf) (up kf) (up vf) (up cf) (ix4 P h g t) = (((row qf kf vf cf h g t).dW P : ℝ) : EReal) := by
  rw [val_main_v158_apply]
  exact cadd (t_v156 qf kf vf cf P h g t) (t_v157 qf kf vf cf P h g t)

theorem t_v159 (h : Fin 4) (g : Fin 4) (t : Fin 2048) (d : Fin 64) : val_main_v159 (F := Ideal) (up qf) (up kf) (up cf) (ix5 0 h g t d) = (((((row qf kf vf cf h g t).W 0) * ((((row qf kf vf cf h g t).c d) / ((row qf kf vf cf h g t).den)))) : ℝ) : EReal) := by
  rw [val_main_v159_apply, show idx_main_v159 (ix5 0 h g t d) = (ix5 0 h g t d) from by funext a; fin_cases a <;> rfl]
  exact (t_v152 qf kf vf cf 0 h g t d)

theorem t_v160 (h : Fin 4) (g : Fin 4) (t : Fin 2048) (d : Fin 64) : val_main_v160 (F := Ideal) (up qf) (up kf) (up cf) (ix4 h g t d) = (((((row qf kf vf cf h g t).W 0) * ((((row qf kf vf cf h g t).c d) / ((row qf kf vf cf h g t).den)))) : ℝ) : EReal) := by
  rw [val_main_v160_apply, show idx_main_v160 (ix4 h g t d) = (ix5 0 h g t d) from by
    have hh := h.isLt; have hg := g.isLt; have ht := t.isLt; have hd := d.isLt
    exact ixe5 (by apply Fin.ext; show 0 = 0; omega) (by apply Fin.ext; show (((h.val * 4 + g.val) * 2048 + t.val) * 64 + d.val) / 524288 % 4 = h.val; omega) (by apply Fin.ext; show (((h.val * 4 + g.val) * 2048 + t.val) * 64 + d.val) / 131072 % 4 = g.val; omega) (by apply Fin.ext; show (((h.val * 4 + g.val) * 2048 + t.val) * 64 + d.val) / 64 % 2048 = t.val; omega) (by apply Fin.ext; show (((h.val * 4 + g.val) * 2048 + t.val) * 64 + d.val) % 64 = d.val; omega)]
  exact (t_v159 qf kf vf cf h g t d)

theorem t_v161 (h : Fin 4) (g : Fin 4) (t : Fin 2048) (d : Fin 64) : val_main_v161 (F := Ideal) (up qf) (up kf) (up cf) (ix5 0 h g t d) = (((((row qf kf vf cf h g t).W 1) * ((((row qf kf vf cf h g t).c d) / ((row qf kf vf cf h g t).den)))) : ℝ) : EReal) := by
  rw [val_main_v161_apply, show idx_main_v161 (ix5 0 h g t d) = (ix5 1 h g t d) from by funext a; fin_cases a <;> rfl]
  exact (t_v152 qf kf vf cf 1 h g t d)

theorem t_v162 (h : Fin 4) (g : Fin 4) (t : Fin 2048) (d : Fin 64) : val_main_v162 (F := Ideal) (up qf) (up kf) (up cf) (ix4 h g t d) = (((((row qf kf vf cf h g t).W 1) * ((((row qf kf vf cf h g t).c d) / ((row qf kf vf cf h g t).den)))) : ℝ) : EReal) := by
  rw [val_main_v162_apply, show idx_main_v162 (ix4 h g t d) = (ix5 0 h g t d) from by
    have hh := h.isLt; have hg := g.isLt; have ht := t.isLt; have hd := d.isLt
    exact ixe5 (by apply Fin.ext; show 0 = 0; omega) (by apply Fin.ext; show (((h.val * 4 + g.val) * 2048 + t.val) * 64 + d.val) / 524288 % 4 = h.val; omega) (by apply Fin.ext; show (((h.val * 4 + g.val) * 2048 + t.val) * 64 + d.val) / 131072 % 4 = g.val; omega) (by apply Fin.ext; show (((h.val * 4 + g.val) * 2048 + t.val) * 64 + d.val) / 64 % 2048 = t.val; omega) (by apply Fin.ext; show (((h.val * 4 + g.val) * 2048 + t.val) * 64 + d.val) % 64 = d.val; omega)]
  exact (t_v161 qf kf vf cf h g t d)

theorem t_v163 (h : Fin 4) (g : Fin 4) (t : Fin 2048) (d : Fin 64) : val_main_v163 (F := Ideal) (up qf) (up kf) (up cf) (ix5 0 h g t d) = (((((row qf kf vf cf h g t).W 2) * ((((row qf kf vf cf h g t).c d) / ((row qf kf vf cf h g t).den)))) : ℝ) : EReal) := by
  rw [val_main_v163_apply, show idx_main_v163 (ix5 0 h g t d) = (ix5 2 h g t d) from by funext a; fin_cases a <;> rfl]
  exact (t_v152 qf kf vf cf 2 h g t d)

theorem t_v164 (h : Fin 4) (g : Fin 4) (t : Fin 2048) (d : Fin 64) : val_main_v164 (F := Ideal) (up qf) (up kf) (up cf) (ix4 h g t d) = (((((row qf kf vf cf h g t).W 2) * ((((row qf kf vf cf h g t).c d) / ((row qf kf vf cf h g t).den)))) : ℝ) : EReal) := by
  rw [val_main_v164_apply, show idx_main_v164 (ix4 h g t d) = (ix5 0 h g t d) from by
    have hh := h.isLt; have hg := g.isLt; have ht := t.isLt; have hd := d.isLt
    exact ixe5 (by apply Fin.ext; show 0 = 0; omega) (by apply Fin.ext; show (((h.val * 4 + g.val) * 2048 + t.val) * 64 + d.val) / 524288 % 4 = h.val; omega) (by apply Fin.ext; show (((h.val * 4 + g.val) * 2048 + t.val) * 64 + d.val) / 131072 % 4 = g.val; omega) (by apply Fin.ext; show (((h.val * 4 + g.val) * 2048 + t.val) * 64 + d.val) / 64 % 2048 = t.val; omega) (by apply Fin.ext; show (((h.val * 4 + g.val) * 2048 + t.val) * 64 + d.val) % 64 = d.val; omega)]
  exact (t_v163 qf kf vf cf h g t d)

theorem t_v165 (P : Fin 3) (h : Fin 4) (g : Fin 4) (t : Fin 2048) : val_main_v165 (F := Ideal) (up qf) (up kf) (up vf) (up cf) (ix4 P h g t) = (((((row qf kf vf cf h g t).L P) * ((row qf kf vf cf h g t).dW P)) : ℝ) : EReal) := by
  rw [val_main_v165_apply]
  exact cmul (t_v118 qf kf vf cf P h g t) (t_v158 qf kf vf cf P h g t)

theorem t_v166 (P : Fin 3) (h : Fin 4) (g : Fin 4) (t : Fin 2048) : val_main_v166 (F := Ideal) (up qf) (up kf) (up vf) (up cf) (ix4 P h g t) = (((((row qf kf vf cf h g t).dW P) * ((row qf kf vf cf h g t).E P)) : ℝ) : EReal) := by
  rw [val_main_v166_apply]
  exact cmul (t_v158 qf kf vf cf P h g t) (t_v122 qf kf vf cf P h g t)

theorem t_v167 (P : Fin 3) (h : Fin 4) (g : Fin 4) (t : Fin 2048) : val_main_v167 (F := Ideal) (up qf) (up kf) (up vf) (up cf) (ix4 P h g t) = (((((((row qf kf vf cf h g t).L P) * ((row qf kf vf cf h g t).dW P))) * ((row qf kf vf cf h g t).E P)) : ℝ) : EReal) := by
  rw [val_main_v167_apply]
  exact cmul (t_v165 qf kf vf cf P h g t) (t_v122 qf kf vf cf P h g t)

theorem t_v168 (P : Fin 3) (h : Fin 4) (g : Fin 4) (t : Fin 2048) : val_main_v168 (F := Ideal) (up qf) (up kf) (up vf) (up cf) (ix4 P h g t) = (((-((((((row qf kf vf cf h g t).L P) * ((row qf kf vf cf h g t).dW P))) * ((row qf kf vf cf h g t).E P)))) : ℝ) : EReal) := by
  rw [val_main_v168_apply]
  exact cneg (t_v167 qf kf vf cf P h g t)

theorem t_v169 (h : Fin 4) (g : Fin 4) (t : Fin 2048) : val_main_v169 (F := Ideal) (up qf) (up kf) (up vf) (up cf) (ix3 h g t) = ((0 : ℝ) : EReal) := by
  rw [val_main_v169_apply]
  refine (csum Ideal.ofBits_zero_f32 _ _ fun k => ?_).trans (congrArg Real.toEReal (rowsum0 (row qf kf vf cf h g t) (den_ne qf kf vf cf h g t)))
  rw [show idx_main_v169 (ix3 h g t) k = (ix4 k h g t) from by funext a; fin_cases a <;> rfl]
  exact (t_v168 qf kf vf cf k h g t)

theorem t_v170 (h : Fin 4) (g : Fin 4) (t : Fin 2048) : val_main_v170 (F := Ideal) (up qf) (up kf) (up vf) (up cf) (ix4 0 h g t) = ((0 : ℝ) : EReal) := by
  rw [val_main_v170_apply, show idx_main_v170 (ix4 0 h g t) = (ix3 h g t) from by
    have hh := h.isLt; have hg := g.isLt; have ht := t.isLt
    exact ixe3 (by apply Fin.ext; show (((0 * 4 + h.val) * 4 + g.val) * 2048 + t.val) / 8192 = h.val; omega) (by apply Fin.ext; show (((0 * 4 + h.val) * 4 + g.val) * 2048 + t.val) / 2048 % 4 = g.val; omega) (by apply Fin.ext; show (((0 * 4 + h.val) * 4 + g.val) * 2048 + t.val) % 2048 = t.val; omega)]
  exact (t_v169 qf kf vf cf h g t)

theorem t_v171 (h : Fin 4) (g : Fin 4) (t : Fin 2048) : val_main_v171 (F := Ideal) (up qf) (up kf) (up vf) (up cf) (ix3 h g t) = ((0 : ℝ) : EReal) := by
  rw [val_main_v171_apply]
  refine csum1 Ideal.ofBits_zero_f32 _ ?_
  rw [show idx_main_v171 (ix3 h g t) (0 : Fin 1) = (ix4 0 h g t) from by funext a; fin_cases a <;> rfl]
  exact (t_v170 qf kf vf cf h g t)

theorem t_v172 (h : Fin 4) (g : Fin 4) (t : Fin 2048) : val_main_v172 (F := Ideal) (up qf) (up kf) (up vf) (up cf) (ix4 0 h g t) = (((((row qf kf vf cf h g t).dW 0) * ((row qf kf vf cf h g t).E 0)) : ℝ) : EReal) := by
  rw [val_main_v172_apply, show idx_main_v172 (ix4 0 h g t) = (ix4 0 h g t) from by funext a; fin_cases a <;> rfl]
  exact (t_v166 qf kf vf cf 0 h g t)

theorem t_v173 (h : Fin 4) (g : Fin 4) (t : Fin 2048) : val_main_v173 (F := Ideal) (up qf) (up kf) (up vf) (up cf) (ix3 h g t) = (((((row qf kf vf cf h g t).dW 0) * ((row qf kf vf cf h g t).E 0)) : ℝ) : EReal) := by
  rw [val_main_v173_apply, show idx_main_v173 (ix3 h g t) = (ix4 0 h g t) from by
    have hh := h.isLt; have hg := g.isLt; have ht := t.isLt
    exact ixe4 (by apply Fin.ext; show 0 = 0; omega) (by apply Fin.ext; show ((h.val * 4 + g.val) * 2048 + t.val) / 8192 % 4 = h.val; omega) (by apply Fin.ext; show ((h.val * 4 + g.val) * 2048 + t.val) / 2048 % 4 = g.val; omega) (by apply Fin.ext; show ((h.val * 4 + g.val) * 2048 + t.val) % 2048 = t.val; omega)]
  exact (t_v172 qf kf vf cf h g t)

theorem t_v174 (h : Fin 4) (g : Fin 4) (t : Fin 2048) : val_main_v174 (F := Ideal) (up qf) (up kf) (up vf) (up cf) (ix4 0 h g t) = (((((row qf kf vf cf h g t).dW 1) * ((row qf kf vf cf h g t).E 1)) : ℝ) : EReal) := by
  rw [val_main_v174_apply, show idx_main_v174 (ix4 0 h g t) = (ix4 1 h g t) from by funext a; fin_cases a <;> rfl]
  exact (t_v166 qf kf vf cf 1 h g t)

theorem t_v175 (h : Fin 4) (g : Fin 4) (t : Fin 2048) : val_main_v175 (F := Ideal) (up qf) (up kf) (up vf) (up cf) (ix3 h g t) = (((((row qf kf vf cf h g t).dW 1) * ((row qf kf vf cf h g t).E 1)) : ℝ) : EReal) := by
  rw [val_main_v175_apply, show idx_main_v175 (ix3 h g t) = (ix4 0 h g t) from by
    have hh := h.isLt; have hg := g.isLt; have ht := t.isLt
    exact ixe4 (by apply Fin.ext; show 0 = 0; omega) (by apply Fin.ext; show ((h.val * 4 + g.val) * 2048 + t.val) / 8192 % 4 = h.val; omega) (by apply Fin.ext; show ((h.val * 4 + g.val) * 2048 + t.val) / 2048 % 4 = g.val; omega) (by apply Fin.ext; show ((h.val * 4 + g.val) * 2048 + t.val) % 2048 = t.val; omega)]
  exact (t_v174 qf kf vf cf h g t)

theorem t_v176 (h : Fin 4) (g : Fin 4) (t : Fin 2048) : val_main_v176 (F := Ideal) (up qf) (up kf) (up vf) (up cf) (ix4 0 h g t) = (((((row qf kf vf cf h g t).dW 2) * ((row qf kf vf cf h g t).E 2)) : ℝ) : EReal) := by
  rw [val_main_v176_apply, show idx_main_v176 (ix4 0 h g t) = (ix4 2 h g t) from by funext a; fin_cases a <;> rfl]
  exact (t_v166 qf kf vf cf 2 h g t)

theorem t_v177 (h : Fin 4) (g : Fin 4) (t : Fin 2048) : val_main_v177 (F := Ideal) (up qf) (up kf) (up vf) (up cf) (ix3 h g t) = (((((row qf kf vf cf h g t).dW 2) * ((row qf kf vf cf h g t).E 2)) : ℝ) : EReal) := by
  rw [val_main_v177_apply, show idx_main_v177 (ix3 h g t) = (ix4 0 h g t) from by
    have hh := h.isLt; have hg := g.isLt; have ht := t.isLt
    exact ixe4 (by apply Fin.ext; show 0 = 0; omega) (by apply Fin.ext; show ((h.val * 4 + g.val) * 2048 + t.val) / 8192 % 4 = h.val; omega) (by apply Fin.ext; show ((h.val * 4 + g.val) * 2048 + t.val) / 2048 % 4 = g.val; omega) (by apply Fin.ext; show ((h.val * 4 + g.val) * 2048 + t.val) % 2048 = t.val; omega)]
  exact (t_v176 qf kf vf cf h g t)

theorem t_v178 (h g : Fin 4) (t : Fin 2048) : val_main_v178 (F := Ideal) (up qf) (up kf) (up vf) (up cf) (ix3 h g t) = ((0 : ℝ) : EReal) := by
  obtain ⟨r, hr, e⟩ := tie_v114 qf kf vf cf h g t
  rw [val_main_v178_apply]
  refine (cdiv (t_v171 qf kf vf cf h g t) e hr).trans ?_
  rw [zero_div]

theorem t_v179 (P : Fin 3) (h : Fin 4) (g : Fin 4) (t : Fin 2048) : val_main_v179 (F := Ideal) (up qf) (up kf) (up vf) (up cf) (ix4 P h g t) = ((0 : ℝ) : EReal) := by
  rw [val_main_v179_apply, show idx_main_v179 (ix4 P h g t) = (ix3 h g t) from by funext a; fin_cases a <;> rfl]
  exact (t_v178 qf kf vf cf h g t)

theorem t_v180 (P : Fin 3) (h g : Fin 4) (t : Fin 2048) : val_main_v180 (F := Ideal) (up qf) (up kf) (up vf) (up cf) (ix4 P h g t) = ((0 : ℝ) : EReal) := by
  rw [val_main_v180_apply, t_v179 qf kf vf cf P h g t, EReal.coe_zero]
  exact zero_mul (M₀ := EReal) _

theorem t_v181 (P : Fin 3) (h g : Fin 4) (t : Fin 2048) : val_main_v181 (F := Ideal) (up qf) (up kf) (up vf) (up cf) (ix4 P h g t) = (((((((row qf kf vf cf h g t).L P) * ((row qf kf vf cf h g t).dW P))) * ((row qf kf vf cf h g t).E P)) : ℝ) : EReal) := by
  rw [val_main_v181_apply]
  refine (cadd (t_v167 qf kf vf cf P h g t) (t_v180 qf kf vf cf P h g t)).trans ?_
  rw [add_zero]

theorem t_v182 (h : Fin 4) (g : Fin 4) (t : Fin 2048) : val_main_v182 (F := Ideal) (up qf) (up kf) (up vf) (up cf) (ix4 0 h g t) = (((((((row qf kf vf cf h g t).L 0) * ((row qf kf vf cf h g t).dW 0))) * ((row qf kf vf cf h g t).E 0)) : ℝ) : EReal) := by
  rw [val_main_v182_apply, show idx_main_v182 (ix4 0 h g t) = (ix4 0 h g t) from by funext a; fin_cases a <;> rfl]
  exact (t_v181 qf kf vf cf 0 h g t)

theorem t_v183 (h : Fin 4) (g : Fin 4) (t : Fin 2048) : val_main_v183 (F := Ideal) (up qf) (up kf) (up vf) (up cf) (ix3 h g t) = (((((((row qf kf vf cf h g t).L 0) * ((row qf kf vf cf h g t).dW 0))) * ((row qf kf vf cf h g t).E 0)) : ℝ) : EReal) := by
  rw [val_main_v183_apply, show idx_main_v183 (ix3 h g t) = (ix4 0 h g t) from by
    have hh := h.isLt; have hg := g.isLt; have ht := t.isLt
    exact ixe4 (by apply Fin.ext; show 0 = 0; omega) (by apply Fin.ext; show ((h.val * 4 + g.val) * 2048 + t.val) / 8192 % 4 = h.val; omega) (by apply Fin.ext; show ((h.val * 4 + g.val) * 2048 + t.val) / 2048 % 4 = g.val; omega) (by apply Fin.ext; show ((h.val * 4 + g.val) * 2048 + t.val) % 2048 = t.val; omega)]
  exact (t_v182 qf kf vf cf h g t)

theorem t_v184 (h : Fin 4) (g : Fin 4) (t : Fin 2048) : val_main_v184 (F := Ideal) (up qf) (up kf) (up vf) (up cf) (ix4 0 h g t) = (((((((row qf kf vf cf h g t).L 1) * ((row qf kf vf cf h g t).dW 1))) * ((row qf kf vf cf h g t).E 1)) : ℝ) : EReal) := by
  rw [val_main_v184_apply, show idx_main_v184 (ix4 0 h g t) = (ix4 1 h g t) from by funext a; fin_cases a <;> rfl]
  exact (t_v181 qf kf vf cf 1 h g t)

theorem t_v185 (h : Fin 4) (g : Fin 4) (t : Fin 2048) : val_main_v185 (F := Ideal) (up qf) (up kf) (up vf) (up cf) (ix3 h g t) = (((((((row qf kf vf cf h g t).L 1) * ((row qf kf vf cf h g t).dW 1))) * ((row qf kf vf cf h g t).E 1)) : ℝ) : EReal) := by
  rw [val_main_v185_apply, show idx_main_v185 (ix3 h g t) = (ix4 0 h g t) from by
    have hh := h.isLt; have hg := g.isLt; have ht := t.isLt
    exact ixe4 (by apply Fin.ext; show 0 = 0; omega) (by apply Fin.ext; show ((h.val * 4 + g.val) * 2048 + t.val) / 8192 % 4 = h.val; omega) (by apply Fin.ext; show ((h.val * 4 + g.val) * 2048 + t.val) / 2048 % 4 = g.val; omega) (by apply Fin.ext; show ((h.val * 4 + g.val) * 2048 + t.val) % 2048 = t.val; omega)]
  exact (t_v184 qf kf vf cf h g t)

theorem t_v186 (h : Fin 4) (g : Fin 4) (t : Fin 2048) : val_main_v186 (F := Ideal) (up qf) (up kf) (up vf) (up cf) (ix4 0 h g t) = (((((((row qf kf vf cf h g t).L 2) * ((row qf kf vf cf h g t).dW 2))) * ((row qf kf vf cf h g t).E 2)) : ℝ) : EReal) := by
  rw [val_main_v186_apply, show idx_main_v186 (ix4 0 h g t) = (ix4 2 h g t) from by funext a; fin_cases a <;> rfl]
  exact (t_v181 qf kf vf cf 2 h g t)

theorem t_v187 (h : Fin 4) (g : Fin 4) (t : Fin 2048) : val_main_v187 (F := Ideal) (up qf) (up kf) (up vf) (up cf) (ix3 h g t) = (((((((row qf kf vf cf h g t).L 2) * ((row qf kf vf cf h g t).dW 2))) * ((row qf kf vf cf h g t).E 2)) : ℝ) : EReal) := by
  rw [val_main_v187_apply, show idx_main_v187 (ix3 h g t) = (ix4 0 h g t) from by
    have hh := h.isLt; have hg := g.isLt; have ht := t.isLt
    exact ixe4 (by apply Fin.ext; show 0 = 0; omega) (by apply Fin.ext; show ((h.val * 4 + g.val) * 2048 + t.val) / 8192 % 4 = h.val; omega) (by apply Fin.ext; show ((h.val * 4 + g.val) * 2048 + t.val) / 2048 % 4 = g.val; omega) (by apply Fin.ext; show ((h.val * 4 + g.val) * 2048 + t.val) % 2048 = t.val; omega)]
  exact (t_v186 qf kf vf cf h g t)

end Cert.Ref
-- ==== Proof.RefBwd.lean ====
/- The gradients of the reference over real arguments, pattern by pattern, and their sums. -/
module

public import proofs.«01_k».proof.Proof.RefMix
public import Idealize.ShloMosaic.Lib.TwoAxisContraction

@[expose] public section

set_option maxRecDepth 16384

noncomputable section

set_option maxHeartbeats 400000

namespace Cert.Ref

open Idealize.ShloMosaic Cert.ReferenceIdeal Cert.ReferenceIdeal.Gen Cert.ReferenceIdeal.Read Cert.Coe

/-- A double sum of products of real terms. -/
theorem cdot2 {n m : ℕ} (f f' : Fin n → Fin m → EReal) (r r' : Fin n → Fin m → ℝ) (h : ∀ a b, f a b = (r a b : EReal))
    (h' : ∀ a b, f' a b = (r' a b : EReal)) : ∑ a, ∑ b, f a b * f' a b = ((∑ a, ∑ b, r a b * r' a b : ℝ) : EReal) := by
  have := csum (z := 0) rfl (fun a => ∑ b, f a b * f' a b) (fun a => ∑ b, r a b * r' a b) (fun a => cdot _ _ _ _ (h a) (h' a))
  rw [zero_add] at this
  exact this

variable (qf : S2048x4x4x64.Idx → ℝ) (kf vf : S2048x4x64.Idx → ℝ) (cf : S2048x4x4x64.Idx → ℝ)

/-- The gradient of a masked score is zero. -/
theorem dS_masked (h g : Fin 4) (t s : Fin 2048) (P : Fin 3) :
    (if mk P t s then (((row qf kf vf cf h g t).dS P s : ℝ) : EReal) else ((0 : ℝ) : EReal)) = (((row qf kf vf cf h g t).dS P s : ℝ) : EReal) := by
  by_cases hm : mk P t s = true
  · rw [if_pos hm]
  · rw [if_neg hm]
    have hp : (row qf kf vf cf h g t).p P s = 0 := by
      unfold Row.Data.p
      exact if_neg hm
    unfold Row.Data.dS
    rw [hp, mul_zero]

/-- The gradients of a row's scores, its maximum's share and its denominator's cancel. -/
theorem rowmax0 (D : Row.Data (Fin 2048) (Fin 64)) (P : Fin 3) (hL : D.L P ≠ 0) : D.L P * D.dW P * D.E P + ∑ s, -(D.dS P s) = 0 := by
  rw [Finset.sum_neg_distrib, D.sum_dS P hL]
  unfold Row.Data.W
  ring

include qf kf vf cf

theorem t_v188 (h : Fin 4) (g : Fin 4) (t : Fin 2048) (d : Fin 64) : val_main_v188 (F := Ideal) (up qf) (up kf) (ix4 h g t d) = ((((1) / ((((row qf kf vf cf h g t).L 2) * ((row qf kf vf cf h g t).L 2)))) : ℝ) : EReal) := by
  rw [val_main_v188_apply, show idx_main_v188 (ix4 h g t d) = (ix4 h g t 0) from by funext a; fin_cases a <;> rfl]
  exact (t_v104 qf kf vf cf h g t)

theorem t_v189 (h : Fin 4) (g : Fin 4) (t : Fin 2048) (d : Fin 64) : val_main_v189 (F := Ideal) (up qf) (up kf) (up cf) (ix4 h g t d) = (((((((row qf kf vf cf h g t).W 2) * ((((row qf kf vf cf h g t).c d) / ((row qf kf vf cf h g t).den))))) * (((1) / ((((row qf kf vf cf h g t).L 2) * ((row qf kf vf cf h g t).L 2)))))) : ℝ) : EReal) := by
  rw [val_main_v189_apply]
  exact cmul (t_v164 qf kf vf cf h g t d) (t_v188 qf kf vf cf h g t d)

theorem t_v190 (h : Fin 4) (g : Fin 4) (t : Fin 2048) (d : Fin 64) : val_main_v190 (F := Ideal) (up qf) (up kf) (up vf) (up cf) (ix4 h g t d) = (((((((((row qf kf vf cf h g t).W 2) * ((((row qf kf vf cf h g t).c d) / ((row qf kf vf cf h g t).den))))) * (((1) / ((((row qf kf vf cf h g t).L 2) * ((row qf kf vf cf h g t).L 2))))))) * ((row qf kf vf cf h g t).X 2 d)) : ℝ) : EReal) := by
  rw [val_main_v190_apply]
  exact cmul (t_v189 qf kf vf cf h g t d) (t_v98 qf kf vf cf h g t d)

theorem t_v191 (h : Fin 4) (g : Fin 4) (t : Fin 2048) : val_main_v191 (F := Ideal) (up qf) (up kf) (up vf) (up cf) (ix3 h g t) = (((∑ k : Fin 64, (((((((row qf kf vf cf h g t).W 2) * ((((row qf kf vf cf h g t).c k) / ((row qf kf vf cf h g t).den))))) * (((1) / ((((row qf kf vf cf h g t).L 2) * ((row qf kf vf cf h g t).L 2))))))) * ((row qf kf vf cf h g t).X 2 k))) : ℝ) : EReal) := by
  rw [val_main_v191_apply]
  refine csum Ideal.ofBits_zero_f32 _ _ fun k => ?_
  rw [show idx_main_v191 (ix3 h g t) k = (ix4 h g t k) from by funext a; fin_cases a <;> rfl]
  exact (t_v190 qf kf vf cf h g t k)

theorem t_v192 (h : Fin 4) (g : Fin 4) (t : Fin 2048) : val_main_v192 (F := Ideal) (up qf) (up kf) (up vf) (up cf) (ix4 h g t 0) = (((∑ k : Fin 64, (((((((row qf kf vf cf h g t).W 2) * ((((row qf kf vf cf h g t).c k) / ((row qf kf vf cf h g t).den))))) * (((1) / ((((row qf kf vf cf h g t).L 2) * ((row qf kf vf cf h g t).L 2))))))) * ((row qf kf vf cf h g t).X 2 k))) : ℝ) : EReal) := by
  rw [val_main_v192_apply, show idx_main_v192 (ix4 h g t 0) = (ix3 h g t) from by
    have hh := h.isLt; have hg := g.isLt; have ht := t.isLt
    exact ixe3 (by apply Fin.ext; show (((h.val * 4 + g.val) * 2048 + t.val) * 1 + 0) / 8192 = h.val; omega) (by apply Fin.ext; show (((h.val * 4 + g.val) * 2048 + t.val) * 1 + 0) / 2048 % 4 = g.val; omega) (by apply Fin.ext; show (((h.val * 4 + g.val) * 2048 + t.val) * 1 + 0) % 2048 = t.val; omega)]
  exact (t_v191 qf kf vf cf h g t)

theorem t_v193 (h : Fin 4) (g : Fin 4) (t : Fin 2048) : val_main_v193 (F := Ideal) (up qf) (up kf) (up vf) (up cf) (ix4 h g t 0) = (((-((∑ k : Fin 64, (((((((row qf kf vf cf h g t).W 2) * ((((row qf kf vf cf h g t).c k) / ((row qf kf vf cf h g t).den))))) * (((1) / ((((row qf kf vf cf h g t).L 2) * ((row qf kf vf cf h g t).L 2))))))) * ((row qf kf vf cf h g t).X 2 k))))) : ℝ) : EReal) := by
  rw [val_main_v193_apply]
  exact cneg (t_v192 qf kf vf cf h g t)

theorem t_v194 (h : Fin 4) (g : Fin 4) (t : Fin 2048) (d : Fin 64) : val_main_v194 (F := Ideal) (up qf) (up kf) (ix4 h g t d) = (((row qf kf vf cf h g t).L 2 : ℝ) : EReal) := by
  rw [val_main_v194_apply, show idx_main_v194 (ix4 h g t d) = (ix4 h g t 0) from by funext a; fin_cases a <;> rfl]
  exact (t_v99 qf kf vf cf h g t)

theorem t_v195 (h : Fin 4) (g : Fin 4) (t : Fin 2048) (d : Fin 64) : val_main_v195 (F := Ideal) (up qf) (up kf) (up cf) (ix4 h g t d) = (((row qf kf vf cf h g t).a 2 d : ℝ) : EReal) := by
  rw [val_main_v195_apply]
  exact cdiv (t_v164 qf kf vf cf h g t d) (t_v194 qf kf vf cf h g t d) (L_ne qf kf vf cf h g t 2)

theorem t_v196 (h : Fin 4) (g : Fin 4) (t : Fin 2048) : val_main_v196 (F := Ideal) (up qf) (up kf) (up vf) (up cf) (ix3 h g t) = (((-((∑ k : Fin 64, (((((((row qf kf vf cf h g t).W 2) * ((((row qf kf vf cf h g t).c k) / ((row qf kf vf cf h g t).den))))) * (((1) / ((((row qf kf vf cf h g t).L 2) * ((row qf kf vf cf h g t).L 2))))))) * ((row qf kf vf cf h g t).X 2 k))))) : ℝ) : EReal) := by
  rw [val_main_v196_apply]
  refine csum1 Ideal.ofBits_zero_f32 _ ?_
  rw [show idx_main_v196 (ix3 h g t) (0 : Fin 1) = (ix4 h g t 0) from by funext a; fin_cases a <;> rfl]
  exact (t_v193 qf kf vf cf h g t)

theorem t_v197 (h : Fin 4) (g : Fin 4) (t : Fin 2048) : val_main_v197 (F := Ideal) (up qf) (up kf) (up vf) (up cf) (ix3 h g t) = (((row qf kf vf cf h g t).dL 2 : ℝ) : EReal) := by
  rw [val_main_v197_apply]
  exact cadd (t_v177 qf kf vf cf h g t) (t_v196 qf kf vf cf h g t)

theorem t_v198 (h : Fin 4) (d : Fin 64) (s : Fin 2048) : val_main_v198 (F := Ideal) (up qf) (up kf) (up cf) (ix3 h d s) = (((∑ a : Fin 4, ∑ b : Fin 2048, (row qf kf vf cf h a b).a 2 d * (row qf kf vf cf h a b).p 2 s) : ℝ) : EReal) := by
  unfold val_main_v198
  simp only [Host.dotGeneral]
  rw [Ideal.dotGeneral_apply, ValueIdx.sum_contr2 dot_S4x4x2048x64_S4x4x2048x2048_S4x64x2048_12_12_3_3_0_0 4 2048 rfl rfl rfl]
  refine cdot2 _ _ _ _ (fun a b => ?_) (fun a b => ?_)
  · have h0 := ValueIdx.contrEquiv2_symm_val0 dot_S4x4x2048x64_S4x4x2048x2048_S4x64x2048_12_12_3_3_0_0 4 2048 rfl rfl rfl (a, b)
    have h1 := ValueIdx.contrEquiv2_symm_val1 dot_S4x4x2048x64_S4x4x2048x2048_S4x64x2048_12_12_3_3_0_0 4 2048 rfl rfl rfl (a, b)
    have el : dot_S4x4x2048x64_S4x4x2048x2048_S4x64x2048_12_12_3_3_0_0.lhsIdx (ix3 h d s) ((ValueIdx.contrEquiv2 dot_S4x4x2048x64_S4x4x2048x2048_S4x64x2048_12_12_3_3_0_0 4 2048 rfl rfl rfl).symm (a, b)) = (ix4 h a b d) := funext fun x => Fin.ext (by
      match x with
      | ⟨0, _⟩ => rfl
      | ⟨1, _⟩ => exact Eq.trans rfl h0
      | ⟨2, _⟩ => exact Eq.trans rfl h1
      | ⟨3, _⟩ => rfl)
    rw [el]
    exact (t_v195 qf kf vf cf h a b d)
  · have h0 := ValueIdx.contrEquiv2_symm_val0 dot_S4x4x2048x64_S4x4x2048x2048_S4x64x2048_12_12_3_3_0_0 4 2048 rfl rfl rfl (a, b)
    have h1 := ValueIdx.contrEquiv2_symm_val1 dot_S4x4x2048x64_S4x4x2048x2048_S4x64x2048_12_12_3_3_0_0 4 2048 rfl rfl rfl (a, b)
    have er : dot_S4x4x2048x64_S4x4x2048x2048_S4x64x2048_12_12_3_3_0_0.rhsIdx (ix3 h d s) ((ValueIdx.contrEquiv2 dot_S4x4x2048x64_S4x4x2048x2048_S4x64x2048_12_12_3_3_0_0 4 2048 rfl rfl rfl).symm (a, b)) = (ix4 h a b s) := funext fun x => Fin.ext (by
      match x with
      | ⟨0, _⟩ => rfl
      | ⟨1, _⟩ => exact Eq.trans rfl h0
      | ⟨2, _⟩ => exact Eq.trans rfl h1
      | ⟨3, _⟩ => rfl)
    rw [er]
    exact (t_v96 qf kf vf cf h a b s)

theorem t_v199 (s : Fin 2048) (h : Fin 4) (d : Fin 64) : val_main_v199 (F := Ideal) (up qf) (up kf) (up cf) (ix3 s h d) = (((∑ a : Fin 4, ∑ b : Fin 2048, (row qf kf vf cf h a b).a 2 d * (row qf kf vf cf h a b).p 2 s) : ℝ) : EReal) := by
  rw [val_main_v199_apply, show idx_main_v199 (ix3 s h d) = (ix3 h d s) from by funext a; fin_cases a <;> rfl]
  exact (t_v198 qf kf vf cf h d s)

theorem t_v200 (h : Fin 4) (g : Fin 4) (t : Fin 2048) (s : Fin 2048) : val_main_v200 (F := Ideal) (up qf) (up kf) (up vf) (up cf) (ix4 h g t s) = (((∑ d, (row qf kf vf cf h g t).a 2 d * (row qf kf vf cf h g t).v s d) : ℝ) : EReal) := by
  rw [val_main_v200_apply]
  refine cdot _ _ _ _ (fun k => ?_) (fun k => ?_)
  · rw [show lidx_main_v200 (ix4 h g t s) k = (ix4 h g t k) from by funext a; fin_cases a <;> rfl]
    exact (t_v195 qf kf vf cf h g t k)
  · rw [show ridx_main_v200 (ix4 h g t s) k = (ix3 s h k) from by funext a; fin_cases a <;> rfl]
    try rfl

theorem t_v201 (h : Fin 4) (g : Fin 4) (t : Fin 2048) (s : Fin 2048) : val_main_v201 (F := Ideal) (up qf) (up kf) (up vf) (up cf) (ix4 h g t s) = (((row qf kf vf cf h g t).dL 2 : ℝ) : EReal) := by
  rw [val_main_v201_apply, show idx_main_v201 (ix4 h g t s) = (ix3 h g t) from by funext a; fin_cases a <;> rfl]
  exact (t_v197 qf kf vf cf h g t)

theorem t_v202 (h : Fin 4) (g : Fin 4) (t : Fin 2048) (s : Fin 2048) : val_main_v202 (F := Ideal) (up qf) (up kf) (up vf) (up cf) (ix4 h g t s) = (((((∑ d, (row qf kf vf cf h g t).a 2 d * (row qf kf vf cf h g t).v s d)) + ((row qf kf vf cf h g t).dL 2)) : ℝ) : EReal) := by
  rw [val_main_v202_apply]
  exact cadd (t_v200 qf kf vf cf h g t s) (t_v201 qf kf vf cf h g t s)

theorem t_v203 (h : Fin 4) (g : Fin 4) (t : Fin 2048) (s : Fin 2048) : val_main_v203 (F := Ideal) (up qf) (up kf) (up vf) (up cf) (ix4 h g t s) = (((row qf kf vf cf h g t).dS 2 s : ℝ) : EReal) := by
  rw [val_main_v203_apply]
  exact cmul (t_v202 qf kf vf cf h g t s) (t_v96 qf kf vf cf h g t s)

theorem t_v204 (h : Fin 4) (g : Fin 4) (t : Fin 2048) (s : Fin 2048) : val_main_v204 (F := Ideal) (up qf) (up kf) (up vf) (up cf) (ix4 h g t s) = (((-((row qf kf vf cf h g t).dS 2 s)) : ℝ) : EReal) := by
  rw [val_main_v204_apply]
  exact cneg (t_v203 qf kf vf cf h g t s)

theorem t_v205 (h : Fin 4) (g : Fin 4) (t : Fin 2048) : val_main_v205 (F := Ideal) (up qf) (up kf) (up vf) (up cf) (ix3 h g t) = (((∑ k : Fin 2048, (-((row qf kf vf cf h g t).dS 2 k))) : ℝ) : EReal) := by
  rw [val_main_v205_apply]
  refine csum Ideal.ofBits_zero_f32 _ _ fun k => ?_
  rw [show idx_main_v205 (ix3 h g t) k = (ix4 h g t k) from by funext a; fin_cases a <;> rfl]
  exact (t_v204 qf kf vf cf h g t k)

theorem t_v206 (h : Fin 4) (g : Fin 4) (t : Fin 2048) : val_main_v206 (F := Ideal) (up qf) (up kf) (up vf) (up cf) (ix4 h g t 0) = (((∑ k : Fin 2048, (-((row qf kf vf cf h g t).dS 2 k))) : ℝ) : EReal) := by
  rw [val_main_v206_apply, show idx_main_v206 (ix4 h g t 0) = (ix3 h g t) from by
    have hh := h.isLt; have hg := g.isLt; have ht := t.isLt
    exact ixe3 (by apply Fin.ext; show (((h.val * 4 + g.val) * 2048 + t.val) * 1 + 0) / 8192 = h.val; omega) (by apply Fin.ext; show (((h.val * 4 + g.val) * 2048 + t.val) * 1 + 0) / 2048 % 4 = g.val; omega) (by apply Fin.ext; show (((h.val * 4 + g.val) * 2048 + t.val) * 1 + 0) % 2048 = t.val; omega)]
  exact (t_v205 qf kf vf cf h g t)

theorem t_v207 (h : Fin 4) (g : Fin 4) (t : Fin 2048) : val_main_v207 (F := Ideal) (up qf) (up kf) (up vf) (up cf) (ix3 h g t) = (((∑ k : Fin 2048, (-((row qf kf vf cf h g t).dS 2 k))) : ℝ) : EReal) := by
  rw [val_main_v207_apply]
  refine csum1 Ideal.ofBits_zero_f32 _ ?_
  rw [show idx_main_v207 (ix3 h g t) (0 : Fin 1) = (ix4 h g t 0) from by funext a; fin_cases a <;> rfl]
  exact (t_v206 qf kf vf cf h g t)

theorem t_v208 (h : Fin 4) (g : Fin 4) (t : Fin 2048) : val_main_v208 (F := Ideal) (up qf) (up kf) (up vf) (up cf) (ix3 h g t) = ((0 : ℝ) : EReal) := by
  rw [val_main_v208_apply]
  refine (cadd (t_v187 qf kf vf cf h g t) (t_v207 qf kf vf cf h g t)).trans (congrArg Real.toEReal (rowmax0 (row qf kf vf cf h g t) 2 (L_ne qf kf vf cf h g t 2)))

theorem t_v209 (h g : Fin 4) (t : Fin 2048) : val_main_v209 (F := Ideal) (up qf) (up kf) (up vf) (up cf) (ix3 h g t) = ((0 : ℝ) : EReal) := by
  obtain ⟨r, hr, e⟩ := tie_v92 qf kf vf cf h g t
  rw [val_main_v209_apply]
  refine (cdiv (t_v208 qf kf vf cf h g t) e hr).trans ?_
  rw [zero_div]

theorem t_v210 (h : Fin 4) (g : Fin 4) (t : Fin 2048) (s : Fin 2048) : val_main_v210 (F := Ideal) (up qf) (up kf) (up vf) (up cf) (ix4 h g t s) = ((0 : ℝ) : EReal) := by
  rw [val_main_v210_apply, show idx_main_v210 (ix4 h g t s) = (ix3 h g t) from by funext a; fin_cases a <;> rfl]
  exact (t_v209 qf kf vf cf h g t)

theorem t_v211 (h g : Fin 4) (t s : Fin 2048) : val_main_v211 (F := Ideal) (up qf) (up kf) (up vf) (up cf) (ix4 h g t s) = ((0 : ℝ) : EReal) := by
  rw [val_main_v211_apply, t_v210 qf kf vf cf h g t s, EReal.coe_zero]
  exact zero_mul (M₀ := EReal) _

theorem t_v212 (h g : Fin 4) (t s : Fin 2048) : val_main_v212 (F := Ideal) (up qf) (up kf) (up vf) (up cf) (ix4 h g t s) = (((row qf kf vf cf h g t).dS 2 s : ℝ) : EReal) := by
  rw [val_main_v212_apply]
  refine (cadd (t_v203 qf kf vf cf h g t s) (t_v211 qf kf vf cf h g t s)).trans ?_
  rw [add_zero]

theorem t_v213 (h g : Fin 4) (t s : Fin 2048) : val_main_v213 (F := Ideal) (up qf) (up kf) (up vf) (up cf) (ix4 h g t s) = (((row qf kf vf cf h g t).dS 2 s : ℝ) : EReal) := by
  rw [val_main_v213_apply, t_v86_1, csel, t_v212 qf kf vf cf h g t s, val_main_call3_v0_apply, val_main_call3_cst_apply]
  refine Eq.trans ?_ (dS_masked qf kf vf cf h g t s 2)
  rw [EReal.coe_zero, ← Ideal.ofBits_zero_f32]
  rfl

theorem t_v214 (h : Fin 4) (s : Fin 2048) (t : Fin 2048) (g : Fin 4) : val_main_v214 (F := Ideal) (up qf) (up kf) (up vf) (up cf) (ix4 h s t g) = (((row qf kf vf cf h g t).dS 2 s : ℝ) : EReal) := by
  rw [val_main_v214_apply, show idx_main_v214 (ix4 h s t g) = (ix4 h g t s) from by funext a; fin_cases a <;> rfl]
  exact (t_v213 qf kf vf cf h g t s)

theorem t_v215 (h : Fin 4) (t : Fin 2048) (g : Fin 4) (d : Fin 64) : val_main_v215 (F := Ideal) (up qf) (up kf) (up vf) (up cf) (ix4 h t g d) = (((∑ k : Fin 2048, ((row qf kf vf cf h g t).dS 2 k) * (kf (ix3 k h d))) : ℝ) : EReal) := by
  rw [val_main_v215_apply]
  refine cdot _ _ _ _ (fun k => ?_) (fun k => ?_)
  · rw [show lidx_main_v215 (ix4 h t g d) k = (ix4 h k t g) from by funext a; fin_cases a <;> rfl]
    exact (t_v214 qf kf vf cf h k t g)
  · rw [show ridx_main_v215 (ix4 h t g d) k = (ix3 k h d) from by funext a; fin_cases a <;> rfl]
    try rfl

theorem t_v216 (t : Fin 2048) (h : Fin 4) (g : Fin 4) (d : Fin 64) : val_main_v216 (F := Ideal) (up qf) (up kf) (up vf) (up cf) (ix4 t h g d) = (((∑ k : Fin 2048, ((row qf kf vf cf h g t).dS 2 k) * (kf (ix3 k h d))) : ℝ) : EReal) := by
  rw [val_main_v216_apply, show idx_main_v216 (ix4 t h g d) = (ix4 h t g d) from by funext a; fin_cases a <;> rfl]
  exact (t_v215 qf kf vf cf h t g d)

theorem t_v217 (h : Fin 4) (s : Fin 2048) (d : Fin 64) : val_main_v217 (F := Ideal) (up qf) (up kf) (up vf) (up cf) (ix3 h s d) = (((∑ a : Fin 2048, ∑ b : Fin 4, (row qf kf vf cf h b a).dS 2 s * qf (ix4 a h b d)) : ℝ) : EReal) := by
  unfold val_main_v217
  simp only [Host.dotGeneral]
  rw [Ideal.dotGeneral_apply, ValueIdx.sum_contr2 dot_S4x2048x2048x4_S2048x4x4x64_S4x2048x64_23_02_1_3_0_1 2048 4 rfl rfl rfl]
  refine cdot2 _ _ _ _ (fun a b => ?_) (fun a b => ?_)
  · have h0 := ValueIdx.contrEquiv2_symm_val0 dot_S4x2048x2048x4_S2048x4x4x64_S4x2048x64_23_02_1_3_0_1 2048 4 rfl rfl rfl (a, b)
    have h1 := ValueIdx.contrEquiv2_symm_val1 dot_S4x2048x2048x4_S2048x4x4x64_S4x2048x64_23_02_1_3_0_1 2048 4 rfl rfl rfl (a, b)
    have el : dot_S4x2048x2048x4_S2048x4x4x64_S4x2048x64_23_02_1_3_0_1.lhsIdx (ix3 h s d) ((ValueIdx.contrEquiv2 dot_S4x2048x2048x4_S2048x4x4x64_S4x2048x64_23_02_1_3_0_1 2048 4 rfl rfl rfl).symm (a, b)) = (ix4 h s a b) := funext fun x => Fin.ext (by
      match x with
      | ⟨0, _⟩ => rfl
      | ⟨1, _⟩ => rfl
      | ⟨2, _⟩ => exact Eq.trans rfl h0
      | ⟨3, _⟩ => exact Eq.trans rfl h1)
    rw [el]
    exact (t_v214 qf kf vf cf h s a b)
  · have h0 := ValueIdx.contrEquiv2_symm_val0 dot_S4x2048x2048x4_S2048x4x4x64_S4x2048x64_23_02_1_3_0_1 2048 4 rfl rfl rfl (a, b)
    have h1 := ValueIdx.contrEquiv2_symm_val1 dot_S4x2048x2048x4_S2048x4x4x64_S4x2048x64_23_02_1_3_0_1 2048 4 rfl rfl rfl (a, b)
    have er : dot_S4x2048x2048x4_S2048x4x4x64_S4x2048x64_23_02_1_3_0_1.rhsIdx (ix3 h s d) ((ValueIdx.contrEquiv2 dot_S4x2048x2048x4_S2048x4x4x64_S4x2048x64_23_02_1_3_0_1 2048 4 rfl rfl rfl).symm (a, b)) = (ix4 a h b d) := funext fun x => Fin.ext (by
      match x with
      | ⟨0, _⟩ => exact Eq.trans rfl h0
      | ⟨1, _⟩ => rfl
      | ⟨2, _⟩ => exact Eq.trans rfl h1
      | ⟨3, _⟩ => rfl)
    rw [er]
    try rfl

theorem t_v218 (s : Fin 2048) (h : Fin 4) (d : Fin 64) : val_main_v218 (F := Ideal) (up qf) (up kf) (up vf) (up cf) (ix3 s h d) = (((∑ a : Fin 2048, ∑ b : Fin 4, (row qf kf vf cf h b a).dS 2 s * qf (ix4 a h b d)) : ℝ) : EReal) := by
  rw [val_main_v218_apply, show idx_main_v218 (ix3 s h d) = (ix3 h s d) from by funext a; fin_cases a <;> rfl]
  exact (t_v217 qf kf vf cf h s d)

theorem t_v219 (h : Fin 4) (g : Fin 4) (t : Fin 2048) (d : Fin 64) : val_main_v219 (F := Ideal) (up qf) (up kf) (ix4 h g t d) = ((((1) / ((((row qf kf vf cf h g t).L 1) * ((row qf kf vf cf h g t).L 1)))) : ℝ) : EReal) := by
  rw [val_main_v219_apply, show idx_main_v219 (ix4 h g t d) = (ix4 h g t 0) from by funext a; fin_cases a <;> rfl]
  exact (t_v69 qf kf vf cf h g t)

theorem t_v220 (h : Fin 4) (g : Fin 4) (t : Fin 2048) (d : Fin 64) : val_main_v220 (F := Ideal) (up qf) (up kf) (up cf) (ix4 h g t d) = (((((((row qf kf vf cf h g t).W 1) * ((((row qf kf vf cf h g t).c d) / ((row qf kf vf cf h g t).den))))) * (((1) / ((((row qf kf vf cf h g t).L 1) * ((row qf kf vf cf h g t).L 1)))))) : ℝ) : EReal) := by
  rw [val_main_v220_apply]
  exact cmul (t_v162 qf kf vf cf h g t d) (t_v219 qf kf vf cf h g t d)

theorem t_v221 (h : Fin 4) (g : Fin 4) (t : Fin 2048) (d : Fin 64) : val_main_v221 (F := Ideal) (up qf) (up kf) (up vf) (up cf) (ix4 h g t d) = (((((((((row qf kf vf cf h g t).W 1) * ((((row qf kf vf cf h g t).c d) / ((row qf kf vf cf h g t).den))))) * (((1) / ((((row qf kf vf cf h g t).L 1) * ((row qf kf vf cf h g t).L 1))))))) * ((row qf kf vf cf h g t).X 1 d)) : ℝ) : EReal) := by
  rw [val_main_v221_apply]
  exact cmul (t_v220 qf kf vf cf h g t d) (t_v63 qf kf vf cf h g t d)

theorem t_v222 (h : Fin 4) (g : Fin 4) (t : Fin 2048) : val_main_v222 (F := Ideal) (up qf) (up kf) (up vf) (up cf) (ix3 h g t) = (((∑ k : Fin 64, (((((((row qf kf vf cf h g t).W 1) * ((((row qf kf vf cf h g t).c k) / ((row qf kf vf cf h g t).den))))) * (((1) / ((((row qf kf vf cf h g t).L 1) * ((row qf kf vf cf h g t).L 1))))))) * ((row qf kf vf cf h g t).X 1 k))) : ℝ) : EReal) := by
  rw [val_main_v222_apply]
  refine csum Ideal.ofBits_zero_f32 _ _ fun k => ?_
  rw [show idx_main_v222 (ix3 h g t) k = (ix4 h g t k) from by funext a; fin_cases a <;> rfl]
  exact (t_v221 qf kf vf cf h g t k)

theorem t_v223 (h : Fin 4) (g : Fin 4) (t : Fin 2048) : val_main_v223 (F := Ideal) (up qf) (up kf) (up vf) (up cf) (ix4 h g t 0) = (((∑ k : Fin 64, (((((((row qf kf vf cf h g t).W 1) * ((((row qf kf vf cf h g t).c k) / ((row qf kf vf cf h g t).den))))) * (((1) / ((((row qf kf vf cf h g t).L 1) * ((row qf kf vf cf h g t).L 1))))))) * ((row qf kf vf cf h g t).X 1 k))) : ℝ) : EReal) := by
  rw [val_main_v223_apply, show idx_main_v223 (ix4 h g t 0) = (ix3 h g t) from by
    have hh := h.isLt; have hg := g.isLt; have ht := t.isLt
    exact ixe3 (by apply Fin.ext; show (((h.val * 4 + g.val) * 2048 + t.val) * 1 + 0) / 8192 = h.val; omega) (by apply Fin.ext; show (((h.val * 4 + g.val) * 2048 + t.val) * 1 + 0) / 2048 % 4 = g.val; omega) (by apply Fin.ext; show (((h.val * 4 + g.val) * 2048 + t.val) * 1 + 0) % 2048 = t.val; omega)]
  exact (t_v222 qf kf vf cf h g t)

theorem t_v224 (h : Fin 4) (g : Fin 4) (t : Fin 2048) : val_main_v224 (F := Ideal) (up qf) (up kf) (up vf) (up cf) (ix4 h g t 0) = (((-((∑ k : Fin 64, (((((((row qf kf vf cf h g t).W 1) * ((((row qf kf vf cf h g t).c k) / ((row qf kf vf cf h g t).den))))) * (((1) / ((((row qf kf vf cf h g t).L 1) * ((row qf kf vf cf h g t).L 1))))))) * ((row qf kf vf cf h g t).X 1 k))))) : ℝ) : EReal) := by
  rw [val_main_v224_apply]
  exact cneg (t_v223 qf kf vf cf h g t)

theorem t_v225 (h : Fin 4) (g : Fin 4) (t : Fin 2048) (d : Fin 64) : val_main_v225 (F := Ideal) (up qf) (up kf) (ix4 h g t d) = (((row qf kf vf cf h g t).L 1 : ℝ) : EReal) := by
  rw [val_main_v225_apply, show idx_main_v225 (ix4 h g t d) = (ix4 h g t 0) from by funext a; fin_cases a <;> rfl]
  exact (t_v64 qf kf vf cf h g t)

theorem t_v226 (h : Fin 4) (g : Fin 4) (t : Fin 2048) (d : Fin 64) : val_main_v226 (F := Ideal) (up qf) (up kf) (up cf) (ix4 h g t d) = (((row qf kf vf cf h g t).a 1 d : ℝ) : EReal) := by
  rw [val_main_v226_apply]
  exact cdiv (t_v162 qf kf vf cf h g t d) (t_v225 qf kf vf cf h g t d) (L_ne qf kf vf cf h g t 1)

theorem t_v227 (h : Fin 4) (g : Fin 4) (t : Fin 2048) : val_main_v227 (F := Ideal) (up qf) (up kf) (up vf) (up cf) (ix3 h g t) = (((-((∑ k : Fin 64, (((((((row qf kf vf cf h g t).W 1) * ((((row qf kf vf cf h g t).c k) / ((row qf kf vf cf h g t).den))))) * (((1) / ((((row qf kf vf cf h g t).L 1) * ((row qf kf vf cf h g t).L 1))))))) * ((row qf kf vf cf h g t).X 1 k))))) : ℝ) : EReal) := by
  rw [val_main_v227_apply]
  refine csum1 Ideal.ofBits_zero_f32 _ ?_
  rw [show idx_main_v227 (ix3 h g t) (0 : Fin 1) = (ix4 h g t 0) from by funext a; fin_cases a <;> rfl]
  exact (t_v224 qf kf vf cf h g t)

theorem t_v228 (h : Fin 4) (g : Fin 4) (t : Fin 2048) : val_main_v228 (F := Ideal) (up qf) (up kf) (up vf) (up cf) (ix3 h g t) = (((row qf kf vf cf h g t).dL 1 : ℝ) : EReal) := by
  rw [val_main_v228_apply]
  exact cadd (t_v175 qf kf vf cf h g t) (t_v227 qf kf vf cf h g t)

theorem t_v229 (h : Fin 4) (d : Fin 64) (s : Fin 2048) : val_main_v229 (F := Ideal) (up qf) (up kf) (up cf) (ix3 h d s) = (((∑ a : Fin 4, ∑ b : Fin 2048, (row qf kf vf cf h a b).a 1 d * (row qf kf vf cf h a b).p 1 s) : ℝ) : EReal) := by
  unfold val_main_v229
  simp only [Host.dotGeneral]
  rw [Ideal.dotGeneral_apply, ValueIdx.sum_contr2 dot_S4x4x2048x64_S4x4x2048x2048_S4x64x2048_12_12_3_3_0_0 4 2048 rfl rfl rfl]
  refine cdot2 _ _ _ _ (fun a b => ?_) (fun a b => ?_)
  · have h0 := ValueIdx.contrEquiv2_symm_val0 dot_S4x4x2048x64_S4x4x2048x2048_S4x64x2048_12_12_3_3_0_0 4 2048 rfl rfl rfl (a, b)
    have h1 := ValueIdx.contrEquiv2_symm_val1 dot_S4x4x2048x64_S4x4x2048x2048_S4x64x2048_12_12_3_3_0_0 4 2048 rfl rfl rfl (a, b)
    have el : dot_S4x4x2048x64_S4x4x2048x2048_S4x64x2048_12_12_3_3_0_0.lhsIdx (ix3 h d s) ((ValueIdx.contrEquiv2 dot_S4x4x2048x64_S4x4x2048x2048_S4x64x2048_12_12_3_3_0_0 4 2048 rfl rfl rfl).symm (a, b)) = (ix4 h a b d) := funext fun x => Fin.ext (by
      match x with
      | ⟨0, _⟩ => rfl
      | ⟨1, _⟩ => exact Eq.trans rfl h0
      | ⟨2, _⟩ => exact Eq.trans rfl h1
      | ⟨3, _⟩ => rfl)
    rw [el]
    exact (t_v226 qf kf vf cf h a b d)
  · have h0 := ValueIdx.contrEquiv2_symm_val0 dot_S4x4x2048x64_S4x4x2048x2048_S4x64x2048_12_12_3_3_0_0 4 2048 rfl rfl rfl (a, b)
    have h1 := ValueIdx.contrEquiv2_symm_val1 dot_S4x4x2048x64_S4x4x2048x2048_S4x64x2048_12_12_3_3_0_0 4 2048 rfl rfl rfl (a, b)
    have er : dot_S4x4x2048x64_S4x4x2048x2048_S4x64x2048_12_12_3_3_0_0.rhsIdx (ix3 h d s) ((ValueIdx.contrEquiv2 dot_S4x4x2048x64_S4x4x2048x2048_S4x64x2048_12_12_3_3_0_0 4 2048 rfl rfl rfl).symm (a, b)) = (ix4 h a b s) := funext fun x => Fin.ext (by
      match x with
      | ⟨0, _⟩ => rfl
      | ⟨1, _⟩ => exact Eq.trans rfl h0
      | ⟨2, _⟩ => exact Eq.trans rfl h1
      | ⟨3, _⟩ => rfl)
    rw [er]
    exact (t_v61 qf kf vf cf h a b s)

theorem t_v230 (s : Fin 2048) (h : Fin 4) (d : Fin 64) : val_main_v230 (F := Ideal) (up qf) (up kf) (up cf) (ix3 s h d) = (((∑ a : Fin 4, ∑ b : Fin 2048, (row qf kf vf cf h a b).a 1 d * (row qf kf vf cf h a b).p 1 s) : ℝ) : EReal) := by
  rw [val_main_v230_apply, show idx_main_v230 (ix3 s h d) = (ix3 h d s) from by funext a; fin_cases a <;> rfl]
  exact (t_v229 qf kf vf cf h d s)

theorem t_v232 (h : Fin 4) (g : Fin 4) (t : Fin 2048) (s : Fin 2048) : val_main_v232 (F := Ideal) (up qf) (up kf) (up vf) (up cf) (ix4 h g t s) = (((∑ d, (row qf kf vf cf h g t).a 1 d * (row qf kf vf cf h g t).v s d) : ℝ) : EReal) := by
  rw [val_main_v232_apply]
  refine cdot _ _ _ _ (fun k => ?_) (fun k => ?_)
  · rw [show lidx_main_v232 (ix4 h g t s) k = (ix4 h g t k) from by funext a; fin_cases a <;> rfl]
    exact (t_v226 qf kf vf cf h g t k)
  · rw [show ridx_main_v232 (ix4 h g t s) k = (ix3 s h k) from by funext a; fin_cases a <;> rfl]
    try rfl

theorem t_v233 (h : Fin 4) (g : Fin 4) (t : Fin 2048) (s : Fin 2048) : val_main_v233 (F := Ideal) (up qf) (up kf) (up vf) (up cf) (ix4 h g t s) = (((row qf kf vf cf h g t).dL 1 : ℝ) : EReal) := by
  rw [val_main_v233_apply, show idx_main_v233 (ix4 h g t s) = (ix3 h g t) from by funext a; fin_cases a <;> rfl]
  exact (t_v228 qf kf vf cf h g t)

theorem t_v234 (h : Fin 4) (g : Fin 4) (t : Fin 2048) (s : Fin 2048) : val_main_v234 (F := Ideal) (up qf) (up kf) (up vf) (up cf) (ix4 h g t s) = (((((∑ d, (row qf kf vf cf h g t).a 1 d * (row qf kf vf cf h g t).v s d)) + ((row qf kf vf cf h g t).dL 1)) : ℝ) : EReal) := by
  rw [val_main_v234_apply]
  exact cadd (t_v232 qf kf vf cf h g t s) (t_v233 qf kf vf cf h g t s)

theorem t_v235 (h : Fin 4) (g : Fin 4) (t : Fin 2048) (s : Fin 2048) : val_main_v235 (F := Ideal) (up qf) (up kf) (up vf) (up cf) (ix4 h g t s) = (((row qf kf vf cf h g t).dS 1 s : ℝ) : EReal) := by
  rw [val_main_v235_apply]
  exact cmul (t_v234 qf kf vf cf h g t s) (t_v61 qf kf vf cf h g t s)

theorem t_v236 (h : Fin 4) (g : Fin 4) (t : Fin 2048) (s : Fin 2048) : val_main_v236 (F := Ideal) (up qf) (up kf) (up vf) (up cf) (ix4 h g t s) = (((-((row qf kf vf cf h g t).dS 1 s)) : ℝ) : EReal) := by
  rw [val_main_v236_apply]
  exact cneg (t_v235 qf kf vf cf h g t s)

theorem t_v237 (h : Fin 4) (g : Fin 4) (t : Fin 2048) : val_main_v237 (F := Ideal) (up qf) (up kf) (up vf) (up cf) (ix3 h g t) = (((∑ k : Fin 2048, (-((row qf kf vf cf h g t).dS 1 k))) : ℝ) : EReal) := by
  rw [val_main_v237_apply]
  refine csum Ideal.ofBits_zero_f32 _ _ fun k => ?_
  rw [show idx_main_v237 (ix3 h g t) k = (ix4 h g t k) from by funext a; fin_cases a <;> rfl]
  exact (t_v236 qf kf vf cf h g t k)

theorem t_v238 (h : Fin 4) (g : Fin 4) (t : Fin 2048) : val_main_v238 (F := Ideal) (up qf) (up kf) (up vf) (up cf) (ix4 h g t 0) = (((∑ k : Fin 2048, (-((row qf kf vf cf h g t).dS 1 k))) : ℝ) : EReal) := by
  rw [val_main_v238_apply, show idx_main_v238 (ix4 h g t 0) = (ix3 h g t) from by
    have hh := h.isLt; have hg := g.isLt; have ht := t.isLt
    exact ixe3 (by apply Fin.ext; show (((h.val * 4 + g.val) * 2048 + t.val) * 1 + 0) / 8192 = h.val; omega) (by apply Fin.ext; show (((h.val * 4 + g.val) * 2048 + t.val) * 1 + 0) / 2048 % 4 = g.val; omega) (by apply Fin.ext; show (((h.val * 4 + g.val) * 2048 + t.val) * 1 + 0) % 2048 = t.val; omega)]
  exact (t_v237 qf kf vf cf h g t)

theorem t_v239 (h : Fin 4) (g : Fin 4) (t : Fin 2048) : val_main_v239 (F := Ideal) (up qf) (up kf) (up vf) (up cf) (ix3 h g t) = (((∑ k : Fin 2048, (-((row qf kf vf cf h g t).dS 1 k))) : ℝ) : EReal) := by
  rw [val_main_v239_apply]
  refine csum1 Ideal.ofBits_zero_f32 _ ?_
  rw [show idx_main_v239 (ix3 h g t) (0 : Fin 1) = (ix4 h g t 0) from by funext a; fin_cases a <;> rfl]
  exact (t_v238 qf kf vf cf h g t)

theorem t_v240 (h : Fin 4) (g : Fin 4) (t : Fin 2048) : val_main_v240 (F := Ideal) (up qf) (up kf) (up vf) (up cf) (ix3 h g t) = ((0 : ℝ) : EReal) := by
  rw [val_main_v240_apply]
  refine (cadd (t_v185 qf kf vf cf h g t) (t_v239 qf kf vf cf h g t)).trans (congrArg Real.toEReal (rowmax0 (row qf kf vf cf h g t) 1 (L_ne qf kf vf cf h g t 1)))

theorem t_v241 (h g : Fin 4) (t : Fin 2048) : val_main_v241 (F := Ideal) (up qf) (up kf) (up vf) (up cf) (ix3 h g t) = ((0 : ℝ) : EReal) := by
  obtain ⟨r, hr, e⟩ := tie_v57 qf kf vf cf h g t
  rw [val_main_v241_apply]
  refine (cdiv (t_v240 qf kf vf cf h g t) e hr).trans ?_
  rw [zero_div]

theorem t_v242 (h : Fin 4) (g : Fin 4) (t : Fin 2048) (s : Fin 2048) : val_main_v242 (F := Ideal) (up qf) (up kf) (up vf) (up cf) (ix4 h g t s) = ((0 : ℝ) : EReal) := by
  rw [val_main_v242_apply, show idx_main_v242 (ix4 h g t s) = (ix3 h g t) from by funext a; fin_cases a <;> rfl]
  exact (t_v241 qf kf vf cf h g t)

theorem t_v243 (h g : Fin 4) (t s : Fin 2048) : val_main_v243 (F := Ideal) (up qf) (up kf) (up vf) (up cf) (ix4 h g t s) = ((0 : ℝ) : EReal) := by
  rw [val_main_v243_apply, t_v242 qf kf vf cf h g t s, EReal.coe_zero]
  exact zero_mul (M₀ := EReal) _

theorem t_v244 (h g : Fin 4) (t s : Fin 2048) : val_main_v244 (F := Ideal) (up qf) (up kf) (up vf) (up cf) (ix4 h g t s) = (((row qf kf vf cf h g t).dS 1 s : ℝ) : EReal) := by
  rw [val_main_v244_apply]
  refine (cadd (t_v235 qf kf vf cf h g t s) (t_v243 qf kf vf cf h g t s)).trans ?_
  rw [add_zero]

theorem t_v245 (h g : Fin 4) (t s : Fin 2048) : val_main_v245 (F := Ideal) (up qf) (up kf) (up vf) (up cf) (ix4 h g t s) = (((row qf kf vf cf h g t).dS 1 s : ℝ) : EReal) := by
  rw [val_main_v245_apply, t_v51_1, csel, t_v244 qf kf vf cf h g t s, val_main_call4_v0_apply, val_main_call4_cst_apply]
  refine Eq.trans ?_ (dS_masked qf kf vf cf h g t s 1)
  rw [EReal.coe_zero, ← Ideal.ofBits_zero_f32]
  rfl

theorem t_v246 (h : Fin 4) (s : Fin 2048) (t : Fin 2048) (g : Fin 4) : val_main_v246 (F := Ideal) (up qf) (up kf) (up vf) (up cf) (ix4 h s t g) = (((row qf kf vf cf h g t).dS 1 s : ℝ) : EReal) := by
  rw [val_main_v246_apply, show idx_main_v246 (ix4 h s t g) = (ix4 h g t s) from by funext a; fin_cases a <;> rfl]
  exact (t_v245 qf kf vf cf h g t s)

theorem t_v247 (h : Fin 4) (t : Fin 2048) (g : Fin 4) (d : Fin 64) : val_main_v247 (F := Ideal) (up qf) (up kf) (up vf) (up cf) (ix4 h t g d) = (((∑ k : Fin 2048, ((row qf kf vf cf h g t).dS 1 k) * (kf (ix3 k h d))) : ℝ) : EReal) := by
  rw [val_main_v247_apply]
  refine cdot _ _ _ _ (fun k => ?_) (fun k => ?_)
  · rw [show lidx_main_v247 (ix4 h t g d) k = (ix4 h k t g) from by funext a; fin_cases a <;> rfl]
    exact (t_v246 qf kf vf cf h k t g)
  · rw [show ridx_main_v247 (ix4 h t g d) k = (ix3 k h d) from by funext a; fin_cases a <;> rfl]
    try rfl

theorem t_v248 (t : Fin 2048) (h : Fin 4) (g : Fin 4) (d : Fin 64) : val_main_v248 (F := Ideal) (up qf) (up kf) (up vf) (up cf) (ix4 t h g d) = (((∑ k : Fin 2048, ((row qf kf vf cf h g t).dS 1 k) * (kf (ix3 k h d))) : ℝ) : EReal) := by
  rw [val_main_v248_apply, show idx_main_v248 (ix4 t h g d) = (ix4 h t g d) from by funext a; fin_cases a <;> rfl]
  exact (t_v247 qf kf vf cf h t g d)

theorem t_v250 (h : Fin 4) (s : Fin 2048) (d : Fin 64) : val_main_v250 (F := Ideal) (up qf) (up kf) (up vf) (up cf) (ix3 h s d) = (((∑ a : Fin 2048, ∑ b : Fin 4, (row qf kf vf cf h b a).dS 1 s * qf (ix4 a h b d)) : ℝ) : EReal) := by
  unfold val_main_v250
  simp only [Host.dotGeneral]
  rw [Ideal.dotGeneral_apply, ValueIdx.sum_contr2 dot_S4x2048x2048x4_S2048x4x4x64_S4x2048x64_23_02_1_3_0_1 2048 4 rfl rfl rfl]
  refine cdot2 _ _ _ _ (fun a b => ?_) (fun a b => ?_)
  · have h0 := ValueIdx.contrEquiv2_symm_val0 dot_S4x2048x2048x4_S2048x4x4x64_S4x2048x64_23_02_1_3_0_1 2048 4 rfl rfl rfl (a, b)
    have h1 := ValueIdx.contrEquiv2_symm_val1 dot_S4x2048x2048x4_S2048x4x4x64_S4x2048x64_23_02_1_3_0_1 2048 4 rfl rfl rfl (a, b)
    have el : dot_S4x2048x2048x4_S2048x4x4x64_S4x2048x64_23_02_1_3_0_1.lhsIdx (ix3 h s d) ((ValueIdx.contrEquiv2 dot_S4x2048x2048x4_S2048x4x4x64_S4x2048x64_23_02_1_3_0_1 2048 4 rfl rfl rfl).symm (a, b)) = (ix4 h s a b) := funext fun x => Fin.ext (by
      match x with
      | ⟨0, _⟩ => rfl
      | ⟨1, _⟩ => rfl
      | ⟨2, _⟩ => exact Eq.trans rfl h0
      | ⟨3, _⟩ => exact Eq.trans rfl h1)
    rw [el]
    exact (t_v246 qf kf vf cf h s a b)
  · have h0 := ValueIdx.contrEquiv2_symm_val0 dot_S4x2048x2048x4_S2048x4x4x64_S4x2048x64_23_02_1_3_0_1 2048 4 rfl rfl rfl (a, b)
    have h1 := ValueIdx.contrEquiv2_symm_val1 dot_S4x2048x2048x4_S2048x4x4x64_S4x2048x64_23_02_1_3_0_1 2048 4 rfl rfl rfl (a, b)
    have er : dot_S4x2048x2048x4_S2048x4x4x64_S4x2048x64_23_02_1_3_0_1.rhsIdx (ix3 h s d) ((ValueIdx.contrEquiv2 dot_S4x2048x2048x4_S2048x4x4x64_S4x2048x64_23_02_1_3_0_1 2048 4 rfl rfl rfl).symm (a, b)) = (ix4 a h b d) := funext fun x => Fin.ext (by
      match x with
      | ⟨0, _⟩ => exact Eq.trans rfl h0
      | ⟨1, _⟩ => rfl
      | ⟨2, _⟩ => exact Eq.trans rfl h1
      | ⟨3, _⟩ => rfl)
    rw [er]
    try rfl

theorem t_v251 (s : Fin 2048) (h : Fin 4) (d : Fin 64) : val_main_v251 (F := Ideal) (up qf) (up kf) (up vf) (up cf) (ix3 s h d) = (((∑ a : Fin 2048, ∑ b : Fin 4, (row qf kf vf cf h b a).dS 1 s * qf (ix4 a h b d)) : ℝ) : EReal) := by
  rw [val_main_v251_apply, show idx_main_v251 (ix3 s h d) = (ix3 h s d) from by funext a; fin_cases a <;> rfl]
  exact (t_v250 qf kf vf cf h s d)

theorem t_v253 (h : Fin 4) (g : Fin 4) (t : Fin 2048) (d : Fin 64) : val_main_v253 (F := Ideal) (up qf) (up kf) (ix4 h g t d) = ((((1) / ((((row qf kf vf cf h g t).L 0) * ((row qf kf vf cf h g t).L 0)))) : ℝ) : EReal) := by
  rw [val_main_v253_apply, show idx_main_v253 (ix4 h g t d) = (ix4 h g t 0) from by funext a; fin_cases a <;> rfl]
  exact (t_v34 qf kf vf cf h g t)

theorem t_v254 (h : Fin 4) (g : Fin 4) (t : Fin 2048) (d : Fin 64) : val_main_v254 (F := Ideal) (up qf) (up kf) (up cf) (ix4 h g t d) = (((((((row qf kf vf cf h g t).W 0) * ((((row qf kf vf cf h g t).c d) / ((row qf kf vf cf h g t).den))))) * (((1) / ((((row qf kf vf cf h g t).L 0) * ((row qf kf vf cf h g t).L 0)))))) : ℝ) : EReal) := by
  rw [val_main_v254_apply]
  exact cmul (t_v160 qf kf vf cf h g t d) (t_v253 qf kf vf cf h g t d)

theorem t_v255 (h : Fin 4) (g : Fin 4) (t : Fin 2048) (d : Fin 64) : val_main_v255 (F := Ideal) (up qf) (up kf) (up vf) (up cf) (ix4 h g t d) = (((((((((row qf kf vf cf h g t).W 0) * ((((row qf kf vf cf h g t).c d) / ((row qf kf vf cf h g t).den))))) * (((1) / ((((row qf kf vf cf h g t).L 0) * ((row qf kf vf cf h g t).L 0))))))) * ((row qf kf vf cf h g t).X 0 d)) : ℝ) : EReal) := by
  rw [val_main_v255_apply]
  exact cmul (t_v254 qf kf vf cf h g t d) (t_v28 qf kf vf cf h g t d)

theorem t_v256 (h : Fin 4) (g : Fin 4) (t : Fin 2048) : val_main_v256 (F := Ideal) (up qf) (up kf) (up vf) (up cf) (ix3 h g t) = (((∑ k : Fin 64, (((((((row qf kf vf cf h g t).W 0) * ((((row qf kf vf cf h g t).c k) / ((row qf kf vf cf h g t).den))))) * (((1) / ((((row qf kf vf cf h g t).L 0) * ((row qf kf vf cf h g t).L 0))))))) * ((row qf kf vf cf h g t).X 0 k))) : ℝ) : EReal) := by
  rw [val_main_v256_apply]
  refine csum Ideal.ofBits_zero_f32 _ _ fun k => ?_
  rw [show idx_main_v256 (ix3 h g t) k = (ix4 h g t k) from by funext a; fin_cases a <;> rfl]
  exact (t_v255 qf kf vf cf h g t k)

theorem t_v257 (h : Fin 4) (g : Fin 4) (t : Fin 2048) : val_main_v257 (F := Ideal) (up qf) (up kf) (up vf) (up cf) (ix4 h g t 0) = (((∑ k : Fin 64, (((((((row qf kf vf cf h g t).W 0) * ((((row qf kf vf cf h g t).c k) / ((row qf kf vf cf h g t).den))))) * (((1) / ((((row qf kf vf cf h g t).L 0) * ((row qf kf vf cf h g t).L 0))))))) * ((row qf kf vf cf h g t).X 0 k))) : ℝ) : EReal) := by
  rw [val_main_v257_apply, show idx_main_v257 (ix4 h g t 0) = (ix3 h g t) from by
    have hh := h.isLt; have hg := g.isLt; have ht := t.isLt
    exact ixe3 (by apply Fin.ext; show (((h.val * 4 + g.val) * 2048 + t.val) * 1 + 0) / 8192 = h.val; omega) (by apply Fin.ext; show (((h.val * 4 + g.val) * 2048 + t.val) * 1 + 0) / 2048 % 4 = g.val; omega) (by apply Fin.ext; show (((h.val * 4 + g.val) * 2048 + t.val) * 1 + 0) % 2048 = t.val; omega)]
  exact (t_v256 qf kf vf cf h g t)

theorem t_v258 (h : Fin 4) (g : Fin 4) (t : Fin 2048) : val_main_v258 (F := Ideal) (up qf) (up kf) (up vf) (up cf) (ix4 h g t 0) = (((-((∑ k : Fin 64, (((((((row qf kf vf cf h g t).W 0) * ((((row qf kf vf cf h g t).c k) / ((row qf kf vf cf h g t).den))))) * (((1) / ((((row qf kf vf cf h g t).L 0) * ((row qf kf vf cf h g t).L 0))))))) * ((row qf kf vf cf h g t).X 0 k))))) : ℝ) : EReal) := by
  rw [val_main_v258_apply]
  exact cneg (t_v257 qf kf vf cf h g t)

theorem t_v259 (h : Fin 4) (g : Fin 4) (t : Fin 2048) (d : Fin 64) : val_main_v259 (F := Ideal) (up qf) (up kf) (ix4 h g t d) = (((row qf kf vf cf h g t).L 0 : ℝ) : EReal) := by
  rw [val_main_v259_apply, show idx_main_v259 (ix4 h g t d) = (ix4 h g t 0) from by funext a; fin_cases a <;> rfl]
  exact (t_v29 qf kf vf cf h g t)

theorem t_v260 (h : Fin 4) (g : Fin 4) (t : Fin 2048) (d : Fin 64) : val_main_v260 (F := Ideal) (up qf) (up kf) (up cf) (ix4 h g t d) = (((row qf kf vf cf h g t).a 0 d : ℝ) : EReal) := by
  rw [val_main_v260_apply]
  exact cdiv (t_v160 qf kf vf cf h g t d) (t_v259 qf kf vf cf h g t d) (L_ne qf kf vf cf h g t 0)

theorem t_v261 (h : Fin 4) (g : Fin 4) (t : Fin 2048) : val_main_v261 (F := Ideal) (up qf) (up kf) (up vf) (up cf) (ix3 h g t) = (((-((∑ k : Fin 64, (((((((row qf kf vf cf h g t).W 0) * ((((row qf kf vf cf h g t).c k) / ((row qf kf vf cf h g t).den))))) * (((1) / ((((row qf kf vf cf h g t).L 0) * ((row qf kf vf cf h g t).L 0))))))) * ((row qf kf vf cf h g t).X 0 k))))) : ℝ) : EReal) := by
  rw [val_main_v261_apply]
  refine csum1 Ideal.ofBits_zero_f32 _ ?_
  rw [show idx_main_v261 (ix3 h g t) (0 : Fin 1) = (ix4 h g t 0) from by funext a; fin_cases a <;> rfl]
  exact (t_v258 qf kf vf cf h g t)

theorem t_v262 (h : Fin 4) (g : Fin 4) (t : Fin 2048) : val_main_v262 (F := Ideal) (up qf) (up kf) (up vf) (up cf) (ix3 h g t) = (((row qf kf vf cf h g t).dL 0 : ℝ) : EReal) := by
  rw [val_main_v262_apply]
  exact cadd (t_v173 qf kf vf cf h g t) (t_v261 qf kf vf cf h g t)

theorem t_v263 (h : Fin 4) (d : Fin 64) (s : Fin 2048) : val_main_v263 (F := Ideal) (up qf) (up kf) (up cf) (ix3 h d s) = (((∑ a : Fin 4, ∑ b : Fin 2048, (row qf kf vf cf h a b).a 0 d * (row qf kf vf cf h a b).p 0 s) : ℝ) : EReal) := by
  unfold val_main_v263
  simp only [Host.dotGeneral]
  rw [Ideal.dotGeneral_apply, ValueIdx.sum_contr2 dot_S4x4x2048x64_S4x4x2048x2048_S4x64x2048_12_12_3_3_0_0 4 2048 rfl rfl rfl]
  refine cdot2 _ _ _ _ (fun a b => ?_) (fun a b => ?_)
  · have h0 := ValueIdx.contrEquiv2_symm_val0 dot_S4x4x2048x64_S4x4x2048x2048_S4x64x2048_12_12_3_3_0_0 4 2048 rfl rfl rfl (a, b)
    have h1 := ValueIdx.contrEquiv2_symm_val1 dot_S4x4x2048x64_S4x4x2048x2048_S4x64x2048_12_12_3_3_0_0 4 2048 rfl rfl rfl (a, b)
    have el : dot_S4x4x2048x64_S4x4x2048x2048_S4x64x2048_12_12_3_3_0_0.lhsIdx (ix3 h d s) ((ValueIdx.contrEquiv2 dot_S4x4x2048x64_S4x4x2048x2048_S4x64x2048_12_12_3_3_0_0 4 2048 rfl rfl rfl).symm (a, b)) = (ix4 h a b d) := funext fun x => Fin.ext (by
      match x with
      | ⟨0, _⟩ => rfl
      | ⟨1, _⟩ => exact Eq.trans rfl h0
      | ⟨2, _⟩ => exact Eq.trans rfl h1
      | ⟨3, _⟩ => rfl)
    rw [el]
    exact (t_v260 qf kf vf cf h a b d)
  · have h0 := ValueIdx.contrEquiv2_symm_val0 dot_S4x4x2048x64_S4x4x2048x2048_S4x64x2048_12_12_3_3_0_0 4 2048 rfl rfl rfl (a, b)
    have h1 := ValueIdx.contrEquiv2_symm_val1 dot_S4x4x2048x64_S4x4x2048x2048_S4x64x2048_12_12_3_3_0_0 4 2048 rfl rfl rfl (a, b)
    have er : dot_S4x4x2048x64_S4x4x2048x2048_S4x64x2048_12_12_3_3_0_0.rhsIdx (ix3 h d s) ((ValueIdx.contrEquiv2 dot_S4x4x2048x64_S4x4x2048x2048_S4x64x2048_12_12_3_3_0_0 4 2048 rfl rfl rfl).symm (a, b)) = (ix4 h a b s) := funext fun x => Fin.ext (by
      match x with
      | ⟨0, _⟩ => rfl
      | ⟨1, _⟩ => exact Eq.trans rfl h0
      | ⟨2, _⟩ => exact Eq.trans rfl h1
      | ⟨3, _⟩ => rfl)
    rw [er]
    exact (t_v26 qf kf vf cf h a b s)

theorem t_v264 (s : Fin 2048) (h : Fin 4) (d : Fin 64) : val_main_v264 (F := Ideal) (up qf) (up kf) (up cf) (ix3 s h d) = (((∑ a : Fin 4, ∑ b : Fin 2048, (row qf kf vf cf h a b).a 0 d * (row qf kf vf cf h a b).p 0 s) : ℝ) : EReal) := by
  rw [val_main_v264_apply, show idx_main_v264 (ix3 s h d) = (ix3 h d s) from by funext a; fin_cases a <;> rfl]
  exact (t_v263 qf kf vf cf h d s)

theorem t_v266 (h : Fin 4) (g : Fin 4) (t : Fin 2048) (s : Fin 2048) : val_main_v266 (F := Ideal) (up qf) (up kf) (up vf) (up cf) (ix4 h g t s) = (((∑ d, (row qf kf vf cf h g t).a 0 d * (row qf kf vf cf h g t).v s d) : ℝ) : EReal) := by
  rw [val_main_v266_apply]
  refine cdot _ _ _ _ (fun k => ?_) (fun k => ?_)
  · rw [show lidx_main_v266 (ix4 h g t s) k = (ix4 h g t k) from by funext a; fin_cases a <;> rfl]
    exact (t_v260 qf kf vf cf h g t k)
  · rw [show ridx_main_v266 (ix4 h g t s) k = (ix3 s h k) from by funext a; fin_cases a <;> rfl]
    try rfl

theorem t_v267 (h : Fin 4) (g : Fin 4) (t : Fin 2048) (s : Fin 2048) : val_main_v267 (F := Ideal) (up qf) (up kf) (up vf) (up cf) (ix4 h g t s) = (((row qf kf vf cf h g t).dL 0 : ℝ) : EReal) := by
  rw [val_main_v267_apply, show idx_main_v267 (ix4 h g t s) = (ix3 h g t) from by funext a; fin_cases a <;> rfl]
  exact (t_v262 qf kf vf cf h g t)

theorem t_v268 (h : Fin 4) (g : Fin 4) (t : Fin 2048) (s : Fin 2048) : val_main_v268 (F := Ideal) (up qf) (up kf) (up vf) (up cf) (ix4 h g t s) = (((((∑ d, (row qf kf vf cf h g t).a 0 d * (row qf kf vf cf h g t).v s d)) + ((row qf kf vf cf h g t).dL 0)) : ℝ) : EReal) := by
  rw [val_main_v268_apply]
  exact cadd (t_v266 qf kf vf cf h g t s) (t_v267 qf kf vf cf h g t s)

theorem t_v269 (h : Fin 4) (g : Fin 4) (t : Fin 2048) (s : Fin 2048) : val_main_v269 (F := Ideal) (up qf) (up kf) (up vf) (up cf) (ix4 h g t s) = (((row qf kf vf cf h g t).dS 0 s : ℝ) : EReal) := by
  rw [val_main_v269_apply]
  exact cmul (t_v268 qf kf vf cf h g t s) (t_v26 qf kf vf cf h g t s)

theorem t_v270 (h : Fin 4) (g : Fin 4) (t : Fin 2048) (s : Fin 2048) : val_main_v270 (F := Ideal) (up qf) (up kf) (up vf) (up cf) (ix4 h g t s) = (((-((row qf kf vf cf h g t).dS 0 s)) : ℝ) : EReal) := by
  rw [val_main_v270_apply]
  exact cneg (t_v269 qf kf vf cf h g t s)

theorem t_v271 (h : Fin 4) (g : Fin 4) (t : Fin 2048) : val_main_v271 (F := Ideal) (up qf) (up kf) (up vf) (up cf) (ix3 h g t) = (((∑ k : Fin 2048, (-((row qf kf vf cf h g t).dS 0 k))) : ℝ) : EReal) := by
  rw [val_main_v271_apply]
  refine csum Ideal.ofBits_zero_f32 _ _ fun k => ?_
  rw [show idx_main_v271 (ix3 h g t) k = (ix4 h g t k) from by funext a; fin_cases a <;> rfl]
  exact (t_v270 qf kf vf cf h g t k)

theorem t_v272 (h : Fin 4) (g : Fin 4) (t : Fin 2048) : val_main_v272 (F := Ideal) (up qf) (up kf) (up vf) (up cf) (ix4 h g t 0) = (((∑ k : Fin 2048, (-((row qf kf vf cf h g t).dS 0 k))) : ℝ) : EReal) := by
  rw [val_main_v272_apply, show idx_main_v272 (ix4 h g t 0) = (ix3 h g t) from by
    have hh := h.isLt; have hg := g.isLt; have ht := t.isLt
    exact ixe3 (by apply Fin.ext; show (((h.val * 4 + g.val) * 2048 + t.val) * 1 + 0) / 8192 = h.val; omega) (by apply Fin.ext; show (((h.val * 4 + g.val) * 2048 + t.val) * 1 + 0) / 2048 % 4 = g.val; omega) (by apply Fin.ext; show (((h.val * 4 + g.val) * 2048 + t.val) * 1 + 0) % 2048 = t.val; omega)]
  exact (t_v271 qf kf vf cf h g t)

theorem t_v273 (h : Fin 4) (g : Fin 4) (t : Fin 2048) : val_main_v273 (F := Ideal) (up qf) (up kf) (up vf) (up cf) (ix3 h g t) = (((∑ k : Fin 2048, (-((row qf kf vf cf h g t).dS 0 k))) : ℝ) : EReal) := by
  rw [val_main_v273_apply]
  refine csum1 Ideal.ofBits_zero_f32 _ ?_
  rw [show idx_main_v273 (ix3 h g t) (0 : Fin 1) = (ix4 h g t 0) from by funext a; fin_cases a <;> rfl]
  exact (t_v272 qf kf vf cf h g t)

theorem t_v274 (h : Fin 4) (g : Fin 4) (t : Fin 2048) : val_main_v274 (F := Ideal) (up qf) (up kf) (up vf) (up cf) (ix3 h g t) = ((0 : ℝ) : EReal) := by
  rw [val_main_v274_apply]
  refine (cadd (t_v183 qf kf vf cf h g t) (t_v273 qf kf vf cf h g t)).trans (congrArg Real.toEReal (rowmax0 (row qf kf vf cf h g t) 0 (L_ne qf kf vf cf h g t 0)))

theorem t_v275 (h g : Fin 4) (t : Fin 2048) : val_main_v275 (F := Ideal) (up qf) (up kf) (up vf) (up cf) (ix3 h g t) = ((0 : ℝ) : EReal) := by
  obtain ⟨r, hr, e⟩ := tie_v22 qf kf vf cf h g t
  rw [val_main_v275_apply]
  refine (cdiv (t_v274 qf kf vf cf h g t) e hr).trans ?_
  rw [zero_div]

theorem t_v276 (h : Fin 4) (g : Fin 4) (t : Fin 2048) (s : Fin 2048) : val_main_v276 (F := Ideal) (up qf) (up kf) (up vf) (up cf) (ix4 h g t s) = ((0 : ℝ) : EReal) := by
  rw [val_main_v276_apply, show idx_main_v276 (ix4 h g t s) = (ix3 h g t) from by funext a; fin_cases a <;> rfl]
  exact (t_v275 qf kf vf cf h g t)

theorem t_v277 (h g : Fin 4) (t s : Fin 2048) : val_main_v277 (F := Ideal) (up qf) (up kf) (up vf) (up cf) (ix4 h g t s) = ((0 : ℝ) : EReal) := by
  rw [val_main_v277_apply, t_v276 qf kf vf cf h g t s, EReal.coe_zero]
  exact zero_mul (M₀ := EReal) _

theorem t_v278 (h g : Fin 4) (t s : Fin 2048) : val_main_v278 (F := Ideal) (up qf) (up kf) (up vf) (up cf) (ix4 h g t s) = (((row qf kf vf cf h g t).dS 0 s : ℝ) : EReal) := by
  rw [val_main_v278_apply]
  refine (cadd (t_v269 qf kf vf cf h g t s) (t_v277 qf kf vf cf h g t s)).trans ?_
  rw [add_zero]

theorem t_v279 (h g : Fin 4) (t s : Fin 2048) : val_main_v279 (F := Ideal) (up qf) (up kf) (up vf) (up cf) (ix4 h g t s) = (((row qf kf vf cf h g t).dS 0 s : ℝ) : EReal) := by
  rw [val_main_v279_apply, t_v16_1, csel, t_v278 qf kf vf cf h g t s, val_main_call5_v0_apply, val_main_call5_cst_apply]
  refine Eq.trans ?_ (dS_masked qf kf vf cf h g t s 0)
  rw [EReal.coe_zero, ← Ideal.ofBits_zero_f32]
  rfl

theorem t_v280 (h : Fin 4) (s : Fin 2048) (t : Fin 2048) (g : Fin 4) : val_main_v280 (F := Ideal) (up qf) (up kf) (up vf) (up cf) (ix4 h s t g) = (((row qf kf vf cf h g t).dS 0 s : ℝ) : EReal) := by
  rw [val_main_v280_apply, show idx_main_v280 (ix4 h s t g) = (ix4 h g t s) from by funext a; fin_cases a <;> rfl]
  exact (t_v279 qf kf vf cf h g t s)

theorem t_v281 (h : Fin 4) (t : Fin 2048) (g : Fin 4) (d : Fin 64) : val_main_v281 (F := Ideal) (up qf) (up kf) (up vf) (up cf) (ix4 h t g d) = (((∑ k : Fin 2048, ((row qf kf vf cf h g t).dS 0 k) * (kf (ix3 k h d))) : ℝ) : EReal) := by
  rw [val_main_v281_apply]
  refine cdot _ _ _ _ (fun k => ?_) (fun k => ?_)
  · rw [show lidx_main_v281 (ix4 h t g d) k = (ix4 h k t g) from by funext a; fin_cases a <;> rfl]
    exact (t_v280 qf kf vf cf h k t g)
  · rw [show ridx_main_v281 (ix4 h t g d) k = (ix3 k h d) from by funext a; fin_cases a <;> rfl]
    try rfl

theorem t_v282 (t : Fin 2048) (h : Fin 4) (g : Fin 4) (d : Fin 64) : val_main_v282 (F := Ideal) (up qf) (up kf) (up vf) (up cf) (ix4 t h g d) = (((∑ k : Fin 2048, ((row qf kf vf cf h g t).dS 0 k) * (kf (ix3 k h d))) : ℝ) : EReal) := by
  rw [val_main_v282_apply, show idx_main_v282 (ix4 t h g d) = (ix4 h t g d) from by funext a; fin_cases a <;> rfl]
  exact (t_v281 qf kf vf cf h t g d)

theorem t_v284 (h : Fin 4) (s : Fin 2048) (d : Fin 64) : val_main_v284 (F := Ideal) (up qf) (up kf) (up vf) (up cf) (ix3 h s d) = (((∑ a : Fin 2048, ∑ b : Fin 4, (row qf kf vf cf h b a).dS 0 s * qf (ix4 a h b d)) : ℝ) : EReal) := by
  unfold val_main_v284
  simp only [Host.dotGeneral]
  rw [Ideal.dotGeneral_apply, ValueIdx.sum_contr2 dot_S4x2048x2048x4_S2048x4x4x64_S4x2048x64_23_02_1_3_0_1 2048 4 rfl rfl rfl]
  refine cdot2 _ _ _ _ (fun a b => ?_) (fun a b => ?_)
  · have h0 := ValueIdx.contrEquiv2_symm_val0 dot_S4x2048x2048x4_S2048x4x4x64_S4x2048x64_23_02_1_3_0_1 2048 4 rfl rfl rfl (a, b)
    have h1 := ValueIdx.contrEquiv2_symm_val1 dot_S4x2048x2048x4_S2048x4x4x64_S4x2048x64_23_02_1_3_0_1 2048 4 rfl rfl rfl (a, b)
    have el : dot_S4x2048x2048x4_S2048x4x4x64_S4x2048x64_23_02_1_3_0_1.lhsIdx (ix3 h s d) ((ValueIdx.contrEquiv2 dot_S4x2048x2048x4_S2048x4x4x64_S4x2048x64_23_02_1_3_0_1 2048 4 rfl rfl rfl).symm (a, b)) = (ix4 h s a b) := funext fun x => Fin.ext (by
      match x with
      | ⟨0, _⟩ => rfl
      | ⟨1, _⟩ => rfl
      | ⟨2, _⟩ => exact Eq.trans rfl h0
      | ⟨3, _⟩ => exact Eq.trans rfl h1)
    rw [el]
    exact (t_v280 qf kf vf cf h s a b)
  · have h0 := ValueIdx.contrEquiv2_symm_val0 dot_S4x2048x2048x4_S2048x4x4x64_S4x2048x64_23_02_1_3_0_1 2048 4 rfl rfl rfl (a, b)
    have h1 := ValueIdx.contrEquiv2_symm_val1 dot_S4x2048x2048x4_S2048x4x4x64_S4x2048x64_23_02_1_3_0_1 2048 4 rfl rfl rfl (a, b)
    have er : dot_S4x2048x2048x4_S2048x4x4x64_S4x2048x64_23_02_1_3_0_1.rhsIdx (ix3 h s d) ((ValueIdx.contrEquiv2 dot_S4x2048x2048x4_S2048x4x4x64_S4x2048x64_23_02_1_3_0_1 2048 4 rfl rfl rfl).symm (a, b)) = (ix4 a h b d) := funext fun x => Fin.ext (by
      match x with
      | ⟨0, _⟩ => exact Eq.trans rfl h0
      | ⟨1, _⟩ => rfl
      | ⟨2, _⟩ => exact Eq.trans rfl h1
      | ⟨3, _⟩ => rfl)
    rw [er]
    try rfl

theorem t_v285 (s : Fin 2048) (h : Fin 4) (d : Fin 64) : val_main_v285 (F := Ideal) (up qf) (up kf) (up vf) (up cf) (ix3 s h d) = (((∑ a : Fin 2048, ∑ b : Fin 4, (row qf kf vf cf h b a).dS 0 s * qf (ix4 a h b d)) : ℝ) : EReal) := by
  rw [val_main_v285_apply, show idx_main_v285 (ix3 s h d) = (ix3 h s d) from by funext a; fin_cases a <;> rfl]
  exact (t_v284 qf kf vf cf h s d)

theorem t_v231 (s : Fin 2048) (h : Fin 4) (d : Fin 64) : val_main_v231 (F := Ideal) (up qf) (up kf) (up cf) (ix3 s h d) = (((((∑ a : Fin 4, ∑ b : Fin 2048, (row qf kf vf cf h a b).a 2 d * (row qf kf vf cf h a b).p 2 s)) + ((∑ a : Fin 4, ∑ b : Fin 2048, (row qf kf vf cf h a b).a 1 d * (row qf kf vf cf h a b).p 1 s))) : ℝ) : EReal) := by
  rw [val_main_v231_apply]
  exact cadd (t_v199 qf kf vf cf s h d) (t_v230 qf kf vf cf s h d)

theorem t_v265 (s : Fin 2048) (h : Fin 4) (d : Fin 64) : val_main_v265 (F := Ideal) (up qf) (up kf) (up cf) (ix3 s h d) = (((((((∑ a : Fin 4, ∑ b : Fin 2048, (row qf kf vf cf h a b).a 2 d * (row qf kf vf cf h a b).p 2 s)) + ((∑ a : Fin 4, ∑ b : Fin 2048, (row qf kf vf cf h a b).a 1 d * (row qf kf vf cf h a b).p 1 s)))) + ((∑ a : Fin 4, ∑ b : Fin 2048, (row qf kf vf cf h a b).a 0 d * (row qf kf vf cf h a b).p 0 s))) : ℝ) : EReal) := by
  rw [val_main_v265_apply]
  exact cadd (t_v231 qf kf vf cf s h d) (t_v264 qf kf vf cf s h d)

theorem t_v249 (t : Fin 2048) (h : Fin 4) (g : Fin 4) (d : Fin 64) : val_main_v249 (F := Ideal) (up qf) (up kf) (up vf) (up cf) (ix4 t h g d) = (((((∑ k : Fin 2048, ((row qf kf vf cf h g t).dS 2 k) * (kf (ix3 k h d)))) + ((∑ k : Fin 2048, ((row qf kf vf cf h g t).dS 1 k) * (kf (ix3 k h d))))) : ℝ) : EReal) := by
  rw [val_main_v249_apply]
  exact cadd (t_v216 qf kf vf cf t h g d) (t_v248 qf kf vf cf t h g d)

theorem t_v283 (t : Fin 2048) (h : Fin 4) (g : Fin 4) (d : Fin 64) : val_main_v283 (F := Ideal) (up qf) (up kf) (up vf) (up cf) (ix4 t h g d) = (((((((∑ k : Fin 2048, ((row qf kf vf cf h g t).dS 2 k) * (kf (ix3 k h d)))) + ((∑ k : Fin 2048, ((row qf kf vf cf h g t).dS 1 k) * (kf (ix3 k h d)))))) + ((∑ k : Fin 2048, ((row qf kf vf cf h g t).dS 0 k) * (kf (ix3 k h d))))) : ℝ) : EReal) := by
  rw [val_main_v283_apply]
  exact cadd (t_v249 qf kf vf cf t h g d) (t_v282 qf kf vf cf t h g d)

theorem t_v252 (s : Fin 2048) (h : Fin 4) (d : Fin 64) : val_main_v252 (F := Ideal) (up qf) (up kf) (up vf) (up cf) (ix3 s h d) = (((((∑ a : Fin 2048, ∑ b : Fin 4, (row qf kf vf cf h b a).dS 2 s * qf (ix4 a h b d))) + ((∑ a : Fin 2048, ∑ b : Fin 4, (row qf kf vf cf h b a).dS 1 s * qf (ix4 a h b d)))) : ℝ) : EReal) := by
  rw [val_main_v252_apply]
  exact cadd (t_v218 qf kf vf cf s h d) (t_v251 qf kf vf cf s h d)

theorem t_v286 (s : Fin 2048) (h : Fin 4) (d : Fin 64) : val_main_v286 (F := Ideal) (up qf) (up kf) (up vf) (up cf) (ix3 s h d) = (((((((∑ a : Fin 2048, ∑ b : Fin 4, (row qf kf vf cf h b a).dS 2 s * qf (ix4 a h b d))) + ((∑ a : Fin 2048, ∑ b : Fin 4, (row qf kf vf cf h b a).dS 1 s * qf (ix4 a h b d))))) + ((∑ a : Fin 2048, ∑ b : Fin 4, (row qf kf vf cf h b a).dS 0 s * qf (ix4 a h b d)))) : ℝ) : EReal) := by
  rw [val_main_v286_apply]
  exact cadd (t_v252 qf kf vf cf s h d) (t_v285 qf kf vf cf s h d)

theorem t_v290 (h : Fin 4) (d : Fin 64) (s : Fin 2048) : val_main_v290 (F := Ideal) (up qf) (up kf) (up vf) (up cf) (ix3 h d s) = (((((((∑ a : Fin 2048, ∑ b : Fin 4, (row qf kf vf cf h b a).dS 2 s * qf (ix4 a h b d))) + ((∑ a : Fin 2048, ∑ b : Fin 4, (row qf kf vf cf h b a).dS 1 s * qf (ix4 a h b d))))) + ((∑ a : Fin 2048, ∑ b : Fin 4, (row qf kf vf cf h b a).dS 0 s * qf (ix4 a h b d)))) : ℝ) : EReal) := by
  rw [val_main_v290_apply, show idx_main_v290 (ix3 h d s) = (ix3 s h d) from by funext a; fin_cases a <;> rfl]
  exact (t_v286 qf kf vf cf s h d)

theorem t_v291 (h : Fin 4) (d : Fin 64) (s : Fin 2048) : val_main_v291 (F := Ideal) (up qf) (up kf) (up cf) (ix3 h d s) = (((((((∑ a : Fin 4, ∑ b : Fin 2048, (row qf kf vf cf h a b).a 2 d * (row qf kf vf cf h a b).p 2 s)) + ((∑ a : Fin 4, ∑ b : Fin 2048, (row qf kf vf cf h a b).a 1 d * (row qf kf vf cf h a b).p 1 s)))) + ((∑ a : Fin 4, ∑ b : Fin 2048, (row qf kf vf cf h a b).a 0 d * (row qf kf vf cf h a b).p 0 s))) : ℝ) : EReal) := by
  rw [val_main_v291_apply, show idx_main_v291 (ix3 h d s) = (ix3 s h d) from by funext a; fin_cases a <;> rfl]
  exact (t_v265 qf kf vf cf s h d)

end Cert.Ref
-- ==== Proof.RefOut.lean ====
/- The reference's three gradients over real arguments, each as one sum over the keys or the queries. -/
module

public import proofs.«01_k».proof.Proof.RefBwd

@[expose] public section

set_option maxRecDepth 16384

noncomputable section

set_option maxHeartbeats 400000

namespace Cert.Ref

open Idealize.ShloMosaic Cert.ReferenceIdeal Cert.ReferenceIdeal.Gen Cert.ReferenceIdeal.Read Cert.Coe

/-- The query of lane `j` of tile `b`. -/
def tt (b : Fin 16) (j : Fin 512) : Fin 2048 := ⟨b.val * 128 + j.val % 128, by have := b.isLt; omega⟩
/-- The group of lane `j`. -/
def gg (j : Fin 512) : Fin 4 := ⟨j.val / 128, by have := j.isLt; omega⟩

variable (qf : S2048x4x4x64.Idx → ℝ) (kf vf : S2048x4x64.Idx → ℝ) (cf : S2048x4x4x64.Idx → ℝ)

theorem fold3 (f : Fin 3 → ℝ) : f 2 + f 1 + f 0 = ∑ P, f P := by
  rw [Fin.sum_univ_three]
  ring

/-- The gradient of the queries. -/
theorem dq_eq (h : Fin 4) (b : Fin 16) (d : Fin 64) (j : Fin 512) :
    val_main_v289 (F := Ideal) (up qf) (up kf) (up vf) (up cf) (ix4 h b d j)
      = ((∑ s : Fin 2048, ((row qf kf vf cf h (gg j) (tt b j)).pt s * ((row qf kf vf cf h (gg j) (tt b j)).vc s - (row qf kf vf cf h (gg j) (tt b j)).dl)) * kf (ix3 s h d) : ℝ) : EReal) := by
  have hh := h.isLt; have hb := b.isLt; have hd := d.isLt; have hj := j.isLt
  have hq : j.val / 128 < 4 := by omega
  have hr : j.val % 128 < 128 := by omega
  rw [val_main_v289_apply, val_main_v288_apply, val_main_v287_apply,
    show idx_main_v289 (ix4 h b d j) = ix5 h b d (gg j) (⟨j.val % 128, by omega⟩ : Fin 128) from
      ixe5 (by apply Fin.ext; show (((h.val * 16 + b.val) * 64 + d.val) * 512 + j.val) / 524288 = h.val; omega)
        (by apply Fin.ext; show (((h.val * 16 + b.val) * 64 + d.val) * 512 + j.val) / 32768 % 16 = b.val; omega)
        (by apply Fin.ext; show (((h.val * 16 + b.val) * 64 + d.val) * 512 + j.val) / 512 % 64 = d.val; omega)
        (by apply Fin.ext; show (((h.val * 16 + b.val) * 64 + d.val) * 512 + j.val) / 128 % 4 = j.val / 128; omega)
        (by apply Fin.ext; show (((h.val * 16 + b.val) * 64 + d.val) * 512 + j.val) % 128 = j.val % 128; omega),
    show idx_main_v288 (ix5 h b d (gg j) (⟨j.val % 128, by omega⟩ : Fin 128)) = ix5 b (⟨j.val % 128, by omega⟩ : Fin 128) h (gg j) d from by
      funext a; fin_cases a <;> rfl,
    show idx_main_v287 (ix5 b (⟨j.val % 128, by omega⟩ : Fin 128) h (gg j) d) = ix4 (tt b j) h (gg j) d from
      ixe4 (by apply Fin.ext; show ((((b.val * 128 + j.val % 128) * 4 + h.val) * 4 + j.val / 128) * 64 + d.val) / 1024 = b.val * 128 + j.val % 128; revert hq hr; generalize j.val % 128 = r; generalize j.val / 128 = q'; intro hq hr; omega)
        (by apply Fin.ext; show ((((b.val * 128 + j.val % 128) * 4 + h.val) * 4 + j.val / 128) * 64 + d.val) / 256 % 4 = h.val; revert hq hr; generalize j.val % 128 = r; generalize j.val / 128 = q'; intro hq hr; omega)
        (by apply Fin.ext; show ((((b.val * 128 + j.val % 128) * 4 + h.val) * 4 + j.val / 128) * 64 + d.val) / 64 % 4 = j.val / 128; revert hq hr; generalize j.val % 128 = r; generalize j.val / 128 = q'; intro hq hr; omega)
        (by apply Fin.ext; show ((((b.val * 128 + j.val % 128) * 4 + h.val) * 4 + j.val / 128) * 64 + d.val) % 64 = d.val; revert hq hr; generalize j.val % 128 = r; generalize j.val / 128 = q'; intro hq hr; omega),
    t_v283 qf kf vf cf (tt b j) h (gg j) d]
  generalize hR : row qf kf vf cf h (gg j) (tt b j) = D
  refine congrArg Real.toEReal ((fold3 fun P => ∑ k : Fin 2048, D.dS P k * kf (ix3 k h d)).trans ?_)
  rw [Finset.sum_comm]
  refine Finset.sum_congr rfl fun s _ => ?_
  rw [← Finset.sum_mul, D.total_dS s fun P => by rw [← hR]; exact L_ne qf kf vf cf h (gg j) (tt b j) P]

/-- The gradient of the keys. -/
theorem dk_eq (h : Fin 4) (d : Fin 64) (s : Fin 2048) :
    val_main_v290 (F := Ideal) (up qf) (up kf) (up vf) (up cf) (ix3 h d s)
      = ((∑ t : Fin 2048, ∑ g : Fin 4, ((row qf kf vf cf h g t).pt s * ((row qf kf vf cf h g t).vc s - (row qf kf vf cf h g t).dl)) * qf (ix4 t h g d) : ℝ) : EReal) := by
  rw [t_v290 qf kf vf cf h d s]
  refine congrArg Real.toEReal ((fold3 fun P => ∑ t : Fin 2048, ∑ g : Fin 4, (row qf kf vf cf h g t).dS P s * qf (ix4 t h g d)).trans ?_)
  rw [Finset.sum_comm]
  refine Finset.sum_congr rfl fun t _ => ?_
  rw [Finset.sum_comm]
  refine Finset.sum_congr rfl fun g _ => ?_
  rw [← Finset.sum_mul, (row qf kf vf cf h g t).total_dS s fun P => L_ne qf kf vf cf h g t P]

/-- The gradient of the values. -/
theorem dv_eq (h : Fin 4) (d : Fin 64) (s : Fin 2048) :
    val_main_v291 (F := Ideal) (up qf) (up kf) (up cf) (ix3 h d s)
      = ((∑ t : Fin 2048, ∑ g : Fin 4, (row qf kf vf cf h g t).pt s * cf (ix4 t h g d) : ℝ) : EReal) := by
  rw [t_v291 qf kf vf cf h d s]
  refine congrArg Real.toEReal ((fold3 fun P => ∑ g : Fin 4, ∑ t : Fin 2048, (row qf kf vf cf h g t).a P d * (row qf kf vf cf h g t).p P s).trans ?_)
  rw [Finset.sum_comm, Finset.sum_comm (s := (Finset.univ : Finset (Fin 2048)))]
  refine Finset.sum_congr rfl fun g _ => ?_
  rw [Finset.sum_comm]
  refine Finset.sum_congr rfl fun t _ => ?_
  rw [(row qf kf vf cf h g t).total_a_p s d fun P => L_ne qf kf vf cf h g t P]
  rfl

end Cert.Ref
-- ==== Proof.Reads.lean ====
/- The operands of the backward call, read at an index, over real arguments. -/
module

public import proofs.«01_k».proof.Proof.Operands
public import proofs.«01_k».proof.Proof.Bias
public import proofs.«01_k».proof.Proof.Grid
public import proofs.«01_k».proof.Proof.RefOut

@[expose] public section

set_option maxRecDepth 16384

noncomputable section

set_option maxHeartbeats 400000

namespace Cert.Reads

open Idealize.ShloMosaic Cert.KernelIdeal Cert.KernelIdeal.Gen Cert.ReferenceIdeal.Read Cert.Ref Cert.Coe Cert.Host Cert.Tile

/-- The tiled layout of the queries: tile `b`, lane `j` holds query `tt b j` of group `gg j`. -/
theorem lay_apply {α : Type} (x : S2048x4x4x64.Idx → α) (h : Fin 4) (b : Fin 16) (d : Fin 64) (j : Fin 512) :
    shapeCast S4x16x64x512 (transpose S4x16x64x4x128 [2, 0, 4, 3, 1] (shapeCast S16x128x4x4x64 x shapeCasts_S2048x4x4x64_S16x128x4x4x64)
      transposes_S16x128x4x4x64_S4x16x64x4x128_2_0_4_3_1) shapeCasts_S4x16x64x4x128_S4x16x64x512 (ix4 h b d j)
      = x (ix4 (tt b j) h (gg j) d) := by
  have hh := h.isLt; have hb := b.isLt; have hd := d.isLt; have hj := j.isLt
  refine (shapeCast_apply _ shapeCasts_S4x16x64x4x128_S4x16x64x512 (ix4 h b d j) (ix5 h b d (gg j) (⟨j.val % 128, by omega⟩ : Fin 128)) ?_).trans
    ((transpose_apply _ _ transposes_S16x128x4x4x64_S4x16x64x4x128_2_0_4_3_1 _ (ix5 b (⟨j.val % 128, by omega⟩ : Fin 128) h (gg j) d) ?_).trans
      (shapeCast_apply _ shapeCasts_S2048x4x4x64_S16x128x4x4x64 _ (ix4 (tt b j) h (gg j) d) ?_))
  · rw [Shape.rowMajor_val_five, Shape.rowMajor_val_four]
    show (((h.val * 16 + b.val) * 64 + d.val) * 4 + j.val / 128) * 128 + j.val % 128 = ((h.val * 16 + b.val) * 64 + d.val) * 512 + j.val
    omega
  · intro a
    fin_cases a <;> rfl
  · rw [Shape.rowMajor_val_five, Shape.rowMajor_val_four]
    show (((b.val * 128 + j.val % 128) * 4 + h.val) * 4 + j.val / 128) * 64 + d.val = (((b.val * 128 + j.val % 128) * 4 + h.val) * 4 + j.val / 128) * 64 + d.val
    rfl

/-- The tiled layout of a row statistic. -/
theorem stat_apply {α : Type} (x : S4x4x2048.Idx → α) (h : Fin 4) (b : Fin 16) (j : Fin 512) :
    shapeCast S4x16x1x512 (transpose S4x16x4x128 [0, 2, 1, 3] (shapeCast S4x4x16x128 x shapeCasts_S4x4x2048_S4x4x16x128)
      transposes_S4x4x16x128_S4x16x4x128_0_2_1_3) shapeCasts_S4x16x4x128_S4x16x1x512 (ix4 h b 0 j) = x (ix3 h (gg j) (tt b j)) := by
  have hh := h.isLt; have hb := b.isLt; have hj := j.isLt
  refine (shapeCast_apply _ shapeCasts_S4x16x4x128_S4x16x1x512 (ix4 h b 0 j) (ix4 h b (gg j) (⟨j.val % 128, by omega⟩ : Fin 128)) ?_).trans
    ((transpose_apply _ _ transposes_S4x4x16x128_S4x16x4x128_0_2_1_3 _ (ix4 h (gg j) b (⟨j.val % 128, by omega⟩ : Fin 128)) ?_).trans
      (shapeCast_apply _ shapeCasts_S4x4x2048_S4x4x16x128 _ (ix3 h (gg j) (tt b j)) ?_))
  · rw [Shape.rowMajor_val_four, Shape.rowMajor_val_four]
    show ((h.val * 16 + b.val) * 4 + j.val / 128) * 128 + j.val % 128 = ((h.val * 16 + b.val) * 1 + 0) * 512 + j.val
    omega
  · intro a
    fin_cases a <;> rfl
  · rw [Shape.rowMajor_val_three, Shape.rowMajor_val_four]
    show (h.val * 4 + j.val / 128) * 2048 + (b.val * 128 + j.val % 128) = ((h.val * 4 + j.val / 128) * 16 + b.val) * 128 + j.val % 128
    omega

/-- A sum over the third axis. -/
theorem sum_apply (x : S4x16x64x512.Idx → EReal) (h : Fin 4) (b : Fin 16) (j : Fin 512) :
    Host.reduceAdd (F := Ideal) (φ := .f32) x (constant (F := Ideal) S_ .f32 0#32) reducesTo_S4x16x64x512_S4x16x512_d2 h_S_ (ix3 h b j)
      = FloatOps.ofBits (F := Ideal) .f32 0#32 + ∑ d : Fin 64, x (ix4 h b d j) := by
  simp only [Host.reduceAdd, Ideal.hostReduceAdd_def]
  rw [Ideal.hostReduceAdd_single reducesTo_S4x16x64x512_S4x16x512_d2 (by decide)]
  refine congrArg (_ + ·) (Finset.sum_congr rfl fun k _ => ?_)
  exact congrArg x (funext fun a => Fin.ext (by match a with | ⟨0, _⟩ => rfl | ⟨1, _⟩ => rfl | ⟨2, _⟩ => rfl | ⟨3, _⟩ => rfl))

variable (m : (ℓ : Loc nD τ sig) → Buf (Elt Ideal) ℓ) (ρ : Dev nD → PrngReg) (c : Dev nD)

theorem rQ (h : Fin 4) (b : Fin 16) (d : Fin 64) (j : Fin 512) : aQ (V8 m ρ) c (ix4 h b d j) = X0 m c (ix4 (tt b j) h (gg j) d) :=
  (congrFun (w_qt m ρ c) _).trans (lay_apply (X0 m c) h b d j)
theorem rC (h : Fin 4) (b : Fin 16) (d : Fin 64) (j : Fin 512) : aC (V8 m ρ) c (ix4 h b d j) = X3 m c (ix4 (tt b j) h (gg j) d) :=
  (congrFun (w_ct m ρ c) _).trans (lay_apply (X3 m c) h b d j)
theorem rK (h : Fin 4) (n : Fin 2048) (d : Fin 64) : aK (V8 m ρ) c (ix3 h n d) = X1 m c (ix3 n h d) :=
  (congrFun (w_kh m ρ c) _).trans (transpose_apply _ (X1 m c) transposes_S2048x4x64_S4x2048x64_1_0_2 (ix3 h n d) (ix3 n h d) (by intro a; fin_cases a <;> rfl))
theorem rW (h : Fin 4) (n : Fin 2048) (d : Fin 64) : aW (V8 m ρ) c (ix3 h n d) = X2 m c (ix3 n h d) :=
  (congrFun (w_vh m ρ c) _).trans (transpose_apply _ (X2 m c) transposes_S2048x4x64_S4x2048x64_1_0_2 (ix3 h n d) (ix3 n h d) (by intro a; fin_cases a <;> rfl))
theorem rT (h : Fin 4) (d : Fin 64) (n : Fin 2048) : aT (V8 m ρ) c (ix3 h d n) = X1 m c (ix3 n h d) :=
  (congrFun (w_kt m ρ c) _).trans (transpose_apply _ (X1 m c) transposes_S2048x4x64_S4x64x2048_1_2_0 (ix3 h d n) (ix3 n h d) (by intro a; fin_cases a <;> rfl))

variable (qf : S2048x4x4x64.Idx → ℝ) (kf vf : S2048x4x64.Idx → ℝ) (cf : S2048x4x4x64.Idx → ℝ)
variable (hq : X0 m c = up qf) (hk : X1 m c = up kf) (hv : X2 m c = up vf) (hc : X3 m c = up cf)

include hq hk in
/-- The row statistic is the maximum plus the logarithm of the denominator. -/
theorem rL (h : Fin 4) (b : Fin 16) (j : Fin 512) : aL (V8 m ρ) c (ix4 h b 0 j)
    = (((row qf kf vf cf h (gg j) (tt b j)).T + Real.log (row qf kf vf cf h (gg j) (tt b j)).den : ℝ) : EReal) := by
  refine (congrFun (w_lse m ρ c) _).trans ((stat_apply _ h b j).trans ?_)
  show val_main_v109 (F := Ideal) (X0 m c) (X1 m c) (ix3 h (gg j) (tt b j)) + Ideal.log (val_main_v128 (F := Ideal) (X0 m c) (X1 m c) (ix3 h (gg j) (tt b j))) = _
  rw [hq, hk, t_v128 qf kf vf cf h (gg j) (tt b j), Cert.Bias.log_pos (den_pos qf kf vf cf h (gg j) (tt b j))]
  exact cadd (t_v109 qf kf vf cf h (gg j) (tt b j)) rfl

include hq hk hv hc in
/-- The other statistic is the output dot the cotangent. -/
theorem rD (h : Fin 4) (b : Fin 16) (j : Fin 512) : aD (V8 m ρ) c (ix4 h b 0 j)
    = (((row qf kf vf cf h (gg j) (tt b j)).dl : ℝ) : EReal) := by
  refine (congrFun (w_delta m ρ c) _).trans ?_
  refine (broadcastInDim_apply _ bcast_S4x16x512_S4x16x1x512_0_1_3 _ (ix4 h b 0 j) (ix3 h b j) (fun a => by fin_cases a <;> rfl)).trans ?_
  refine (sum_apply _ h b j).trans ?_
  refine csum Ideal.ofBits_zero_f32 _ _ fun d => ?_
  refine cmul ?_ ?_
  · refine (lay_apply _ h b d j).trans ?_
    refine (transpose_apply _ _ transposes_S4x4x2048x64_S2048x4x4x64_2_0_1_3 _ (ix4 h (gg j) (tt b j) d) (by intro a; fin_cases a <;> rfl)).trans ?_
    rw [hq, hk, hv]
    exact t_v135 qf kf vf cf h (gg j) (tt b j) d
  · refine (lay_apply (X3 m c) h b d j).trans ?_
    rw [hc]
    rfl

/-- The bias table is what the first call wrote. -/
theorem rB : aB (V8 m ρ) c = k0_pay1 (F := Ideal) := by
  refine (W8_arr m ρ c 0).trans ?_
  refine ((dat0 (V7 m ρ) c).arrAt_eq_of_after_last 0 ⟨0, by decide⟩ (by decide +kernel) _ fun y => ?_)
  blk_simp
  refine (congrFun (after0_0 (V7 m ρ) c ⟨0, by decide⟩) _).trans ?_
  unfold out0_0
  exact congrFun (View.canon_unit_zero (by funext a; fin_cases a <;> rfl) _ _) _

end Cert.Reads
-- ==== Proof.Final.lean ====
/- The three gradients the kernel leaves are the reference's, over real arguments. -/
module

public import proofs.«01_k».proof.Proof.Reads

@[expose] public section

set_option maxRecDepth 16384

noncomputable section

set_option maxHeartbeats 400000

namespace Cert.Final

open Idealize.ShloMosaic Cert.KernelIdeal Cert.KernelIdeal.Gen Cert.ReferenceIdeal.Read Cert.Ref Cert.Coe Cert.Host Cert.Tile Cert.Reads

/-- In how many patterns a query attends to a key, by their distance. -/
theorem cnt_eq (t n : Fin 2048) : (∑ P : Fin 3, if mk P t n then (1 : ℝ) else 0)
    = if n.val ≤ t.val then (Cert.Bias.cntN (t.val - n.val) : ℝ) else 0 := by
  have hn := n.isLt; have ht := t.isLt
  have h2 : t.val - n.val ≤ 2048 := by omega
  have w0 : win 0 = 128 := rfl
  have w1 : win 1 = 512 := rfl
  have w2 : win 2 = 2048 := rfl
  have d0 : dil 0 = 1 := rfl
  have d1 : dil 1 = 4 := rfl
  have d2 : dil 2 = 16 := rfl
  rw [Fin.sum_univ_three]
  unfold mk Cert.Bias.cntN
  by_cases h : n.val ≤ t.val
  · simp only [h, true_and, if_true, decide_eq_true_eq, w0, w1, w2, d0, d1, d2, h2, Nat.mod_one, and_true]
    have hc : (t.val - n.val ≤ 512 ∧ (t.val - n.val) % 4 = 0) ↔ ((t.val - n.val) % 4 = 0 ∧ t.val - n.val ≤ 512) := and_comm
    simp only [hc, true_and]
    push_cast
    rfl
  · simp only [h, false_and, decide_false, Bool.false_eq_true, if_false]
    norm_num

/-- A sum over tiles and lanes is a sum over queries and groups. -/
theorem sum_tiles (f : Fin 2048 → Fin 4 → ℝ) : ∑ b : Fin 16, ∑ j : Fin 512, f (tt b j) (gg j) = ∑ t : Fin 2048, ∑ g : Fin 4, f t g := by
  rw [← Fintype.sum_prod_type' (f := fun b j => f (tt b j) (gg j)), ← Fintype.sum_prod_type' (f := f)]
  refine Fintype.sum_bijective (fun x : Fin 16 × Fin 512 => (tt x.1 x.2, gg x.2)) ?_ _ _ fun x => rfl
  refine (Fintype.bijective_iff_injective_and_card _).mpr ⟨?_, by simp⟩
  rintro ⟨b, j⟩ ⟨b', j'⟩ e
  have e1 : b.val * 128 + j.val % 128 = b'.val * 128 + j'.val % 128 := congrArg (fun x => x.1.val) e
  have e2 : j.val / 128 = j'.val / 128 := congrArg (fun x => x.2.val) e
  have e3 : b = b' := Fin.ext (by omega)
  have e4 : j = j' := Fin.ext (by omega)
  rw [e3, e4]

/-- The exponential of a score with the logarithm of its multiplicity, less the row statistic. -/
theorem exp_share (z T den : ℝ) (hd : 0 < den) (k : ℕ) (hk : k ≠ 0) :
    Real.exp (z + Real.log (k : ℝ) - (T + Real.log den)) = (k : ℝ) * Real.exp (z - T) / den := by
  have hk' : (0 : ℝ) < k := Nat.cast_pos.mpr (Nat.pos_of_ne_zero hk)
  rw [show z + Real.log (k : ℝ) - (T + Real.log den) = Real.log k + (z - T) - Real.log den by ring, Real.exp_sub, Real.exp_add,
    Real.exp_log hk', Real.exp_log hd]

variable (m : (ℓ : Loc nD τ sig) → Buf (Elt Ideal) ℓ) (ρ : Dev nD → PrngReg) (c : Dev nD)
variable (qf : S2048x4x4x64.Idx → ℝ) (kf vf : S2048x4x64.Idx → ℝ) (cf : S2048x4x4x64.Idx → ℝ)

theorem pt_zero (h g : Fin 4) (t n : Fin 2048) (hn : ¬ n.val ≤ t.val) : (row qf kf vf cf h g t).pt n = 0 := by
  unfold Row.Data.pt Row.Data.cnt
  have : (∑ P : Fin 3, if (row qf kf vf cf h g t).msk P n then (1 : ℝ) else 0) = 0 := (cnt_eq t n).trans (if_neg hn)
  rw [this, zero_mul, zero_div]

/-- The bias the kernel adds to a score. -/
theorem bias_eq (b : Fin 16) (n : Fin 2048) (j : Fin 512) :
    k0_pay1 (F := Ideal) (ix3 (Fin.ofNat 17 (b.val + 1 - n.val / 128)) (Fin.ofNat 128 (n.val % 128)) j)
      = if n.val ≤ (tt b j).val ∧ Cert.Bias.cntN ((tt b j).val - n.val) ≠ 0 then ((Real.log (Cert.Bias.cntN ((tt b j).val - n.val)) : ℝ) : EReal) else ⊥ := by
  rw [Cert.Bias.pay]
  have hb := b.isLt; have hn := n.isLt; have hj := j.isLt
  have e1 : (Fin.ofNat 17 (b.val + 1 - n.val / 128)).val = b.val + 1 - n.val / 128 := Nat.mod_eq_of_lt (by omega)
  have e2 : (Fin.ofNat 128 (n.val % 128)).val = n.val % 128 := Nat.mod_eq_of_lt (by omega)
  have e3 : (tt b j).val = b.val * 128 + j.val % 128 := rfl
  rw [e1, e2, e3]
  by_cases h : n.val ≤ b.val * 128 + j.val % 128
  · have h1 : 128 * (b.val + 1 - n.val / 128) + j.val % 128 - 128 - n.val % 128 = b.val * 128 + j.val % 128 - n.val := by omega
    have h2 : 128 + n.val % 128 ≤ 128 * (b.val + 1 - n.val / 128) + j.val % 128 := by omega
    rw [h1]
    simp only [h, h2, true_and]
  · have h2 : ¬ 128 + n.val % 128 ≤ 128 * (b.val + 1 - n.val / 128) + j.val % 128 := by omega
    simp only [h, h2, false_and, if_false]

variable (hq : X0 m c = up qf) (hk : X1 m c = up kf) (hv : X2 m c = up vf) (hc : X3 m c = up cf)

include hq hk in
/-- The kernel's probability of a key is its share in the row. -/
theorem pA_eq (h : Fin 4) (b : Fin 16) (n : Fin 2048) (j : Fin 512) :
    pA (V8 m ρ) c h b n j = (((row qf kf vf cf h (gg j) (tt b j)).pt n : ℝ) : EReal) := by
  have hz : (∑ d : Fin 64, aK (V8 m ρ) c (ix3 h n d) * aQ (V8 m ρ) c (ix4 h b d j)) = ((sc qf kf h (gg j) (tt b j) n : ℝ) : EReal) :=
    cdot _ _ _ _ (fun d => by rw [rK, hk]) (fun d => by rw [rQ, hq])
  have hL := rL m ρ c qf kf vf cf hq hk h b j
  unfold pA pG
  rw [hz, hL, rB, bias_eq]
  by_cases hcnd : n.val ≤ (tt b j).val ∧ Cert.Bias.cntN ((tt b j).val - n.val) ≠ 0
  · rw [if_pos hcnd]
    refine (cexp (csub (cadd rfl rfl) rfl)).trans (congrArg Real.toEReal ?_)
    rw [exp_share _ _ _ (den_pos qf kf vf cf h (gg j) (tt b j)) _ hcnd.2]
    unfold Row.Data.pt Row.Data.cnt
    have : (∑ P : Fin 3, if (row qf kf vf cf h (gg j) (tt b j)).msk P n then (1 : ℝ) else 0) = _ := (cnt_eq (tt b j) n).trans (if_pos hcnd.1)
    rw [this]
    rfl
  · rw [if_neg hcnd, EReal.add_bot, EReal.bot_sub]
    have : (∑ P : Fin 3, if (row qf kf vf cf h (gg j) (tt b j)).msk P n then (1 : ℝ) else 0) = 0 := by
      refine (cnt_eq (tt b j) n).trans ?_
      by_cases h1 : n.val ≤ (tt b j).val
      · rw [if_pos h1]
        have : Cert.Bias.cntN ((tt b j).val - n.val) = 0 := by
          by_contra h2
          exact hcnd ⟨h1, h2⟩
        rw [this, Nat.cast_zero]
      · exact if_neg h1
    unfold Row.Data.pt Row.Data.cnt
    rw [this, zero_mul, zero_div]
    rfl

include hq hk hv hc in
/-- The kernel's gradient of a score. -/
theorem dA_eq (h : Fin 4) (b : Fin 16) (n : Fin 2048) (j : Fin 512) :
    dA (V8 m ρ) c h b n j = (((row qf kf vf cf h (gg j) (tt b j)).pt n * ((row qf kf vf cf h (gg j) (tt b j)).vc n - (row qf kf vf cf h (gg j) (tt b j)).dl) : ℝ) : EReal) := by
  have hz : (∑ d : Fin 64, aW (V8 m ρ) c (ix3 h n d) * aC (V8 m ρ) c (ix4 h b d j)) = (((row qf kf vf cf h (gg j) (tt b j)).vc n : ℝ) : EReal) :=
    cdot _ _ _ _ (fun d => by rw [rW, hv]; rfl) (fun d => by rw [rC, hc]; rfl)
  have hD := rD m ρ c qf kf vf cf hq hk hv hc h b j
  have hp := pA_eq m ρ c qf kf vf cf hq hk h b n j
  unfold pA at hp
  unfold dA dG
  rw [hz, hD, hp]
  exact cmul rfl (csub rfl rfl)

theorem late (b : Fin 16) (n : Fin 2048) (j : Fin 512) (hn : ¬ 4 * (n.val / 512) ≤ b.val) : ¬ n.val ≤ (tt b j).val := by
  show ¬ n.val ≤ b.val * 128 + j.val % 128
  omega

include hq hk hv hc in
theorem dq_at (h : Fin 4) (b : Fin 16) (d : Fin 64) (j : Fin 512) :
    (dqG (V8 m ρ) c (ix4 h b d j) : EReal) = val_main_v289 (F := Ideal) (X0 m c) (X1 m c) (X2 m c) (X3 m c) (ix4 h b d j) := by
  rw [hq, hk, hv, hc]
  refine Eq.trans ?_ (dq_eq qf kf vf cf h b d j).symm
  show (∑ n : Fin 2048, if 4 * (n.val / 512) ≤ b.val then aT (V8 m ρ) c (ix3 h d n) * dA (V8 m ρ) c h b n j else 0) = _
  rw [← zero_add (∑ n : Fin 2048, _)]
  refine csum rfl _ _ fun n => ?_
  rw [rT, hk, dA_eq m ρ c qf kf vf cf hq hk hv hc h b n j, mul_comm (Row.Data.pt _ _ * _) _]
  by_cases hn : 4 * (n.val / 512) ≤ b.val
  · rw [if_pos hn]
    exact cmul rfl rfl
  · rw [if_neg hn, pt_zero qf kf vf cf h (gg j) (tt b j) n (late b n j hn), zero_mul, mul_zero, EReal.coe_zero]

include hq hk hv hc in
/-- The kernel's `dq` is the reference's. -/
theorem dq_final : (dqG (V8 m ρ) c : S4x16x64x512.Idx → EReal) = val_main_v289 (F := Ideal) (X0 m c) (X1 m c) (X2 m c) (X3 m c) := by
  funext y
  rw [show y = ix4 (y 0) (y 1) (y 2) (y 3) from eq_ix4 y]
  exact dq_at m ρ c qf kf vf cf hq hk hv hc _ _ _ _

include hq hk hv hc in
theorem dk_at (h : Fin 4) (d : Fin 64) (n : Fin 2048) :
    (dkG (V8 m ρ) c (ix3 h d n) : EReal) = val_main_v290 (F := Ideal) (X0 m c) (X1 m c) (X2 m c) (X3 m c) (ix3 h d n) := by
  rw [hq, hk, hv, hc]
  refine Eq.trans ?_ (dk_eq qf kf vf cf h d n).symm
  rw [← sum_tiles]
  show (∑ b : Fin 16, if 4 * (n.val / 512) ≤ b.val then ∑ j, aQ (V8 m ρ) c (ix4 h b d j) * dA (V8 m ρ) c h b n j else 0) = _
  rw [← zero_add (∑ b : Fin 16, _)]
  refine csum rfl _ _ fun b => ?_
  by_cases hn : 4 * (n.val / 512) ≤ b.val
  · rw [if_pos hn]
    refine (cdot _ _ _ _ (fun j => ?_) (fun j => dA_eq m ρ c qf kf vf cf hq hk hv hc h b n j)).trans
      (congrArg Real.toEReal (Finset.sum_congr rfl fun j _ => mul_comm (qf (ix4 (tt b j) h (gg j) d)) _))
    rw [rQ, hq]
  · rw [if_neg hn, Finset.sum_eq_zero, EReal.coe_zero]
    intro j _
    rw [pt_zero qf kf vf cf h (gg j) (tt b j) n (late b n j hn), zero_mul, zero_mul]

include hq hk hv hc in
/-- The kernel's `dk` is the reference's. -/
theorem dk_final : (dkG (V8 m ρ) c : S4x64x2048.Idx → EReal) = val_main_v290 (F := Ideal) (X0 m c) (X1 m c) (X2 m c) (X3 m c) := by
  funext y
  rw [show y = ix3 (y 0) (y 1) (y 2) from eq_ix3 y]
  exact dk_at m ρ c qf kf vf cf hq hk hv hc _ _ _

include hq hk hv hc in
theorem dv_at (h : Fin 4) (d : Fin 64) (n : Fin 2048) :
    (dvG (V8 m ρ) c (ix3 h d n) : EReal) = val_main_v291 (F := Ideal) (X0 m c) (X1 m c) (X3 m c) (ix3 h d n) := by
  rw [hq, hk, hc]
  refine Eq.trans ?_ (dv_eq qf kf vf cf h d n).symm
  rw [← sum_tiles]
  show (∑ b : Fin 16, if 4 * (n.val / 512) ≤ b.val then ∑ j, aC (V8 m ρ) c (ix4 h b d j) * pA (V8 m ρ) c h b n j else 0) = _
  rw [← zero_add (∑ b : Fin 16, _)]
  refine csum rfl _ _ fun b => ?_
  by_cases hn : 4 * (n.val / 512) ≤ b.val
  · rw [if_pos hn]
    refine (cdot _ _ _ _ (fun j => ?_) (fun j => pA_eq m ρ c qf kf vf cf hq hk h b n j)).trans
      (congrArg Real.toEReal (Finset.sum_congr rfl fun j _ => mul_comm (cf (ix4 (tt b j) h (gg j) d)) _))
    rw [rC, hc]
  · rw [if_neg hn, Finset.sum_eq_zero, EReal.coe_zero]
    intro j _
    rw [pt_zero qf kf vf cf h (gg j) (tt b j) n (late b n j hn), zero_mul]

include hq hk hv hc in
/-- The kernel's `dv` is the reference's. -/
theorem dv_final : (dvG (V8 m ρ) c : S4x64x2048.Idx → EReal) = val_main_v291 (F := Ideal) (X0 m c) (X1 m c) (X3 m c) := by
  funext y
  rw [show y = ix3 (y 0) (y 1) (y 2) from eq_ix3 y]
  exact dv_at m ρ c qf kf vf cf hq hk hv hc _ _ _

end Cert.Final
-- ==== Proof.Finite.lean ====
/- The precondition `finite` read back: every entry of the four argument arrays is a real number. -/
module

public import proofs.«01_k».proof.Defs
public import proofs.«01_k».proof.Proof.Gen.Pre_finite
public import proofs.«01_k».proof.Proof.Final
public import Idealize.ShloMosaic.Lib.ReduceAll

@[expose] public section

set_option maxHeartbeats 400000

noncomputable section

namespace Cert.Finite

open Idealize.ShloMosaic Cert.Ref

/-- The single-precision word of plus infinity reads `⊤`. -/
theorem ofBits_top : (Ideal.ofBits .f32 0x7F800000#32 : EReal) = ⊤ := by decide +kernel

/-- A value whose magnitude is below plus infinity is real. -/
theorem real_of_lt {x : EReal} (h : max x (-x) < ⊤) : x = ((x.toReal : ℝ) : EReal) := by
  refine (EReal.coe_toReal ?_ ?_).symm
  · rintro rfl; simp at h
  · rintro rfl; simp at h

instance : Subsingleton Cert.Pre_finite.S_.Idx := ⟨fun a b => funext fun i => i.elim0⟩

/-- One array's test: when the conjunction of `|x| < ∞` over all its entries is one, the array is real. -/
theorem real_of_all {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (init : IVec Cert.Pre_finite.S_ 1) (j : Cert.Pre_finite.S_.Idx)
    (e : Host.reduce IntOp.andi (cmpf .olt (Host.absf x) (broadcastInDim s ![] hb (constant Cert.Pre_finite.S_ .f32 0x7F800000#32))) init hr hu j = 1#1) :
    (x : (⟨s, .f32⟩ : BufTy).Contents (Elt Ideal)) = up (fun i => (x i : EReal).toReal) := by
  funext i
  have h : Ideal.cmp .olt (max (x i : EReal) (-(x i : EReal))) (Ideal.ofBits .f32 0x7F800000#32) = 1 := Host.reduce_andi_all _ _ _ _ j e i
  rw [ofBits_top] at h
  exact real_of_lt ((Ideal.cmp_olt_eq_one _ _).1 h)

/-- The precondition over any four arrays gives each of them real. -/
theorem real_of_fn (x0 : FVec Ideal Cert.Pre_finite.S2048x4x4x64 .f32) (x1 x2 : FVec Ideal Cert.Pre_finite.S2048x4x64 .f32)
    (x3 : FVec Ideal Cert.Pre_finite.S2048x4x4x64 .f32)
    (e : Cert.Pre_finite.fn (F := Ideal) x0 x1 x2 x3 = fun _ => 1#1) :
    ((x0 : (⟨Cert.Pre_finite.S2048x4x4x64, .f32⟩ : BufTy).Contents (Elt Ideal)) = up (fun i => (x0 i : EReal).toReal))
    ∧ ((x1 : (⟨Cert.Pre_finite.S2048x4x64, .f32⟩ : BufTy).Contents (Elt Ideal)) = up (fun i => (x1 i : EReal).toReal))
    ∧ ((x2 : (⟨Cert.Pre_finite.S2048x4x64, .f32⟩ : BufTy).Contents (Elt Ideal)) = up (fun i => (x2 i : EReal).toReal))
    ∧ ((x3 : (⟨Cert.Pre_finite.S2048x4x4x64, .f32⟩ : BufTy).Contents (Elt Ideal)) = up (fun i => (x3 i : EReal).toReal)) := by
  have h := congrFun e (fun i => i.elim0)
  unfold Cert.Pre_finite.fn Cert.Pre_finite.fn_part1 at h
  obtain ⟨h012, h3⟩ := IntOp.andi_eq_one.1 h
  obtain ⟨h01, h2⟩ := IntOp.andi_eq_one.1 h012
  obtain ⟨h0, h1⟩ := IntOp.andi_eq_one.1 h01
  exact ⟨real_of_all x0 _ _ _ _ _ h0, real_of_all x1 _ _ _ _ _ h1, real_of_all x2 _ _ _ _ _ h2, real_of_all x3 _ _ _ _ _ h3⟩

end Cert.Finite

end
-- ==== Proof.RunRef.lean ====
/- The reference's run, its three results stated as the stages of Proof/Gen/ReferenceIdeal/Read.lean over the arguments. -/
module

public import proofs.«01_k».proof.Proof.Gen.ReferenceIdeal.Run
public import proofs.«01_k».proof.Proof.Gen.ReferenceIdeal.Read

@[expose] public section

set_option maxHeartbeats 400000

noncomputable section

namespace Cert.RunRef

open Idealize.ShloMosaic Idealize.ShloMosaic.StableHlo Idealize.SL.Sem Cert.ReferenceIdeal Cert.ReferenceIdeal.Read

variable (m : (ℓ : Loc nD τ sig) → Buf (Elt Ideal) ℓ) (ρ : Dev nD → PrngReg)

/-- The reference runs; its results are the three gradients of its stages at the arguments, and the arguments end unchanged. -/
theorem run : θ_run defs (onTc (τ := τ) (main (F := Ideal))) ⟨m, fun _ => 0, ρ⟩ (fun r => ∀ c : Dev nD,
      r.2.mem ((c.tc : Thread nD τ).loc main_v289) = val_main_v289 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v290) = val_main_v290 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v291) = val_main_v291 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.ReferenceIdeal.Value.run (F := Ideal) m ρ)
  obtain ⟨e0, e1, e2, hargs⟩ := h c
  rw [val_main_v289_eq (launchContents m c)] at e0
  rw [val_main_v290_eq (launchContents m c)] at e1
  rw [val_main_v291_eq (launchContents m c)] at e2
  exact ⟨e0, e1, e2, hargs⟩

end Cert.RunRef

end
-- ==== Proof.FfnPay.lean ====
/- The stored blocks of the feed-forward calls, each read at an index from the blocks loaded. -/
module

public import proofs.«01_k».proof.Proof.Gen.Kernel2Ideal.Frame
public import Idealize.ShloMosaic.Lib.Pipeline.ValueKit
public import Idealize.ShloMosaic.Lib.IdealHost

@[expose] public section

set_option maxRecDepth 16384
set_option maxHeartbeats 400000

noncomputable section

open Idealize.ShloMosaic Cert.Kernel2Ideal Cert.Kernel2Ideal.Gen

namespace Cert.Ffn

/-- The logistic function as the forward call spells it. -/
def sg (g : EReal) : EReal := Ideal.div 1 (1 + Ideal.exp (0 - g))

theorem pay3_apply (v0 : FVec Ideal S512x1024 .bf16) (v2 : FVec Ideal S1x1x704x1024 .bf16) (i : Fin 512) (j : Fin 704) :
    (k0_pay3 (F := Ideal) v0 v2 (ix2 i j) : EReal) = ∑ d : Fin 1024, v0 (ix2 i d) * v2 (ix4 0 0 j d) := by
  pointwise [k0_pay3, k0_pay2]

theorem pay4_apply (v0 : FVec Ideal S512x1024 .bf16) (v2 : FVec Ideal S1x1x704x1024 .bf16) (i : Fin 512) (j : Fin 704) :
    (k0_pay4 (F := Ideal) v0 v2 (ix2 i j) : EReal) = ∑ d : Fin 1024, v0 (ix2 i d) * v2 (ix4 0 0 j d) := by
  pointwise [k0_pay4, k0_pay2]

theorem pay5_apply (v0 : FVec Ideal S512x1024 .bf16) (v2 : FVec Ideal S1x1x704x1024 .bf16) (i : Fin 512) (j : Fin 704) :
    (k0_pay5 (F := Ideal) v0 v2 (ix2 i j) : EReal) = sg (k0_pay3 (F := Ideal) v0 v2 (ix2 i j)) := by
  have e0 : (Ideal.ofBits .f32 0x00000000#32 : EReal) = 0 := Ideal.ofBits_zero_f32
  have e1 : (Ideal.ofBits .f32 0x3F800000#32 : EReal) = 1 := Ideal.ofBits_one_f32
  show Ideal.div (Ideal.ofBits .f32 0x3F800000#32) (Ideal.ofBits .f32 0x3F800000#32 + Ideal.exp (Ideal.ofBits .f32 0x00000000#32 - k0_pay3 (F := Ideal) v0 v2 (ix2 i j))) = _
  rw [e0, e1]
  rfl

/-- The factor the forward call saves for the gate's gradient. -/
theorem pay7_apply (v0 : FVec Ideal S512x1024 .bf16) (v2 v5 : FVec Ideal S1x1x704x1024 .bf16) (i : Fin 512) (j : Fin 704) :
    (k0_pay7 (F := Ideal) v0 v2 v5 (ix3 0 i j) : EReal) = k0_pay4 (F := Ideal) v0 v5 (ix2 i j) * (sg (k0_pay3 (F := Ideal) v0 v2 (ix2 i j))
      * (1 + k0_pay3 (F := Ideal) v0 v2 (ix2 i j) * (1 - sg (k0_pay3 (F := Ideal) v0 v2 (ix2 i j))))) := by
  pointwise [k0_pay7]
  simp only [pay5_apply, Ideal.ofBits_one_f32]

/-- The factor saved for the up projection's gradient. -/
theorem pay8_apply (v0 : FVec Ideal S512x1024 .bf16) (v2 : FVec Ideal S1x1x704x1024 .bf16) (i : Fin 512) (j : Fin 704) :
    (k0_pay8 (F := Ideal) v0 v2 (ix3 0 i j) : EReal) = k0_pay3 (F := Ideal) v0 v2 (ix2 i j) * sg (k0_pay3 (F := Ideal) v0 v2 (ix2 i j)) := by
  pointwise [k0_pay8, k0_pay6]
  rw [pay5_apply]

/-- The activation saved. -/
theorem pay9_apply (v0 : FVec Ideal S512x1024 .bf16) (v2 v5 : FVec Ideal S1x1x704x1024 .bf16) (i : Fin 512) (j : Fin 704) :
    k0_pay1 (F := Ideal) (k0_pay9 v0 v2 v5) (ix3 0 i j)
      = k0_pay3 (F := Ideal) v0 v2 (ix2 i j) * sg (k0_pay3 (F := Ideal) v0 v2 (ix2 i j)) * k0_pay4 (F := Ideal) v0 v5 (ix2 i j) := by
  pointwise [k0_pay1, k0_pay9, k0_pay6]
  rw [pay5_apply]

theorem dact_apply (v0 : FVec Ideal S512x1024 .bf16) (v2 : FVec Ideal S1x1x704x1024 .bf16) (v5 : FVec Ideal S1x512x704 .bf16)
    (i : Fin 512) (j : Fin 704) :
    (k1_pay2 (F := Ideal) v0 v2 v5 (ix3 0 i j) : EReal) = (∑ d : Fin 1024, v0 (ix2 i d) * v2 (ix4 0 0 j d)) * v5 (ix3 0 i j) := by
  pointwise [k1_pay2, k1_pay1]

theorem dact_apply' (v0 : FVec Ideal S512x1024 .bf16) (v2 : FVec Ideal S1x1x704x1024 .bf16) (v5 : FVec Ideal S1x512x704 .bf16)
    (i : Fin 512) (j : Fin 704) :
    (k1_pay3 (F := Ideal) v0 v2 v5 (ix3 0 i j) : EReal) = (∑ d : Fin 1024, v0 (ix2 i d) * v2 (ix4 0 0 j d)) * v5 (ix3 0 i j) := by
  pointwise [k1_pay3, k1_pay1]

theorem dw2_apply (v0 : FVec Ideal S1x2048x704 .bf16) (v2 : FVec Ideal S2048x1024 .bf16) (j : Fin 704) (d : Fin 1024) :
    (k2_pay1 (F := Ideal) v0 v2 (ix3 0 j d) : EReal) = ∑ t : Fin 2048, v0 (ix3 0 t j) * v2 (ix2 t d) := by
  pointwise [k2_pay1]

theorem dw3_apply (v0 : FVec Ideal S1x2048x704 .bf16) (v2 : FVec Ideal S2048x1024 .bf16) (j : Fin 704) (d : Fin 1024) :
    (k3_pay1 (F := Ideal) v0 v2 (ix3 0 j d) : EReal) = ∑ t : Fin 2048, v0 (ix3 0 t j) * v2 (ix2 t d) := by
  pointwise [k3_pay1]

theorem dw4_apply (v0 : FVec Ideal S1x2048x704 .bf16) (v2 : FVec Ideal S2048x1024 .bf16) (j : Fin 704) (d : Fin 1024) :
    (k4_pay1 (F := Ideal) v0 v2 (ix3 0 j d) : EReal) = ∑ t : Fin 2048, v0 (ix3 0 t j) * v2 (ix2 t d) := by
  pointwise [k4_pay1]

end Cert.Ffn

end
-- ==== Proof.FfnGrid.lean ====
/- The arrays the feed-forward calls leave, each entry a term of the entries of the arrays they find. -/
module

public import proofs.«01_k».proof.Proof.FfnPay

@[expose] public section

set_option maxRecDepth 16384
set_option maxHeartbeats 400000

noncomputable section

open Idealize.ShloMosaic Cert.Kernel2Ideal Cert.Kernel2Ideal.Gen

namespace Cert.Ffn

section Forms
variable (n : FVec Ideal S2048x1024 .bf16) (gu : FVec Ideal S4x2x704x1024 .bf16)

/-- The gate's product for token `t`, column `j` of shard `s`. -/
def gG (s : Fin 4) (t : Fin 2048) (j : Fin 704) : EReal := ∑ d : Fin 1024, n (ix2 t d) * gu (ix4 s 0 j d)

/-- The up projection's product. -/
def uG (s : Fin 4) (t : Fin 2048) (j : Fin 704) : EReal := ∑ d : Fin 1024, n (ix2 t d) * gu (ix4 s 1 j d)

/-- The factor saved for the gate's gradient. -/
def fgG : FVec Ideal S4x2048x704 .bf16 := fun y =>
  uG n gu (y 0) (y 1) (y 2) * (sg (gG n gu (y 0) (y 1) (y 2)) * (1 + gG n gu (y 0) (y 1) (y 2) * (1 - sg (gG n gu (y 0) (y 1) (y 2)))))

/-- The factor saved for the up projection's gradient. -/
def fuG : FVec Ideal S4x2048x704 .bf16 := fun y => gG n gu (y 0) (y 1) (y 2) * sg (gG n gu (y 0) (y 1) (y 2))

/-- The activation saved. -/
def actG : FVec Ideal S4x2048x704 .bf16 := fun y =>
  gG n gu (y 0) (y 1) (y 2) * sg (gG n gu (y 0) (y 1) (y 2)) * uG n gu (y 0) (y 1) (y 2)

/-- The activation's gradient times a saved factor. -/
def dactG (db : FVec Ideal S2048x1024 .bf16) (dn : FVec Ideal S4x1x704x1024 .bf16) (f : FVec Ideal S4x2048x704 .bf16) :
    FVec Ideal S4x2048x704 .bf16 := fun y =>
  (∑ d : Fin 1024, db (ix2 (y 1) d) * dn (ix4 (y 0) 0 (y 2) d)) * f (ix3 (y 0) (y 1) (y 2))

/-- A weight's gradient: the product over the tokens. -/
def dwG (a : FVec Ideal S4x2048x704 .bf16) (b : FVec Ideal S2048x1024 .bf16) : FVec Ideal S4x704x1024 .bf16 := fun y =>
  ∑ t : Fin 2048, a (ix3 (y 0) t (y 1)) * b (ix2 t (y 2))

end Forms

variable (V : (c : Dev nD) → (b : Ref sig .tc) → Buf (Elt Ideal) ((c.tc : Thread nD τ).loc b)) (c : Dev nD)

/-- The shard and the token tile of a point of the grid of sixteen. -/
def shd (t : Fin 16) : Fin 4 := ⟨t.val / 4, by omega⟩
def tok (t : Fin 16) (i : Fin 512) : Fin 2048 := ⟨512 * (t.val % 4) + i.val, by omega⟩

theorem ux0 : ∀ t : Fin cfg0.N, win0_0.index t = ![t.val % 4, 0] := by decide +kernel
theorem ux1 : ∀ t : Fin cfg0.N, win0_1.index t = ![t.val / 4, 0, 0, 0] := by decide +kernel
theorem ux2 : ∀ t : Fin cfg0.N, win0_2.index t = ![t.val / 4, 1, 0, 0] := by decide +kernel
theorem ux3 : ∀ t : Fin cfg0.N, win0_3.index t = ![t.val / 4, t.val % 4, 0] := by decide +kernel
theorem ux4 : ∀ t : Fin cfg0.N, win0_4.index t = ![t.val / 4, t.val % 4, 0] := by decide +kernel
theorem ux5 : ∀ t : Fin cfg0.N, win0_5.index t = ![t.val / 4, t.val % 4, 0] := by decide +kernel
theorem ax0 : ∀ t : Fin cfg1.N, win1_0.index t = ![t.val % 4, 0] := by decide +kernel
theorem ax1 : ∀ t : Fin cfg1.N, win1_1.index t = ![t.val / 4, 0, 0, 0] := by decide +kernel
theorem ax2 : ∀ t : Fin cfg1.N, win1_2.index t = ![t.val / 4, t.val % 4, 0] := by decide +kernel
theorem ax3 : ∀ t : Fin cfg1.N, win1_3.index t = ![t.val / 4, t.val % 4, 0] := by decide +kernel
theorem ax4 : ∀ t : Fin cfg1.N, win1_4.index t = ![t.val / 4, t.val % 4, 0] := by decide +kernel
theorem ax5 : ∀ t : Fin cfg1.N, win1_5.index t = ![t.val / 4, t.val % 4, 0] := by decide +kernel

theorem ublk_0 (t : Fin cfg0.N) (i : Fin 512) (d : Fin 1024) :
    iblk0 V c 0 t (ix2 i d) = (V c main_v0 : FVec Ideal S2048x1024 .bf16) (ix2 (tok t i) d) := by
  blk_simp [iblk0]
  congr 1
  unfold tok
  blk_ext [ux0]

theorem ublk_1 (t : Fin cfg0.N) (j : Fin 704) (d : Fin 1024) :
    iblk0 V c 1 t (ix4 0 0 j d) = (V c main_v9 : FVec Ideal S4x2x704x1024 .bf16) (ix4 (shd t) 0 j d) := by
  blk_simp [iblk0]
  congr 1
  unfold shd
  blk_ext [ux1]

theorem ublk_2 (t : Fin cfg0.N) (j : Fin 704) (d : Fin 1024) :
    iblk0 V c 2 t (ix4 0 0 j d) = (V c main_v9 : FVec Ideal S4x2x704x1024 .bf16) (ix4 (shd t) 1 j d) := by
  blk_simp [iblk0]
  congr 1
  unfold shd
  blk_ext [ux2]

theorem ug (t : Fin cfg0.N) (i : Fin 512) (j : Fin 704) :
    (k0_pay3 (F := Ideal) (iblk0 V c 0 t) (iblk0 V c 1 t) (ix2 i j) : EReal) = gG (V c main_v0) (V c main_v9) (shd t) (tok t i) j :=
  (pay3_apply _ _ i j).trans (Finset.sum_congr rfl fun d _ => congrArg₂ (· * ·) (ublk_0 V c t i d) (ublk_1 V c t j d))

theorem uu (t : Fin cfg0.N) (i : Fin 512) (j : Fin 704) :
    (k0_pay4 (F := Ideal) (iblk0 V c 0 t) (iblk0 V c 2 t) (ix2 i j) : EReal) = uG (V c main_v0) (V c main_v9) (shd t) (tok t i) j :=
  (pay4_apply _ _ i j).trans (Finset.sum_congr rfl fun d _ => congrArg₂ (· * ·) (ublk_0 V c t i d) (ublk_2 V c t j d))

theorem out0_3_eq (x0 : FVec Ideal S512x1024 .bf16) (x1 x2 : FVec Ideal S1x1x704x1024 .bf16) :
    out0_3 (F := Ideal) x0 x1 x2 = k0_pay7 (F := Ideal) x0 x1 x2 := by
  unfold out0_3
  rw [View.canon_unit_zero (by funext a; fin_cases a <;> rfl)]
  simp only [View.ld_unit_zero (S := S512x1024) (off := ![0, 0]) (by funext a; fin_cases a <;> rfl),
    View.ld_unit_zero (S := S1x1x704x1024) (off := ![0, 0, 0, 0]) (by funext a; fin_cases a <;> rfl),
    View.ld_unit_zero (S := S1x512x704) (off := ![0, 0, 0]) (by funext a; fin_cases a <;> rfl),
    View.ld_unit_zero (S := S2048x1024) (off := ![0, 0]) (by funext a; fin_cases a <;> rfl),
    View.ld_unit_zero (S := S1x2048x704) (off := ![0, 0, 0]) (by funext a; fin_cases a <;> rfl)]

theorem out0_4_eq (x0 : FVec Ideal S512x1024 .bf16) (x1 x2 : FVec Ideal S1x1x704x1024 .bf16) :
    out0_4 (F := Ideal) x0 x1 x2 = k0_pay8 (F := Ideal) x0 x1 := by
  unfold out0_4
  rw [View.canon_unit_zero (by funext a; fin_cases a <;> rfl)]
  simp only [View.ld_unit_zero (S := S512x1024) (off := ![0, 0]) (by funext a; fin_cases a <;> rfl),
    View.ld_unit_zero (S := S1x1x704x1024) (off := ![0, 0, 0, 0]) (by funext a; fin_cases a <;> rfl),
    View.ld_unit_zero (S := S1x512x704) (off := ![0, 0, 0]) (by funext a; fin_cases a <;> rfl),
    View.ld_unit_zero (S := S2048x1024) (off := ![0, 0]) (by funext a; fin_cases a <;> rfl),
    View.ld_unit_zero (S := S1x2048x704) (off := ![0, 0, 0]) (by funext a; fin_cases a <;> rfl)]

theorem out0_5_eq (x0 : FVec Ideal S512x1024 .bf16) (x1 x2 : FVec Ideal S1x1x704x1024 .bf16) :
    out0_5 (F := Ideal) x0 x1 x2 = k0_pay1 (F := Ideal) (k0_pay9 (F := Ideal) x0 x1 x2) := by
  unfold out0_5
  rw [View.canon_unit_zero (by funext a; fin_cases a <;> rfl)]
  simp only [View.ld_unit_zero (S := S512x1024) (off := ![0, 0]) (by funext a; fin_cases a <;> rfl),
    View.ld_unit_zero (S := S1x1x704x1024) (off := ![0, 0, 0, 0]) (by funext a; fin_cases a <;> rfl),
    View.ld_unit_zero (S := S1x512x704) (off := ![0, 0, 0]) (by funext a; fin_cases a <;> rfl),
    View.ld_unit_zero (S := S2048x1024) (off := ![0, 0]) (by funext a; fin_cases a <;> rfl),
    View.ld_unit_zero (S := S1x2048x704) (off := ![0, 0, 0]) (by funext a; fin_cases a <;> rfl)]

theorem out1_4_eq (x0 : FVec Ideal S512x1024 .bf16) (x1 : FVec Ideal S1x1x704x1024 .bf16) (x2 x3 : FVec Ideal S1x512x704 .bf16) :
    out1_4 (F := Ideal) x0 x1 x2 x3 = k1_pay2 (F := Ideal) x0 x1 x2 := by
  unfold out1_4
  rw [View.canon_unit_zero (by funext a; fin_cases a <;> rfl)]
  simp only [View.ld_unit_zero (S := S512x1024) (off := ![0, 0]) (by funext a; fin_cases a <;> rfl),
    View.ld_unit_zero (S := S1x1x704x1024) (off := ![0, 0, 0, 0]) (by funext a; fin_cases a <;> rfl),
    View.ld_unit_zero (S := S1x512x704) (off := ![0, 0, 0]) (by funext a; fin_cases a <;> rfl),
    View.ld_unit_zero (S := S2048x1024) (off := ![0, 0]) (by funext a; fin_cases a <;> rfl),
    View.ld_unit_zero (S := S1x2048x704) (off := ![0, 0, 0]) (by funext a; fin_cases a <;> rfl)]

theorem out1_5_eq (x0 : FVec Ideal S512x1024 .bf16) (x1 : FVec Ideal S1x1x704x1024 .bf16) (x2 x3 : FVec Ideal S1x512x704 .bf16) :
    out1_5 (F := Ideal) x0 x1 x2 x3 = k1_pay3 (F := Ideal) x0 x1 x3 := by
  unfold out1_5
  rw [View.canon_unit_zero (by funext a; fin_cases a <;> rfl)]
  simp only [View.ld_unit_zero (S := S512x1024) (off := ![0, 0]) (by funext a; fin_cases a <;> rfl),
    View.ld_unit_zero (S := S1x1x704x1024) (off := ![0, 0, 0, 0]) (by funext a; fin_cases a <;> rfl),
    View.ld_unit_zero (S := S1x512x704) (off := ![0, 0, 0]) (by funext a; fin_cases a <;> rfl),
    View.ld_unit_zero (S := S2048x1024) (off := ![0, 0]) (by funext a; fin_cases a <;> rfl),
    View.ld_unit_zero (S := S1x2048x704) (off := ![0, 0, 0]) (by funext a; fin_cases a <;> rfl)]

theorem out2_2_eq (x0 : FVec Ideal S1x2048x704 .bf16) (x1 : FVec Ideal S2048x1024 .bf16) :
    out2_2 (F := Ideal) x0 x1 = k2_pay1 (F := Ideal) x0 x1 := by
  unfold out2_2
  rw [View.canon_unit_zero (by funext a; fin_cases a <;> rfl)]
  simp only [View.ld_unit_zero (S := S512x1024) (off := ![0, 0]) (by funext a; fin_cases a <;> rfl),
    View.ld_unit_zero (S := S1x1x704x1024) (off := ![0, 0, 0, 0]) (by funext a; fin_cases a <;> rfl),
    View.ld_unit_zero (S := S1x512x704) (off := ![0, 0, 0]) (by funext a; fin_cases a <;> rfl),
    View.ld_unit_zero (S := S2048x1024) (off := ![0, 0]) (by funext a; fin_cases a <;> rfl),
    View.ld_unit_zero (S := S1x2048x704) (off := ![0, 0, 0]) (by funext a; fin_cases a <;> rfl)]

theorem out3_2_eq (x0 : FVec Ideal S1x2048x704 .bf16) (x1 : FVec Ideal S2048x1024 .bf16) :
    out3_2 (F := Ideal) x0 x1 = k3_pay1 (F := Ideal) x0 x1 := by
  unfold out3_2
  rw [View.canon_unit_zero (by funext a; fin_cases a <;> rfl)]
  simp only [View.ld_unit_zero (S := S512x1024) (off := ![0, 0]) (by funext a; fin_cases a <;> rfl),
    View.ld_unit_zero (S := S1x1x704x1024) (off := ![0, 0, 0, 0]) (by funext a; fin_cases a <;> rfl),
    View.ld_unit_zero (S := S1x512x704) (off := ![0, 0, 0]) (by funext a; fin_cases a <;> rfl),
    View.ld_unit_zero (S := S2048x1024) (off := ![0, 0]) (by funext a; fin_cases a <;> rfl),
    View.ld_unit_zero (S := S1x2048x704) (off := ![0, 0, 0]) (by funext a; fin_cases a <;> rfl)]

theorem out4_2_eq (x0 : FVec Ideal S1x2048x704 .bf16) (x1 : FVec Ideal S2048x1024 .bf16) :
    out4_2 (F := Ideal) x0 x1 = k4_pay1 (F := Ideal) x0 x1 := by
  unfold out4_2
  rw [View.canon_unit_zero (by funext a; fin_cases a <;> rfl)]
  simp only [View.ld_unit_zero (S := S512x1024) (off := ![0, 0]) (by funext a; fin_cases a <;> rfl),
    View.ld_unit_zero (S := S1x1x704x1024) (off := ![0, 0, 0, 0]) (by funext a; fin_cases a <;> rfl),
    View.ld_unit_zero (S := S1x512x704) (off := ![0, 0, 0]) (by funext a; fin_cases a <;> rfl),
    View.ld_unit_zero (S := S2048x1024) (off := ![0, 0]) (by funext a; fin_cases a <;> rfl),
    View.ld_unit_zero (S := S1x2048x704) (off := ![0, 0, 0]) (by funext a; fin_cases a <;> rfl)]

theorem fg_at (t : Fin cfg0.N) (i : Fin 512) (j : Fin 704) :
    k0_pay7 (F := Ideal) (iblk0 V c 0 t) (iblk0 V c 1 t) (iblk0 V c 2 t) (ix3 0 i j) = fgG (V c main_v0) (V c main_v9) (ix3 (shd t) (tok t i) j) := by
  refine (pay7_apply _ _ _ i j).trans ?_
  rw [ug, uu]
  rfl

theorem fu_at (t : Fin cfg0.N) (i : Fin 512) (j : Fin 704) :
    k0_pay8 (F := Ideal) (iblk0 V c 0 t) (iblk0 V c 1 t) (ix3 0 i j) = fuG (V c main_v0) (V c main_v9) (ix3 (shd t) (tok t i) j) := by
  refine (pay8_apply _ _ i j).trans ?_
  rw [ug]
  rfl

theorem act_at (t : Fin cfg0.N) (i : Fin 512) (j : Fin 704) :
    k0_pay1 (F := Ideal) (k0_pay9 (F := Ideal) (iblk0 V c 0 t) (iblk0 V c 1 t) (iblk0 V c 2 t)) (ix3 0 i j)
      = actG (V c main_v0) (V c main_v9) (ix3 (shd t) (tok t i) j) := by
  refine (pay9_apply _ _ _ i j).trans ?_
  rw [ug, uu]
  rfl

theorem arr0_3 : (dat0 V c).arrAt 3 cfg0.N = fgG (V c main_v0) (V c main_v9) := by
  refine (dat0 V c).arrAt_eq_of_covers 3 _ (by decide +kernel) fun t hf y => ?_
  have e : ((cfg0.win 3).blk t).view.emb y = ix3 (shd t) (tok t (y 1)) (y 2) := by
    unfold shd tok
    blk_ext [ux3]
  rw [e]
  blk_simp
  rw [after0_3, out0_3_eq]
  have hy : y = ix3 0 (y 1) (y 2) := by
    refine (eq_ix3 y).trans ?_
    congr 1
    exact Subsingleton.elim (α := Fin 1) _ _
  refine (congrArg _ hy).trans ?_
  exact fg_at V c t (y 1) (y 2)

theorem arr0_4 : (dat0 V c).arrAt 4 cfg0.N = fuG (V c main_v0) (V c main_v9) := by
  refine (dat0 V c).arrAt_eq_of_covers 4 _ (by decide +kernel) fun t hf y => ?_
  have e : ((cfg0.win 4).blk t).view.emb y = ix3 (shd t) (tok t (y 1)) (y 2) := by
    unfold shd tok
    blk_ext [ux4]
  rw [e]
  blk_simp
  rw [after0_4, out0_4_eq]
  have hy : y = ix3 0 (y 1) (y 2) := by
    refine (eq_ix3 y).trans ?_
    congr 1
    exact Subsingleton.elim (α := Fin 1) _ _
  refine (congrArg _ hy).trans ?_
  exact fu_at V c t (y 1) (y 2)

theorem arr0_5 : (dat0 V c).arrAt 5 cfg0.N = actG (V c main_v0) (V c main_v9) := by
  refine (dat0 V c).arrAt_eq_of_covers 5 _ (by decide +kernel) fun t hf y => ?_
  have e : ((cfg0.win 5).blk t).view.emb y = ix3 (shd t) (tok t (y 1)) (y 2) := by
    unfold shd tok
    blk_ext [ux5]
  rw [e]
  blk_simp
  rw [after0_5, out0_5_eq]
  have hy : y = ix3 0 (y 1) (y 2) := by
    refine (eq_ix3 y).trans ?_
    congr 1
    exact Subsingleton.elim (α := Fin 1) _ _
  refine (congrArg _ hy).trans ?_
  exact act_at V c t (y 1) (y 2)

theorem ablk_0 (t : Fin cfg1.N) (i : Fin 512) (d : Fin 1024) :
    iblk1 V c 0 t (ix2 i d) = (V c main_v1 : FVec Ideal S2048x1024 .bf16) (ix2 (tok t i) d) := by
  blk_simp [iblk1]
  congr 1
  unfold tok
  blk_ext [ax0]

theorem ablk_1 (t : Fin cfg1.N) (j : Fin 704) (d : Fin 1024) :
    iblk1 V c 1 t (ix4 0 0 j d) = (V c main_v11 : FVec Ideal S4x1x704x1024 .bf16) (ix4 (shd t) 0 j d) := by
  blk_simp [iblk1]
  congr 1
  unfold shd
  blk_ext [ax1]

theorem ablk_2 (t : Fin cfg1.N) (i : Fin 512) (j : Fin 704) :
    iblk1 V c 2 t (ix3 0 i j) = (V c main_v12_0 : FVec Ideal S4x2048x704 .bf16) (ix3 (shd t) (tok t i) j) := by
  blk_simp [iblk1]
  congr 1
  unfold shd tok
  blk_ext [ax2]

theorem ablk_3 (t : Fin cfg1.N) (i : Fin 512) (j : Fin 704) :
    iblk1 V c 3 t (ix3 0 i j) = (V c main_v12_1 : FVec Ideal S4x2048x704 .bf16) (ix3 (shd t) (tok t i) j) := by
  blk_simp [iblk1]
  congr 1
  unfold shd tok
  blk_ext [ax3]

theorem arr1_4 : (dat1 V c).arrAt 4 cfg1.N = dactG (V c main_v1) (V c main_v11) (V c main_v12_0) := by
  refine (dat1 V c).arrAt_eq_of_covers 4 _ (by decide +kernel) fun t hf y => ?_
  have e : ((cfg1.win 4).blk t).view.emb y = ix3 (shd t) (tok t (y 1)) (y 2) := by
    unfold shd tok
    blk_ext [ax4]
  rw [e]
  blk_simp
  rw [after1_4, out1_4_eq]
  have hy : y = ix3 0 (y 1) (y 2) := by
    refine (eq_ix3 y).trans ?_
    congr 1
    exact Subsingleton.elim (α := Fin 1) _ _
  refine (congrArg _ hy).trans ?_
  exact (dact_apply _ _ _ (y 1) (y 2)).trans (congrArg₂ (· * ·)
    (Finset.sum_congr rfl fun d _ => congrArg₂ (· * ·) (ablk_0 V c t (y 1) d) (ablk_1 V c t (y 2) d)) (ablk_2 V c t (y 1) (y 2)))

theorem arr1_5 : (dat1 V c).arrAt 5 cfg1.N = dactG (V c main_v1) (V c main_v11) (V c main_v12_1) := by
  refine (dat1 V c).arrAt_eq_of_covers 5 _ (by decide +kernel) fun t hf y => ?_
  have e : ((cfg1.win 5).blk t).view.emb y = ix3 (shd t) (tok t (y 1)) (y 2) := by
    unfold shd tok
    blk_ext [ax5]
  rw [e]
  blk_simp
  rw [after1_5, out1_5_eq]
  have hy : y = ix3 0 (y 1) (y 2) := by
    refine (eq_ix3 y).trans ?_
    congr 1
    exact Subsingleton.elim (α := Fin 1) _ _
  refine (congrArg _ hy).trans ?_
  exact (dact_apply' _ _ _ (y 1) (y 2)).trans (congrArg₂ (· * ·)
    (Finset.sum_congr rfl fun d _ => congrArg₂ (· * ·) (ablk_0 V c t (y 1) d) (ablk_1 V c t (y 2) d)) (ablk_3 V c t (y 1) (y 2)))

theorem w2x0 : ∀ t : Fin cfg2.N, win2_0.index t = ![t.val, 0, 0] := by decide +kernel
theorem w2x1 : ∀ t : Fin cfg2.N, win2_1.index t = ![0, 0] := by decide +kernel
theorem w2x2 : ∀ t : Fin cfg2.N, win2_2.index t = ![t.val, 0, 0] := by decide +kernel

theorem w2blk_0 (t : Fin cfg2.N) (i : Fin 2048) (j : Fin 704) :
    iblk2 V c 0 t (ix3 0 i j) = (V c main_v13_0 : FVec Ideal S4x2048x704 .bf16) (ix3 t i j) := by
  blk_simp [iblk2]
  congr 1
  blk_ext [w2x0]

theorem w2blk_1 (t : Fin cfg2.N) (i : Fin 2048) (d : Fin 1024) :
    iblk2 V c 1 t (ix2 i d) = (V c main_v0 : FVec Ideal S2048x1024 .bf16) (ix2 i d) := by
  blk_simp [iblk2]
  congr 1
  blk_ext [w2x1]

theorem arr2_2 : (dat2 V c).arrAt 2 cfg2.N = dwG (V c main_v13_0) (V c main_v0) := by
  refine (dat2 V c).arrAt_eq_of_covers 2 _ (by decide +kernel) fun t hf y => ?_
  have e : ((cfg2.win 2).blk t).view.emb y = ix3 t (y 1) (y 2) := by
    blk_ext [w2x2]
  rw [e]
  blk_simp
  rw [after2_2, out2_2_eq]
  have hy : y = ix3 0 (y 1) (y 2) := by
    refine (eq_ix3 y).trans ?_
    congr 1
    exact Subsingleton.elim (α := Fin 1) _ _
  refine (congrArg _ hy).trans ?_
  exact (dw2_apply _ _ (y 1) (y 2)).trans
    (Finset.sum_congr rfl fun i _ => congrArg₂ (· * ·) (w2blk_0 V c t i (y 1)) (w2blk_1 V c t i (y 2)))

theorem w3x0 : ∀ t : Fin cfg3.N, win3_0.index t = ![t.val, 0, 0] := by decide +kernel
theorem w3x1 : ∀ t : Fin cfg3.N, win3_1.index t = ![0, 0] := by decide +kernel
theorem w3x2 : ∀ t : Fin cfg3.N, win3_2.index t = ![t.val, 0, 0] := by decide +kernel

theorem w3blk_0 (t : Fin cfg3.N) (i : Fin 2048) (j : Fin 704) :
    iblk3 V c 0 t (ix3 0 i j) = (V c main_v13_1 : FVec Ideal S4x2048x704 .bf16) (ix3 t i j) := by
  blk_simp [iblk3]
  congr 1
  blk_ext [w3x0]

theorem w3blk_1 (t : Fin cfg3.N) (i : Fin 2048) (d : Fin 1024) :
    iblk3 V c 1 t (ix2 i d) = (V c main_v0 : FVec Ideal S2048x1024 .bf16) (ix2 i d) := by
  blk_simp [iblk3]
  congr 1
  blk_ext [w3x1]

theorem arr3_2 : (dat3 V c).arrAt 2 cfg3.N = dwG (V c main_v13_1) (V c main_v0) := by
  refine (dat3 V c).arrAt_eq_of_covers 2 _ (by decide +kernel) fun t hf y => ?_
  have e : ((cfg3.win 2).blk t).view.emb y = ix3 t (y 1) (y 2) := by
    blk_ext [w3x2]
  rw [e]
  blk_simp
  rw [after3_2, out3_2_eq]
  have hy : y = ix3 0 (y 1) (y 2) := by
    refine (eq_ix3 y).trans ?_
    congr 1
    exact Subsingleton.elim (α := Fin 1) _ _
  refine (congrArg _ hy).trans ?_
  exact (dw3_apply _ _ (y 1) (y 2)).trans
    (Finset.sum_congr rfl fun i _ => congrArg₂ (· * ·) (w3blk_0 V c t i (y 1)) (w3blk_1 V c t i (y 2)))

theorem w4x0 : ∀ t : Fin cfg4.N, win4_0.index t = ![t.val, 0, 0] := by decide +kernel
theorem w4x1 : ∀ t : Fin cfg4.N, win4_1.index t = ![0, 0] := by decide +kernel
theorem w4x2 : ∀ t : Fin cfg4.N, win4_2.index t = ![t.val, 0, 0] := by decide +kernel

theorem w4blk_0 (t : Fin cfg4.N) (i : Fin 2048) (j : Fin 704) :
    iblk4 V c 0 t (ix3 0 i j) = (V c main_v12_2 : FVec Ideal S4x2048x704 .bf16) (ix3 t i j) := by
  blk_simp [iblk4]
  congr 1
  blk_ext [w4x0]

theorem w4blk_1 (t : Fin cfg4.N) (i : Fin 2048) (d : Fin 1024) :
    iblk4 V c 1 t (ix2 i d) = (V c main_v1 : FVec Ideal S2048x1024 .bf16) (ix2 i d) := by
  blk_simp [iblk4]
  congr 1
  blk_ext [w4x1]

theorem arr4_2 : (dat4 V c).arrAt 2 cfg4.N = dwG (V c main_v12_2) (V c main_v1) := by
  refine (dat4 V c).arrAt_eq_of_covers 2 _ (by decide +kernel) fun t hf y => ?_
  have e : ((cfg4.win 2).blk t).view.emb y = ix3 t (y 1) (y 2) := by
    blk_ext [w4x2]
  rw [e]
  blk_simp
  rw [after4_2, out4_2_eq]
  have hy : y = ix3 0 (y 1) (y 2) := by
    refine (eq_ix3 y).trans ?_
    congr 1
    exact Subsingleton.elim (α := Fin 1) _ _
  refine (congrArg _ hy).trans ?_
  exact (dw4_apply _ _ (y 1) (y 2)).trans
    (Finset.sum_congr rfl fun i _ => congrArg₂ (· * ·) (w4blk_0 V c t i (y 1)) (w4blk_1 V c t i (y 2)))

end Cert.Ffn

end
-- ==== Proof.FfnRun.lean ====
/- The run of the feed-forward program with the contents of every buffer at its end, and its three results. -/
module

public import proofs.«01_k».proof.Proof.Gen.Kernel2Ideal.Frame

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program terminates, nothing faulting; in every final state every buffer of every device holds the
    contents the last call leaves, and every semaphore counter is zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The run with its results: each of the three weight gradients is the array its call leaves, and the arguments end as launched. -/
theorem run_results : θ_run defs (onTc (τ := τ) (main (F := F))) ⟨m, fun _ => 0, ρ⟩ (fun r => ∀ c : Dev nD,
      r.2.mem ((c.tc : Thread nD τ).loc main_v14) = (dat2 (V3 m ρ) c).arrAt 2 cfg2.N
      ∧ r.2.mem ((c.tc : Thread nD τ).loc main_v15) = (dat3 (V4 m ρ) c).arrAt 2 cfg3.N
      ∧ r.2.mem ((c.tc : Thread nD τ).loc main_v16) = (dat4 (V5 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h.1 c _ (mem_uc main_v14 (by decide))).trans ((W6_of m ρ c main_v14 (by decide)).trans ((W5_of m ρ c main_v14 (by decide)).trans (W4_arr m ρ c 2))),
       (h.1 c _ (mem_uc main_v15 (by decide))).trans ((W6_of m ρ c main_v15 (by decide)).trans (W5_arr m ρ c 2)),
       (h.1 c _ (mem_uc main_v16 (by decide))).trans (W6_arr m ρ c 2),
       (h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c)⟩) (run_all m ρ)

end Cert.Kernel2Ideal.Gen

end
-- ==== Proof.FfnOps.lean ====
/- The operands the feed-forward calls find, each entry an entry of an argument, and the three arrays returned as terms of them. -/
module

public import proofs.«01_k».proof.Proof.FfnGrid
public import proofs.«01_k».proof.Proof.FfnRun
public import Idealize.ShloMosaic.Lib.StableHlo.Run

@[expose] public section

set_option maxRecDepth 16384
set_option maxHeartbeats 400000

noncomputable section

open Idealize.ShloMosaic Cert.Kernel2Ideal Cert.Kernel2Ideal.Gen

namespace Cert.Ffn

/-- Column `j` of shard `s`, among the 2816. -/
def col (s : Fin 4) (j : Fin 704) : Fin 2816 := ⟨s.val * 704 + j.val, by omega⟩

section Stages
variable (V : Valuation τ sig (Elt Ideal)) (x0 x4 : FVec Ideal S2048x1024 .f32) (x1 x2 : FVec Ideal S1024x2816 .f32)
  (x3 : FVec Ideal S2816x1024 .f32)

theorem op_n (h : V (Proc.devRef .tc main_arg0) = x0) :
    StableHlo.after hostOps0 V (Proc.devRef .tc main_v0) = (truncf .bf16 x0 bitsLt_bf16_f32 : FVec Ideal _ .bf16) := by
  after_results_simp
  simp only [h]

theorem op_dh (h : V (Proc.devRef .tc main_arg4) = x4) :
    StableHlo.after hostOps0 V (Proc.devRef .tc main_v1) = (truncf .bf16 x4 bitsLt_bf16_f32 : FVec Ideal _ .bf16) := by
  after_results_simp
  simp only [h]

/-- The gate and the up projection, stacked shard by shard. -/
def guV : FVec Ideal S4x2x704x1024 .bf16 :=
  truncf .bf16 (concatenate S4x2x704x1024 1
    [⟨S4x1x704x1024, broadcastInDim S4x1x704x1024 ![0, 2, 3] bcast_S4x704x1024_S4x1x704x1024_0_2_3
        (shapeCast S4x704x1024 (transpose S2816x1024 [1, 0] x1 transposes_S1024x2816_S2816x1024_1_0) shapeCasts_S2816x1024_S4x704x1024)⟩,
     ⟨S4x1x704x1024, broadcastInDim S4x1x704x1024 ![0, 2, 3] bcast_S4x704x1024_S4x1x704x1024_0_2_3
        (shapeCast S4x704x1024 (transpose S2816x1024 [1, 0] x2 transposes_S1024x2816_S2816x1024_1_0) shapeCasts_S2816x1024_S4x704x1024)⟩]
    concatenates_S4x1x704x1024_S4x1x704x1024_S4x2x704x1024_d1) bitsLt_bf16_f32

theorem op_gu (h1 : V (Proc.devRef .tc main_arg1) = x1) (h2 : V (Proc.devRef .tc main_arg2) = x2) :
    StableHlo.after hostOps0 V (Proc.devRef .tc main_v9) = guV x1 x2 := by
  subst h1 h2
  after_results
  all_goals rfl

theorem op_dn (h : V (Proc.devRef .tc main_arg3) = x3) :
    StableHlo.after hostOps0 V (Proc.devRef .tc main_v11)
      = (truncf .bf16 (shapeCast S4x1x704x1024 x3 shapeCasts_S2816x1024_S4x1x704x1024) bitsLt_bf16_f32 : FVec Ideal _ .bf16) := by
  after_results_simp
  simp only [h]
  all_goals rfl

theorem wt_at (x : FVec Ideal S1024x2816 .f32) (s : Fin 4) (j : Fin 704) (d : Fin 1024) :
    (broadcastInDim S4x1x704x1024 ![0, 2, 3] bcast_S4x704x1024_S4x1x704x1024_0_2_3
      (shapeCast S4x704x1024 (transpose S2816x1024 [1, 0] x transposes_S1024x2816_S2816x1024_1_0) shapeCasts_S2816x1024_S4x704x1024))
      (ix4 s 0 j d) = x (ix2 d (col s j)) := by
  unfold col
  pointwise

theorem gu_0 (s : Fin 4) (j : Fin 704) (d : Fin 1024) : guV x1 x2 (ix4 s 0 j d) = x1 (ix2 d (col s j)) := by
  refine Eq.trans ?_ (wt_at x1 s j d)
  pointwise [guV]

theorem gu_1 (s : Fin 4) (j : Fin 704) (d : Fin 1024) : guV x1 x2 (ix4 s 1 j d) = x2 (ix2 d (col s j)) := by
  refine Eq.trans ?_ (wt_at x2 s j d)
  pointwise [guV]

theorem dn_at (s : Fin 4) (j : Fin 704) (d : Fin 1024) :
    (truncf .bf16 (shapeCast S4x1x704x1024 x3 shapeCasts_S2816x1024_S4x1x704x1024) bitsLt_bf16_f32 : FVec Ideal _ .bf16) (ix4 s 0 j d)
      = x3 (ix2 (col s j) d) := by
  unfold col
  pointwise

end Stages

variable (m : (ℓ : Loc nD τ sig) → Buf (Elt Ideal) ℓ) (ρ : Dev nD → PrngReg) (c : Dev nD)

/-- The layer's input, its three weights and the cotangent on core `c`. -/
abbrev X0 : FVec Ideal S2048x1024 .f32 := m ((c.tc : Thread nD τ).loc main_arg0)
abbrev X1 : FVec Ideal S1024x2816 .f32 := m ((c.tc : Thread nD τ).loc main_arg1)
abbrev X2 : FVec Ideal S1024x2816 .f32 := m ((c.tc : Thread nD τ).loc main_arg2)
abbrev X3 : FVec Ideal S2816x1024 .f32 := m ((c.tc : Thread nD τ).loc main_arg3)
abbrev X4 : FVec Ideal S2048x1024 .f32 := m ((c.tc : Thread nD τ).loc main_arg4)

/-- The input and the cotangent, rounded to the calls' format. -/
abbrev nV : FVec Ideal S2048x1024 .bf16 := truncf .bf16 (X0 m c) bitsLt_bf16_f32
abbrev dhV : FVec Ideal S2048x1024 .bf16 := truncf .bf16 (X4 m c) bitsLt_bf16_f32
abbrev dnV : FVec Ideal S4x1x704x1024 .bf16 :=
  truncf .bf16 (shapeCast S4x1x704x1024 (X3 m c) shapeCasts_S2816x1024_S4x1x704x1024) bitsLt_bf16_f32

theorem v1_n : V1 m ρ c main_v0 = nV m c := op_n (W0 m ρ c) _ rfl
theorem v1_dh : V1 m ρ c main_v1 = dhV m c := op_dh (W0 m ρ c) _ rfl
theorem v1_gu : V1 m ρ c main_v9 = guV (X1 m c) (X2 m c) := op_gu (W0 m ρ c) _ _ rfl rfl
theorem v1_dn : V1 m ρ c main_v11 = dnV m c := op_dn (W0 m ρ c) _ rfl

theorem v2_n : V2 m ρ c main_v0 = nV m c := (W2_of m ρ c main_v0 (by decide)).trans (v1_n m ρ c)
theorem v2_dh : V2 m ρ c main_v1 = dhV m c := (W2_of m ρ c main_v1 (by decide)).trans (v1_dh m ρ c)
theorem v2_dn : V2 m ρ c main_v11 = dnV m c := (W2_of m ρ c main_v11 (by decide)).trans (v1_dn m ρ c)

/-- What the forward call saves. -/
theorem v2_fg : V2 m ρ c main_v12_0 = fgG (nV m c) (guV (X1 m c) (X2 m c)) := by
  refine (W2_arr m ρ c 3).trans ((arr0_3 (V1 m ρ) c).trans ?_)
  rw [v1_n, v1_gu]
theorem v2_fu : V2 m ρ c main_v12_1 = fuG (nV m c) (guV (X1 m c) (X2 m c)) := by
  refine (W2_arr m ρ c 4).trans ((arr0_4 (V1 m ρ) c).trans ?_)
  rw [v1_n, v1_gu]
theorem v2_act : V2 m ρ c main_v12_2 = actG (nV m c) (guV (X1 m c) (X2 m c)) := by
  refine (W2_arr m ρ c 5).trans ((arr0_5 (V1 m ρ) c).trans ?_)
  rw [v1_n, v1_gu]

theorem v3_n : V3 m ρ c main_v0 = nV m c := (W3_of m ρ c main_v0 (by decide)).trans (v2_n m ρ c)
theorem v3_dh : V3 m ρ c main_v1 = dhV m c := (W3_of m ρ c main_v1 (by decide)).trans (v2_dh m ρ c)
theorem v3_act : V3 m ρ c main_v12_2 = actG (nV m c) (guV (X1 m c) (X2 m c)) :=
  (W3_of m ρ c main_v12_2 (by decide)).trans (v2_act m ρ c)

/-- The gradients of the two projections' products. -/
abbrev dgV : FVec Ideal S4x2048x704 .bf16 := dactG (dhV m c) (dnV m c) (fgG (nV m c) (guV (X1 m c) (X2 m c)))
abbrev duV : FVec Ideal S4x2048x704 .bf16 := dactG (dhV m c) (dnV m c) (fuG (nV m c) (guV (X1 m c) (X2 m c)))

theorem v3_dg : V3 m ρ c main_v13_0 = dgV m c := by
  refine (W3_arr m ρ c 4).trans ((arr1_4 (V2 m ρ) c).trans ?_)
  rw [v2_dh, v2_dn, v2_fg]
theorem v3_du : V3 m ρ c main_v13_1 = duV m c := by
  refine (W3_arr m ρ c 5).trans ((arr1_5 (V2 m ρ) c).trans ?_)
  rw [v2_dh, v2_dn, v2_fu]

theorem v4_n : V4 m ρ c main_v0 = nV m c := (W4_of m ρ c main_v0 (by decide)).trans (v3_n m ρ c)
theorem v4_du : V4 m ρ c main_v13_1 = duV m c := (W4_of m ρ c main_v13_1 (by decide)).trans (v3_du m ρ c)
theorem v5_dh : V5 m ρ c main_v1 = dhV m c :=
  (W5_of m ρ c main_v1 (by decide)).trans ((W4_of m ρ c main_v1 (by decide)).trans (v3_dh m ρ c))
theorem v5_act : V5 m ρ c main_v12_2 = actG (nV m c) (guV (X1 m c) (X2 m c)) :=
  (W5_of m ρ c main_v12_2 (by decide)).trans ((W4_of m ρ c main_v12_2 (by decide)).trans (v3_act m ρ c))

/-- The three arrays returned. -/
theorem out_dwg : (dat2 (V3 m ρ) c).arrAt 2 cfg2.N = dwG (dgV m c) (nV m c) := by
  refine (arr2_2 (V3 m ρ) c).trans ?_
  rw [v3_dg, v3_n]
theorem out_dwu : (dat3 (V4 m ρ) c).arrAt 2 cfg3.N = dwG (duV m c) (nV m c) := by
  refine (arr3_2 (V4 m ρ) c).trans ?_
  rw [v4_du, v4_n]
theorem out_dwd : (dat4 (V5 m ρ) c).arrAt 2 cfg4.N = dwG (actG (nV m c) (guV (X1 m c) (X2 m c))) (dhV m c) := by
  refine (arr4_2 (V5 m ρ) c).trans ?_
  rw [v5_act, v5_dh]

end Cert.Ffn

end
-- ==== Proof.FfnRef.lean ====
/- The feed-forward reference over real arguments: its stages, and its three results at an index. -/
module

public import proofs.«01_k».proof.Proof.Gen.Reference2Ideal.Read
public import proofs.«01_k».proof.Proof.RefFwd
public import Idealize.ShloMosaic.Lib.IdealHost

@[expose] public section

set_option maxRecDepth 16384
set_option maxHeartbeats 400000

noncomputable section

namespace Cert.FfnRef

open Idealize.ShloMosaic Cert.Reference2Ideal Cert.Reference2Ideal.Gen Cert.Reference2Ideal.Read Cert.Coe Cert.Ref

/-- The logistic function. -/
def sgm (r : ℝ) : ℝ := 1 / (1 + Real.exp (-r))

variable (x0 x4 : S2048x1024.Idx → ℝ) (x1 x2 : S1024x2816.Idx → ℝ) (x3 : S2816x1024.Idx → ℝ)

/-- The product of the input and a projection, and the cotangent against the down projection. -/
def gR (t : Fin 2048) (k : Fin 2816) : ℝ := ∑ d : Fin 1024, x0 (ix2 t d) * x1 (ix2 d k)
def aR (t : Fin 2048) (k : Fin 2816) : ℝ := ∑ d : Fin 1024, x4 (ix2 t d) * x3 (ix2 k d)

theorem ixe2 {n0 n1 : ℕ} {i : (⟨2, ![n0, n1]⟩ : Shape).Idx} {a : Fin n0} {b : Fin n1}
    (h0 : i 0 = a) (h1 : i 1 = b) : i = ix2 a b := by
  subst h0 h1; exact eq_ix2 i

theorem r_g (t : Fin 2048) (k : Fin 2816) : val_main_v0 (F := Ideal) (up x0) (up x1) (ix2 t k) = (gR x0 x1 t k : EReal) := by
  rw [val_main_v0_apply]
  exact cdot _ _ _ _ (fun d => congrArg (up x0) (ixe2 rfl rfl)) (fun d => congrArg (up x1) (ixe2 rfl rfl))

theorem r_u (t : Fin 2048) (k : Fin 2816) : val_main_v2 (F := Ideal) (up x0) (up x2) (ix2 t k) = (gR x0 x2 t k : EReal) := by
  rw [val_main_v2_apply]
  exact cdot _ _ _ _ (fun d => congrArg (up x0) (ixe2 rfl rfl)) (fun d => congrArg (up x2) (ixe2 rfl rfl))

theorem r_a (t : Fin 2048) (k : Fin 2816) : val_main_v7 (F := Ideal) (up x3) (up x4) (ix2 t k) = (aR x4 x3 t k : EReal) := by
  rw [val_main_v7_apply]
  exact cdot _ _ _ _ (fun d => congrArg (up x4) (ixe2 rfl rfl)) (fun d => congrArg (up x3) (ixe2 rfl rfl))

theorem c_sg {x : EReal} {r : ℝ} (h : x = (r : EReal)) : Ideal.div 1 (1 + Ideal.exp (-x)) = (sgm r : EReal) :=
  cdiv EReal.coe_one.symm (cadd EReal.coe_one.symm (cexp (cneg h))) (by positivity)

theorem r_s (t : Fin 2048) (k : Fin 2816) :
    val_main_v1_2 (F := Ideal) (up x0) (up x1) (ix2 t k) = (sgm (gR x0 x1 t k) : EReal) := by
  refine Eq.trans ?_ (c_sg (r_g x0 x1 t k))
  show Ideal.div (val_main_call0_v4 (F := Ideal) (ix2 t k)) (val_main_call0_v2 (F := Ideal) (ix2 t k) + Ideal.exp (-val_main_v0 (F := Ideal) (up x0) (up x1) (ix2 t k))) = _
  rw [val_main_call0_v4_apply, val_main_call0_v2_apply]
  show Ideal.div (Ideal.ofBits .f32 0x3F800000#32) (Ideal.ofBits .f32 0x3F800000#32 + _) = _
  rw [Ideal.ofBits_one_f32]

theorem r_s' (t : Fin 2048) (k : Fin 2816) :
    val_main_v1_1 (F := Ideal) (up x0) (up x1) (ix2 t k) = (sgm (gR x0 x1 t k) * (1 - sgm (gR x0 x1 t k)) : ℝ) := by
  have e : val_main_call0_v7 (F := Ideal) (up x0) (up x1) (ix2 t k) = (1 - sgm (gR x0 x1 t k) : ℝ) := by
    refine csub ?_ (r_s x0 x1 t k)
    rw [val_main_call0_v6_apply]
    exact Ideal.ofBits_one_f32.trans EReal.coe_one.symm
  exact cmul (r_s x0 x1 t k) e

theorem r_silu (t : Fin 2048) (k : Fin 2816) :
    val_main_v1_0 (F := Ideal) (up x0) (up x1) (ix2 t k) = (gR x0 x1 t k * sgm (gR x0 x1 t k) : ℝ) :=
  cmul (r_g x0 x1 t k) (r_s x0 x1 t k)

theorem r_act (t : Fin 2048) (k : Fin 2816) :
    val_main_v3 (F := Ideal) (up x0) (up x1) (up x2) (ix2 t k) = (gR x0 x1 t k * sgm (gR x0 x1 t k) * gR x0 x2 t k : ℝ) :=
  cmul (r_silu x0 x1 t k) (r_u x0 x2 t k)

theorem r_du (t : Fin 2048) (k : Fin 2816) :
    val_main_v8 (F := Ideal) (up x0) (up x1) (up x3) (up x4) (ix2 t k) = (gR x0 x1 t k * sgm (gR x0 x1 t k) * aR x4 x3 t k : ℝ) :=
  cmul (r_silu x0 x1 t k) (r_a x4 x3 t k)

theorem r_ds (t : Fin 2048) (k : Fin 2816) :
    val_main_v9 (F := Ideal) (up x0) (up x2) (up x3) (up x4) (ix2 t k) = (aR x4 x3 t k * gR x0 x2 t k : ℝ) :=
  cmul (r_a x4 x3 t k) (r_u x0 x2 t k)

/-- The gradient of the gate's product. -/
theorem r_dg (t : Fin 2048) (k : Fin 2816) :
    val_main_v12 (F := Ideal) (up x0) (up x1) (up x2) (up x3) (up x4) (ix2 t k)
      = (aR x4 x3 t k * gR x0 x2 t k * sgm (gR x0 x1 t k)
        + gR x0 x1 t k * (aR x4 x3 t k * gR x0 x2 t k) * (sgm (gR x0 x1 t k) * (1 - sgm (gR x0 x1 t k))) : ℝ) :=
  cadd (cmul (r_ds x0 x4 x2 x3 t k) (r_s x0 x1 t k))
    (cmul (cmul (r_g x0 x1 t k) (r_ds x0 x4 x2 x3 t k)) (r_s' x0 x1 t k))

/-- Column `j` of shard `s`, among the 2816. -/
def col (s : Fin 4) (j : Fin 704) : Fin 2816 := ⟨s.val * 704 + j.val, by omega⟩

theorem rsh {i : (⟨2, ![2816, 1024]⟩ : Shape).Idx} (s : Fin 4) (j : Fin 704) (d : Fin 1024)
    (h0 : (i 0).val = ((s.val * 704 + j.val) * 1024 + d.val) / 1024) (h1 : (i 1).val = ((s.val * 704 + j.val) * 1024 + d.val) % 1024) :
    i = ix2 (col s j) d := by
  refine ixe2 (Fin.ext ?_) (Fin.ext ?_)
  · refine h0.trans ?_
    show _ = s.val * 704 + j.val
    omega
  · refine h1.trans ?_
    omega

theorem dwg_at (s : Fin 4) (j : Fin 704) (d : Fin 1024) :
    val_main_v18 (F := Ideal) (up x0) (up x1) (up x2) (up x3) (up x4) (ix3 s j d)
      = (∑ t : Fin 2048, (aR x4 x3 t (col s j) * gR x0 x2 t (col s j) * sgm (gR x0 x1 t (col s j))
        + gR x0 x1 t (col s j) * (aR x4 x3 t (col s j) * gR x0 x2 t (col s j)) * (sgm (gR x0 x1 t (col s j)) * (1 - sgm (gR x0 x1 t (col s j)))))
        * x0 (ix2 t d) : ℝ) := by
  refine (val_main_v17_apply (F := Ideal) (up x0) (up x1) (up x2) (up x3) (up x4) (ix3 s j d)).trans ?_
  rw [rsh (i := idx_main_v17 (ix3 s j d)) s j d rfl rfl, val_main_v15_apply, val_main_v14_apply, val_main_v13_apply]
  exact cdot _ _ _ _ (fun t => (congrArg _ (ixe2 rfl rfl)).trans (r_dg x0 x4 x1 x2 x3 t (col s j))) (fun t => congrArg (up x0) (ixe2 rfl rfl))

theorem dwu_at (s : Fin 4) (j : Fin 704) (d : Fin 1024) :
    val_main_v20 (F := Ideal) (up x0) (up x1) (up x3) (up x4) (ix3 s j d)
      = (∑ t : Fin 2048, gR x0 x1 t (col s j) * sgm (gR x0 x1 t (col s j)) * aR x4 x3 t (col s j) * x0 (ix2 t d) : ℝ) := by
  refine (val_main_v19_apply (F := Ideal) (up x0) (up x1) (up x3) (up x4) (ix3 s j d)).trans ?_
  rw [rsh (i := idx_main_v19 (ix3 s j d)) s j d rfl rfl, val_main_v16_apply, val_main_v11_apply, val_main_v10_apply]
  exact cdot _ _ _ _ (fun t => (congrArg _ (ixe2 rfl rfl)).trans (r_du x0 x4 x1 x3 t (col s j))) (fun t => congrArg (up x0) (ixe2 rfl rfl))

theorem dwd_at (s : Fin 4) (j : Fin 704) (d : Fin 1024) :
    val_main_v22 (F := Ideal) (up x0) (up x1) (up x2) (up x4) (ix3 s j d)
      = (∑ t : Fin 2048, x4 (ix2 t d) * (gR x0 x1 t (col s j) * sgm (gR x0 x1 t (col s j)) * gR x0 x2 t (col s j)) : ℝ) := by
  refine (val_main_v21_apply (F := Ideal) (up x0) (up x1) (up x2) (up x4) (ix3 s j d)).trans ?_
  rw [rsh (i := idx_main_v21 (ix3 s j d)) s j d rfl rfl, val_main_v6_apply, val_main_v5_apply]
  exact cdot _ _ _ _ (fun t => congrArg (up x4) (ixe2 rfl rfl)) (fun t => (congrArg _ (ixe2 rfl rfl)).trans (r_act x0 x1 x2 t (col s j)))

end Cert.FfnRef

end
-- ==== Proof.FfnFinal.lean ====
/- Over real arguments the three arrays the feed-forward calls return are the reference's. -/
module

public import proofs.«01_k».proof.Proof.FfnOps
public import proofs.«01_k».proof.Proof.FfnRef

@[expose] public section

set_option maxRecDepth 16384
set_option maxHeartbeats 400000

noncomputable section

open Idealize.ShloMosaic Cert.Kernel2Ideal Cert.Kernel2Ideal.Gen Cert.Coe Cert.Ref

namespace Cert.Ffn

open Cert.FfnRef (gR aR sgm)

section Values
variable (x0 x4 : S2048x1024.Idx → ℝ) (x1 x2 : S1024x2816.Idx → ℝ) (x3 : S2816x1024.Idx → ℝ)
variable (n db : FVec Ideal S2048x1024 .bf16) (gu : FVec Ideal S4x2x704x1024 .bf16) (dn : FVec Ideal S4x1x704x1024 .bf16)
variable (hn : ∀ t d, (n (ix2 t d) : EReal) = (x0 (ix2 t d) : EReal))
  (hg : ∀ s j d, (gu (ix4 s 0 j d) : EReal) = (x1 (ix2 d (FfnRef.col s j)) : EReal))
  (hu : ∀ s j d, (gu (ix4 s 1 j d) : EReal) = (x2 (ix2 d (FfnRef.col s j)) : EReal))
  (hd : ∀ s j d, (dn (ix4 s 0 j d) : EReal) = (x3 (ix2 (FfnRef.col s j) d) : EReal))
  (hb : ∀ t d, (db (ix2 t d) : EReal) = (x4 (ix2 t d) : EReal))

include hn hg in
theorem c_g (s : Fin 4) (t : Fin 2048) (j : Fin 704) : gG n gu s t j = (gR x0 x1 t (FfnRef.col s j) : EReal) :=
  cdot _ _ _ _ (fun d => hn t d) (fun d => hg s j d)

include hn hu in
theorem c_u (s : Fin 4) (t : Fin 2048) (j : Fin 704) : uG n gu s t j = (gR x0 x2 t (FfnRef.col s j) : EReal) :=
  cdot _ _ _ _ (fun d => hn t d) (fun d => hu s j d)

theorem c_sg' {x : EReal} {r : ℝ} (h : x = (r : EReal)) : sg x = (sgm r : EReal) := by
  refine Eq.trans ?_ (Cert.FfnRef.c_sg h)
  unfold sg
  rw [zero_sub]

include hn hg hu in
/-- The factor saved for the gate's gradient is `u · σ(g) · (1 + g · (1 − σ(g)))`. -/
theorem c_fg (s : Fin 4) (t : Fin 2048) (j : Fin 704) :
    (fgG n gu (ix3 s t j) : EReal) = (gR x0 x2 t (FfnRef.col s j) * (sgm (gR x0 x1 t (FfnRef.col s j))
      * (1 + gR x0 x1 t (FfnRef.col s j) * (1 - sgm (gR x0 x1 t (FfnRef.col s j))))) : ℝ) :=
  have e := c_g x0 x1 n gu hn hg s t j
  cmul (c_u x0 x2 n gu hn hu s t j) (cmul (c_sg' e) (cadd EReal.coe_one.symm (cmul e (csub EReal.coe_one.symm (c_sg' e)))))

include hn hg in
theorem c_fu (s : Fin 4) (t : Fin 2048) (j : Fin 704) :
    (fuG n gu (ix3 s t j) : EReal) = (gR x0 x1 t (FfnRef.col s j) * sgm (gR x0 x1 t (FfnRef.col s j)) : ℝ) :=
  cmul (c_g x0 x1 n gu hn hg s t j) (c_sg' (c_g x0 x1 n gu hn hg s t j))

include hn hg hu in
theorem c_act (s : Fin 4) (t : Fin 2048) (j : Fin 704) :
    (actG n gu (ix3 s t j) : EReal)
      = (gR x0 x1 t (FfnRef.col s j) * sgm (gR x0 x1 t (FfnRef.col s j)) * gR x0 x2 t (FfnRef.col s j) : ℝ) :=
  cmul (c_fu x0 x1 n gu hn hg s t j) (c_u x0 x2 n gu hn hu s t j)

include hd hb in
theorem c_da (f : FVec Ideal S4x2048x704 .bf16) (s : Fin 4) (t : Fin 2048) (j : Fin 704) {r : ℝ} (h : (f (ix3 s t j) : EReal) = (r : EReal)) :
    (dactG db dn f (ix3 s t j) : EReal) = (aR x4 x3 t (FfnRef.col s j) * r : ℝ) :=
  cmul (cdot _ _ _ _ (fun d => hb t d) (fun d => hd s j d)) h

end Values

variable (m : (ℓ : Loc nD τ sig) → Buf (Elt Ideal) ℓ) (c : Dev nD)
variable (x0 x4 : S2048x1024.Idx → ℝ) (x1 x2 : S1024x2816.Idx → ℝ) (x3 : S2816x1024.Idx → ℝ)
variable (h0 : X0 m c = up x0) (h1 : X1 m c = up x1) (h2 : X2 m c = up x2) (h3 : X3 m c = up x3) (h4 : X4 m c = up x4)

include h0 in
theorem e_n (t : Fin 2048) (d : Fin 1024) : (nV m c (ix2 t d) : EReal) = (x0 (ix2 t d) : EReal) := congrFun h0 _
include h4 in
theorem e_b (t : Fin 2048) (d : Fin 1024) : (dhV m c (ix2 t d) : EReal) = (x4 (ix2 t d) : EReal) := congrFun h4 _
include h1 in
theorem e_g (s : Fin 4) (j : Fin 704) (d : Fin 1024) :
    (guV (X1 m c) (X2 m c) (ix4 s 0 j d) : EReal) = (x1 (ix2 d (FfnRef.col s j)) : EReal) :=
  (gu_0 (X1 m c) (X2 m c) s j d).trans (congrFun h1 _)
include h2 in
theorem e_u (s : Fin 4) (j : Fin 704) (d : Fin 1024) :
    (guV (X1 m c) (X2 m c) (ix4 s 1 j d) : EReal) = (x2 (ix2 d (FfnRef.col s j)) : EReal) :=
  (gu_1 (X1 m c) (X2 m c) s j d).trans (congrFun h2 _)
include h3 in
theorem e_d (s : Fin 4) (j : Fin 704) (d : Fin 1024) :
    (dnV m c (ix4 s 0 j d) : EReal) = (x3 (ix2 (FfnRef.col s j) d) : EReal) :=
  (dn_at (X3 m c) s j d).trans (congrFun h3 _)

include h0 h1 h2 h3 h4 in
theorem dwg_at (s : Fin 4) (j : Fin 704) (d : Fin 1024) :
    (dwG (dgV m c) (nV m c) (ix3 s j d) : EReal)
      = Cert.Reference2Ideal.Read.val_main_v18 (F := Ideal) (X0 m c) (X1 m c) (X2 m c) (X3 m c) (X4 m c) (ix3 s j d) := by
  refine Eq.trans (cdot _ _ _ _ (fun t => c_da x4 x3 _ _ (e_d m c x3 h3) (e_b m c x4 h4) _ s t j
    (c_fg x0 x1 x2 _ _ (e_n m c x0 h0) (e_g m c x1 h1) (e_u m c x2 h2) s t j)) (fun t => e_n m c x0 h0 t d)) ?_
  rw [h0, h1, h2, h3, h4]
  refine Eq.trans ?_ (Cert.FfnRef.dwg_at x0 x4 x1 x2 x3 s j d).symm
  refine congrArg Real.toEReal (Finset.sum_congr rfl fun t _ => ?_)
  ring

include h0 h1 h3 h4 in
theorem dwu_at (s : Fin 4) (j : Fin 704) (d : Fin 1024) :
    (dwG (duV m c) (nV m c) (ix3 s j d) : EReal)
      = Cert.Reference2Ideal.Read.val_main_v20 (F := Ideal) (X0 m c) (X1 m c) (X3 m c) (X4 m c) (ix3 s j d) := by
  refine Eq.trans (cdot _ _ _ _ (fun t => c_da x4 x3 _ _ (e_d m c x3 h3) (e_b m c x4 h4) _ s t j
    (c_fu x0 x1 _ _ (e_n m c x0 h0) (e_g m c x1 h1) s t j)) (fun t => e_n m c x0 h0 t d)) ?_
  rw [h0, h1, h3, h4]
  refine Eq.trans ?_ (Cert.FfnRef.dwu_at x0 x4 x1 x3 s j d).symm
  refine congrArg Real.toEReal (Finset.sum_congr rfl fun t _ => ?_)
  ring

include h0 h1 h2 h4 in
theorem dwd_at (s : Fin 4) (j : Fin 704) (d : Fin 1024) :
    (dwG (actG (nV m c) (guV (X1 m c) (X2 m c))) (dhV m c) (ix3 s j d) : EReal)
      = Cert.Reference2Ideal.Read.val_main_v22 (F := Ideal) (X0 m c) (X1 m c) (X2 m c) (X4 m c) (ix3 s j d) := by
  refine Eq.trans (cdot _ _ _ _ (fun t => c_act x0 x1 x2 _ _ (e_n m c x0 h0) (e_g m c x1 h1) (e_u m c x2 h2) s t j)
    (fun t => e_b m c x4 h4 t d)) ?_
  rw [h0, h1, h2, h4]
  refine Eq.trans ?_ (Cert.FfnRef.dwd_at x0 x4 x1 x2 s j d).symm
  refine congrArg Real.toEReal (Finset.sum_congr rfl fun t _ => ?_)
  ring

variable (ρ : Dev nD → PrngReg)

include h0 h1 h2 h3 h4 in
/-- The gate's weight gradient is the reference's. -/
theorem dwg_final : ((dat2 (V3 m ρ) c).arrAt 2 cfg2.N : S4x704x1024.Idx → EReal)
    = Cert.Reference2Ideal.Read.val_main_v18 (F := Ideal) (X0 m c) (X1 m c) (X2 m c) (X3 m c) (X4 m c) := by
  refine (out_dwg m ρ c).trans (funext fun y => ?_)
  rw [show y = ix3 (y 0) (y 1) (y 2) from eq_ix3 y]
  exact dwg_at m c x0 x4 x1 x2 x3 h0 h1 h2 h3 h4 _ _ _

include h0 h1 h3 h4 in
/-- The up projection's weight gradient is the reference's. -/
theorem dwu_final : ((dat3 (V4 m ρ) c).arrAt 2 cfg3.N : S4x704x1024.Idx → EReal)
    = Cert.Reference2Ideal.Read.val_main_v20 (F := Ideal) (X0 m c) (X1 m c) (X3 m c) (X4 m c) := by
  refine (out_dwu m ρ c).trans (funext fun y => ?_)
  rw [show y = ix3 (y 0) (y 1) (y 2) from eq_ix3 y]
  exact dwu_at m c x0 x4 x1 x3 h0 h1 h3 h4 _ _ _

include h0 h1 h2 h4 in
/-- The down projection's weight gradient is the reference's. -/
theorem dwd_final : ((dat4 (V5 m ρ) c).arrAt 2 cfg4.N : S4x704x1024.Idx → EReal)
    = Cert.Reference2Ideal.Read.val_main_v22 (F := Ideal) (X0 m c) (X1 m c) (X2 m c) (X4 m c) := by
  refine (out_dwd m ρ c).trans (funext fun y => ?_)
  rw [show y = ix3 (y 0) (y 1) (y 2) from eq_ix3 y]
  exact dwd_at m c x0 x4 x1 x2 h0 h1 h2 h4 _ _ _

end Cert.Ffn

end
-- ==== Proof.FfnFinite.lean ====
/- The precondition `finite2` read back: every entry of the five argument arrays is a real number. -/
module

public import proofs.«01_k».proof.Defs
public import proofs.«01_k».proof.Proof.Gen.Pre_finite2
public import proofs.«01_k».proof.Proof.Finite

@[expose] public section

set_option maxHeartbeats 400000

noncomputable section

namespace Cert.FfnFinite

open Idealize.ShloMosaic Cert.Ref

/-- The precondition over any five arrays gives each of them real. -/
theorem real_of_fn2 (x0 : FVec Ideal Cert.Pre_finite2.S2048x1024 .f32) (x1 x2 : FVec Ideal Cert.Pre_finite2.S1024x2816 .f32)
    (x3 : FVec Ideal Cert.Pre_finite2.S2816x1024 .f32) (x4 : FVec Ideal Cert.Pre_finite2.S2048x1024 .f32)
    (e : Cert.Pre_finite2.fn (F := Ideal) x0 x1 x2 x3 x4 = fun _ => 1#1) :
    ((x0 : (⟨Cert.Pre_finite2.S2048x1024, .f32⟩ : BufTy).Contents (Elt Ideal)) = up (fun i => (x0 i : EReal).toReal))
    ∧ ((x1 : (⟨Cert.Pre_finite2.S1024x2816, .f32⟩ : BufTy).Contents (Elt Ideal)) = up (fun i => (x1 i : EReal).toReal))
    ∧ ((x2 : (⟨Cert.Pre_finite2.S1024x2816, .f32⟩ : BufTy).Contents (Elt Ideal)) = up (fun i => (x2 i : EReal).toReal))
    ∧ ((x3 : (⟨Cert.Pre_finite2.S2816x1024, .f32⟩ : BufTy).Contents (Elt Ideal)) = up (fun i => (x3 i : EReal).toReal))
    ∧ ((x4 : (⟨Cert.Pre_finite2.S2048x1024, .f32⟩ : BufTy).Contents (Elt Ideal)) = up (fun i => (x4 i : EReal).toReal)) := by
  have h := congrFun e (fun i => i.elim0)
  unfold Cert.Pre_finite2.fn Cert.Pre_finite2.fn_part1 at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨Cert.Finite.real_of_all x0 _ _ _ _ _ h0, Cert.Finite.real_of_all x1 _ _ _ _ _ h1, Cert.Finite.real_of_all x2 _ _ _ _ _ h2, Cert.Finite.real_of_all x3 _ _ _ _ _ h3, Cert.Finite.real_of_all x4 _ _ _ _ _ h4⟩

end Cert.FfnFinite

end
-- ==== Proof.FfnRunRef.lean ====
/- The feed-forward reference's run, its three results stated as its stages over the arguments. -/
module

public import proofs.«01_k».proof.Proof.Gen.Reference2Ideal.Run
public import proofs.«01_k».proof.Proof.Gen.Reference2Ideal.Read

@[expose] public section

set_option maxHeartbeats 400000

noncomputable section

namespace Cert.FfnRunRef

open Idealize.ShloMosaic Idealize.ShloMosaic.StableHlo Idealize.SL.Sem Cert.Reference2Ideal Cert.Reference2Ideal.Read

variable (m : (ℓ : Loc nD τ sig) → Buf (Elt Ideal) ℓ) (ρ : Dev nD → PrngReg)

/-- The reference runs; its results are the three weight gradients of its stages at the arguments, and the arguments end
    unchanged. -/
theorem run : θ_run defs (onTc (τ := τ) (main (F := Ideal))) ⟨m, fun _ => 0, ρ⟩ (fun r => ∀ c : Dev nD,
      r.2.mem ((c.tc : Thread nD τ).loc main_v18) = val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v20) = val_main_v20 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v22) = val_main_v22 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.Reference2Ideal.Value.run (F := Ideal) m ρ)
  obtain ⟨e0, e1, e2, hargs⟩ := h c
  rw [val_main_v18_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))] at e0
  rw [val_main_v20_eq (F := Ideal) (m ((c.tc : Thread nD τ).loc main_arg0)) (m ((c.tc : Thread nD τ).loc main_arg1)) (m ((c.tc : Thread nD τ).loc main_arg3)) (m ((c.tc : Thread nD τ).loc main_arg4))] at e1
  rw [val_main_v22_eq (F := Ideal) (m ((c.tc : Thread nD τ).loc main_arg0)) (m ((c.tc : Thread nD τ).loc main_arg1)) (m ((c.tc : Thread nD τ).loc main_arg2)) (m ((c.tc : Thread nD τ).loc main_arg4))] at e2
  exact ⟨e0, e1, e2, hargs⟩

end Cert.FfnRunRef

end
-- ==== Proof.FfnClaim.lean ====
/- The claims of the feed-forward program: its three frames, and its three results against the reference's. -/
module

public import proofs.«01_k».proof.Defs
public import proofs.«01_k».proof.Proof.FfnFinal
public import proofs.«01_k».proof.Proof.FfnFinite
public import proofs.«01_k».proof.Proof.FfnRunRef
public import proofs.«01_k».proof.Proof.Gen.Kernel2
public import proofs.«01_k».proof.Proof.Gen.Kernel2.Frame
public import proofs.«01_k».proof.Proof.Gen.Reference2Ideal
public import Idealize.ShloMosaic.Lib.Quiescent
public import Idealize.ShloMosaic.Adequacy
public import Idealize.ShloMosaic.Init

@[expose] public section

noncomputable section

namespace Cert.FfnClaim

open Idealize.ShloMosaic Idealize.SL.Sem

/-- The feed-forward calls run as printed, their arguments unchanged and every semaphore back at zero. -/
theorem frame_p : Cert.quiescent_Kernel2 := fun m ρ _ => Cert.Kernel2.Gen.frame m ρ

/-- The same over the extended reals. -/
theorem frame_pi : Cert.quiescent_Kernel2Ideal := fun m ρ _ => Cert.Kernel2Ideal.Gen.frame m ρ

/-- The feed-forward reference runs, its arguments unchanged and every semaphore back at zero. -/
theorem frame_ri : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- On finite arguments the three weight gradients of the calls' run, over the extended reals, are those the
reference's run computes from the same arguments. -/
theorem algebraic : Cert.algebraic_Kernel2Ideal_Reference2Ideal_pre_finite2 := by
  intro m ρ m' ρ' hpre hagree
  have hreal := fun c : Dev Cert.Kernel2Ideal.nD => Cert.FfnFinite.real_of_fn2 _ _ _ _ _ (hpre c)
  refine ⟨fun c => Cert.Reference2Ideal.Read.val_main_v18 (F := Ideal) (Cert.Ffn.X0 m c) (Cert.Ffn.X1 m c) (Cert.Ffn.X2 m c) (Cert.Ffn.X3 m c) (Cert.Ffn.X4 m c),
    fun c => Cert.Reference2Ideal.Read.val_main_v20 (F := Ideal) (Cert.Ffn.X0 m c) (Cert.Ffn.X1 m c) (Cert.Ffn.X3 m c) (Cert.Ffn.X4 m c),
    fun c => Cert.Reference2Ideal.Read.val_main_v22 (F := Ideal) (Cert.Ffn.X0 m c) (Cert.Ffn.X1 m c) (Cert.Ffn.X2 m c) (Cert.Ffn.X4 m c), ?_, ?_⟩
  · refine (θ_run Cert.Kernel2Ideal.defs _ _).mono (fun r h c => ?_) (Cert.Kernel2Ideal.Gen.run_results m ρ)
    obtain ⟨e0, e1, e2, hargs⟩ := h c
    obtain ⟨h0, h1, h2, h3, h4⟩ := hreal c
    exact ⟨e0.trans (Cert.Ffn.dwg_final m c _ _ _ _ _ h0 h1 h2 h3 h4 ρ),
      e1.trans (Cert.Ffn.dwu_final m c _ _ _ _ h0 h1 h3 h4 ρ),
      e2.trans (Cert.Ffn.dwd_final m c _ _ _ _ h0 h1 h2 h4 ρ), hargs⟩
  · refine (θ_run Cert.Reference2Ideal.defs _ _).mono (fun r h c => ?_) (Cert.FfnRunRef.run m' ρ')
    obtain ⟨e0, e1, e2, hargs⟩ := h c
    obtain ⟨a0, a1, a2, a3, a4⟩ := hagree c
    rw [a0, a1, a2, a3, a4] at e0
    rw [a0, a1, a3, a4] at e1
    rw [a0, a1, a2, a4] at e2
    exact ⟨e0, e1, e2, hargs⟩

end Cert.FfnClaim

end
-- ==== Proof.ProjGrid.lean ====
/- The arrays the three calls of the mixer's projections leave, each entry a sum of products of the arrays they find. -/
module

public import proofs.«01_k».proof.Proof.Gen.Kernel3Ideal.Frame
public import Idealize.ShloMosaic.Lib.Pipeline.ValueKit
public import Idealize.ShloMosaic.Lib.IdealHost

@[expose] public section

set_option maxRecDepth 16384
set_option maxHeartbeats 400000

noncomputable section

open Idealize.ShloMosaic Cert.Kernel3Ideal Cert.Kernel3Ideal.Gen

namespace Cert.Proj

/-- The product of `a` and the transpose of `b`, and the products of a transpose and `b`: what the calls leave. -/
def nt (a : FVec Ideal S2048x1024 .bf16) (b : FVec Ideal S4224x1024 .bf16) : FVec Ideal S2048x4224 .f32 :=
  fun y => (∑ d : Fin 1024, a (ix2 (y 0) d) * b (ix2 (y 1) d) : EReal)
def tn1 (a : FVec Ideal S2048x2048 .bf16) (b : FVec Ideal S2048x1024 .bf16) : FVec Ideal S2048x1024 .bf16 :=
  fun y => (∑ t : Fin 2048, a (ix2 t (y 0)) * b (ix2 t (y 1)) : EReal)
def tn2 (a : FVec Ideal S2048x4224 .bf16) (b : FVec Ideal S2048x1024 .bf16) : FVec Ideal S4224x1024 .bf16 :=
  fun y => (∑ t : Fin 2048, a (ix2 t (y 0)) * b (ix2 t (y 1)) : EReal)

variable (V : (c : Dev nD) → (b : Ref sig .tc) → Buf (Elt Ideal) ((c.tc : Thread nD τ).loc b)) (c : Dev nD)

theorem q0_apply (v0 : FVec Ideal S512x1024 .bf16) (v2 : FVec Ideal S1408x1024 .bf16) (i : Fin 512) (j : Fin 1408) :
    (k0_pay1 (F := Ideal) v0 v2 (ix2 i j) : EReal) = ∑ d : Fin 1024, v0 (ix2 i d) * v2 (ix2 j d) := by
  pointwise [k0_pay1]

/-- Token `i` and column `j` of a point of the grid of twelve. -/
def r0 (t : Fin 12) (i : Fin 512) : Fin 2048 := ⟨512 * (t.val / 3) + i.val, by omega⟩
def c0 (t : Fin 12) (j : Fin 1408) : Fin 4224 := ⟨1408 * (t.val % 3) + j.val, by omega⟩

theorem x00 : ∀ t : Fin cfg0.N, win0_0.index t = ![t.val / 3, 0] := by decide +kernel
theorem x01 : ∀ t : Fin cfg0.N, win0_1.index t = ![t.val % 3, 0] := by decide +kernel
theorem x02 : ∀ t : Fin cfg0.N, win0_2.index t = ![t.val / 3, t.val % 3] := by decide +kernel

theorem blk0_0 (t : Fin cfg0.N) (i : Fin 512) (d : Fin 1024) :
    iblk0 V c 0 t (ix2 i d) = (V c main_v0 : FVec Ideal S2048x1024 .bf16) (ix2 (r0 t i) d) := by
  blk_simp [iblk0]
  congr 1
  unfold r0
  blk_ext [x00]

theorem blk0_1 (t : Fin cfg0.N) (j : Fin 1408) (d : Fin 1024) :
    iblk0 V c 1 t (ix2 j d) = (V c main_v5 : FVec Ideal S4224x1024 .bf16) (ix2 (c0 t j) d) := by
  blk_simp [iblk0]
  congr 1
  unfold c0
  blk_ext [x01]

theorem out0_2_eq (x0 : FVec Ideal S512x1024 .bf16) (x1 : FVec Ideal S1408x1024 .bf16) : out0_2 (F := Ideal) x0 x1 = k0_pay1 (F := Ideal) x0 x1 := by
  unfold out0_2
  rw [View.canon_unit_zero (by funext a; fin_cases a <;> rfl)]
  simp only [View.ld_unit_zero (S := S512x1024) (off := ![0, 0]) (by funext a; fin_cases a <;> rfl),
    View.ld_unit_zero (S := S1408x1024) (off := ![0, 0]) (by funext a; fin_cases a <;> rfl)]

/-- What call 0 leaves: the projection. -/
theorem arr0 : (dat0 V c).arrAt 2 cfg0.N = nt (V c main_v0) (V c main_v5) := by
  refine (dat0 V c).arrAt_eq_of_covers 2 _ (by decide +kernel) fun t hf y => ?_
  have e : ((cfg0.win 2).blk t).view.emb y = ix2 (r0 t (y 0)) (c0 t (y 1)) := by
    unfold r0 c0
    blk_ext [x02]
  rw [e]
  blk_simp
  rw [after0_2, out0_2_eq]
  refine (congrArg _ (eq_ix2 y)).trans ?_
  exact (q0_apply _ _ (y 0) (y 1)).trans
    (Finset.sum_congr rfl fun d _ => congrArg₂ (· * ·) (blk0_0 V c t (y 0) d) (blk0_1 V c t (y 1) d))

theorem q1_apply (v0 : FVec Ideal S2048x1024 .bf16) (v2 : FVec Ideal S2048x1024 .bf16) (j : Fin 1024) (d : Fin 1024) :
    (k1_pay1 (F := Ideal) v0 v2 (ix2 j d) : EReal) = ∑ t : Fin 2048, v0 (ix2 t j) * v2 (ix2 t d) := by
  pointwise [k1_pay1]

/-- Column `j` of block `t` of 2048. -/
def c1 (t : Fin 2) (j : Fin 1024) : Fin 2048 := ⟨1024 * t.val + j.val, by omega⟩

theorem x10 : ∀ t : Fin cfg1.N, win1_0.index t = ![0, t.val] := by decide +kernel
theorem x11 : ∀ t : Fin cfg1.N, win1_1.index t = ![0, 0] := by decide +kernel
theorem x12 : ∀ t : Fin cfg1.N, win1_2.index t = ![t.val, 0] := by decide +kernel

theorem blk1_0 (t : Fin cfg1.N) (i : Fin 2048) (j : Fin 1024) :
    iblk1 V c 0 t (ix2 i j) = (V c main_v2 : FVec Ideal S2048x2048 .bf16) (ix2 i (c1 t j)) := by
  blk_simp [iblk1]
  congr 1
  unfold c1
  blk_ext [x10]

theorem blk1_1 (t : Fin cfg1.N) (i : Fin 2048) (d : Fin 1024) :
    iblk1 V c 1 t (ix2 i d) = (V c main_v3 : FVec Ideal S2048x1024 .bf16) (ix2 i d) := by
  blk_simp [iblk1]
  congr 1
  blk_ext [x11]

theorem out1_2_eq (x0 : FVec Ideal S2048x1024 .bf16) (x1 : FVec Ideal S2048x1024 .bf16) : out1_2 (F := Ideal) x0 x1 = k1_pay1 (F := Ideal) x0 x1 := by
  unfold out1_2
  rw [View.canon_unit_zero (by funext a; fin_cases a <;> rfl)]
  simp only [View.ld_unit_zero (S := S2048x1024) (off := ![0, 0]) (by funext a; fin_cases a <;> rfl)]

/-- What call 1 leaves: a weight's gradient, the sum over the tokens. -/
theorem arr1 : (dat1 V c).arrAt 2 cfg1.N = tn1 (V c main_v2) (V c main_v3) := by
  refine (dat1 V c).arrAt_eq_of_covers 2 _ (by decide +kernel) fun t hf y => ?_
  have e : ((cfg1.win 2).blk t).view.emb y = ix2 (c1 t (y 0)) (y 1) := by
    unfold c1
    blk_ext [x12]
  rw [e]
  blk_simp
  rw [after1_2, out1_2_eq]
  refine (congrArg _ (eq_ix2 y)).trans ?_
  exact (q1_apply _ _ (y 0) (y 1)).trans
    (Finset.sum_congr rfl fun i _ => congrArg₂ (· * ·) (blk1_0 V c t i (y 0)) (blk1_1 V c t i (y 1)))

theorem q2_apply (v0 : FVec Ideal S2048x1408 .bf16) (v2 : FVec Ideal S2048x1024 .bf16) (j : Fin 1408) (d : Fin 1024) :
    (k2_pay1 (F := Ideal) v0 v2 (ix2 j d) : EReal) = ∑ t : Fin 2048, v0 (ix2 t j) * v2 (ix2 t d) := by
  pointwise [k2_pay1]

/-- Column `j` of block `t` of 4224. -/
def c2 (t : Fin 3) (j : Fin 1408) : Fin 4224 := ⟨1408 * t.val + j.val, by omega⟩

theorem x20 : ∀ t : Fin cfg2.N, win2_0.index t = ![0, t.val] := by decide +kernel
theorem x21 : ∀ t : Fin cfg2.N, win2_1.index t = ![0, 0] := by decide +kernel
theorem x22 : ∀ t : Fin cfg2.N, win2_2.index t = ![t.val, 0] := by decide +kernel

theorem blk2_0 (t : Fin cfg2.N) (i : Fin 2048) (j : Fin 1408) :
    iblk2 V c 0 t (ix2 i j) = (V c main_v1 : FVec Ideal S2048x4224 .bf16) (ix2 i (c2 t j)) := by
  blk_simp [iblk2]
  congr 1
  unfold c2
  blk_ext [x20]

theorem blk2_1 (t : Fin cfg2.N) (i : Fin 2048) (d : Fin 1024) :
    iblk2 V c 1 t (ix2 i d) = (V c main_v0 : FVec Ideal S2048x1024 .bf16) (ix2 i d) := by
  blk_simp [iblk2]
  congr 1
  blk_ext [x21]

theorem out2_2_eq (x0 : FVec Ideal S2048x1408 .bf16) (x1 : FVec Ideal S2048x1024 .bf16) : out2_2 (F := Ideal) x0 x1 = k2_pay1 (F := Ideal) x0 x1 := by
  unfold out2_2
  rw [View.canon_unit_zero (by funext a; fin_cases a <;> rfl)]
  simp only [View.ld_unit_zero (S := S2048x1408) (off := ![0, 0]) (by funext a; fin_cases a <;> rfl),
    View.ld_unit_zero (S := S2048x1024) (off := ![0, 0]) (by funext a; fin_cases a <;> rfl)]

/-- What call 2 leaves: a weight's gradient, the sum over the tokens. -/
theorem arr2 : (dat2 V c).arrAt 2 cfg2.N = tn2 (V c main_v1) (V c main_v0) := by
  refine (dat2 V c).arrAt_eq_of_covers 2 _ (by decide +kernel) fun t hf y => ?_
  have e : ((cfg2.win 2).blk t).view.emb y = ix2 (c2 t (y 0)) (y 1) := by
    unfold c2
    blk_ext [x22]
  rw [e]
  blk_simp
  rw [after2_2, out2_2_eq]
  refine (congrArg _ (eq_ix2 y)).trans ?_
  exact (q2_apply _ _ (y 0) (y 1)).trans
    (Finset.sum_congr rfl fun i _ => congrArg₂ (· * ·) (blk2_0 V c t i (y 0)) (blk2_1 V c t i (y 1)))

end Cert.Proj

end
-- ==== Proof.ProjRun.lean ====
/- The run of the projections' program with the contents of every buffer at its end, and its three results. -/
module

public import proofs.«01_k».proof.Proof.Gen.Kernel3Ideal.Frame

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program terminates, nothing faulting; in every final state every buffer of every device holds the
    contents the last call leaves, and every semaphore counter is zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The run with its results: the projection and the two weight gradients are the arrays the calls leave, and the arguments end as launched. -/
theorem run_results : θ_run defs (onTc (τ := τ) (main (F := F))) ⟨m, fun _ => 0, ρ⟩ (fun r => ∀ c : Dev nD,
      r.2.mem ((c.tc : Thread nD τ).loc main_v6) = (dat0 (V1 m ρ) c).arrAt 2 cfg0.N
      ∧ r.2.mem ((c.tc : Thread nD τ).loc main_v7) = (dat1 (V2 m ρ) c).arrAt 2 cfg1.N
      ∧ r.2.mem ((c.tc : Thread nD τ).loc main_v8) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h.1 c _ (mem_uc main_v6 (by decide))).trans ((W4_of m ρ c main_v6 (by decide)).trans ((W3_of m ρ c main_v6 (by decide)).trans (W2_arr m ρ c 2))),
       (h.1 c _ (mem_uc main_v7 (by decide))).trans ((W4_of m ρ c main_v7 (by decide)).trans (W3_arr m ρ c 2)),
       (h.1 c _ (mem_uc main_v8 (by decide))).trans (W4_arr m ρ c 2),
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩) (run_all m ρ)

end Cert.Kernel3Ideal.Gen

end
-- ==== Proof.ProjClaim.lean ====
/- The claims of the projections' program: its frames, and its three results against the reference's, at any arguments. -/
module

public import proofs.«01_k».proof.Defs
public import proofs.«01_k».proof.Proof.ProjGrid
public import proofs.«01_k».proof.Proof.ProjRun
public import proofs.«01_k».proof.Proof.FfnRef
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import proofs.«01_k».proof.Proof.Gen.Reference3Ideal.Read
public import Idealize.ShloMosaic.Lib.StableHlo.Run
public import Idealize.ShloMosaic.Lib.Quiescent
public import Idealize.ShloMosaic.Adequacy
public import Idealize.ShloMosaic.Init

@[expose] public section

set_option maxRecDepth 16384
set_option maxHeartbeats 400000

noncomputable section

namespace Cert.Proj

open Idealize.ShloMosaic Idealize.SL.Sem Cert.Kernel3Ideal Cert.Kernel3Ideal.Gen

/-- The products at an index, from their factors at an index. -/
theorem nt_eq {a : FVec Ideal S2048x1024 .bf16} {b : FVec Ideal S4224x1024 .bf16} {y : S2048x4224.Idx} {f g : Fin 1024 → EReal}
    (hf : ∀ d, a (ix2 (y 0) d) = f d) (hg : ∀ d, b (ix2 (y 1) d) = g d) : nt a b y = (∑ d, f d * g d : EReal) :=
  Finset.sum_congr rfl fun d _ => congrArg₂ (· * ·) (hf d) (hg d)

theorem tn1_eq {a : FVec Ideal S2048x2048 .bf16} {b : FVec Ideal S2048x1024 .bf16} {y : S2048x1024.Idx} {f g : Fin 2048 → EReal}
    (hf : ∀ d, a (ix2 d (y 0)) = f d) (hg : ∀ d, b (ix2 d (y 1)) = g d) : tn1 a b y = (∑ d, f d * g d : EReal) :=
  Finset.sum_congr rfl fun d _ => congrArg₂ (· * ·) (hf d) (hg d)

theorem tn2_eq {a : FVec Ideal S2048x4224 .bf16} {b : FVec Ideal S2048x1024 .bf16} {y : S4224x1024.Idx} {f g : Fin 2048 → EReal}
    (hf : ∀ d, a (ix2 d (y 0)) = f d) (hg : ∀ d, b (ix2 d (y 1)) = g d) : tn2 a b y = (∑ d, f d * g d : EReal) :=
  Finset.sum_congr rfl fun d _ => congrArg₂ (· * ·) (hf d) (hg d)

section Stages
variable (V : Valuation τ sig (Elt Ideal)) (n h0 : FVec Ideal S2048x1024 .f32) (w : FVec Ideal S1024x4224 .f32)
  (p : FVec Ideal S2048x4224 .f32) (x : FVec Ideal S2048x2048 .f32)

theorem op0 (h : V (Proc.devRef .tc main_arg0) = n) :
    StableHlo.after hostOps0 V (Proc.devRef .tc main_v0) = (truncf .bf16 n bitsLt_bf16_f32 : FVec Ideal _ .bf16) := by
  after_results_simp
  simp only [h]

theorem op1 (h : V (Proc.devRef .tc main_arg2) = p) :
    StableHlo.after hostOps0 V (Proc.devRef .tc main_v1) = (truncf .bf16 p bitsLt_bf16_f32 : FVec Ideal _ .bf16) := by
  after_results_simp
  simp only [h]

theorem op2 (h : V (Proc.devRef .tc main_arg3) = x) :
    StableHlo.after hostOps0 V (Proc.devRef .tc main_v2) = (truncf .bf16 x bitsLt_bf16_f32 : FVec Ideal _ .bf16) := by
  after_results_simp
  simp only [h]

theorem op3 (h : V (Proc.devRef .tc main_arg4) = h0) :
    StableHlo.after hostOps0 V (Proc.devRef .tc main_v3) = (truncf .bf16 h0 bitsLt_bf16_f32 : FVec Ideal _ .bf16) := by
  after_results_simp
  simp only [h]

theorem op5 (h : V (Proc.devRef .tc main_arg1) = w) :
    StableHlo.after hostOps0 V (Proc.devRef .tc main_v5)
      = (truncf .bf16 (transpose S4224x1024 [1, 0] w transposes_S1024x4224_S4224x1024_1_0) bitsLt_bf16_f32 : FVec Ideal _ .bf16) := by
  after_results_simp
  simp only [h]

theorem wt_at (j : Fin 4224) (d : Fin 1024) :
    (truncf .bf16 (transpose S4224x1024 [1, 0] w transposes_S1024x4224_S4224x1024_1_0) bitsLt_bf16_f32 : FVec Ideal _ .bf16) (ix2 j d)
      = w (ix2 d j) := by
  pointwise

end Stages

variable (m : (ℓ : Loc nD τ sig) → Buf (Elt Ideal) ℓ) (ρ : Dev nD → PrngReg) (c : Dev nD)

/-- The mixer's input, the weight, the projection's cotangent, the mixed features and the output's cotangent on core `c`. -/
abbrev X0 : FVec Ideal S2048x1024 .f32 := m ((c.tc : Thread nD τ).loc main_arg0)
abbrev X1 : FVec Ideal S1024x4224 .f32 := m ((c.tc : Thread nD τ).loc main_arg1)
abbrev X2 : FVec Ideal S2048x4224 .f32 := m ((c.tc : Thread nD τ).loc main_arg2)
abbrev X3 : FVec Ideal S2048x2048 .f32 := m ((c.tc : Thread nD τ).loc main_arg3)
abbrev X4 : FVec Ideal S2048x1024 .f32 := m ((c.tc : Thread nD τ).loc main_arg4)

/-- Call 0 leaves the projection: the input times the weight. -/
theorem proj_at (y : S2048x4224.Idx) :
    ((dat0 (V1 m ρ) c).arrAt 2 cfg0.N : S2048x4224.Idx → EReal) y = (∑ d : Fin 1024, X0 m c (ix2 (y 0) d) * X1 m c (ix2 d (y 1)) : EReal) := by
  exact (congrFun (arr0 (V1 m ρ) c) y).trans (nt_eq
    (fun d => congrFun (op0 (W0 m ρ c) _ rfl) _)
    (fun d => (congrFun (op5 (W0 m ρ c) _ rfl) _).trans (wt_at _ (y 1) d)))

/-- Call 1 leaves the output weight's gradient. -/
theorem dwout_at (y : S2048x1024.Idx) :
    ((dat1 (V2 m ρ) c).arrAt 2 cfg1.N : S2048x1024.Idx → EReal) y = (∑ t : Fin 2048, X3 m c (ix2 t (y 0)) * X4 m c (ix2 t (y 1)) : EReal) := by
  exact (congrFun (arr1 (V2 m ρ) c) y).trans (tn1_eq
    (fun t => congrFun ((W2_of m ρ c main_v2 (by decide)).trans (op2 (W0 m ρ c) _ rfl)) _)
    (fun t => congrFun ((W2_of m ρ c main_v3 (by decide)).trans (op3 (W0 m ρ c) _ rfl)) _))

/-- Call 2 leaves the input weight's gradient, transposed. -/
theorem dwin_at (y : S4224x1024.Idx) :
    ((dat2 (V3 m ρ) c).arrAt 2 cfg2.N : S4224x1024.Idx → EReal) y = (∑ t : Fin 2048, X2 m c (ix2 t (y 0)) * X0 m c (ix2 t (y 1)) : EReal) := by
  exact (congrFun (arr2 (V3 m ρ) c) y).trans (tn2_eq
    (fun t => congrFun ((W3_of m ρ c main_v1 (by decide)).trans ((W2_of m ρ c main_v1 (by decide)).trans (op1 (W0 m ρ c) _ rfl))) _)
    (fun t => congrFun ((W3_of m ρ c main_v0 (by decide)).trans ((W2_of m ρ c main_v0 (by decide)).trans (op0 (W0 m ρ c) _ rfl))) _))

/-- The calls run as printed, their arguments unchanged and every semaphore back at zero. -/
theorem frame_p : Cert.quiescent_Kernel3 := fun m ρ _ => Cert.Kernel3.Gen.frame m ρ

/-- The same over the extended reals. -/
theorem frame_pi : Cert.quiescent_Kernel3Ideal := fun m ρ _ => Cert.Kernel3Ideal.Gen.frame m ρ

/-- The reference runs, its arguments unchanged and every semaphore back at zero. -/
theorem frame_ri : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The reference's projection, at an index. -/
theorem ref_proj (x : FVec Ideal S2048x1024 .f32) (w : FVec Ideal S1024x4224 .f32) (y : S2048x4224.Idx) :
    Cert.Reference3Ideal.Read.val_main_v0 (F := Ideal) x w y = ∑ d : Fin 1024, x (ix2 (y 0) d) * w (ix2 d (y 1)) := by
  rw [Cert.Reference3Ideal.Read.val_main_v0_apply]
  exact Finset.sum_congr rfl fun d _ => congrArg₂ (· * ·) (congrArg x (Cert.FfnRef.ixe2 rfl rfl)) (congrArg w (Cert.FfnRef.ixe2 rfl rfl))

/-- The reference's output weight's gradient, at an index. -/
theorem ref_dwout (x : FVec Ideal S2048x2048 .f32) (g : FVec Ideal S2048x1024 .f32) (y : S2048x1024.Idx) :
    (Cert.Reference3Ideal.Read.val_main_v7 (F := Ideal) x g : S2048x1024.Idx → EReal) y = ∑ t : Fin 2048, x (ix2 t (y 0)) * g (ix2 t (y 1)) := by
  show Cert.Reference3Ideal.Read.val_main_v6 (F := Ideal) x g y = _
  rw [Cert.Reference3Ideal.Read.val_main_v6_apply, Cert.Reference3Ideal.Read.val_main_v5_apply]
  exact Finset.sum_congr rfl fun t _ => (mul_comm _ _).trans
    (congrArg₂ (· * ·) (congrArg x (Cert.FfnRef.ixe2 rfl rfl)) (congrArg g (Cert.FfnRef.ixe2 rfl rfl)))

/-- The reference's input weight's gradient, transposed, at an index. -/
theorem ref_dwin (x : FVec Ideal S2048x1024 .f32) (g : FVec Ideal S2048x4224 .f32) (y : S4224x1024.Idx) :
    (Cert.Reference3Ideal.Read.val_main_v9 (F := Ideal) x g : S4224x1024.Idx → EReal) y = ∑ t : Fin 2048, g (ix2 t (y 0)) * x (ix2 t (y 1)) := by
  show Cert.Reference3Ideal.Read.val_main_v8 (F := Ideal) x g y = _
  rw [Cert.Reference3Ideal.Read.val_main_v8_apply, Cert.Reference3Ideal.Read.val_main_v2_apply, Cert.Reference3Ideal.Read.val_main_v1_apply]
  exact Finset.sum_congr rfl fun t _ =>
    congrArg₂ (· * ·) (congrArg g (Cert.FfnRef.ixe2 rfl rfl)) (congrArg x (Cert.FfnRef.ixe2 rfl rfl))

/-- At any arguments, the projection and the two weight gradients of the calls' run, over the extended reals, are those the
reference's run computes from the same arguments. -/
theorem algebraic : Cert.algebraic_Kernel3Ideal_Reference3Ideal := by
  intro m ρ m' ρ' _ hagree
  refine ⟨fun c => Cert.Reference3Ideal.Read.val_main_v0 (F := Ideal) (X0 m c) (X1 m c),
    fun c => Cert.Reference3Ideal.Read.val_main_v7 (F := Ideal) (X3 m c) (X4 m c),
    fun c => Cert.Reference3Ideal.Read.val_main_v9 (F := Ideal) (X0 m c) (X2 m c), ?_, ?_⟩
  · refine (θ_run Cert.Kernel3Ideal.defs _ _).mono (fun r h c => ?_) (Cert.Kernel3Ideal.Gen.run_results m ρ)
    obtain ⟨e0, e1, e2, hargs⟩ := h c
    exact ⟨e0.trans (funext fun y => (proj_at m ρ c y).trans (ref_proj _ _ y).symm),
      e1.trans (funext fun y => (dwout_at m ρ c y).trans (ref_dwout _ _ y).symm),
      e2.trans (funext fun y => (dwin_at m ρ c y).trans (ref_dwin _ _ y).symm), hargs⟩
  · refine (θ_run Cert.Reference3Ideal.defs _ _).mono (fun r h c => ?_) (Cert.Reference3Ideal.Value.run (F := Ideal) m' ρ')
    obtain ⟨e0, e1, e2, hargs⟩ := h c
    obtain ⟨a0, a1, a2, a3, a4⟩ := hagree c
    rw [Cert.Reference3Ideal.Read.val_main_v0_eq (F := Ideal), a0, a1] at e0
    rw [Cert.Reference3Ideal.Read.val_main_v7_eq (F := Ideal), a3, a4] at e1
    rw [Cert.Reference3Ideal.Read.val_main_v9_eq (F := Ideal), a0, a2] at e2
    exact ⟨e0, e1, e2, hargs⟩

end Cert.Proj

end
-- ==== Proof.lean ====
module

public import proofs.«01_k».proof.Defs
public import proofs.«01_k».proof.Proof.FrameBits
public import proofs.«01_k».proof.Proof.FrameIdeal
public import proofs.«01_k».proof.Proof.Row
public import proofs.«01_k».proof.Proof.Loop
public import proofs.«01_k».proof.Proof.Final
public import proofs.«01_k».proof.Proof.Finite
public import proofs.«01_k».proof.Proof.RunRef
public import proofs.«01_k».proof.Proof.FfnClaim
public import proofs.«01_k».proof.Proof.ProjClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs as printed, its arguments unchanged and every semaphore back at zero. -/
theorem frame_p : Cert.quiescent_Kernel := fun m ρ _ => Cert.Kernel.Gen.frame m ρ

/-- The kernel with the mask named runs, its arguments unchanged and every semaphore back at zero. -/
theorem frame_pi : Cert.quiescent_KernelIdeal := fun m ρ _ => Cert.KernelIdeal.Gen.frame m ρ

/-- The reference runs, its arguments unchanged and every semaphore back at zero. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The mask of the bias table, a rounded constant in the kernel, is −∞ in the idealized kernel. -/
theorem preserves : Cert.preserves_Kernel_KernelIdeal :=
  IdealRules.named_const.statement Cert.KernelIdeal.κ "mask" .f32 0xF149F2CA#32 ⊥ rfl

/-- On finite arguments the three results of the kernel's run, over the extended reals, are the three gradients the
reference's run computes from the same arguments. -/
theorem algebraic : Cert.algebraic_KernelIdeal_ReferenceIdeal_pre_finite := by
  intro m ρ m' ρ' hpre hagree
  have hreal := fun c : Dev Cert.KernelIdeal.nD => Cert.Finite.real_of_fn _ _ _ _ (hpre c)
  refine ⟨fun c => Cert.ReferenceIdeal.Read.val_main_v289 (F := Ideal) (Cert.Host.X0 m c) (Cert.Host.X1 m c) (Cert.Host.X2 m c) (Cert.Host.X3 m c),
    fun c => Cert.ReferenceIdeal.Read.val_main_v290 (F := Ideal) (Cert.Host.X0 m c) (Cert.Host.X1 m c) (Cert.Host.X2 m c) (Cert.Host.X3 m c),
    fun c => Cert.ReferenceIdeal.Read.val_main_v291 (F := Ideal) (Cert.Host.X0 m c) (Cert.Host.X1 m c) (Cert.Host.X3 m c), ?_, ?_⟩
  · refine (θ_run Cert.KernelIdeal.defs _ _).mono (fun r h c => ?_) (Cert.KernelIdeal.Gen.run_results m ρ)
    obtain ⟨e0, e1, e2, hargs⟩ := h c
    obtain ⟨hq, hk, hv, hc⟩ := hreal c
    exact ⟨e0.trans ((Cert.Tile.arr_8 _ c).trans (Cert.Final.dq_final m ρ c _ _ _ _ hq hk hv hc)),
      e1.trans ((Cert.Tile.arr_9 _ c).trans (Cert.Final.dk_final m ρ c _ _ _ _ hq hk hv hc)),
      e2.trans ((Cert.Tile.arr_10 _ c).trans (Cert.Final.dv_final m ρ c _ _ _ _ hq hk hv hc)), hargs⟩
  · refine (θ_run Cert.ReferenceIdeal.defs _ _).mono (fun r h c => ?_) (Cert.RunRef.run m' ρ')
    obtain ⟨e0, e1, e2, hargs⟩ := h c
    obtain ⟨a0, a1, a2, a3⟩ := hagree c
    rw [a0, a1, a2, a3] at e0 e1
    rw [a0, a1, a3] at e2
    exact ⟨e0, e1, e2, hargs⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_finite2.Gen.facts,
  frame_p, frame_pi, fun m ρ _ => frame_pi m ρ trivial, frame_ri, fun m ρ _ => frame_ri m ρ trivial,
  Cert.FfnClaim.frame_p, Cert.FfnClaim.frame_pi, fun m ρ _ => Cert.FfnClaim.frame_pi m ρ trivial,
  Cert.FfnClaim.frame_ri, fun m ρ _ => Cert.FfnClaim.frame_ri m ρ trivial,
  Cert.Proj.frame_p, Cert.Proj.frame_pi, Cert.Proj.frame_ri, preserves, algebraic, trivial, Cert.FfnClaim.algebraic,
  trivial, Cert.Proj.algebraic⟩

end Cert.Proof

end
